-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_KernelOutIdeal_rwkv_finite [hPre_rwkv_finite : Cert.Pre_rwkv_finite.Facts] (m : (ℓ : Loc Cert.KernelOutIdeal.nD Cert.KernelOutIdeal.τ Cert.KernelOutIdeal.sig) → Buf (Elt Ideal) ℓ) : Prop :=
  ∀ c : Dev Cert.KernelOutIdeal.nD,
    (Cert.Pre_rwkv_finite.fn (F := Ideal) (m ((c.tc : Thread Cert.KernelOutIdeal.nD Cert.KernelOutIdeal.τ).loc Cert.KernelOutIdeal.main_arg0)) (m ((c.tc : Thread Cert.KernelOutIdeal.nD Cert.KernelOutIdeal.τ).loc Cert.KernelOutIdeal.main_arg1)) (m ((c.tc : Thread Cert.KernelOutIdeal.nD Cert.KernelOutIdeal.τ).loc Cert.KernelOutIdeal.main_arg2)) (m ((c.tc : Thread Cert.KernelOutIdeal.nD Cert.KernelOutIdeal.τ).loc Cert.KernelOutIdeal.main_arg3)) (m ((c.tc : Thread Cert.KernelOutIdeal.nD Cert.KernelOutIdeal.τ).loc Cert.KernelOutIdeal.main_arg4)) (m ((c.tc : Thread Cert.KernelOutIdeal.nD Cert.KernelOutIdeal.τ).loc Cert.KernelOutIdeal.main_arg5)) (m ((c.tc : Thread Cert.KernelOutIdeal.nD Cert.KernelOutIdeal.τ).loc Cert.KernelOutIdeal.main_arg6)) (m ((c.tc : Thread Cert.KernelOutIdeal.nD Cert.KernelOutIdeal.τ).loc Cert.KernelOutIdeal.main_arg7)) (m ((c.tc : Thread Cert.KernelOutIdeal.nD Cert.KernelOutIdeal.τ).loc Cert.KernelOutIdeal.main_arg8)) (m ((c.tc : Thread Cert.KernelOutIdeal.nD Cert.KernelOutIdeal.τ).loc Cert.KernelOutIdeal.main_arg9)) (m ((c.tc : Thread Cert.KernelOutIdeal.nD Cert.KernelOutIdeal.τ).loc Cert.KernelOutIdeal.main_arg10)) (m ((c.tc : Thread Cert.KernelOutIdeal.nD Cert.KernelOutIdeal.τ).loc Cert.KernelOutIdeal.main_arg11)) (m ((c.tc : Thread Cert.KernelOutIdeal.nD Cert.KernelOutIdeal.τ).loc Cert.KernelOutIdeal.main_arg12)) (m ((c.tc : Thread Cert.KernelOutIdeal.nD Cert.KernelOutIdeal.τ).loc Cert.KernelOutIdeal.main_arg13)) (m ((c.tc : Thread Cert.KernelOutIdeal.nD Cert.KernelOutIdeal.τ).loc Cert.KernelOutIdeal.main_arg14)) (m ((c.tc : Thread Cert.KernelOutIdeal.nD Cert.KernelOutIdeal.τ).loc Cert.KernelOutIdeal.main_arg15)) (m ((c.tc : Thread Cert.KernelOutIdeal.nD Cert.KernelOutIdeal.τ).loc Cert.KernelOutIdeal.main_arg16))) = (fun _ => 1#1)

def Pre_ReferenceOutIdeal (m : (ℓ : Loc Cert.ReferenceOutIdeal.nD Cert.ReferenceOutIdeal.τ Cert.ReferenceOutIdeal.sig) → Buf (Elt Ideal) ℓ) : Prop :=
  True

def Pre_ReferenceOutIdeal_rwkv_finite [hPre_rwkv_finite : Cert.Pre_rwkv_finite.Facts] (m : (ℓ : Loc Cert.ReferenceOutIdeal.nD Cert.ReferenceOutIdeal.τ Cert.ReferenceOutIdeal.sig) → Buf (Elt Ideal) ℓ) : Prop :=
  ∀ c : Dev Cert.ReferenceOutIdeal.nD,
    (Cert.Pre_rwkv_finite.fn (F := Ideal) (m ((c.tc : Thread Cert.ReferenceOutIdeal.nD Cert.ReferenceOutIdeal.τ).loc Cert.ReferenceOutIdeal.main_arg0)) (m ((c.tc : Thread Cert.ReferenceOutIdeal.nD Cert.ReferenceOutIdeal.τ).loc Cert.ReferenceOutIdeal.main_arg1)) (m ((c.tc : Thread Cert.ReferenceOutIdeal.nD Cert.ReferenceOutIdeal.τ).loc Cert.ReferenceOutIdeal.main_arg2)) (m ((c.tc : Thread Cert.ReferenceOutIdeal.nD Cert.ReferenceOutIdeal.τ).loc Cert.ReferenceOutIdeal.main_arg3)) (m ((c.tc : Thread Cert.ReferenceOutIdeal.nD Cert.ReferenceOutIdeal.τ).loc Cert.ReferenceOutIdeal.main_arg4)) (m ((c.tc : Thread Cert.ReferenceOutIdeal.nD Cert.ReferenceOutIdeal.τ).loc Cert.ReferenceOutIdeal.main_arg5)) (m ((c.tc : Thread Cert.ReferenceOutIdeal.nD Cert.ReferenceOutIdeal.τ).loc Cert.ReferenceOutIdeal.main_arg6)) (m ((c.tc : Thread Cert.ReferenceOutIdeal.nD Cert.ReferenceOutIdeal.τ).loc Cert.ReferenceOutIdeal.main_arg7)) (m ((c.tc : Thread Cert.ReferenceOutIdeal.nD Cert.ReferenceOutIdeal.τ).loc Cert.ReferenceOutIdeal.main_arg8)) (m ((c.tc : Thread Cert.ReferenceOutIdeal.nD Cert.ReferenceOutIdeal.τ).loc Cert.ReferenceOutIdeal.main_arg9)) (m ((c.tc : Thread Cert.ReferenceOutIdeal.nD Cert.ReferenceOutIdeal.τ).loc Cert.ReferenceOutIdeal.main_arg10)) (m ((c.tc : Thread Cert.ReferenceOutIdeal.nD Cert.ReferenceOutIdeal.τ).loc Cert.ReferenceOutIdeal.main_arg11)) (m ((c.tc : Thread Cert.ReferenceOutIdeal.nD Cert.ReferenceOutIdeal.τ).loc Cert.ReferenceOutIdeal.main_arg12)) (m ((c.tc : Thread Cert.ReferenceOutIdeal.nD Cert.ReferenceOutIdeal.τ).loc Cert.ReferenceOutIdeal.main_arg13)) (m ((c.tc : Thread Cert.ReferenceOutIdeal.nD Cert.ReferenceOutIdeal.τ).loc Cert.ReferenceOutIdeal.main_arg14)) (m ((c.tc : Thread Cert.ReferenceOutIdeal.nD Cert.ReferenceOutIdeal.τ).loc Cert.ReferenceOutIdeal.main_arg15)) (m ((c.tc : Thread Cert.ReferenceOutIdeal.nD Cert.ReferenceOutIdeal.τ).loc Cert.ReferenceOutIdeal.main_arg16))) = (fun _ => 1#1)

def Pre_KernelPre (m : (ℓ : Loc Cert.KernelPre.nD Cert.KernelPre.τ Cert.KernelPre.sig) → Buf (Elt Bits) ℓ) : Prop :=
  True

def Pre_KernelPreIdeal (m : (ℓ : Loc Cert.KernelPreIdeal.nD Cert.KernelPreIdeal.τ Cert.KernelPreIdeal.sig) → Buf (Elt Ideal) ℓ) : Prop :=
  True

def Pre_KernelPreIdeal_pre_finite [hPre_pre_finite : Cert.Pre_pre_finite.Facts] (m : (ℓ : Loc Cert.KernelPreIdeal.nD Cert.KernelPreIdeal.τ Cert.KernelPreIdeal.sig) → Buf (Elt Ideal) ℓ) : Prop :=
  ∀ c : Dev Cert.KernelPreIdeal.nD,
    (Cert.Pre_pre_finite.fn (F := Ideal) (m ((c.tc : Thread Cert.KernelPreIdeal.nD Cert.KernelPreIdeal.τ).loc Cert.KernelPreIdeal.main_arg0)) (m ((c.tc : Thread Cert.KernelPreIdeal.nD Cert.KernelPreIdeal.τ).loc Cert.KernelPreIdeal.main_arg1)) (m ((c.tc : Thread Cert.KernelPreIdeal.nD Cert.KernelPreIdeal.τ).loc Cert.KernelPreIdeal.main_arg2)) (m ((c.tc : Thread Cert.KernelPreIdeal.nD Cert.KernelPreIdeal.τ).loc Cert.KernelPreIdeal.main_arg3)) (m ((c.tc : Thread Cert.KernelPreIdeal.nD Cert.KernelPreIdeal.τ).loc Cert.KernelPreIdeal.main_arg4)) (m ((c.tc : Thread Cert.KernelPreIdeal.nD Cert.KernelPreIdeal.τ).loc Cert.KernelPreIdeal.main_arg5)) (m ((c.tc : Thread Cert.KernelPreIdeal.nD Cert.KernelPreIdeal.τ).loc Cert.KernelPreIdeal.main_arg6)) (m ((c.tc : Thread Cert.KernelPreIdeal.nD Cert.KernelPreIdeal.τ).loc Cert.KernelPreIdeal.main_arg7)) (m ((c.tc : Thread Cert.KernelPreIdeal.nD Cert.KernelPreIdeal.τ).loc Cert.KernelPreIdeal.main_arg8)) (m ((c.tc : Thread Cert.KernelPreIdeal.nD Cert.KernelPreIdeal.τ).loc Cert.KernelPreIdeal.main_arg9)) (m ((c.tc : Thread Cert.KernelPreIdeal.nD Cert.KernelPreIdeal.τ).loc Cert.KernelPreIdeal.main_arg10))) = (fun _ => 1#1)

def Pre_ReferencePreIdeal (m : (ℓ : Loc Cert.ReferencePreIdeal.nD Cert.ReferencePreIdeal.τ Cert.ReferencePreIdeal.sig) → Buf (Elt Ideal) ℓ) : Prop :=
  True

def Pre_ReferencePreIdeal_pre_finite [hPre_pre_finite : Cert.Pre_pre_finite.Facts] (m : (ℓ : Loc Cert.ReferencePreIdeal.nD Cert.ReferencePreIdeal.τ Cert.ReferencePreIdeal.sig) → Buf (Elt Ideal) ℓ) : Prop :=
  ∀ c : Dev Cert.ReferencePreIdeal.nD,
    (Cert.Pre_pre_finite.fn (F := Ideal) (m ((c.tc : Thread Cert.ReferencePreIdeal.nD Cert.ReferencePreIdeal.τ).loc Cert.ReferencePreIdeal.main_arg0)) (m ((c.tc : Thread Cert.ReferencePreIdeal.nD Cert.ReferencePreIdeal.τ).loc Cert.ReferencePreIdeal.main_arg1)) (m ((c.tc : Thread Cert.ReferencePreIdeal.nD Cert.ReferencePreIdeal.τ).loc Cert.ReferencePreIdeal.main_arg2)) (m ((c.tc : Thread Cert.ReferencePreIdeal.nD Cert.ReferencePreIdeal.τ).loc Cert.ReferencePreIdeal.main_arg3)) (m ((c.tc : Thread Cert.ReferencePreIdeal.nD Cert.ReferencePreIdeal.τ).loc Cert.ReferencePreIdeal.main_arg4)) (m ((c.tc : Thread Cert.ReferencePreIdeal.nD Cert.ReferencePreIdeal.τ).loc Cert.ReferencePreIdeal.main_arg5)) (m ((c.tc : Thread Cert.ReferencePreIdeal.nD Cert.ReferencePreIdeal.τ).loc Cert.ReferencePreIdeal.main_arg6)) (m ((c.tc : Thread Cert.ReferencePreIdeal.nD Cert.ReferencePreIdeal.τ).loc Cert.ReferencePreIdeal.main_arg7)) (m ((c.tc : Thread Cert.ReferencePreIdeal.nD Cert.ReferencePreIdeal.τ).loc Cert.ReferencePreIdeal.main_arg8)) (m ((c.tc : Thread Cert.ReferencePreIdeal.nD Cert.ReferencePreIdeal.τ).loc Cert.ReferencePreIdeal.main_arg9)) (m ((c.tc : Thread Cert.ReferencePreIdeal.nD Cert.ReferencePreIdeal.τ).loc Cert.ReferencePreIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4)
      ∧ r.2.mem ((c.tc : Thread Cert.KernelOut.nD Cert.KernelOut.τ).loc Cert.KernelOut.main_arg5) = m ((c.tc : Thread Cert.KernelOut.nD Cert.KernelOut.τ).loc Cert.KernelOut.main_arg5)
      ∧ r.2.mem ((c.tc : Thread Cert.KernelOut.nD Cert.KernelOut.τ).loc Cert.KernelOut.main_arg6) = m ((c.tc : Thread Cert.KernelOut.nD Cert.KernelOut.τ).loc Cert.KernelOut.main_arg6)
      ∧ r.2.mem ((c.tc : Thread Cert.KernelOut.nD Cert.KernelOut.τ).loc Cert.KernelOut.main_arg7) = m ((c.tc : Thread Cert.KernelOut.nD Cert.KernelOut.τ).loc Cert.KernelOut.main_arg7)
      ∧ r.2.mem ((c.tc : Thread Cert.KernelOut.nD Cert.KernelOut.τ).loc Cert.KernelOut.main_arg8) = m ((c.tc : Thread Cert.KernelOut.nD Cert.KernelOut.τ).loc Cert.KernelOut.main_arg8)
      ∧ r.2.mem ((c.tc : Thread Cert.KernelOut.nD Cert.KernelOut.τ).loc Cert.KernelOut.main_arg9) = m ((c.tc : Thread Cert.KernelOut.nD Cert.KernelOut.τ).loc Cert.KernelOut.main_arg9)
      ∧ r.2.mem ((c.tc : Thread Cert.KernelOut.nD Cert.KernelOut.τ).loc Cert.KernelOut.main_arg10) = m ((c.tc : Thread Cert.KernelOut.nD Cert.KernelOut.τ).loc Cert.KernelOut.main_arg10)
      ∧ r.2.mem ((c.tc : Thread Cert.KernelOut.nD Cert.KernelOut.τ).loc Cert.KernelOut.main_arg11) = m ((c.tc : Thread Cert.KernelOut.nD Cert.KernelOut.τ).loc Cert.KernelOut.main_arg11)
      ∧ r.2.mem ((c.tc : Thread Cert.KernelOut.nD Cert.KernelOut.τ).loc Cert.KernelOut.main_arg12) = m ((c.tc : Thread Cert.KernelOut.nD Cert.KernelOut.τ).loc Cert.KernelOut.main_arg12)
      ∧ r.2.mem ((c.tc : Thread Cert.KernelOut.nD Cert.KernelOut.τ).loc Cert.KernelOut.main_arg13) = m ((c.tc : Thread Cert.KernelOut.nD Cert.KernelOut.τ).loc Cert.KernelOut.main_arg13)
      ∧ r.2.mem ((c.tc : Thread Cert.KernelOut.nD Cert.KernelOut.τ).loc Cert.KernelOut.main_arg14) = m ((c.tc : Thread Cert.KernelOut.nD Cert.KernelOut.τ).loc Cert.KernelOut.main_arg14)
      ∧ r.2.mem ((c.tc : Thread Cert.KernelOut.nD Cert.KernelOut.τ).loc Cert.KernelOut.main_arg15) = m ((c.tc : Thread Cert.KernelOut.nD Cert.KernelOut.τ).loc Cert.KernelOut.main_arg15)
      ∧ r.2.mem ((c.tc : Thread Cert.KernelOut.nD Cert.KernelOut.τ).loc Cert.KernelOut.main_arg16) = m ((c.tc : Thread Cert.KernelOut.nD Cert.KernelOut.τ).loc Cert.KernelOut.main_arg16))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
      ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9)
      ∧ r.2.mem ((c.tc : Thread Cert.KernelOutIdeal.nD Cert.KernelOutIdeal.τ).loc Cert.KernelOutIdeal.main_arg10) = m ((c.tc : Thread Cert.KernelOutIdeal.nD Cert.KernelOutIdeal.τ).loc Cert.KernelOutIdeal.main_arg10)
      ∧ r.2.mem ((c.tc : Thread Cert.KernelOutIdeal.nD Cert.KernelOutIdeal.τ).loc Cert.KernelOutIdeal.main_arg11) = m ((c.tc : Thread Cert.KernelOutIdeal.nD Cert.KernelOutIdeal.τ).loc Cert.KernelOutIdeal.main_arg11)
      ∧ r.2.mem ((c.tc : Thread Cert.KernelOutIdeal.nD Cert.KernelOutIdeal.τ).loc Cert.KernelOutIdeal.main_arg12) = m ((c.tc : Thread Cert.KernelOutIdeal.nD Cert.KernelOutIdeal.τ).loc Cert.KernelOutIdeal.main_arg12)
      ∧ r.2.mem ((c.tc : Thread Cert.KernelOutIdeal.nD Cert.KernelOutIdeal.τ).loc Cert.KernelOutIdeal.main_arg13) = m ((c.tc : Thread Cert.KernelOutIdeal.nD Cert.KernelOutIdeal.τ).loc Cert.KernelOutIdeal.main_arg13)
      ∧ r.2.mem ((c.tc : Thread Cert.KernelOutIdeal.nD Cert.KernelOutIdeal.τ).loc Cert.KernelOutIdeal.main_arg14) = m ((c.tc : Thread Cert.KernelOutIdeal.nD Cert.KernelOutIdeal.τ).loc Cert.KernelOutIdeal.main_arg14)
      ∧ r.2.mem ((c.tc : Thread Cert.KernelOutIdeal.nD Cert.KernelOutIdeal.τ).loc Cert.KernelOutIdeal.main_arg15) = m ((c.tc : Thread Cert.KernelOutIdeal.nD Cert.KernelOutIdeal.τ).loc Cert.KernelOutIdeal.main_arg15)
      ∧ r.2.mem ((c.tc : Thread Cert.KernelOutIdeal.nD Cert.KernelOutIdeal.τ).loc Cert.KernelOutIdeal.main_arg16) = m ((c.tc : Thread Cert.KernelOutIdeal.nD Cert.KernelOutIdeal.τ).loc Cert.KernelOutIdeal.main_arg16))
      ∧ r.2.sem = fun _ => 0)

def quiescent_KernelOutIdeal_pre_rwkv_finite [hKernelOutIdeal : Cert.KernelOutIdeal.Facts] [hPre_rwkv_finite : Cert.Pre_rwkv_finite.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal_rwkv_finite m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
      ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
      ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
      ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
      ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
      ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9)
      ∧ r.2.mem ((c.tc : Thread Cert.KernelOutIdeal.nD Cert.KernelOutIdeal.τ).loc Cert.KernelOutIdeal.main_arg10) = m ((c.tc : Thread Cert.KernelOutIdeal.nD Cert.KernelOutIdeal.τ).loc Cert.KernelOutIdeal.main_arg10)
      ∧ r.2.mem ((c.tc : Thread Cert.KernelOutIdeal.nD Cert.KernelOutIdeal.τ).loc Cert.KernelOutIdeal.main_arg11) = m ((c.tc : Thread Cert.KernelOutIdeal.nD Cert.KernelOutIdeal.τ).loc Cert.KernelOutIdeal.main_arg11)
      ∧ r.2.mem ((c.tc : Thread Cert.KernelOutIdeal.nD Cert.KernelOutIdeal.τ).loc Cert.KernelOutIdeal.main_arg12) = m ((c.tc : Thread Cert.KernelOutIdeal.nD Cert.KernelOutIdeal.τ).loc Cert.KernelOutIdeal.main_arg12)
      ∧ r.2.mem ((c.tc : Thread Cert.KernelOutIdeal.nD Cert.KernelOutIdeal.τ).loc Cert.KernelOutIdeal.main_arg13) = m ((c.tc : Thread Cert.KernelOutIdeal.nD Cert.KernelOutIdeal.τ).loc Cert.KernelOutIdeal.main_arg13)
      ∧ r.2.mem ((c.tc : Thread Cert.KernelOutIdeal.nD Cert.KernelOutIdeal.τ).loc Cert.KernelOutIdeal.main_arg14) = m ((c.tc : Thread Cert.KernelOutIdeal.nD Cert.KernelOutIdeal.τ).loc Cert.KernelOutIdeal.main_arg14)
      ∧ r.2.mem ((c.tc : Thread Cert.KernelOutIdeal.nD Cert.KernelOutIdeal.τ).loc Cert.KernelOutIdeal.main_arg15) = m ((c.tc : Thread Cert.KernelOutIdeal.nD Cert.KernelOutIdeal.τ).loc Cert.KernelOutIdeal.main_arg15)
      ∧ r.2.mem ((c.tc : Thread Cert.KernelOutIdeal.nD Cert.KernelOutIdeal.τ).loc Cert.KernelOutIdeal.main_arg16) = m ((c.tc : Thread Cert.KernelOutIdeal.nD Cert.KernelOutIdeal.τ).loc Cert.KernelOutIdeal.main_arg16))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8)
      ∧ r.2.mem ((c.tc : Thread Cert.ReferenceOutIdeal.nD Cert.ReferenceOutIdeal.τ).loc Cert.ReferenceOutIdeal.main_arg9) = m ((c.tc : Thread Cert.ReferenceOutIdeal.nD Cert.ReferenceOutIdeal.τ).loc Cert.ReferenceOutIdeal.main_arg9)
      ∧ r.2.mem ((c.tc : Thread Cert.ReferenceOutIdeal.nD Cert.ReferenceOutIdeal.τ).loc Cert.ReferenceOutIdeal.main_arg10) = m ((c.tc : Thread Cert.ReferenceOutIdeal.nD Cert.ReferenceOutIdeal.τ).loc Cert.ReferenceOutIdeal.main_arg10)
      ∧ r.2.mem ((c.tc : Thread Cert.ReferenceOutIdeal.nD Cert.ReferenceOutIdeal.τ).loc Cert.ReferenceOutIdeal.main_arg11) = m ((c.tc : Thread Cert.ReferenceOutIdeal.nD Cert.ReferenceOutIdeal.τ).loc Cert.ReferenceOutIdeal.main_arg11)
      ∧ r.2.mem ((c.tc : Thread Cert.ReferenceOutIdeal.nD Cert.ReferenceOutIdeal.τ).loc Cert.ReferenceOutIdeal.main_arg12) = m ((c.tc : Thread Cert.ReferenceOutIdeal.nD Cert.ReferenceOutIdeal.τ).loc Cert.ReferenceOutIdeal.main_arg12)
      ∧ r.2.mem ((c.tc : Thread Cert.ReferenceOutIdeal.nD Cert.ReferenceOutIdeal.τ).loc Cert.ReferenceOutIdeal.main_arg13) = m ((c.tc : Thread Cert.ReferenceOutIdeal.nD Cert.ReferenceOutIdeal.τ).loc Cert.ReferenceOutIdeal.main_arg13)
      ∧ r.2.mem ((c.tc : Thread Cert.ReferenceOutIdeal.nD Cert.ReferenceOutIdeal.τ).loc Cert.ReferenceOutIdeal.main_arg14) = m ((c.tc : Thread Cert.ReferenceOutIdeal.nD Cert.ReferenceOutIdeal.τ).loc Cert.ReferenceOutIdeal.main_arg14)
      ∧ r.2.mem ((c.tc : Thread Cert.ReferenceOutIdeal.nD Cert.ReferenceOutIdeal.τ).loc Cert.ReferenceOutIdeal.main_arg15) = m ((c.tc : Thread Cert.ReferenceOutIdeal.nD Cert.ReferenceOutIdeal.τ).loc Cert.ReferenceOutIdeal.main_arg15)
      ∧ r.2.mem ((c.tc : Thread Cert.ReferenceOutIdeal.nD Cert.ReferenceOutIdeal.τ).loc Cert.ReferenceOutIdeal.main_arg16) = m ((c.tc : Thread Cert.ReferenceOutIdeal.nD Cert.ReferenceOutIdeal.τ).loc Cert.ReferenceOutIdeal.main_arg16))
      ∧ r.2.sem = fun _ => 0)

def quiescent_ReferenceOutIdeal_pre_rwkv_finite [hReferenceOutIdeal : Cert.ReferenceOutIdeal.Facts] [hPre_rwkv_finite : Cert.Pre_rwkv_finite.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal_rwkv_finite m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4)
      ∧ r.2.mem ((c.tc : Thread Cert.ReferenceOutIdeal.nD Cert.ReferenceOutIdeal.τ).loc Cert.ReferenceOutIdeal.main_arg5) = m ((c.tc : Thread Cert.ReferenceOutIdeal.nD Cert.ReferenceOutIdeal.τ).loc Cert.ReferenceOutIdeal.main_arg5)
      ∧ r.2.mem ((c.tc : Thread Cert.ReferenceOutIdeal.nD Cert.ReferenceOutIdeal.τ).loc Cert.ReferenceOutIdeal.main_arg6) = m ((c.tc : Thread Cert.ReferenceOutIdeal.nD Cert.ReferenceOutIdeal.τ).loc Cert.ReferenceOutIdeal.main_arg6)
      ∧ r.2.mem ((c.tc : Thread Cert.ReferenceOutIdeal.nD Cert.ReferenceOutIdeal.τ).loc Cert.ReferenceOutIdeal.main_arg7) = m ((c.tc : Thread Cert.ReferenceOutIdeal.nD Cert.ReferenceOutIdeal.τ).loc Cert.ReferenceOutIdeal.main_arg7)
      ∧ r.2.mem ((c.tc : Thread Cert.ReferenceOutIdeal.nD Cert.ReferenceOutIdeal.τ).loc Cert.ReferenceOutIdeal.main_arg8) = m ((c.tc : Thread Cert.ReferenceOutIdeal.nD Cert.ReferenceOutIdeal.τ).loc Cert.ReferenceOutIdeal.main_arg8)
      ∧ r.2.mem ((c.tc : Thread Cert.ReferenceOutIdeal.nD Cert.ReferenceOutIdeal.τ).loc Cert.ReferenceOutIdeal.main_arg9) = m ((c.tc : Thread Cert.ReferenceOutIdeal.nD Cert.ReferenceOutIdeal.τ).loc Cert.ReferenceOutIdeal.main_arg9)
      ∧ r.2.mem ((c.tc : Thread Cert.ReferenceOutIdeal.nD Cert.ReferenceOutIdeal.τ).loc Cert.ReferenceOutIdeal.main_arg10) = m ((c.tc : Thread Cert.ReferenceOutIdeal.nD Cert.ReferenceOutIdeal.τ).loc Cert.ReferenceOutIdeal.main_arg10)
      ∧ r.2.mem ((c.tc : Thread Cert.ReferenceOutIdeal.nD Cert.ReferenceOutIdeal.τ).loc Cert.ReferenceOutIdeal.main_arg11) = m ((c.tc : Thread Cert.ReferenceOutIdeal.nD Cert.ReferenceOutIdeal.τ).loc Cert.ReferenceOutIdeal.main_arg11)
      ∧ r.2.mem ((c.tc : Thread Cert.ReferenceOutIdeal.nD Cert.ReferenceOutIdeal.τ).loc Cert.ReferenceOutIdeal.main_arg12) = m ((c.tc : Thread Cert.ReferenceOutIdeal.nD Cert.ReferenceOutIdeal.τ).loc Cert.ReferenceOutIdeal.main_arg12)
      ∧ r.2.mem ((c.tc : Thread Cert.ReferenceOutIdeal.nD Cert.ReferenceOutIdeal.τ).loc Cert.ReferenceOutIdeal.main_arg13) = m ((c.tc : Thread Cert.ReferenceOutIdeal.nD Cert.ReferenceOutIdeal.τ).loc Cert.ReferenceOutIdeal.main_arg13)
      ∧ r.2.mem ((c.tc : Thread Cert.ReferenceOutIdeal.nD Cert.ReferenceOutIdeal.τ).loc Cert.ReferenceOutIdeal.main_arg14) = m ((c.tc : Thread Cert.ReferenceOutIdeal.nD Cert.ReferenceOutIdeal.τ).loc Cert.ReferenceOutIdeal.main_arg14)
      ∧ r.2.mem ((c.tc : Thread Cert.ReferenceOutIdeal.nD Cert.ReferenceOutIdeal.τ).loc Cert.ReferenceOutIdeal.main_arg15) = m ((c.tc : Thread Cert.ReferenceOutIdeal.nD Cert.ReferenceOutIdeal.τ).loc Cert.ReferenceOutIdeal.main_arg15)
      ∧ r.2.mem ((c.tc : Thread Cert.ReferenceOutIdeal.nD Cert.ReferenceOutIdeal.τ).loc Cert.ReferenceOutIdeal.main_arg16) = m ((c.tc : Thread Cert.ReferenceOutIdeal.nD Cert.ReferenceOutIdeal.τ).loc Cert.ReferenceOutIdeal.main_arg16))
      ∧ r.2.sem = fun _ => 0)

def quiescent_KernelPre [hKernelPre : Cert.KernelPre.Facts] : Prop :=
  ∀ (m : (ℓ : Loc Cert.KernelPre.nD Cert.KernelPre.τ Cert.KernelPre.sig) → Buf (Elt Bits) ℓ) (g : Dev Cert.KernelPre.nD → PrngReg), Pre_KernelPre m →
    θ_run (Cert.KernelPre.defs (F := Bits)) (onTc (τ := Cert.KernelPre.τ) (Cert.KernelPre.main (F := Bits))) ⟨m, fun _ => 0, g⟩ (fun r => (∀ c : Dev Cert.KernelPre.nD,
      r.2.mem ((c.tc : Thread Cert.KernelPre.nD Cert.KernelPre.τ).loc Cert.KernelPre.main_arg0) = m ((c.tc : Thread Cert.KernelPre.nD Cert.KernelPre.τ).loc Cert.KernelPre.main_arg0)
      ∧ r.2.mem ((c.tc : Thread Cert.KernelPre.nD Cert.KernelPre.τ).loc Cert.KernelPre.main_arg1) = m ((c.tc : Thread Cert.KernelPre.nD Cert.KernelPre.τ).loc Cert.KernelPre.main_arg1)
      ∧ r.2.mem ((c.tc : Thread Cert.KernelPre.nD Cert.KernelPre.τ).loc Cert.KernelPre.main_arg2) = m ((c.tc : Thread Cert.KernelPre.nD Cert.KernelPre.τ).loc Cert.KernelPre.main_arg2)
      ∧ r.2.mem ((c.tc : Thread Cert.KernelPre.nD Cert.KernelPre.τ).loc Cert.KernelPre.main_arg3) = m ((c.tc : Thread Cert.KernelPre.nD Cert.KernelPre.τ).loc Cert.KernelPre.main_arg3)
      ∧ r.2.mem ((c.tc : Thread Cert.KernelPre.nD Cert.KernelPre.τ).loc Cert.KernelPre.main_arg4) = m ((c.tc : Thread Cert.KernelPre.nD Cert.KernelPre.τ).loc Cert.KernelPre.main_arg4)
      ∧ r.2.mem ((c.tc : Thread Cert.KernelPre.nD Cert.KernelPre.τ).loc Cert.KernelPre.main_arg5) = m ((c.tc : Thread Cert.KernelPre.nD Cert.KernelPre.τ).loc Cert.KernelPre.main_arg5)
      ∧ r.2.mem ((c.tc : Thread Cert.KernelPre.nD Cert.KernelPre.τ).loc Cert.KernelPre.main_arg6) = m ((c.tc : Thread Cert.KernelPre.nD Cert.KernelPre.τ).loc Cert.KernelPre.main_arg6)
      ∧ r.2.mem ((c.tc : Thread Cert.KernelPre.nD Cert.KernelPre.τ).loc Cert.KernelPre.main_arg7) = m ((c.tc : Thread Cert.KernelPre.nD Cert.KernelPre.τ).loc Cert.KernelPre.main_arg7)
      ∧ r.2.mem ((c.tc : Thread Cert.KernelPre.nD Cert.KernelPre.τ).loc Cert.KernelPre.main_arg8) = m ((c.tc : Thread Cert.KernelPre.nD Cert.KernelPre.τ).loc Cert.KernelPre.main_arg8)
      ∧ r.2.mem ((c.tc : Thread Cert.KernelPre.nD Cert.KernelPre.τ).loc Cert.KernelPre.main_arg9) = m ((c.tc : Thread Cert.KernelPre.nD Cert.KernelPre.τ).loc Cert.KernelPre.main_arg9)
      ∧ r.2.mem ((c.tc : Thread Cert.KernelPre.nD Cert.KernelPre.τ).loc Cert.KernelPre.main_arg10) = m ((c.tc : Thread Cert.KernelPre.nD Cert.KernelPre.τ).loc Cert.KernelPre.main_arg10))
      ∧ r.2.sem = fun _ => 0)

def quiescent_KernelPreIdeal [hKernelPreIdeal : Cert.KernelPreIdeal.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
      ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
      ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5)
      ∧ r.2.mem ((c.tc : Thread Cert.KernelPreIdeal.nD Cert.KernelPreIdeal.τ).loc Cert.KernelPreIdeal.main_arg6) = m ((c.tc : Thread Cert.KernelPreIdeal.nD Cert.KernelPreIdeal.τ).loc Cert.KernelPreIdeal.main_arg6)
      ∧ r.2.mem ((c.tc : Thread Cert.KernelPreIdeal.nD Cert.KernelPreIdeal.τ).loc Cert.KernelPreIdeal.main_arg7) = m ((c.tc : Thread Cert.KernelPreIdeal.nD Cert.KernelPreIdeal.τ).loc Cert.KernelPreIdeal.main_arg7)
      ∧ r.2.mem ((c.tc : Thread Cert.KernelPreIdeal.nD Cert.KernelPreIdeal.τ).loc Cert.KernelPreIdeal.main_arg8) = m ((c.tc : Thread Cert.KernelPreIdeal.nD Cert.KernelPreIdeal.τ).loc Cert.KernelPreIdeal.main_arg8)
      ∧ r.2.mem ((c.tc : Thread Cert.KernelPreIdeal.nD Cert.KernelPreIdeal.τ).loc Cert.KernelPreIdeal.main_arg9) = m ((c.tc : Thread Cert.KernelPreIdeal.nD Cert.KernelPreIdeal.τ).loc Cert.KernelPreIdeal.main_arg9)
      ∧ r.2.mem ((c.tc : Thread Cert.KernelPreIdeal.nD Cert.KernelPreIdeal.τ).loc Cert.KernelPreIdeal.main_arg10) = m ((c.tc : Thread Cert.KernelPreIdeal.nD Cert.KernelPreIdeal.τ).loc Cert.KernelPreIdeal.main_arg10))
      ∧ r.2.sem = fun _ => 0)

def quiescent_KernelPreIdeal_pre_pre_finite [hKernelPreIdeal : Cert.KernelPreIdeal.Facts] [hPre_pre_finite : Cert.Pre_pre_finite.Facts] : Prop :=
  ∀ (m : (ℓ : Loc Cert.KernelPreIdeal.nD Cert.KernelPreIdeal.τ Cert.KernelPreIdeal.sig) → Buf (Elt Ideal) ℓ) (g : Dev Cert.KernelPreIdeal.nD → PrngReg), Pre_KernelPreIdeal_pre_finite m →
    θ_run (Cert.KernelPreIdeal.defs (F := Ideal)) (onTc (τ := Cert.KernelPreIdeal.τ) (Cert.KernelPreIdeal.main (F := Ideal))) ⟨m, fun _ => 0, g⟩ (fun r => (∀ c : Dev Cert.KernelPreIdeal.nD,
      r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
      ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
      ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
      ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
      ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
      ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5)
      ∧ r.2.mem ((c.tc : Thread Cert.KernelPreIdeal.nD Cert.KernelPreIdeal.τ).loc Cert.KernelPreIdeal.main_arg6) = m ((c.tc : Thread Cert.KernelPreIdeal.nD Cert.KernelPreIdeal.τ).loc Cert.KernelPreIdeal.main_arg6)
      ∧ r.2.mem ((c.tc : Thread Cert.KernelPreIdeal.nD Cert.KernelPreIdeal.τ).loc Cert.KernelPreIdeal.main_arg7) = m ((c.tc : Thread Cert.KernelPreIdeal.nD Cert.KernelPreIdeal.τ).loc Cert.KernelPreIdeal.main_arg7)
      ∧ r.2.mem ((c.tc : Thread Cert.KernelPreIdeal.nD Cert.KernelPreIdeal.τ).loc Cert.KernelPreIdeal.main_arg8) = m ((c.tc : Thread Cert.KernelPreIdeal.nD Cert.KernelPreIdeal.τ).loc Cert.KernelPreIdeal.main_arg8)
      ∧ r.2.mem ((c.tc : Thread Cert.KernelPreIdeal.nD Cert.KernelPreIdeal.τ).loc Cert.KernelPreIdeal.main_arg9) = m ((c.tc : Thread Cert.KernelPreIdeal.nD Cert.KernelPreIdeal.τ).loc Cert.KernelPreIdeal.main_arg9)
      ∧ r.2.mem ((c.tc : Thread Cert.KernelPreIdeal.nD Cert.KernelPreIdeal.τ).loc Cert.KernelPreIdeal.main_arg10) = m ((c.tc : Thread Cert.KernelPreIdeal.nD Cert.KernelPreIdeal.τ).loc Cert.KernelPreIdeal.main_arg10))
      ∧ r.2.sem = fun _ => 0)

def quiescent_ReferencePreIdeal [hReferencePreIdeal : Cert.ReferencePreIdeal.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4)
      ∧ r.2.mem ((c.tc : Thread Cert.ReferencePreIdeal.nD Cert.ReferencePreIdeal.τ).loc Cert.ReferencePreIdeal.main_arg5) = m ((c.tc : Thread Cert.ReferencePreIdeal.nD Cert.ReferencePreIdeal.τ).loc Cert.ReferencePreIdeal.main_arg5)
      ∧ r.2.mem ((c.tc : Thread Cert.ReferencePreIdeal.nD Cert.ReferencePreIdeal.τ).loc Cert.ReferencePreIdeal.main_arg6) = m ((c.tc : Thread Cert.ReferencePreIdeal.nD Cert.ReferencePreIdeal.τ).loc Cert.ReferencePreIdeal.main_arg6)
      ∧ r.2.mem ((c.tc : Thread Cert.ReferencePreIdeal.nD Cert.ReferencePreIdeal.τ).loc Cert.ReferencePreIdeal.main_arg7) = m ((c.tc : Thread Cert.ReferencePreIdeal.nD Cert.ReferencePreIdeal.τ).loc Cert.ReferencePreIdeal.main_arg7)
      ∧ r.2.mem ((c.tc : Thread Cert.ReferencePreIdeal.nD Cert.ReferencePreIdeal.τ).loc Cert.ReferencePreIdeal.main_arg8) = m ((c.tc : Thread Cert.ReferencePreIdeal.nD Cert.ReferencePreIdeal.τ).loc Cert.ReferencePreIdeal.main_arg8)
      ∧ r.2.mem ((c.tc : Thread Cert.ReferencePreIdeal.nD Cert.ReferencePreIdeal.τ).loc Cert.ReferencePreIdeal.main_arg9) = m ((c.tc : Thread Cert.ReferencePreIdeal.nD Cert.ReferencePreIdeal.τ).loc Cert.ReferencePreIdeal.main_arg9)
      ∧ r.2.mem ((c.tc : Thread Cert.ReferencePreIdeal.nD Cert.ReferencePreIdeal.τ).loc Cert.ReferencePreIdeal.main_arg10) = m ((c.tc : Thread Cert.ReferencePreIdeal.nD Cert.ReferencePreIdeal.τ).loc Cert.ReferencePreIdeal.main_arg10))
      ∧ r.2.sem = fun _ => 0)

def quiescent_ReferencePreIdeal_pre_pre_finite [hReferencePreIdeal : Cert.ReferencePreIdeal.Facts] [hPre_pre_finite : Cert.Pre_pre_finite.Facts] : Prop :=
  ∀ (m : (ℓ : Loc Cert.ReferencePreIdeal.nD Cert.ReferencePreIdeal.τ Cert.ReferencePreIdeal.sig) → Buf (Elt Ideal) ℓ) (g : Dev Cert.ReferencePreIdeal.nD → PrngReg), Pre_ReferencePreIdeal_pre_finite m →
    θ_run (Cert.ReferencePreIdeal.defs (F := Ideal)) (onTc (τ := Cert.ReferencePreIdeal.τ) (Cert.ReferencePreIdeal.main (F := Ideal))) ⟨m, fun _ => 0, g⟩ (fun r => (∀ c : Dev Cert.ReferencePreIdeal.nD,
      r.2.mem ((c.tc : Thread Cert.ReferencePreIdeal.nD Cert.ReferencePreIdeal.τ).loc Cert.ReferencePreIdeal.main_arg0) = m ((c.tc : Thread Cert.ReferencePreIdeal.nD Cert.ReferencePreIdeal.τ).loc Cert.ReferencePreIdeal.main_arg0)
      ∧ r.2.mem ((c.tc : Thread Cert.ReferencePreIdeal.nD Cert.ReferencePreIdeal.τ).loc Cert.ReferencePreIdeal.main_arg1) = m ((c.tc : Thread Cert.ReferencePreIdeal.nD Cert.ReferencePreIdeal.τ).loc Cert.ReferencePreIdeal.main_arg1)
      ∧ r.2.mem ((c.tc : Thread Cert.ReferencePreIdeal.nD Cert.ReferencePreIdeal.τ).loc Cert.ReferencePreIdeal.main_arg2) = m ((c.tc : Thread Cert.ReferencePreIdeal.nD Cert.ReferencePreIdeal.τ).loc Cert.ReferencePreIdeal.main_arg2)
      ∧ r.2.mem ((c.tc : Thread Cert.ReferencePreIdeal.nD Cert.ReferencePreIdeal.τ).loc Cert.ReferencePreIdeal.main_arg3) = m ((c.tc : Thread Cert.ReferencePreIdeal.nD Cert.ReferencePreIdeal.τ).loc Cert.ReferencePreIdeal.main_arg3)
      ∧ r.2.mem ((c.tc : Thread Cert.ReferencePreIdeal.nD Cert.ReferencePreIdeal.τ).loc Cert.ReferencePreIdeal.main_arg4) = m ((c.tc : Thread Cert.ReferencePreIdeal.nD Cert.ReferencePreIdeal.τ).loc Cert.ReferencePreIdeal.main_arg4)
      ∧ r.2.mem ((c.tc : Thread Cert.ReferencePreIdeal.nD Cert.ReferencePreIdeal.τ).loc Cert.ReferencePreIdeal.main_arg5) = m ((c.tc : Thread Cert.ReferencePreIdeal.nD Cert.ReferencePreIdeal.τ).loc Cert.ReferencePreIdeal.main_arg5)
      ∧ r.2.mem ((c.tc : Thread Cert.ReferencePreIdeal.nD Cert.ReferencePreIdeal.τ).loc Cert.ReferencePreIdeal.main_arg6) = m ((c.tc : Thread Cert.ReferencePreIdeal.nD Cert.ReferencePreIdeal.τ).loc Cert.ReferencePreIdeal.main_arg6)
      ∧ r.2.mem ((c.tc : Thread Cert.ReferencePreIdeal.nD Cert.ReferencePreIdeal.τ).loc Cert.ReferencePreIdeal.main_arg7) = m ((c.tc : Thread Cert.ReferencePreIdeal.nD Cert.ReferencePreIdeal.τ).loc Cert.ReferencePreIdeal.main_arg7)
      ∧ r.2.mem ((c.tc : Thread Cert.ReferencePreIdeal.nD Cert.ReferencePreIdeal.τ).loc Cert.ReferencePreIdeal.main_arg8) = m ((c.tc : Thread Cert.ReferencePreIdeal.nD Cert.ReferencePreIdeal.τ).loc Cert.ReferencePreIdeal.main_arg8)
      ∧ r.2.mem ((c.tc : Thread Cert.ReferencePreIdeal.nD Cert.ReferencePreIdeal.τ).loc Cert.ReferencePreIdeal.main_arg9) = m ((c.tc : Thread Cert.ReferencePreIdeal.nD Cert.ReferencePreIdeal.τ).loc Cert.ReferencePreIdeal.main_arg9)
      ∧ r.2.mem ((c.tc : Thread Cert.ReferencePreIdeal.nD Cert.ReferencePreIdeal.τ).loc Cert.ReferencePreIdeal.main_arg10) = m ((c.tc : Thread Cert.ReferencePreIdeal.nD Cert.ReferencePreIdeal.τ).loc Cert.ReferencePreIdeal.main_arg10))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)) →
    ∃ (v0 : (c : Dev Cert.KernelInIdeal.nD) → Buf (Elt Ideal) ((c.tc : Thread Cert.KernelInIdeal.nD Cert.KernelInIdeal.τ).loc Cert.KernelInIdeal.main_v24_0)) (v1 : (c : Dev Cert.KernelInIdeal.nD) → Buf (Elt Ideal) ((c.tc : Thread Cert.KernelInIdeal.nD Cert.KernelInIdeal.τ).loc Cert.KernelInIdeal.main_v24_1)) (v2 : (c : Dev Cert.KernelInIdeal.nD) → Buf (Elt Ideal) ((c.tc : Thread Cert.KernelInIdeal.nD Cert.KernelInIdeal.τ).loc Cert.KernelInIdeal.main_v24_2)) (v3 : (c : Dev Cert.KernelInIdeal.nD) → Buf (Elt Ideal) ((c.tc : Thread Cert.KernelInIdeal.nD Cert.KernelInIdeal.τ).loc Cert.KernelInIdeal.main_v24_3)) (v4 : (c : Dev Cert.KernelInIdeal.nD) → Buf (Elt Ideal) ((c.tc : Thread Cert.KernelInIdeal.nD Cert.KernelInIdeal.τ).loc Cert.KernelInIdeal.main_v24_4)) (v5 : (c : Dev Cert.KernelInIdeal.nD) → Buf (Elt Ideal) ((c.tc : Thread Cert.KernelInIdeal.nD Cert.KernelInIdeal.τ).loc Cert.KernelInIdeal.main_v24_5)) (v6 : (c : Dev Cert.KernelInIdeal.nD) → Buf (Elt Ideal) ((c.tc : Thread Cert.KernelInIdeal.nD Cert.KernelInIdeal.τ).loc Cert.KernelInIdeal.main_v24_6)) (v7 : (c : Dev Cert.KernelInIdeal.nD) → Buf (Elt Ideal) ((c.tc : Thread Cert.KernelInIdeal.nD Cert.KernelInIdeal.τ).loc Cert.KernelInIdeal.main_v24_7)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v24_0) = v0 c
          ∧ r.2.mem ((c.tc : Thread Cert.KernelInIdeal.nD Cert.KernelInIdeal.τ).loc Cert.KernelInIdeal.main_v24_1) = v1 c
          ∧ r.2.mem ((c.tc : Thread Cert.KernelInIdeal.nD Cert.KernelInIdeal.τ).loc Cert.KernelInIdeal.main_v24_2) = v2 c
          ∧ r.2.mem ((c.tc : Thread Cert.KernelInIdeal.nD Cert.KernelInIdeal.τ).loc Cert.KernelInIdeal.main_v24_3) = v3 c
          ∧ r.2.mem ((c.tc : Thread Cert.KernelInIdeal.nD Cert.KernelInIdeal.τ).loc Cert.KernelInIdeal.main_v24_4) = v4 c
          ∧ r.2.mem ((c.tc : Thread Cert.KernelInIdeal.nD Cert.KernelInIdeal.τ).loc Cert.KernelInIdeal.main_v24_5) = v5 c
          ∧ r.2.mem ((c.tc : Thread Cert.KernelInIdeal.nD Cert.KernelInIdeal.τ).loc Cert.KernelInIdeal.main_v24_6) = v6 c
          ∧ r.2.mem ((c.tc : Thread Cert.KernelInIdeal.nD Cert.KernelInIdeal.τ).loc Cert.KernelInIdeal.main_v24_7) = v7 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v20) = v0 c
          ∧ r.2.mem ((c.tc : Thread Cert.ReferenceInIdeal.nD Cert.ReferenceInIdeal.τ).loc Cert.ReferenceInIdeal.main_v61) = v1 c
          ∧ r.2.mem ((c.tc : Thread Cert.ReferenceInIdeal.nD Cert.ReferenceInIdeal.τ).loc Cert.ReferenceInIdeal.main_v56) = v2 c
          ∧ r.2.mem ((c.tc : Thread Cert.ReferenceInIdeal.nD Cert.ReferenceInIdeal.τ).loc Cert.ReferenceInIdeal.main_v58) = v3 c
          ∧ r.2.mem ((c.tc : Thread Cert.ReferenceInIdeal.nD Cert.ReferenceInIdeal.τ).loc Cert.ReferenceInIdeal.main_v39) = v4 c
          ∧ r.2.mem ((c.tc : Thread Cert.ReferenceInIdeal.nD Cert.ReferenceInIdeal.τ).loc Cert.ReferenceInIdeal.main_v46) = v5 c
          ∧ r.2.mem ((c.tc : Thread Cert.ReferenceInIdeal.nD Cert.ReferenceInIdeal.τ).loc Cert.ReferenceInIdeal.main_v54) = v6 c
          ∧ r.2.mem ((c.tc : Thread Cert.ReferenceInIdeal.nD Cert.ReferenceInIdeal.τ).loc Cert.ReferenceInIdeal.main_v41) = v7 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7))

def preserves_KernelOut_KernelOutIdeal : Prop :=
  True

def algebraic_KernelOutIdeal_ReferenceOutIdeal_pre_rwkv_finite [hKernelOutIdeal : Cert.KernelOutIdeal.Facts] [hReferenceOutIdeal : Cert.ReferenceOutIdeal.Facts] [hPre_rwkv_finite : Cert.Pre_rwkv_finite.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal_rwkv_finite m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)
      ∧ m' ((c.tc : Thread Cert.ReferenceOutIdeal.nD Cert.ReferenceOutIdeal.τ).loc Cert.ReferenceOutIdeal.main_arg5) = m ((c.tc : Thread Cert.KernelOutIdeal.nD Cert.KernelOutIdeal.τ).loc Cert.KernelOutIdeal.main_arg5)
      ∧ m' ((c.tc : Thread Cert.ReferenceOutIdeal.nD Cert.ReferenceOutIdeal.τ).loc Cert.ReferenceOutIdeal.main_arg6) = m ((c.tc : Thread Cert.KernelOutIdeal.nD Cert.KernelOutIdeal.τ).loc Cert.KernelOutIdeal.main_arg6)
      ∧ m' ((c.tc : Thread Cert.ReferenceOutIdeal.nD Cert.ReferenceOutIdeal.τ).loc Cert.ReferenceOutIdeal.main_arg7) = m ((c.tc : Thread Cert.KernelOutIdeal.nD Cert.KernelOutIdeal.τ).loc Cert.KernelOutIdeal.main_arg7)
      ∧ m' ((c.tc : Thread Cert.ReferenceOutIdeal.nD Cert.ReferenceOutIdeal.τ).loc Cert.ReferenceOutIdeal.main_arg8) = m ((c.tc : Thread Cert.KernelOutIdeal.nD Cert.KernelOutIdeal.τ).loc Cert.KernelOutIdeal.main_arg8)
      ∧ m' ((c.tc : Thread Cert.ReferenceOutIdeal.nD Cert.ReferenceOutIdeal.τ).loc Cert.ReferenceOutIdeal.main_arg9) = m ((c.tc : Thread Cert.KernelOutIdeal.nD Cert.KernelOutIdeal.τ).loc Cert.KernelOutIdeal.main_arg9)
      ∧ m' ((c.tc : Thread Cert.ReferenceOutIdeal.nD Cert.ReferenceOutIdeal.τ).loc Cert.ReferenceOutIdeal.main_arg10) = m ((c.tc : Thread Cert.KernelOutIdeal.nD Cert.KernelOutIdeal.τ).loc Cert.KernelOutIdeal.main_arg10)
      ∧ m' ((c.tc : Thread Cert.ReferenceOutIdeal.nD Cert.ReferenceOutIdeal.τ).loc Cert.ReferenceOutIdeal.main_arg11) = m ((c.tc : Thread Cert.KernelOutIdeal.nD Cert.KernelOutIdeal.τ).loc Cert.KernelOutIdeal.main_arg11)
      ∧ m' ((c.tc : Thread Cert.ReferenceOutIdeal.nD Cert.ReferenceOutIdeal.τ).loc Cert.ReferenceOutIdeal.main_arg12) = m ((c.tc : Thread Cert.KernelOutIdeal.nD Cert.KernelOutIdeal.τ).loc Cert.KernelOutIdeal.main_arg12)
      ∧ m' ((c.tc : Thread Cert.ReferenceOutIdeal.nD Cert.ReferenceOutIdeal.τ).loc Cert.ReferenceOutIdeal.main_arg13) = m ((c.tc : Thread Cert.KernelOutIdeal.nD Cert.KernelOutIdeal.τ).loc Cert.KernelOutIdeal.main_arg13)
      ∧ m' ((c.tc : Thread Cert.ReferenceOutIdeal.nD Cert.ReferenceOutIdeal.τ).loc Cert.ReferenceOutIdeal.main_arg14) = m ((c.tc : Thread Cert.KernelOutIdeal.nD Cert.KernelOutIdeal.τ).loc Cert.KernelOutIdeal.main_arg14)
      ∧ m' ((c.tc : Thread Cert.ReferenceOutIdeal.nD Cert.ReferenceOutIdeal.τ).loc Cert.ReferenceOutIdeal.main_arg15) = m ((c.tc : Thread Cert.KernelOutIdeal.nD Cert.KernelOutIdeal.τ).loc Cert.KernelOutIdeal.main_arg15)
      ∧ m' ((c.tc : Thread Cert.ReferenceOutIdeal.nD Cert.ReferenceOutIdeal.τ).loc Cert.ReferenceOutIdeal.main_arg16) = m ((c.tc : Thread Cert.KernelOutIdeal.nD Cert.KernelOutIdeal.τ).loc Cert.KernelOutIdeal.main_arg16)) →
    ∃ (v0 : (c : Dev Cert.KernelOutIdeal.nD) → Buf (Elt Ideal) ((c.tc : Thread Cert.KernelOutIdeal.nD Cert.KernelOutIdeal.τ).loc Cert.KernelOutIdeal.main_v23)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v23) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4)
          ∧ r.2.mem ((c.tc : Thread Cert.KernelOutIdeal.nD Cert.KernelOutIdeal.τ).loc Cert.KernelOutIdeal.main_arg5) = m ((c.tc : Thread Cert.KernelOutIdeal.nD Cert.KernelOutIdeal.τ).loc Cert.KernelOutIdeal.main_arg5)
          ∧ r.2.mem ((c.tc : Thread Cert.KernelOutIdeal.nD Cert.KernelOutIdeal.τ).loc Cert.KernelOutIdeal.main_arg6) = m ((c.tc : Thread Cert.KernelOutIdeal.nD Cert.KernelOutIdeal.τ).loc Cert.KernelOutIdeal.main_arg6)
          ∧ r.2.mem ((c.tc : Thread Cert.KernelOutIdeal.nD Cert.KernelOutIdeal.τ).loc Cert.KernelOutIdeal.main_arg7) = m ((c.tc : Thread Cert.KernelOutIdeal.nD Cert.KernelOutIdeal.τ).loc Cert.KernelOutIdeal.main_arg7)
          ∧ r.2.mem ((c.tc : Thread Cert.KernelOutIdeal.nD Cert.KernelOutIdeal.τ).loc Cert.KernelOutIdeal.main_arg8) = m ((c.tc : Thread Cert.KernelOutIdeal.nD Cert.KernelOutIdeal.τ).loc Cert.KernelOutIdeal.main_arg8)
          ∧ r.2.mem ((c.tc : Thread Cert.KernelOutIdeal.nD Cert.KernelOutIdeal.τ).loc Cert.KernelOutIdeal.main_arg9) = m ((c.tc : Thread Cert.KernelOutIdeal.nD Cert.KernelOutIdeal.τ).loc Cert.KernelOutIdeal.main_arg9)
          ∧ r.2.mem ((c.tc : Thread Cert.KernelOutIdeal.nD Cert.KernelOutIdeal.τ).loc Cert.KernelOutIdeal.main_arg10) = m ((c.tc : Thread Cert.KernelOutIdeal.nD Cert.KernelOutIdeal.τ).loc Cert.KernelOutIdeal.main_arg10)
          ∧ r.2.mem ((c.tc : Thread Cert.KernelOutIdeal.nD Cert.KernelOutIdeal.τ).loc Cert.KernelOutIdeal.main_arg11) = m ((c.tc : Thread Cert.KernelOutIdeal.nD Cert.KernelOutIdeal.τ).loc Cert.KernelOutIdeal.main_arg11)
          ∧ r.2.mem ((c.tc : Thread Cert.KernelOutIdeal.nD Cert.KernelOutIdeal.τ).loc Cert.KernelOutIdeal.main_arg12) = m ((c.tc : Thread Cert.KernelOutIdeal.nD Cert.KernelOutIdeal.τ).loc Cert.KernelOutIdeal.main_arg12)
          ∧ r.2.mem ((c.tc : Thread Cert.KernelOutIdeal.nD Cert.KernelOutIdeal.τ).loc Cert.KernelOutIdeal.main_arg13) = m ((c.tc : Thread Cert.KernelOutIdeal.nD Cert.KernelOutIdeal.τ).loc Cert.KernelOutIdeal.main_arg13)
          ∧ r.2.mem ((c.tc : Thread Cert.KernelOutIdeal.nD Cert.KernelOutIdeal.τ).loc Cert.KernelOutIdeal.main_arg14) = m ((c.tc : Thread Cert.KernelOutIdeal.nD Cert.KernelOutIdeal.τ).loc Cert.KernelOutIdeal.main_arg14)
          ∧ r.2.mem ((c.tc : Thread Cert.KernelOutIdeal.nD Cert.KernelOutIdeal.τ).loc Cert.KernelOutIdeal.main_arg15) = m ((c.tc : Thread Cert.KernelOutIdeal.nD Cert.KernelOutIdeal.τ).loc Cert.KernelOutIdeal.main_arg15)
          ∧ r.2.mem ((c.tc : Thread Cert.KernelOutIdeal.nD Cert.KernelOutIdeal.τ).loc Cert.KernelOutIdeal.main_arg16) = m ((c.tc : Thread Cert.KernelOutIdeal.nD Cert.KernelOutIdeal.τ).loc Cert.KernelOutIdeal.main_arg16))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v94) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4)
          ∧ r.2.mem ((c.tc : Thread Cert.ReferenceOutIdeal.nD Cert.ReferenceOutIdeal.τ).loc Cert.ReferenceOutIdeal.main_arg5) = m' ((c.tc : Thread Cert.ReferenceOutIdeal.nD Cert.ReferenceOutIdeal.τ).loc Cert.ReferenceOutIdeal.main_arg5)
          ∧ r.2.mem ((c.tc : Thread Cert.ReferenceOutIdeal.nD Cert.ReferenceOutIdeal.τ).loc Cert.ReferenceOutIdeal.main_arg6) = m' ((c.tc : Thread Cert.ReferenceOutIdeal.nD Cert.ReferenceOutIdeal.τ).loc Cert.ReferenceOutIdeal.main_arg6)
          ∧ r.2.mem ((c.tc : Thread Cert.ReferenceOutIdeal.nD Cert.ReferenceOutIdeal.τ).loc Cert.ReferenceOutIdeal.main_arg7) = m' ((c.tc : Thread Cert.ReferenceOutIdeal.nD Cert.ReferenceOutIdeal.τ).loc Cert.ReferenceOutIdeal.main_arg7)
          ∧ r.2.mem ((c.tc : Thread Cert.ReferenceOutIdeal.nD Cert.ReferenceOutIdeal.τ).loc Cert.ReferenceOutIdeal.main_arg8) = m' ((c.tc : Thread Cert.ReferenceOutIdeal.nD Cert.ReferenceOutIdeal.τ).loc Cert.ReferenceOutIdeal.main_arg8)
          ∧ r.2.mem ((c.tc : Thread Cert.ReferenceOutIdeal.nD Cert.ReferenceOutIdeal.τ).loc Cert.ReferenceOutIdeal.main_arg9) = m' ((c.tc : Thread Cert.ReferenceOutIdeal.nD Cert.ReferenceOutIdeal.τ).loc Cert.ReferenceOutIdeal.main_arg9)
          ∧ r.2.mem ((c.tc : Thread Cert.ReferenceOutIdeal.nD Cert.ReferenceOutIdeal.τ).loc Cert.ReferenceOutIdeal.main_arg10) = m' ((c.tc : Thread Cert.ReferenceOutIdeal.nD Cert.ReferenceOutIdeal.τ).loc Cert.ReferenceOutIdeal.main_arg10)
          ∧ r.2.mem ((c.tc : Thread Cert.ReferenceOutIdeal.nD Cert.ReferenceOutIdeal.τ).loc Cert.ReferenceOutIdeal.main_arg11) = m' ((c.tc : Thread Cert.ReferenceOutIdeal.nD Cert.ReferenceOutIdeal.τ).loc Cert.ReferenceOutIdeal.main_arg11)
          ∧ r.2.mem ((c.tc : Thread Cert.ReferenceOutIdeal.nD Cert.ReferenceOutIdeal.τ).loc Cert.ReferenceOutIdeal.main_arg12) = m' ((c.tc : Thread Cert.ReferenceOutIdeal.nD Cert.ReferenceOutIdeal.τ).loc Cert.ReferenceOutIdeal.main_arg12)
          ∧ r.2.mem ((c.tc : Thread Cert.ReferenceOutIdeal.nD Cert.ReferenceOutIdeal.τ).loc Cert.ReferenceOutIdeal.main_arg13) = m' ((c.tc : Thread Cert.ReferenceOutIdeal.nD Cert.ReferenceOutIdeal.τ).loc Cert.ReferenceOutIdeal.main_arg13)
          ∧ r.2.mem ((c.tc : Thread Cert.ReferenceOutIdeal.nD Cert.ReferenceOutIdeal.τ).loc Cert.ReferenceOutIdeal.main_arg14) = m' ((c.tc : Thread Cert.ReferenceOutIdeal.nD Cert.ReferenceOutIdeal.τ).loc Cert.ReferenceOutIdeal.main_arg14)
          ∧ r.2.mem ((c.tc : Thread Cert.ReferenceOutIdeal.nD Cert.ReferenceOutIdeal.τ).loc Cert.ReferenceOutIdeal.main_arg15) = m' ((c.tc : Thread Cert.ReferenceOutIdeal.nD Cert.ReferenceOutIdeal.τ).loc Cert.ReferenceOutIdeal.main_arg15)
          ∧ r.2.mem ((c.tc : Thread Cert.ReferenceOutIdeal.nD Cert.ReferenceOutIdeal.τ).loc Cert.ReferenceOutIdeal.main_arg16) = m' ((c.tc : Thread Cert.ReferenceOutIdeal.nD Cert.ReferenceOutIdeal.τ).loc Cert.ReferenceOutIdeal.main_arg16))

def preserves_KernelPre_KernelPreIdeal : Prop :=
  True

def algebraic_KernelPreIdeal_ReferencePreIdeal_pre_pre_finite [hKernelPreIdeal : Cert.KernelPreIdeal.Facts] [hReferencePreIdeal : Cert.ReferencePreIdeal.Facts] [hPre_pre_finite : Cert.Pre_pre_finite.Facts] : Prop :=
  ∀ (m : (ℓ : Loc Cert.KernelPreIdeal.nD Cert.KernelPreIdeal.τ Cert.KernelPreIdeal.sig) → Buf (Elt Ideal) ℓ) (g : Dev Cert.KernelPreIdeal.nD → PrngReg)
    (m' : (ℓ : Loc Cert.ReferencePreIdeal.nD Cert.ReferencePreIdeal.τ Cert.ReferencePreIdeal.sig) → Buf (Elt Ideal) ℓ) (g' : Dev Cert.ReferencePreIdeal.nD → PrngReg), Pre_KernelPreIdeal_pre_finite m →
    (∀ c : Dev Cert.KernelPreIdeal.nD,
      m' ((c.tc : Thread Cert.ReferencePreIdeal.nD Cert.ReferencePreIdeal.τ).loc Cert.ReferencePreIdeal.main_arg0) = m ((c.tc : Thread Cert.KernelPreIdeal.nD Cert.KernelPreIdeal.τ).loc Cert.KernelPreIdeal.main_arg0)
      ∧ m' ((c.tc : Thread Cert.ReferencePreIdeal.nD Cert.ReferencePreIdeal.τ).loc Cert.ReferencePreIdeal.main_arg1) = m ((c.tc : Thread Cert.KernelPreIdeal.nD Cert.KernelPreIdeal.τ).loc Cert.KernelPreIdeal.main_arg1)
      ∧ m' ((c.tc : Thread Cert.ReferencePreIdeal.nD Cert.ReferencePreIdeal.τ).loc Cert.ReferencePreIdeal.main_arg2) = m ((c.tc : Thread Cert.KernelPreIdeal.nD Cert.KernelPreIdeal.τ).loc Cert.KernelPreIdeal.main_arg2)
      ∧ m' ((c.tc : Thread Cert.ReferencePreIdeal.nD Cert.ReferencePreIdeal.τ).loc Cert.ReferencePreIdeal.main_arg3) = m ((c.tc : Thread Cert.KernelPreIdeal.nD Cert.KernelPreIdeal.τ).loc Cert.KernelPreIdeal.main_arg3)
      ∧ m' ((c.tc : Thread Cert.ReferencePreIdeal.nD Cert.ReferencePreIdeal.τ).loc Cert.ReferencePreIdeal.main_arg4) = m ((c.tc : Thread Cert.KernelPreIdeal.nD Cert.KernelPreIdeal.τ).loc Cert.KernelPreIdeal.main_arg4)
      ∧ m' ((c.tc : Thread Cert.ReferencePreIdeal.nD Cert.ReferencePreIdeal.τ).loc Cert.ReferencePreIdeal.main_arg5) = m ((c.tc : Thread Cert.KernelPreIdeal.nD Cert.KernelPreIdeal.τ).loc Cert.KernelPreIdeal.main_arg5)
      ∧ m' ((c.tc : Thread Cert.ReferencePreIdeal.nD Cert.ReferencePreIdeal.τ).loc Cert.ReferencePreIdeal.main_arg6) = m ((c.tc : Thread Cert.KernelPreIdeal.nD Cert.KernelPreIdeal.τ).loc Cert.KernelPreIdeal.main_arg6)
      ∧ m' ((c.tc : Thread Cert.ReferencePreIdeal.nD Cert.ReferencePreIdeal.τ).loc Cert.ReferencePreIdeal.main_arg7) = m ((c.tc : Thread Cert.KernelPreIdeal.nD Cert.KernelPreIdeal.τ).loc Cert.KernelPreIdeal.main_arg7)
      ∧ m' ((c.tc : Thread Cert.ReferencePreIdeal.nD Cert.ReferencePreIdeal.τ).loc Cert.ReferencePreIdeal.main_arg8) = m ((c.tc : Thread Cert.KernelPreIdeal.nD Cert.KernelPreIdeal.τ).loc Cert.KernelPreIdeal.main_arg8)
      ∧ m' ((c.tc : Thread Cert.ReferencePreIdeal.nD Cert.ReferencePreIdeal.τ).loc Cert.ReferencePreIdeal.main_arg9) = m ((c.tc : Thread Cert.KernelPreIdeal.nD Cert.KernelPreIdeal.τ).loc Cert.KernelPreIdeal.main_arg9)
      ∧ m' ((c.tc : Thread Cert.ReferencePreIdeal.nD Cert.ReferencePreIdeal.τ).loc Cert.ReferencePreIdeal.main_arg10) = m ((c.tc : Thread Cert.KernelPreIdeal.nD Cert.KernelPreIdeal.τ).loc Cert.KernelPreIdeal.main_arg10)) →
    ∃ (v0 : (c : Dev Cert.KernelPreIdeal.nD) → Buf (Elt Ideal) ((c.tc : Thread Cert.KernelPreIdeal.nD Cert.KernelPreIdeal.τ).loc Cert.KernelPreIdeal.main_v21_0)) (v1 : (c : Dev Cert.KernelPreIdeal.nD) → Buf (Elt Ideal) ((c.tc : Thread Cert.KernelPreIdeal.nD Cert.KernelPreIdeal.τ).loc Cert.KernelPreIdeal.main_v21_1)),
      θ_run (Cert.KernelPreIdeal.defs (F := Ideal)) (onTc (τ := Cert.KernelPreIdeal.τ) (Cert.KernelPreIdeal.main (F := Ideal))) ⟨m, fun _ => 0, g⟩ (fun r => ∀ c : Dev Cert.KernelPreIdeal.nD,
          r.2.mem ((c.tc : Thread Cert.KernelPreIdeal.nD Cert.KernelPreIdeal.τ).loc Cert.KernelPreIdeal.main_v21_0) = v0 c
          ∧ r.2.mem ((c.tc : Thread Cert.KernelPreIdeal.nD Cert.KernelPreIdeal.τ).loc Cert.KernelPreIdeal.main_v21_1) = v1 c
          ∧ r.2.mem ((c.tc : Thread Cert.KernelPreIdeal.nD Cert.KernelPreIdeal.τ).loc Cert.KernelPreIdeal.main_arg0) = m ((c.tc : Thread Cert.KernelPreIdeal.nD Cert.KernelPreIdeal.τ).loc Cert.KernelPreIdeal.main_arg0)
          ∧ r.2.mem ((c.tc : Thread Cert.KernelPreIdeal.nD Cert.KernelPreIdeal.τ).loc Cert.KernelPreIdeal.main_arg1) = m ((c.tc : Thread Cert.KernelPreIdeal.nD Cert.KernelPreIdeal.τ).loc Cert.KernelPreIdeal.main_arg1)
          ∧ r.2.mem ((c.tc : Thread Cert.KernelPreIdeal.nD Cert.KernelPreIdeal.τ).loc Cert.KernelPreIdeal.main_arg2) = m ((c.tc : Thread Cert.KernelPreIdeal.nD Cert.KernelPreIdeal.τ).loc Cert.KernelPreIdeal.main_arg2)
          ∧ r.2.mem ((c.tc : Thread Cert.KernelPreIdeal.nD Cert.KernelPreIdeal.τ).loc Cert.KernelPreIdeal.main_arg3) = m ((c.tc : Thread Cert.KernelPreIdeal.nD Cert.KernelPreIdeal.τ).loc Cert.KernelPreIdeal.main_arg3)
          ∧ r.2.mem ((c.tc : Thread Cert.KernelPreIdeal.nD Cert.KernelPreIdeal.τ).loc Cert.KernelPreIdeal.main_arg4) = m ((c.tc : Thread Cert.KernelPreIdeal.nD Cert.KernelPreIdeal.τ).loc Cert.KernelPreIdeal.main_arg4)
          ∧ r.2.mem ((c.tc : Thread Cert.KernelPreIdeal.nD Cert.KernelPreIdeal.τ).loc Cert.KernelPreIdeal.main_arg5) = m ((c.tc : Thread Cert.KernelPreIdeal.nD Cert.KernelPreIdeal.τ).loc Cert.KernelPreIdeal.main_arg5)
          ∧ r.2.mem ((c.tc : Thread Cert.KernelPreIdeal.nD Cert.KernelPreIdeal.τ).loc Cert.KernelPreIdeal.main_arg6) = m ((c.tc : Thread Cert.KernelPreIdeal.nD Cert.KernelPreIdeal.τ).loc Cert.KernelPreIdeal.main_arg6)
          ∧ r.2.mem ((c.tc : Thread Cert.KernelPreIdeal.nD Cert.KernelPreIdeal.τ).loc Cert.KernelPreIdeal.main_arg7) = m ((c.tc : Thread Cert.KernelPreIdeal.nD Cert.KernelPreIdeal.τ).loc Cert.KernelPreIdeal.main_arg7)
          ∧ r.2.mem ((c.tc : Thread Cert.KernelPreIdeal.nD Cert.KernelPreIdeal.τ).loc Cert.KernelPreIdeal.main_arg8) = m ((c.tc : Thread Cert.KernelPreIdeal.nD Cert.KernelPreIdeal.τ).loc Cert.KernelPreIdeal.main_arg8)
          ∧ r.2.mem ((c.tc : Thread Cert.KernelPreIdeal.nD Cert.KernelPreIdeal.τ).loc Cert.KernelPreIdeal.main_arg9) = m ((c.tc : Thread Cert.KernelPreIdeal.nD Cert.KernelPreIdeal.τ).loc Cert.KernelPreIdeal.main_arg9)
          ∧ r.2.mem ((c.tc : Thread Cert.KernelPreIdeal.nD Cert.KernelPreIdeal.τ).loc Cert.KernelPreIdeal.main_arg10) = m ((c.tc : Thread Cert.KernelPreIdeal.nD Cert.KernelPreIdeal.τ).loc Cert.KernelPreIdeal.main_arg10))
      ∧ θ_run (Cert.ReferencePreIdeal.defs (F := Ideal)) (onTc (τ := Cert.ReferencePreIdeal.τ) (Cert.ReferencePreIdeal.main (F := Ideal))) ⟨m', fun _ => 0, g'⟩ (fun r => ∀ c : Dev Cert.ReferencePreIdeal.nD,
          r.2.mem ((c.tc : Thread Cert.ReferencePreIdeal.nD Cert.ReferencePreIdeal.τ).loc Cert.ReferencePreIdeal.main_v87) = v0 c
          ∧ r.2.mem ((c.tc : Thread Cert.ReferencePreIdeal.nD Cert.ReferencePreIdeal.τ).loc Cert.ReferencePreIdeal.main_v89) = v1 c
          ∧ r.2.mem ((c.tc : Thread Cert.ReferencePreIdeal.nD Cert.ReferencePreIdeal.τ).loc Cert.ReferencePreIdeal.main_arg0) = m' ((c.tc : Thread Cert.ReferencePreIdeal.nD Cert.ReferencePreIdeal.τ).loc Cert.ReferencePreIdeal.main_arg0)
          ∧ r.2.mem ((c.tc : Thread Cert.ReferencePreIdeal.nD Cert.ReferencePreIdeal.τ).loc Cert.ReferencePreIdeal.main_arg1) = m' ((c.tc : Thread Cert.ReferencePreIdeal.nD Cert.ReferencePreIdeal.τ).loc Cert.ReferencePreIdeal.main_arg1)
          ∧ r.2.mem ((c.tc : Thread Cert.ReferencePreIdeal.nD Cert.ReferencePreIdeal.τ).loc Cert.ReferencePreIdeal.main_arg2) = m' ((c.tc : Thread Cert.ReferencePreIdeal.nD Cert.ReferencePreIdeal.τ).loc Cert.ReferencePreIdeal.main_arg2)
          ∧ r.2.mem ((c.tc : Thread Cert.ReferencePreIdeal.nD Cert.ReferencePreIdeal.τ).loc Cert.ReferencePreIdeal.main_arg3) = m' ((c.tc : Thread Cert.ReferencePreIdeal.nD Cert.ReferencePreIdeal.τ).loc Cert.ReferencePreIdeal.main_arg3)
          ∧ r.2.mem ((c.tc : Thread Cert.ReferencePreIdeal.nD Cert.ReferencePreIdeal.τ).loc Cert.ReferencePreIdeal.main_arg4) = m' ((c.tc : Thread Cert.ReferencePreIdeal.nD Cert.ReferencePreIdeal.τ).loc Cert.ReferencePreIdeal.main_arg4)
          ∧ r.2.mem ((c.tc : Thread Cert.ReferencePreIdeal.nD Cert.ReferencePreIdeal.τ).loc Cert.ReferencePreIdeal.main_arg5) = m' ((c.tc : Thread Cert.ReferencePreIdeal.nD Cert.ReferencePreIdeal.τ).loc Cert.ReferencePreIdeal.main_arg5)
          ∧ r.2.mem ((c.tc : Thread Cert.ReferencePreIdeal.nD Cert.ReferencePreIdeal.τ).loc Cert.ReferencePreIdeal.main_arg6) = m' ((c.tc : Thread Cert.ReferencePreIdeal.nD Cert.ReferencePreIdeal.τ).loc Cert.ReferencePreIdeal.main_arg6)
          ∧ r.2.mem ((c.tc : Thread Cert.ReferencePreIdeal.nD Cert.ReferencePreIdeal.τ).loc Cert.ReferencePreIdeal.main_arg7) = m' ((c.tc : Thread Cert.ReferencePreIdeal.nD Cert.ReferencePreIdeal.τ).loc Cert.ReferencePreIdeal.main_arg7)
          ∧ r.2.mem ((c.tc : Thread Cert.ReferencePreIdeal.nD Cert.ReferencePreIdeal.τ).loc Cert.ReferencePreIdeal.main_arg8) = m' ((c.tc : Thread Cert.ReferencePreIdeal.nD Cert.ReferencePreIdeal.τ).loc Cert.ReferencePreIdeal.main_arg8)
          ∧ r.2.mem ((c.tc : Thread Cert.ReferencePreIdeal.nD Cert.ReferencePreIdeal.τ).loc Cert.ReferencePreIdeal.main_arg9) = m' ((c.tc : Thread Cert.ReferencePreIdeal.nD Cert.ReferencePreIdeal.τ).loc Cert.ReferencePreIdeal.main_arg9)
          ∧ r.2.mem ((c.tc : Thread Cert.ReferencePreIdeal.nD Cert.ReferencePreIdeal.τ).loc Cert.ReferencePreIdeal.main_arg10) = m' ((c.tc : Thread Cert.ReferencePreIdeal.nD Cert.ReferencePreIdeal.τ).loc Cert.ReferencePreIdeal.main_arg10))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelPre : Cert.KernelPre.Facts) (hKernelPreIdeal : Cert.KernelPreIdeal.Facts) (hReferencePreIdeal : Cert.ReferencePreIdeal.Facts) (hPre_scores_finite : Cert.Pre_scores_finite.Facts) (hPre_rwkv_finite : Cert.Pre_rwkv_finite.Facts) (hPre_pre_finite : Cert.Pre_pre_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_KernelOutIdeal_pre_rwkv_finite (hKernelOutIdeal := hKernelOutIdeal) (hPre_rwkv_finite := hPre_rwkv_finite)
    ∧ quiescent_ReferenceOutIdeal (hReferenceOutIdeal := hReferenceOutIdeal)
    ∧ quiescent_ReferenceOutIdeal_pre_rwkv_finite (hReferenceOutIdeal := hReferenceOutIdeal) (hPre_rwkv_finite := hPre_rwkv_finite)
    ∧ quiescent_KernelPre (hKernelPre := hKernelPre)
    ∧ quiescent_KernelPreIdeal (hKernelPreIdeal := hKernelPreIdeal)
    ∧ quiescent_KernelPreIdeal_pre_pre_finite (hKernelPreIdeal := hKernelPreIdeal) (hPre_pre_finite := hPre_pre_finite)
    ∧ quiescent_ReferencePreIdeal (hReferencePreIdeal := hReferencePreIdeal)
    ∧ quiescent_ReferencePreIdeal_pre_pre_finite (hReferencePreIdeal := hReferencePreIdeal) (hPre_pre_finite := hPre_pre_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal_pre_rwkv_finite (hKernelOutIdeal := hKernelOutIdeal) (hReferenceOutIdeal := hReferenceOutIdeal) (hPre_rwkv_finite := hPre_rwkv_finite)
    ∧ preserves_KernelPre_KernelPreIdeal
    ∧ algebraic_KernelPreIdeal_ReferencePreIdeal_pre_pre_finite (hKernelPreIdeal := hKernelPreIdeal) (hReferencePreIdeal := hReferencePreIdeal) (hPre_pre_finite := hPre_pre_finite)
-- ==== Pre_pre_finite.lean ====
abbrev S32x2048x896 : Shape := ⟨3, ![32, 2048, 896]⟩
abbrev S32x1x896 : Shape := ⟨3, ![32, 1, 896]⟩
abbrev S896 : Shape := ⟨1, ![896]⟩
abbrev S256 : Shape := ⟨1, ![256]⟩
abbrev S32x256 : Shape := ⟨2, ![32, 256]⟩
abbrev S4x64 : Shape := ⟨2, ![4, 64]⟩
abbrev S_ : Shape := ⟨0, ![]⟩

class Facts : Prop where
  bcast_S_S32x2048x896 : S_.BroadcastsInDim S32x2048x896 (![] : Fin 0 → Fin S32x2048x896.rank)
  reducesTo_S32x2048x896_S_d0_1_2 : S32x2048x896.ReducesTo [0, 1, 2] S_
  h_S_ : 0 < S_.numel
  bcast_S_S32x1x896 : S_.BroadcastsInDim S32x1x896 (![] : Fin 0 → Fin S32x1x896.rank)
  reducesTo_S32x1x896_S_d0_1_2 : S32x1x896.ReducesTo [0, 1, 2] S_
  bcast_S_S896 : S_.BroadcastsInDim S896 (![] : Fin 0 → Fin S896.rank)
  reducesTo_S896_S_d0 : S896.ReducesTo [0] S_
  bcast_S_S256 : S_.BroadcastsInDim S256 (![] : Fin 0 → Fin S256.rank)
  reducesTo_S256_S_d0 : S256.ReducesTo [0] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg9 : FVec F S256 .f32) (main_arg10 : FVec F S4x64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg9
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S4x64 .f32 := Host.absf main_arg10
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  main_v28

def fn {F : FTy → Type} [FloatOps F] (main_arg0 : FVec F S32x2048x896 .f32) (main_arg1 : FVec F S32x1x896 .f32) (main_arg2 : FVec F S896 .f32) (main_arg3 : FVec F S256 .f32) (main_arg4 : FVec F S32x256 .f32) (main_arg5 : FVec F S256 .f32) (main_arg6 : FVec F S32x256 .f32) (main_arg7 : FVec F S32x256 .f32) (main_arg8 : FVec F S256 .f32) (main_arg9 : FVec F S256 .f32) (main_arg10 : FVec F S4x64 .f32) : IVec S_ 1 :=
  let main_v0 : FVec F S32x2048x896 .f32 := Host.absf main_arg0
  let main_cst : FVec F S_ .f32 := constant S_ .f32 0x7F800000#32
  let main_v1 : FVec F S32x2048x896 .f32 := broadcastInDim S32x2048x896 ![] bcast_S_S32x2048x896 main_cst
  let main_v2 : IVec S32x2048x896 1 := cmpf .olt main_v0 main_v1
  let main_c : IVec S_ 1 := constantI S_ 1 1#1
  let main_v3 : IVec S_ 1 := (fun x v => Host.reduce IntOp.andi x v reducesTo_S32x2048x896_S_d0_1_2 h_S_) main_v2 main_c
  let main_v4 : FVec F S32x1x896 .f32 := Host.absf main_arg1
  let main_cst_0 : FVec F S_ .f32 := constant S_ .f32 0x7F800000#32
  let main_v5 : FVec F S32x1x896 .f32 := broadcastInDim S32x1x896 ![] bcast_S_S32x1x896 main_cst_0
  let main_v6 : IVec S32x1x896 1 := cmpf .olt main_v4 main_v5
  let main_c_1 : IVec S_ 1 := constantI S_ 1 1#1
  let main_v7 : IVec S_ 1 := (fun x v => Host.reduce IntOp.andi x v reducesTo_S32x1x896_S_d0_1_2 h_S_) main_v6 main_c_1
  let main_v8 : IVec S_ 1 := andi main_v3 main_v7
  let main_v9 : FVec F S896 .f32 := Host.absf main_arg2
  let main_cst_2 : FVec F S_ .f32 := constant S_ .f32 0x7F800000#32
  let main_v10 : FVec F S896 .f32 := broadcastInDim S896 ![] bcast_S_S896 main_cst_2
  let main_v11 : IVec S896 1 := cmpf .olt main_v9 main_v10
  let main_c_3 : IVec S_ 1 := constantI S_ 1 1#1
  let main_v12 : IVec S_ 1 := (fun x v => Host.reduce IntOp.andi x v reducesTo_S896_S_d0 h_S_) main_v11 main_c_3
  let main_v13 : IVec S_ 1 := andi main_v8 main_v12
  let main_v14 : FVec F S256 .f32 := Host.absf main_arg8
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg9 main_arg10 main_v13 main_v16
-- ==== Pre_rwkv_finite.lean ====
abbrev S65536x1024 : Shape := ⟨2, ![65536, 1024]⟩
abbrev S65536x512 : Shape := ⟨2, ![65536, 512]⟩
abbrev S2048x8192 : Shape := ⟨2, ![2048, 8192]⟩
abbrev S65536x256 : Shape := ⟨2, ![65536, 256]⟩
abbrev S4x65536x256 : Shape := ⟨3, ![4, 65536, 256]⟩
abbrev S256 : Shape := ⟨1, ![256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩

class Facts : Prop where
  bcast_S_S2048x8192 : S_.BroadcastsInDim S2048x8192 (![] : Fin 0 → Fin S2048x8192.rank)

variable [Facts]

def fn {F : FTy → Type} [FloatOps F] (main_arg0 : FVec F S65536x1024 .f32) (main_arg1 : FVec F S65536x512 .bf16) (main_arg2 : FVec F S2048x8192 .f32) (main_arg3 : FVec F S65536x512 .f32) (main_arg4 : FVec F S65536x256 .bf16) (main_arg5 : FVec F S4x65536x256 .f32) (main_arg6 : FVec F S256 .f32) (main_arg7 : FVec F S256 .f32) (main_arg8 : FVec F S1024x1024 .f32) (main_arg9 : FVec F S1024 .f32) (main_arg10 : FVec F S1024x2816 .f32) (main_arg11 : FVec F S1024x2816 .f32) (main_arg12 : FVec F S2816x1024 .f32) (main_arg13 : FVec F S256x1024 .f32) (main_arg14 : FVec F S1024 .f32) (main_arg15 : FVec F S1024x1024 .f32) (main_arg16 : FVec F S1024 .f32) : IVec S2048x8192 1 :=
  let main_v0 : FVec F S2048x8192 .f32 := Host.absf main_arg2
  let main_cst : FVec F S_ .f32 := constant S_ .f32 0x7F800000#32
  let main_v1 : FVec F S2048x8192 .f32 := broadcastInDim S2048x8192 ![] bcast_S_S2048x8192 main_cst
  let main_v2 : IVec S2048x8192 1 := cmpf .olt main_v0 main_v1
  main_v2
-- ==== Pre_scores_finite.lean ====
abbrev S32x2048x512 : Shape := ⟨3, ![32, 2048, 512]⟩
abbrev S32x512x2048 : Shape := ⟨3, ![32, 512, 2048]⟩
abbrev S32x2048x128 : Shape := ⟨3, ![32, 2048, 128]⟩
abbrev S32x8x2048 : Shape := ⟨3, ![32, 8, 2048]⟩
abbrev S_ : Shape := ⟨0, ![]⟩

class Facts : Prop where
  bitsLt_bf16_f32 : FTy.bits .bf16 < FTy.bits .f32
  bcast_S_S32x2048x512 : S_.BroadcastsInDim S32x2048x512 (![] : Fin 0 → Fin S32x2048x512.rank)
  reducesTo_S32x2048x512_S_d0_1_2 : S32x2048x512.ReducesTo [0, 1, 2] S_
  h_S_ : 0 < S_.numel
  bcast_S_S32x512x2048 : S_.BroadcastsInDim S32x512x2048 (![] : Fin 0 → Fin S32x512x2048.rank)
  reducesTo_S32x512x2048_S_d0_1_2 : S32x512x2048.ReducesTo [0, 1, 2] S_
  bcast_S_S32x2048x128 : S_.BroadcastsInDim S32x2048x128 (![] : Fin 0 → Fin S32x2048x128.rank)
  reducesTo_S32x2048x128_S_d0_1_2 : S32x2048x128.ReducesTo [0, 1, 2] S_
  bcast_S_S32x8x2048 : S_.BroadcastsInDim S32x8x2048 (![] : Fin 0 → Fin S32x8x2048.rank)
  reducesTo_S32x8x2048_S_d0_1_2 : S32x8x2048.ReducesTo [0, 1, 2] S_

variable [Facts]

def fn_part1 {F : FTy → Type} [FloatOps F] (main_v14 : IVec S_ 1) (main_v15 : FVec F S32x8x2048 .f32) (main_v16 : FVec F S32x8x2048 .f32) : IVec S_ 1 :=
  let main_v17 : IVec S32x8x2048 1 := cmpf .olt main_v15 main_v16
  let main_c_5 : IVec S_ 1 := constantI S_ 1 1#1
  let main_v18 : IVec S_ 1 := (fun x v => Host.reduce IntOp.andi x v reducesTo_S32x8x2048_S_d0_1_2 h_S_) main_v17 main_c_5
  let main_v19 : IVec S_ 1 := andi main_v14 main_v18
  main_v19

def fn {F : FTy → Type} [FloatOps F] (main_arg0 : FVec F S32x2048x512 .bf16) (main_arg1 : FVec F S32x512x2048 .f32) (main_arg2 : FVec F S32x512x2048 .f32) (main_arg3 : FVec F S32x2048x512 .f32) (main_arg4 : FVec F S32x2048x128 .f32) (main_arg5 : FVec F S32x8x2048 .f32) : IVec S_ 1 :=
  let main_v0 : FVec F S32x2048x512 .f32 := (extf .f32 · bitsLt_bf16_f32) main_arg0
  let main_v1 : FVec F S32x2048x512 .f32 := Host.absf main_v0
  let main_cst : FVec F S_ .f32 := constant S_ .f32 0x7F800000#32
  let main_v2 : FVec F S32x2048x512 .f32 := broadcastInDim S32x2048x512 ![] bcast_S_S32x2048x512 main_cst
  let main_v3 : IVec S32x2048x512 1 := cmpf .olt main_v1 main_v2
  let main_c : IVec S_ 1 := constantI S_ 1 1#1
  let main_v4 : IVec S_ 1 := (fun x v => Host.reduce IntOp.andi x v reducesTo_S32x2048x512_S_d0_1_2 h_S_) main_v3 main_c
  let main_v5 : FVec F S32x512x2048 .f32 := Host.absf main_arg1
  let main_cst_0 : FVec F S_ .f32 := constant S_ .f32 0x7F800000#32
  let main_v6 : FVec F S32x512x2048 .f32 := broadcastInDim S32x512x2048 ![] bcast_S_S32x512x2048 main_cst_0
  let main_v7 : IVec S32x512x2048 1 := cmpf .olt main_v5 main_v6
  let main_c_1 : IVec S_ 1 := constantI S_ 1 1#1
  let main_v8 : IVec S_ 1 := (fun x v => Host.reduce IntOp.andi x v reducesTo_S32x512x2048_S_d0_1_2 h_S_) main_v7 main_c_1
  let main_v9 : IVec S_ 1 := andi main_v4 main_v8
  let main_v10 : FVec F S32x2048x128 .f32 := Host.absf main_arg4
  let main_cst_2 : FVec F S_ .f32 := constant S_ .f32 0x7F800000#32
  let main_v11 : FVec F S32x2048x128 .f32 := broadcastInDim S32x2048x128 ![] bcast_S_S32x2048x128 main_cst_2
  let main_v12 : IVec S32x2048x128 1 := cmpf .olt main_v10 main_v11
  let main_c_3 : IVec S_ 1 := constantI S_ 1 1#1
  let main_v13 : IVec S_ 1 := (fun x v => Host.reduce IntOp.andi x v reducesTo_S32x2048x128_S_d0_1_2 h_S_) main_v12 main_c_3
  let main_v14 : IVec S_ 1 := andi main_v9 main_v13
  let main_v15 : FVec F S32x8x2048 .f32 := Host.absf main_arg5
  let main_cst_4 : FVec F S_ .f32 := constant S_ .f32 0x7F800000#32
  let main_v16 : FVec F S32x8x2048 .f32 := broadcastInDim S32x8x2048 ![] bcast_S_S32x8x2048 main_cst_4
  fn_part1 (F := F) main_v14 main_v15 main_v16
-- ==== Kernel.lean ====
abbrev S32x2048x512 : Shape := ⟨3, ![32, 2048, 512]⟩
abbrev S32x512x2048 : Shape := ⟨3, ![32, 512, 2048]⟩
abbrev S32x2048x128 : Shape := ⟨3, ![32, 2048, 128]⟩
abbrev S32x8x2048 : Shape := ⟨3, ![32, 8, 2048]⟩
abbrev S1x2048x128 : Shape := ⟨3, ![1, 2048, 128]⟩
abbrev S1x128x2048 : Shape := ⟨3, ![1, 128, 2048]⟩
abbrev S1x8x2048 : Shape := ⟨3, ![1, 8, 2048]⟩
abbrev S1x128 : Shape := ⟨2, ![1, 128]⟩
abbrev S128x2048 : Shape := ⟨2, ![128, 2048]⟩
abbrev S256x256 : Shape := ⟨2, ![256, 256]⟩
abbrev S1x256x128 : Shape := ⟨3, ![1, 256, 128]⟩
abbrev S256x128 : Shape := ⟨2, ![256, 128]⟩
abbrev S512x128 : Shape := ⟨2, ![512, 128]⟩
abbrev S128x256 : Shape := ⟨2, ![128, 256]⟩
abbrev S512x256 : Shape := ⟨2, ![512, 256]⟩
abbrev S256 : Shape := ⟨1, ![256]⟩
abbrev S256x1 : Shape := ⟨2, ![256, 1]⟩
abbrev S1x1x2048 : Shape := ⟨3, ![1, 1, 2048]⟩
abbrev S1x2048 : Shape := ⟨2, ![1, 2048]⟩
abbrev S1x256 : Shape := ⟨2, ![1, 256]⟩
abbrev S128x512 : Shape := ⟨2, ![128, 512]⟩
abbrev S512x512 : Shape := ⟨2, ![512, 512]⟩
abbrev S256x512 : Shape := ⟨2, ![256, 512]⟩
abbrev S1x512 : Shape := ⟨2, ![1, 512]⟩
abbrev S128x768 : Shape := ⟨2, ![128, 768]⟩
abbrev S512x768 : Shape := ⟨2, ![512, 768]⟩
abbrev S256x768 : Shape := ⟨2, ![256, 768]⟩
abbrev S1x768 : Shape := ⟨2, ![1, 768]⟩
abbrev S128x1024 : Shape := ⟨2, ![128, 1024]⟩
abbrev S512x1024 : Shape := ⟨2, ![512, 1024]⟩
abbrev S256x1024 : Shape := ⟨2, ![256, 1024]⟩
abbrev S1x1024 : Shape := ⟨2, ![1, 1024]⟩
abbrev S128x1280 : Shape := ⟨2, ![128, 1280]⟩
abbrev S512x1280 : Shape := ⟨2, ![512, 1280]⟩
abbrev S256x1280 : Shape := ⟨2, ![256, 1280]⟩
abbrev S1x1280 : Shape := ⟨2, ![1, 1280]⟩
abbrev S128x1536 : Shape := ⟨2, ![128, 1536]⟩
abbrev S512x1536 : Shape := ⟨2, ![512, 1536]⟩
abbrev S256x1536 : Shape := ⟨2, ![256, 1536]⟩
abbrev S1x1536 : Shape := ⟨2, ![1, 1536]⟩
abbrev S128x1792 : Shape := ⟨2, ![128, 1792]⟩
abbrev S512x1792 : Shape := ⟨2, ![512, 1792]⟩
abbrev S256x1792 : Shape := ⟨2, ![256, 1792]⟩
abbrev S1x1792 : Shape := ⟨2, ![1, 1792]⟩

abbrev nBuf : Space → Nat
  | .hbm => 7
  | .vmem => 14
  | .smem => 0
  | _ => 0

abbrev bufTy : (tb : Table) → Fin (tcTables nBuf tb) → BufTy
  | .hbm, ⟨0, _⟩ => ⟨S32x2048x512, .bf16⟩
  | .hbm, ⟨1, _⟩ => ⟨S32x512x2048, .f32⟩
  | .hbm, ⟨2, _⟩ => ⟨S32x512x2048, .f32⟩
  | .hbm, ⟨3, _⟩ => ⟨S32x2048x512, .f32⟩
  | .hbm, ⟨4, _⟩ => ⟨S32x2048x128, .f32⟩
  | .hbm, ⟨5, _⟩ => ⟨S32x8x2048, .f32⟩
  | .hbm, ⟨6, _⟩ => ⟨S32x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x8x2048, .f32⟩
  | .local _ .vmem, ⟨11, _⟩ => ⟨S1x8x2048, .f32⟩
  | .local _ .vmem, ⟨12, _⟩ => ⟨S1x2048x128, .bf16⟩
  | .local _ .vmem, ⟨13, _⟩ => ⟨S1x2048x128, .bf16⟩
  | _, _ => ⟨S32x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 4], ![false, false]⟩

def k0_off1 (i : grid0.Coords) (c0_i32 : BitVec 32) : Fin 3 → Nat :=
  let c0_14 : Index := 0#32
  let c2_i32 : BitVec 32 := 2#32
  let arg1 : BitVec 32 := BitVec.ofNat 32 (i 1).val
  let v26 : BitVec 32 := Scalar.muli c2_i32 arg1
  let v27 : BitVec 32 := Scalar.addi v26 c0_i32
  let v36 : Index := Scalar.indexCast v27
  let c0_15 : Index := 0#32
  ![0, v36.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S32x2048x512 : Shape := ⟨3, ![32, 2048, 512]⟩
abbrev S32x512x2048 : Shape := ⟨3, ![32, 512, 2048]⟩
abbrev S32x2048x128 : Shape := ⟨3, ![32, 2048, 128]⟩
abbrev S32x8x2048 : Shape := ⟨3, ![32, 8, 2048]⟩
abbrev S32x2048x8x64 : Shape := ⟨4, ![32, 2048, 8, 64]⟩
abbrev S32x8x64x2048 : Shape := ⟨4, ![32, 8, 64, 2048]⟩
abbrev S32x8x2048x2048 : Shape := ⟨4, ![32, 8, 2048, 2048]⟩
abbrev S32x2048x8 : Shape := ⟨3, ![32, 2048, 8]⟩
abbrev S32x8x2048x1 : Shape := ⟨4, ![32, 8, 2048, 1]⟩
abbrev S32x8x1x2048 : Shape := ⟨4, ![32, 8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S1x1x2048x2048 : Shape := ⟨4, ![1, 1, 2048, 2048]⟩
abbrev S_ : Shape := ⟨0, ![]⟩

abbrev nBuf : Space → Nat
  | .hbm => 59
  | .vmem => 0
  | .smem => 0
  | _ => 0

abbrev bufTy : (tb : Table) → Fin (tcTables nBuf tb) → BufTy
  | .hbm, ⟨0, _⟩ => ⟨S32x2048x512, .bf16⟩
  | .hbm, ⟨1, _⟩ => ⟨S32x512x2048, .f32⟩
  | .hbm, ⟨2, _⟩ => ⟨S32x512x2048, .f32⟩
  | .hbm, ⟨3, _⟩ => ⟨S32x2048x512, .f32⟩
  | .hbm, ⟨4, _⟩ => ⟨S32x2048x128, .f32⟩
  | .hbm, ⟨5, _⟩ => ⟨S32x8x2048, .f32⟩
  | .hbm, ⟨6, _⟩ => ⟨S32x2048x512, .f32⟩
  | .hbm, ⟨7, _⟩ => ⟨S32x2048x8x64, .f32⟩
  | .hbm, ⟨8, _⟩ => ⟨S32x8x64x2048, .f32⟩
  | .hbm, ⟨9, _⟩ => ⟨S32x8x64x2048, .f32⟩
  | .hbm, ⟨10, _⟩ => ⟨S32x8x2048x2048, .f32⟩
  | .hbm, ⟨11, _⟩ => ⟨S32x2048x8, .f32⟩
  | .hbm, ⟨12, _⟩ => ⟨S32x8x2048, .f32⟩
  | .hbm, ⟨13, _⟩ => ⟨S32x8x2048x1, .f32⟩
  | .hbm, ⟨14, _⟩ => ⟨S32x8x2048x2048, .f32⟩
  | .hbm, ⟨15, _⟩ => ⟨S32x8x2048x2048, .f32⟩
  | .hbm, ⟨16, _⟩ => ⟨S32x8x1x2048, .f32⟩
  | .hbm, ⟨17, _⟩ => ⟨S32x8x2048x2048, .f32⟩
  | .hbm, ⟨18, _⟩ => ⟨S32x8x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S1x1x2048x2048, .i1⟩
  | .hbm, ⟨27, _⟩ => ⟨S_, .f32⟩
  | .hbm, ⟨28, _⟩ => ⟨S_, .f32⟩
  | .hbm, ⟨29, _⟩ => ⟨S32x8x2048x2048, .i1⟩
  | .hbm, ⟨30, _⟩ => ⟨S32x8x2048x2048, .f32⟩
  | .hbm, ⟨31, _⟩ => ⟨S32x8x2048x2048, .f32⟩
  | .hbm, ⟨32, _⟩ => ⟨S_, .f32⟩
  | .hbm, ⟨33, _⟩ => ⟨S32x8x2048, .f32⟩
  | .hbm, ⟨34, _⟩ => ⟨S_, .f32⟩
  | .hbm, ⟨35, _⟩ => ⟨S32x8x2048, .f32⟩
  | .hbm, ⟨36, _⟩ => ⟨S32x8x2048, .f32⟩
  | .hbm, ⟨37, _⟩ => ⟨S32x8x2048x1, .f32⟩
  | .hbm, ⟨38, _⟩ => ⟨S32x8x2048x2048, .f32⟩
  | .hbm, ⟨39, _⟩ => ⟨S32x8x2048x2048, .f32⟩
  | .hbm, ⟨40, _⟩ => ⟨S32x8x2048x2048, .f32⟩
  | .hbm, ⟨41, _⟩ => ⟨S_, .f32⟩
  | .hbm, ⟨42, _⟩ => ⟨S32x8x2048, .f32⟩
  | .hbm, ⟨43, _⟩ => ⟨S32x8x2048x1, .f32⟩
  | .hbm, ⟨44, _⟩ => ⟨S32x8x2048x2048, .f32⟩
  | .hbm, ⟨45, _⟩ => ⟨S32x8x2048x2048, .f32⟩
  | .hbm, ⟨46, _⟩ => ⟨S32x8x64x2048, .f32⟩
  | .hbm, ⟨47, _⟩ => ⟨S32x2048x8x64, .f32⟩
  | .hbm, ⟨48, _⟩ => ⟨S32x2048x512, .f32⟩
  | .hbm, ⟨49, _⟩ => ⟨S32x2048x512, .f32⟩
  | .hbm, ⟨50, _⟩ => ⟨S32x2048x512, .f32⟩
  | .hbm, ⟨51, _⟩ => ⟨S_, .f32⟩
  | .hbm, ⟨52, _⟩ => ⟨S32x2048x512, .f32⟩
  | .hbm, ⟨53, _⟩ => ⟨S32x2048x512, .f32⟩
  | .hbm, ⟨54, _⟩ => ⟨S_, .f32⟩
  | .hbm, ⟨55, _⟩ => ⟨S32x2048x512, .f32⟩
  | .hbm, ⟨56, _⟩ => ⟨S32x2048x512, .f32⟩
  | .hbm, ⟨57, _⟩ => ⟨S32x2048x512, .f32⟩
  | .hbm, ⟨58, _⟩ => ⟨S32x2048x512, .bf16⟩
  | _, _ => ⟨S32x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_3 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== KernelIn.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1024x3944 : Shape := ⟨2, ![1024, 3944]⟩
abbrev S8 : Shape := ⟨1, ![8]⟩
abbrev S1024x1536 : Shape := ⟨2, ![1024, 1536]⟩
abbrev S1024x512 : Shape := ⟨2, ![1024, 512]⟩
abbrev S1024x8 : Shape := ⟨2, ![1024, 8]⟩
abbrev S_ : Shape := ⟨0, ![]⟩
abbrev S1024x120 : Shape := ⟨2, ![1024, 120]⟩
abbrev S1024x864 : Shape := ⟨2, ![1024, 864]⟩
abbrev S1024x256 : Shape := ⟨2, ![1024, 256]⟩
abbrev S1024x32 : Shape := ⟨2, ![1024, 32]⟩
abbrev S1024x64 : Shape := ⟨2, ![1024, 64]⟩
abbrev S1024x896 : Shape := ⟨2, ![1024, 896]⟩
abbrev S1024x1024 : Shape := ⟨2, ![1024, 1024]⟩
abbrev S1024x4096 : Shape := ⟨2, ![1024, 4096]⟩
abbrev S128 : Shape := ⟨1, ![128]⟩
abbrev S1x128 : Shape := ⟨2, ![1, 128]⟩
abbrev S1x1024 : Shape := ⟨2, ![1, 1024]⟩
abbrev S65536x512 : Shape := ⟨2, ![65536, 512]⟩
abbrev S32x512x2048 : Shape := ⟨3, ![32, 512, 2048]⟩
abbrev S65536x128 : Shape := ⟨2, ![65536, 128]⟩
abbrev S65536x896 : Shape := ⟨2, ![65536, 896]⟩
abbrev S256x1024 : Shape := ⟨2, ![256, 1024]⟩
abbrev S256x512 : Shape := ⟨2, ![256, 512]⟩
abbrev S1x512x256 : Shape := ⟨3, ![1, 512, 256]⟩
abbrev S256x128 : Shape := ⟨2, ![256, 128]⟩
abbrev S256x896 : Shape := ⟨2, ![256, 896]⟩
abbrev S256 : Shape := ⟨1, ![256]⟩
abbrev S256x1 : Shape := ⟨2, ![256, 1]⟩
abbrev S1024x1408 : Shape := ⟨2, ![1024, 1408]⟩
abbrev S256x1408 : Shape := ⟨2, ![256, 1408]⟩
abbrev S1408x1024 : Shape := ⟨2, ![1408, 1024]⟩
abbrev S512x256 : Shape := ⟨2, ![512, 256]⟩
abbrev S1024x2560 : Shape := ⟨2, ![1024, 2560]⟩
abbrev S256x2560 : Shape := ⟨2, ![256, 2560]⟩

abbrev nBuf : Space → Nat
  | .hbm => 44
  | .vmem => 26
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x3944, .f32⟩
  | .hbm, ⟨7, _⟩ => ⟨S8, .f32⟩
  | .hbm, ⟨8, _⟩ => ⟨S1024x1536, .f32⟩
  | .hbm, ⟨9, _⟩ => ⟨S1024x512, .f32⟩
  | .hbm, ⟨10, _⟩ => ⟨S1024x8, .f32⟩
  | .hbm, ⟨11, _⟩ => ⟨S_, .f32⟩
  | .hbm, ⟨12, _⟩ => ⟨S1024x120, .f32⟩
  | .hbm, ⟨13, _⟩ => ⟨S1024x864, .f32⟩
  | .hbm, ⟨14, _⟩ => ⟨S1024x256, .f32⟩
  | .hbm, ⟨15, _⟩ => ⟨S1024x256, .f32⟩
  | .hbm, ⟨16, _⟩ => ⟨S1024x256, .f32⟩
  | .hbm, ⟨17, _⟩ => ⟨S1024x32, .f32⟩
  | .hbm, ⟨18, _⟩ => ⟨S1024x64, .f32⟩
  | .hbm, ⟨19, _⟩ => ⟨S_, .f32⟩
  | .hbm, ⟨20, _⟩ => ⟨S1024x32, .f32⟩
  | .hbm, ⟨21, _⟩ => ⟨S1024x896, .f32⟩
  | .hbm, ⟨22, _⟩ => ⟨S1024x1024, .f32⟩
  | .hbm, ⟨23, _⟩ => ⟨S1024x4096, .f32⟩
  | .hbm, ⟨24, _⟩ => ⟨S1024x4096, .bf16⟩
  | .hbm, ⟨25, _⟩ => ⟨S1024x1024, .bf16⟩
  | .hbm, ⟨26, _⟩ => ⟨S1024x1024, .bf16⟩
  | .hbm, ⟨27, _⟩ => ⟨S_, .i32⟩
  | .hbm, ⟨28, _⟩ => ⟨S_, .f32⟩
  | .hbm, ⟨29, _⟩ => ⟨S128, .f32⟩
  | .hbm, ⟨30, _⟩ => ⟨S1x128, .f32⟩
  | .hbm, ⟨31, _⟩ => ⟨S1x1024, .f32⟩
  | .hbm, ⟨32, _⟩ => ⟨S1024x2816, .bf16⟩
  | .hbm, ⟨33, _⟩ => ⟨S1024x2816, .bf16⟩
  | .hbm, ⟨34, _⟩ => ⟨S2816x1024, .bf16⟩
  | .hbm, ⟨35, _⟩ => ⟨S1x1024, .f32⟩
  | .hbm, ⟨36, _⟩ => ⟨S65536x1024, .f32⟩
  | .hbm, ⟨37, _⟩ => ⟨S65536x512, .bf16⟩
  | .hbm, ⟨38, _⟩ => ⟨S32x512x2048, .f32⟩
  | .hbm, ⟨39, _⟩ => ⟨S32x512x2048, .f32⟩
  | .hbm, ⟨40, _⟩ => ⟨S65536x512, .f32⟩
  | .hbm, ⟨41, _⟩ => ⟨S65536x128, .f32⟩
  | .hbm, ⟨42, _⟩ => ⟨S65536x896, .f32⟩
  | .hbm, ⟨43, _⟩ => ⟨S65536x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1024x4096, .bf16⟩
  | .local _ .vmem, ⟨8, _⟩ => ⟨S1024x1024, .bf16⟩
  | .local _ .vmem, ⟨9, _⟩ => ⟨S1x128, .f32⟩
  | .local _ .vmem, ⟨10, _⟩ => ⟨S256x1024, .f32⟩
  | .local _ .vmem, ⟨11, _⟩ => ⟨S256x1024, .f32⟩
  | .local _ .vmem, ⟨12, _⟩ => ⟨S256x512, .bf16⟩
  | .local _ .vmem, ⟨13, _⟩ => ⟨S256x512, .bf16⟩
  | .local _ .vmem, ⟨14, _⟩ => ⟨S1x512x256, .f32⟩
  | .local _ .vmem, ⟨15, _⟩ => ⟨S1x512x256, .f32⟩
  | .local _ .vmem, ⟨16, _⟩ => ⟨S1x512x256, .f32⟩
  | .local _ .vmem, ⟨17, _⟩ => ⟨S1x512x256, .f32⟩
  | .local _ .vmem, ⟨18, _⟩ => ⟨S256x512, .f32⟩
  | .local _ .vmem, ⟨19, _⟩ => ⟨S256x512, .f32⟩
  | .local _ .vmem, ⟨20, _⟩ => ⟨S256x128, .f32⟩
  | .local _ .vmem, ⟨21, _⟩ => ⟨S256x128, .f32⟩
  | .local _ .vmem, ⟨22, _⟩ => ⟨S256x896, .f32⟩
  | .local _ .vmem, ⟨23, _⟩ => ⟨S256x896, .f32⟩
  | .local _ .vmem, ⟨24, _⟩ => ⟨S256x1024, .f32⟩
  | .local _ .vmem, ⟨25, _⟩ => ⟨S256x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v24_5 : Ref sig .tc := ⟨.hbm, 41, rfl⟩
abbrev main_v24_6 : Ref sig .tc := ⟨.hbm, 42, rfl⟩
abbrev main_v24_7 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x896 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceInIdeal.lean ====
abbrev S65536x1024 : Shape := ⟨2, ![65536, 1024]⟩
abbrev S1024 : Shape := ⟨1, ![1024]⟩
abbrev S1024x2816 : Shape := ⟨2, ![1024, 2816]⟩
abbrev S2816x1024 : Shape := ⟨2, ![2816, 1024]⟩
abbrev S1024x3944 : Shape := ⟨2, ![1024, 3944]⟩
abbrev S8 : Shape := ⟨1, ![8]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩
abbrev S65536x3944 : Shape := ⟨2, ![65536, 3944]⟩
abbrev S65536x512 : Shape := ⟨2, ![65536, 512]⟩
abbrev S65536x8 : Shape := ⟨2, ![65536, 8]⟩
abbrev S65536x864 : Shape := ⟨2, ![65536, 864]⟩
abbrev S1x8 : Shape := ⟨2, ![1, 8]⟩
abbrev S65536x128 : Shape := ⟨2, ![65536, 128]⟩
abbrev S65536x256 : Shape := ⟨2, ![65536, 256]⟩
abbrev S65536x32 : Shape := ⟨2, ![65536, 32]⟩
abbrev S65536x896 : Shape := ⟨2, ![65536, 896]⟩
abbrev S32x2048x512 : Shape := ⟨3, ![32, 2048, 512]⟩
abbrev S32x512x2048 : Shape := ⟨3, ![32, 512, 2048]⟩

abbrev nBuf : Space → Nat
  | .hbm => 105
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x3944, .f32⟩
  | .hbm, ⟨7, _⟩ => ⟨S8, .f32⟩
  | .hbm, ⟨8, _⟩ => ⟨S65536x1024, .f32⟩
  | .hbm, ⟨9, _⟩ => ⟨S_, .f32⟩
  | .hbm, ⟨10, _⟩ => ⟨S65536, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S65536x1024, .f32⟩
  | .hbm, ⟨20, _⟩ => ⟨S65536x1024, .f32⟩
  | .hbm, ⟨21, _⟩ => ⟨S1x1024, .f32⟩
  | .hbm, ⟨22, _⟩ => ⟨S65536x1024, .f32⟩
  | .hbm, ⟨23, _⟩ => ⟨S65536x1024, .f32⟩
  | .hbm, ⟨24, _⟩ => ⟨S65536x2816, .f32⟩
  | .hbm, ⟨25, _⟩ => ⟨S65536x2816, .f32⟩
  | .hbm, ⟨26, _⟩ => ⟨S65536x2816, .f32⟩
  | .hbm, ⟨27, _⟩ => ⟨S_, .f32⟩
  | .hbm, ⟨28, _⟩ => ⟨S65536x2816, .f32⟩
  | .hbm, ⟨29, _⟩ => ⟨S65536x2816, .f32⟩
  | .hbm, ⟨30, _⟩ => ⟨S_, .f32⟩
  | .hbm, ⟨31, _⟩ => ⟨S65536x2816, .f32⟩
  | .hbm, ⟨32, _⟩ => ⟨S65536x2816, .f32⟩
  | .hbm, ⟨33, _⟩ => ⟨S65536x2816, .f32⟩
  | .hbm, ⟨34, _⟩ => ⟨S65536x2816, .f32⟩
  | .hbm, ⟨35, _⟩ => ⟨S65536x2816, .f32⟩
  | .hbm, ⟨36, _⟩ => ⟨S65536x1024, .f32⟩
  | .hbm, ⟨37, _⟩ => ⟨S_, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S_, .f32⟩
  | .hbm, ⟨49, _⟩ => ⟨S65536x1, .f32⟩
  | .hbm, ⟨50, _⟩ => ⟨S65536x1, .f32⟩
  | .hbm, ⟨51, _⟩ => ⟨S65536x1, .f32⟩
  | .hbm, ⟨52, _⟩ => ⟨S65536x1024, .f32⟩
  | .hbm, ⟨53, _⟩ => ⟨S65536x1024, .f32⟩
  | .hbm, ⟨54, _⟩ => ⟨S1x1024, .f32⟩
  | .hbm, ⟨55, _⟩ => ⟨S65536x1024, .f32⟩
  | .hbm, ⟨56, _⟩ => ⟨S65536x1024, .f32⟩
  | .hbm, ⟨57, _⟩ => ⟨S65536x3944, .f32⟩
  | .hbm, ⟨58, _⟩ => ⟨S65536x512, .f32⟩
  | .hbm, ⟨59, _⟩ => ⟨S65536x512, .f32⟩
  | .hbm, ⟨60, _⟩ => ⟨S65536x512, .f32⟩
  | .hbm, ⟨61, _⟩ => ⟨S65536x8, .f32⟩
  | .hbm, ⟨62, _⟩ => ⟨S65536x512, .f32⟩
  | .hbm, ⟨63, _⟩ => ⟨S65536x864, .f32⟩
  | .hbm, ⟨64, _⟩ => ⟨S65536x1024, .f32⟩
  | .hbm, ⟨65, _⟩ => ⟨S1x8, .f32⟩
  | .hbm, ⟨66, _⟩ => ⟨S65536x8, .f32⟩
  | .hbm, ⟨67, _⟩ => ⟨S65536x8, .f32⟩
  | .hbm, ⟨68, _⟩ => ⟨S_, .i32⟩
  | .hbm, ⟨69, _⟩ => ⟨S_, .f32⟩
  | .hbm, ⟨70, _⟩ => ⟨S65536x128, .f32⟩
  | .hbm, ⟨71, _⟩ => ⟨S65536x128, .f32⟩
  | .hbm, ⟨72, _⟩ => ⟨S_, .f32⟩
  | .hbm, ⟨73, _⟩ => ⟨S65536x128, .f32⟩
  | .hbm, ⟨74, _⟩ => ⟨S65536x128, .f32⟩
  | .hbm, ⟨75, _⟩ => ⟨S65536x128, .f32⟩
  | .hbm, ⟨76, _⟩ => ⟨S65536x128, .f32⟩
  | .hbm, ⟨77, _⟩ => ⟨S65536x128, .i1⟩
  | .hbm, ⟨78, _⟩ => ⟨S65536x128, .f32⟩
  | .hbm, ⟨79, _⟩ => ⟨S65536x128, .f32⟩
  | .hbm, ⟨80, _⟩ => ⟨S65536x128, .f32⟩
  | .hbm, ⟨81, _⟩ => ⟨S65536x128, .f32⟩
  | .hbm, ⟨82, _⟩ => ⟨S65536x128, .f32⟩
  | .hbm, ⟨83, _⟩ => ⟨S65536x128, .f32⟩
  | .hbm, ⟨84, _⟩ => ⟨S65536x128, .f32⟩
  | .hbm, ⟨85, _⟩ => ⟨S65536x128, .f32⟩
  | .hbm, ⟨86, _⟩ => ⟨S65536x128, .f32⟩
  | .hbm, ⟨87, _⟩ => ⟨S65536x256, .f32⟩
  | .hbm, ⟨88, _⟩ => ⟨S65536x32, .f32⟩
  | .hbm, ⟨89, _⟩ => ⟨S65536x256, .f32⟩
  | .hbm, ⟨90, _⟩ => ⟨S65536x256, .f32⟩
  | .hbm, ⟨91, _⟩ => ⟨S65536x32, .f32⟩
  | .hbm, ⟨92, _⟩ => ⟨S65536x32, .f32⟩
  | .hbm, ⟨93, _⟩ => ⟨S65536x864, .f32⟩
  | .hbm, ⟨94, _⟩ => ⟨S_, .i32⟩
  | .hbm, ⟨95, _⟩ => ⟨S_, .f32⟩
  | .hbm, ⟨96, _⟩ => ⟨S65536x896, .f32⟩
  | .hbm, ⟨97, _⟩ => ⟨S32x2048x512, .f32⟩
  | .hbm, ⟨98, _⟩ => ⟨S32x512x2048, .f32⟩
  | .hbm, ⟨99, _⟩ => ⟨S32x2048x512, .f32⟩
  | .hbm, ⟨100, _⟩ => ⟨S32x512x2048, .f32⟩
  | .hbm, ⟨101, _⟩ => ⟨S_, .f32⟩
  | .hbm, ⟨102, _⟩ => ⟨S65536x512, .f32⟩
  | .hbm, ⟨103, _⟩ => ⟨S65536x512, .f32⟩
  | .hbm, ⟨104, _⟩ => ⟨S65536x512, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_2 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_v25 : Ref sig .tc := ⟨.hbm, 47, rfl⟩
abbrev main_cst_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_c : Ref sig .tc := ⟨.hbm, 68, rfl⟩
abbrev main_call1_v0 : Ref sig .tc := ⟨.hbm, 69, rfl⟩
abbrev main_v45 : Ref sig .tc := ⟨.hbm, 70, rfl⟩
abbrev main_call2_v0 : Ref sig .tc := ⟨.hbm, 71, rfl⟩
abbrev main_call2_call0_cst : Ref sig .tc := ⟨.hbm, 72, rfl⟩
abbrev main_call2_call0_v0 : Ref sig .tc := ⟨.hbm, 73, rfl⟩
abbrev main_call2_call0_v1 : Ref sig .tc := ⟨.hbm, 74, rfl⟩
abbrev main_call2_call0_v2 : Ref sig .tc := ⟨.hbm, 75, rfl⟩
abbrev main_call2_call0_v3 : Ref sig .tc := ⟨.hbm, 76, rfl⟩
abbrev main_call2_call0_v4 : Ref sig .tc := ⟨.hbm, 77, rfl⟩
abbrev main_call2_call0_v5 : Ref sig .tc := ⟨.hbm, 78, rfl⟩
abbrev main_call2_call0_v6 : Ref sig .tc := ⟨.hbm, 79, rfl⟩
abbrev main_call2_call0_v7 : Ref sig .tc := ⟨.hbm, 80, rfl⟩
abbrev main_call2_call0_v8 : Ref sig .tc := ⟨.hbm, 81, rfl⟩
abbrev main_call2_call0_v9 : Ref sig .tc := ⟨.hbm, 82, rfl⟩
abbrev main_call2_call0_v10 : Ref sig .tc := ⟨.hbm, 83, rfl⟩
abbrev main_call2_call0_v11 : Ref sig .tc := ⟨.hbm, 84, rfl⟩
abbrev main_call2_v1 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_c_6 : Ref sig .tc := ⟨.hbm, 94, rfl⟩
abbrev main_call3_v0 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_7 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩

abbrev nD : Nat := 1
abbrev τ : Topo := Topo.v7x

variable {F : FTy → Type} [FloatOps F]
-- ==== KernelOut.lean ====
abbrev S65536x1024 : Shape := ⟨2, ![65536, 1024]⟩
abbrev S65536x512 : Shape := ⟨2, ![65536, 512]⟩
abbrev S2048x8192 : Shape := ⟨2, ![2048, 8192]⟩
abbrev S65536x256 : Shape := ⟨2, ![65536, 256]⟩
abbrev S4x65536x256 : Shape := ⟨3, ![4, 65536, 256]⟩
abbrev S256 : Shape := ⟨1, ![256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S512x1024 : Shape := ⟨2, ![512, 1024]⟩
abbrev S1x1024 : Shape := ⟨2, ![1, 1024]⟩
abbrev S512x512 : Shape := ⟨2, ![512, 512]⟩
abbrev S512x256 : Shape := ⟨2, ![512, 256]⟩
abbrev S1x512x256 : Shape := ⟨3, ![1, 512, 256]⟩
abbrev S512 : Shape := ⟨1, ![512]⟩
abbrev S512x1 : Shape := ⟨2, ![512, 1]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 42
  | .vmem => 28
  | .smem => 0
  | _ => 0

abbrev bufTy : (tb : Table) → Fin (tcTables nBuf tb) → BufTy
  | .hbm, ⟨0, _⟩ => ⟨S65536x1024, .f32⟩
  | .hbm, ⟨1, _⟩ => ⟨S65536x512, .bf16⟩
  | .hbm, ⟨2, _⟩ => ⟨S2048x8192, .f32⟩
  | .hbm, ⟨3, _⟩ => ⟨S65536x512, .f32⟩
  | .hbm, ⟨4, _⟩ => ⟨S65536x256, .bf16⟩
  | .hbm, ⟨5, _⟩ => ⟨S4x65536x256, .f32⟩
  | .hbm, ⟨6, _⟩ => ⟨S256, .f32⟩
  | .hbm, ⟨7, _⟩ => ⟨S256, .f32⟩
  | .hbm, ⟨8, _⟩ => ⟨S1024x1024, .f32⟩
  | .hbm, ⟨9, _⟩ => ⟨S1024, .f32⟩
  | .hbm, ⟨10, _⟩ => ⟨S1024x2816, .f32⟩
  | .hbm, ⟨11, _⟩ => ⟨S1024x2816, .f32⟩
  | .hbm, ⟨12, _⟩ => ⟨S2816x1024, .f32⟩
  | .hbm, ⟨13, _⟩ => ⟨S256x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S1x256, .i32⟩
  | .hbm, ⟨23, _⟩ => ⟨S256x256, .i32⟩
  | .hbm, ⟨24, _⟩ => ⟨S256x256, .i32⟩
  | .hbm, ⟨25, _⟩ => ⟨S256x256, .i1⟩
  | .hbm, ⟨26, _⟩ => ⟨S256x256, .f32⟩
  | .hbm, ⟨27, _⟩ => ⟨S1024x1024, .bf16⟩
  | .hbm, ⟨28, _⟩ => ⟨S1x256, .f32⟩
  | .hbm, ⟨29, _⟩ => ⟨S1x256, .f32⟩
  | .hbm, ⟨30, _⟩ => ⟨S512x1024, .bf16⟩
  | .hbm, ⟨31, _⟩ => ⟨S256x1024, .bf16⟩
  | .hbm, ⟨32, _⟩ => ⟨S256x1024, .bf16⟩
  | .hbm, ⟨33, _⟩ => ⟨S1x1024, .f32⟩
  | .hbm, ⟨34, _⟩ => ⟨S1024x2816, .bf16⟩
  | .hbm, ⟨35, _⟩ => ⟨S1024x2816, .bf16⟩
  | .hbm, ⟨36, _⟩ => ⟨S2816x1024, .bf16⟩
  | .hbm, ⟨37, _⟩ => ⟨S256x1024, .bf16⟩
  | .hbm, ⟨38, _⟩ => ⟨S1x1024, .f32⟩
  | .hbm, ⟨39, _⟩ => ⟨S1024x1024, .bf16⟩
  | .hbm, ⟨40, _⟩ => ⟨S1x1024, .f32⟩
  | .hbm, ⟨41, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x256, .bf16⟩
  | .local _ .vmem, ⟨9, _⟩ => ⟨S512x256, .bf16⟩
  | .local _ .vmem, ⟨10, _⟩ => ⟨S1x512x256, .f32⟩
  | .local _ .vmem, ⟨11, _⟩ => ⟨S1x512x256, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S512x1024, .bf16⟩
  | .local _ .vmem, ⟨16, _⟩ => ⟨S256x1024, .bf16⟩
  | .local _ .vmem, ⟨17, _⟩ => ⟨S256x1024, .bf16⟩
  | .local _ .vmem, ⟨18, _⟩ => ⟨S1x1024, .f32⟩
  | .local _ .vmem, ⟨19, _⟩ => ⟨S1024x2816, .bf16⟩
  | .local _ .vmem, ⟨20, _⟩ => ⟨S1024x2816, .bf16⟩
  | .local _ .vmem, ⟨21, _⟩ => ⟨S2816x1024, .bf16⟩
  | .local _ .vmem, ⟨22, _⟩ => ⟨S256x1024, .bf16⟩
  | .local _ .vmem, ⟨23, _⟩ => ⟨S1x1024, .f32⟩
  | .local _ .vmem, ⟨24, _⟩ => ⟨S1024x1024, .bf16⟩
  | .local _ .vmem, ⟨25, _⟩ => ⟨S1x1024, .f32⟩
  | .local _ .vmem, ⟨26, _⟩ => ⟨S512x1024, .f32⟩
  | .local _ .vmem, ⟨27, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_c : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg17_0 : Ref sig .tc := ⟨.vmem, 23, rfl⟩
abbrev cc0_stg18_0 : Ref sig .tc := ⟨.vmem, 24, rfl⟩
abbrev cc0_stg19_0 : Ref sig .tc := ⟨.vmem, 25, rfl⟩
abbrev cc0_stg20_0 : Ref sig .tc := ⟨.vmem, 26, rfl⟩
abbrev cc0_stg20_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem17_0 : DmaSem sig := 23
abbrev cc0_sem18_0 : DmaSem sig := 24
abbrev cc0_sem19_0 : DmaSem sig := 25
abbrev cc0_sem20_0 : DmaSem sig := 26
abbrev cc0_sem20_1 : DmaSem sig := 27

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x2816 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x2816 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2816x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== ReferenceOutIdeal.lean ====
abbrev S65536x1024 : Shape := ⟨2, ![65536, 1024]⟩
abbrev S65536x512 : Shape := ⟨2, ![65536, 512]⟩
abbrev S2048x8192 : Shape := ⟨2, ![2048, 8192]⟩
abbrev S65536x256 : Shape := ⟨2, ![65536, 256]⟩
abbrev S4x65536x256 : Shape := ⟨3, ![4, 65536, 256]⟩
abbrev S256 : Shape := ⟨1, ![256]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S2048x32x4x64 : Shape := ⟨4, ![2048, 32, 4, 64]⟩
abbrev S32x2048x4x64 : Shape := ⟨4, ![32, 2048, 4, 64]⟩
abbrev S_ : Shape := ⟨0, ![]⟩
abbrev S32x2048x4 : Shape := ⟨3, ![32, 2048, 4]⟩
abbrev S32x2048x4x1 : Shape := ⟨4, ![32, 2048, 4, 1]⟩
abbrev S1x256 : Shape := ⟨2, ![1, 256]⟩
abbrev S65536 : Shape := ⟨1, ![65536]⟩
abbrev S65536x1 : Shape := ⟨2, ![65536, 1]⟩
abbrev S1x1024 : Shape := ⟨2, ![1, 1024]⟩
abbrev S65536x2816 : Shape := ⟨2, ![65536, 2816]⟩
abbrev S1x65536x256 : Shape := ⟨3, ![1, 65536, 256]⟩

abbrev nBuf : Space → Nat
  | .hbm => 137
  | .vmem => 0
  | .smem => 0
  | _ => 0

abbrev hbmTy0_0 (i : Nat) : BufTy := match i % 128 with
  | 0 => ⟨S65536x1024, .f32⟩
  | 1 => ⟨S65536x512, .bf16⟩
  | 2 => ⟨S2048x8192, .f32⟩
  | 3 => ⟨S65536x512, .f32⟩
  | 4 => ⟨S65536x256, .bf16⟩
  | 5 => ⟨S4x65536x256, .f32⟩
  | 6 => ⟨S256, .f32⟩
  | 7 => ⟨S256, .f32⟩
  | 8 => ⟨S1024x1024, .f32⟩
  | 9 => ⟨S1024, .f32⟩
  | 10 => ⟨S1024x2816, .f32⟩
  | 11 => ⟨S1024x2816, .f32⟩
  | 12 => ⟨S2816x1024, .f32⟩
  | 13 => ⟨S256x1024, .f32⟩
  | 14 => ⟨S1024, .f32⟩
  | 15 => ⟨S1024x1024, .f32⟩
  | 16 => ⟨S1024, .f32⟩
  | 17 => ⟨S2048x32x4x64, .f32⟩
  | 18 => ⟨S32x2048x4x64, .f32⟩
  | 19 => ⟨S_, .f32⟩
  | 20 => ⟨S32x2048x4, .f32⟩
  | 21 => ⟨S32x2048x4x1, .f32⟩
  | 22 => ⟨S_, .f32⟩
  | 23 => ⟨S32x2048x4x1, .f32⟩
  | 24 => ⟨S32x2048x4x1, .f32⟩
  | 25 => ⟨S32x2048x4x64, .f32⟩
  | 26 => ⟨S32x2048x4x64, .f32⟩
  | 27 => ⟨S32x2048x4x64, .f32⟩
  | 28 => ⟨S_, .f32⟩
  | 29 => ⟨S32x2048x4, .f32⟩
  | 30 => ⟨S32x2048x4x1, .f32⟩
  | 31 => ⟨S_, .f32⟩
  | 32 => ⟨S32x2048x4x1, .f32⟩
  | 33 => ⟨S32x2048x4x1, .f32⟩
  | 34 => ⟨S32x2048x4x64, .f32⟩
  | 35 => ⟨S32x2048x4x64, .f32⟩
  | 36 => ⟨S_, .f32⟩
  | 37 => ⟨S32x2048x4x1, .f32⟩
  | 38 => ⟨S32x2048x4x1, .f32⟩
  | 39 => ⟨S32x2048x4x1, .f32⟩
  | 40 => ⟨S32x2048x4x64, .f32⟩
  | 41 => ⟨S32x2048x4x64, .f32⟩
  | 42 => ⟨S65536x256, .f32⟩
  | 43 => ⟨S1x256, .f32⟩
  | 44 => ⟨S65536x256, .f32⟩
  | 45 => ⟨S65536x256, .f32⟩
  | 46 => ⟨S1x256, .f32⟩
  | 47 => ⟨S65536x256, .f32⟩
  | 48 => ⟨S65536x256, .f32⟩
  | 49 => ⟨S65536x256, .f32⟩
  | 50 => ⟨S65536x256, .f32⟩
  | 51 => ⟨S65536x256, .f32⟩
  | 52 => ⟨S65536x256, .f32⟩
  | 53 => ⟨S65536x512, .f32⟩
  | 54 => ⟨S65536x256, .f32⟩
  | 55 => ⟨S65536x1024, .f32⟩
  | 56 => ⟨S65536x1024, .f32⟩
  | 57 => ⟨S65536x1024, .f32⟩
  | 58 => ⟨S65536x1024, .f32⟩
  | 59 => ⟨S_, .f32⟩
  | 60 => ⟨S65536, .f32⟩
  | 61 => ⟨S65536x1, .f32⟩
  | 62 => ⟨S_, .f32⟩
  | 63 => ⟨S65536x1, .f32⟩
  | 64 => ⟨S65536x1, .f32⟩
  | 65 => ⟨S_, .f32⟩
  | 66 => ⟨S65536x1, .f32⟩
  | 67 => ⟨S65536x1, .f32⟩
  | 68 => ⟨S65536x1, .f32⟩
  | 69 => ⟨S65536x1024, .f32⟩
  | 70 => ⟨S65536x1024, .f32⟩
  | 71 => ⟨S1x1024, .f32⟩
  | 72 => ⟨S65536x1024, .f32⟩
  | 73 => ⟨S65536x1024, .f32⟩
  | 74 => ⟨S65536x2816, .f32⟩
  | 75 => ⟨S65536x2816, .f32⟩
  | 76 => ⟨S65536x2816, .f32⟩
  | 77 => ⟨S_, .f32⟩
  | 78 => ⟨S65536x2816, .f32⟩
  | 79 => ⟨S65536x2816, .f32⟩
  | 80 => ⟨S_, .f32⟩
  | 81 => ⟨S65536x2816, .f32⟩
  | 82 => ⟨S65536x2816, .f32⟩
  | 83 => ⟨S65536x2816, .f32⟩
  | 84 => ⟨S65536x2816, .f32⟩
  | 85 => ⟨S65536x2816, .f32⟩
  | 86 => ⟨S65536x1024, .f32⟩
  | 87 => ⟨S_, .f32⟩
  | 88 => ⟨S65536x1024, .f32⟩
  | 89 => ⟨S65536x1024, .f32⟩
  | 90 => ⟨S65536x1024, .f32⟩
  | 91 => ⟨S1x65536x256, .f32⟩
  | 92 => ⟨S65536x256, .f32⟩
  | 93 => ⟨S65536x1024, .f32⟩
  | 94 => ⟨S65536x1024, .f32⟩
  | 95 => ⟨S_, .f32⟩
  | 96 => ⟨S65536, .f32⟩
  | 97 => ⟨S65536x1, .f32⟩
  | 98 => ⟨S_, .f32⟩
  | 99 => ⟨S65536x1, .f32⟩
  | 100 => ⟨S65536x1, .f32⟩
  | 101 => ⟨S_, .f32⟩
  | 102 => ⟨S65536x1, .f32⟩
  | 103 => ⟨S65536x1, .f32⟩
  | 104 => ⟨S65536x1, .f32⟩
  | 105 => ⟨S65536x1024, .f32⟩
  | 106 => ⟨S65536x1024, .f32⟩
  | 107 => ⟨S1x1024, .f32⟩
  | 108 => ⟨S65536x1024, .f32⟩
  | 109 => ⟨S65536x1024, .f32⟩
  | 110 => ⟨S65536x1024, .f32⟩
  | 111 => ⟨S65536x1024, .f32⟩
  | 112 => ⟨S65536x1024, .f32⟩
  | 113 => ⟨S_, .f32⟩
  | 114 => ⟨S65536x1024, .f32⟩
  | 115 => ⟨S65536x1024, .f32⟩
  | 116 => ⟨S_, .f32⟩
  | 117 => ⟨S65536x1024, .f32⟩
  | 118 => ⟨S65536x1024, .f32⟩
  | 119 => ⟨S65536x1024, .f32⟩
  | 120 => ⟨S65536x1024, .f32⟩
  | 121 => ⟨S65536x1024, .f32⟩
  | 122 => ⟨S_, .f32⟩
  | 123 => ⟨S65536, .f32⟩
  | 124 => ⟨S65536x1, .f32⟩
  | 125 => ⟨S_, .f32⟩
  | 126 => ⟨S65536x1, .f32⟩
  | 127 => ⟨S65536x1, .f32⟩
  | _ => ⟨S65536x1024, .f32⟩

abbrev hbmTy0_1 (i : Nat) : BufTy := match i % 128 with
  | 0 => ⟨S_, .f32⟩
  | 1 => ⟨S65536x1, .f32⟩
  | 2 => ⟨S65536x1, .f32⟩
  | 3 => ⟨S65536x1, .f32⟩
  | 4 => ⟨S65536x1024, .f32⟩
  | 5 => ⟨S65536x1024, .f32⟩
  | 6 => ⟨S1x1024, .f32⟩
  | 7 => ⟨S65536x1024, .f32⟩
  | 8 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_cst_6 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_v0 : Ref sig .tc := ⟨.hbm, 75, rfl⟩
abbrev main_call0_v1 : Ref sig .tc := ⟨.hbm, 76, rfl⟩
abbrev main_call0_cst : Ref sig .tc := ⟨.hbm, 77, rfl⟩
abbrev main_call0_v2 : Ref sig .tc := ⟨.hbm, 78, rfl⟩
abbrev main_call0_v3 : Ref sig .tc := ⟨.hbm, 79, rfl⟩
abbrev main_call0_cst_0 : Ref sig .tc := ⟨.hbm, 80, rfl⟩
abbrev main_call0_v4 : Ref sig .tc := ⟨.hbm, 81, rfl⟩
abbrev main_call0_v5 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_8 : Ref sig .tc := ⟨.hbm, 95, rfl⟩
abbrev main_v61 : Ref sig .tc := ⟨.hbm, 96, rfl⟩
abbrev main_v62 : Ref sig .tc := ⟨.hbm, 97, rfl⟩
abbrev main_cst_9 : Ref sig .tc := ⟨.hbm, 98, rfl⟩
abbrev main_v63 : Ref sig .tc := ⟨.hbm, 99, rfl⟩
abbrev main_v64 : Ref sig .tc := ⟨.hbm, 100, rfl⟩
abbrev main_cst_10 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_11 : Ref sig .tc := ⟨.hbm, 113, rfl⟩
abbrev main_v76 : Ref sig .tc := ⟨.hbm, 114, rfl⟩
abbrev main_v77 : Ref sig .tc := ⟨.hbm, 115, rfl⟩
abbrev main_cst_12 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_13 : Ref sig .tc := ⟨.hbm, 122, rfl⟩
abbrev main_v83 : Ref sig .tc := ⟨.hbm, 123, rfl⟩
abbrev main_v84 : Ref sig .tc := ⟨.hbm, 124, rfl⟩
abbrev main_cst_14 : Ref sig .tc := ⟨.hbm, 125, rfl⟩
abbrev main_v85 : Ref sig .tc := ⟨.hbm, 126, rfl⟩
abbrev main_v86 : Ref sig .tc := ⟨.hbm, 127, rfl⟩
abbrev main_cst_15 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩

abbrev nD : Nat := 1
abbrev τ : Topo := Topo.v7x

variable {F : FTy → Type} [FloatOps F]
-- ==== KernelPre.lean ====
abbrev S32x2048x896 : Shape := ⟨3, ![32, 2048, 896]⟩
abbrev S32x1x896 : Shape := ⟨3, ![32, 1, 896]⟩
abbrev S896 : Shape := ⟨1, ![896]⟩
abbrev S256 : Shape := ⟨1, ![256]⟩
abbrev S32x256 : Shape := ⟨2, ![32, 256]⟩
abbrev S4x64 : Shape := ⟨2, ![4, 64]⟩
abbrev S1x896 : Shape := ⟨2, ![1, 896]⟩
abbrev S1x256 : Shape := ⟨2, ![1, 256]⟩
abbrev S_ : Shape := ⟨0, ![]⟩
abbrev S128x256 : Shape := ⟨2, ![128, 256]⟩
abbrev S256x1 : Shape := ⟨2, ![256, 1]⟩
abbrev S256x256 : Shape := ⟨2, ![256, 256]⟩
abbrev S2048x49152 : Shape := ⟨2, ![2048, 49152]⟩
abbrev S32x2048x512 : Shape := ⟨3, ![32, 2048, 512]⟩
abbrev S1x256x896 : Shape := ⟨3, ![1, 256, 896]⟩
abbrev S1x8x896 : Shape := ⟨3, ![1, 8, 896]⟩
abbrev S1x1x896 : Shape := ⟨3, ![1, 1, 896]⟩
abbrev S256x1536 : Shape := ⟨2, ![256, 1536]⟩
abbrev S1x256x512 : Shape := ⟨3, ![1, 256, 512]⟩
abbrev S256x896 : Shape := ⟨2, ![256, 896]⟩
abbrev S256x128 : Shape := ⟨2, ![256, 128]⟩
abbrev S256x64 : Shape := ⟨2, ![256, 64]⟩
abbrev S1x256x256 : Shape := ⟨3, ![1, 256, 256]⟩

abbrev nBuf : Space → Nat
  | .hbm => 41
  | .vmem => 20
  | .smem => 0
  | _ => 0

abbrev bufTy : (tb : Table) → Fin (tcTables nBuf tb) → BufTy
  | .hbm, ⟨0, _⟩ => ⟨S32x2048x896, .f32⟩
  | .hbm, ⟨1, _⟩ => ⟨S32x1x896, .f32⟩
  | .hbm, ⟨2, _⟩ => ⟨S896, .f32⟩
  | .hbm, ⟨3, _⟩ => ⟨S256, .f32⟩
  | .hbm, ⟨4, _⟩ => ⟨S32x256, .f32⟩
  | .hbm, ⟨5, _⟩ => ⟨S256, .f32⟩
  | .hbm, ⟨6, _⟩ => ⟨S32x256, .f32⟩
  | .hbm, ⟨7, _⟩ => ⟨S32x256, .f32⟩
  | .hbm, ⟨8, _⟩ => ⟨S256, .f32⟩
  | .hbm, ⟨9, _⟩ => ⟨S256, .f32⟩
  | .hbm, ⟨10, _⟩ => ⟨S4x64, .f32⟩
  | .hbm, ⟨11, _⟩ => ⟨S1x896, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S_, .i32⟩
  | .hbm, ⟨18, _⟩ => ⟨S_, .f32⟩
  | .hbm, ⟨19, _⟩ => ⟨S128x256, .f32⟩
  | .hbm, ⟨20, _⟩ => ⟨S128x256, .bf16⟩
  | .hbm, ⟨21, _⟩ => ⟨S_, .i32⟩
  | .hbm, ⟨22, _⟩ => ⟨S_, .f32⟩
  | .hbm, ⟨23, _⟩ => ⟨S128x256, .f32⟩
  | .hbm, ⟨24, _⟩ => ⟨S128x256, .bf16⟩
  | .hbm, ⟨25, _⟩ => ⟨S_, .i32⟩
  | .hbm, ⟨26, _⟩ => ⟨S_, .f32⟩
  | .hbm, ⟨27, _⟩ => ⟨S128x256, .f32⟩
  | .hbm, ⟨28, _⟩ => ⟨S128x256, .bf16⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i32⟩
  | .hbm, ⟨33, _⟩ => ⟨S256x1, .i32⟩
  | .hbm, ⟨34, _⟩ => ⟨S1x256, .i32⟩
  | .hbm, ⟨35, _⟩ => ⟨S256x256, .i32⟩
  | .hbm, ⟨36, _⟩ => ⟨S256x256, .i32⟩
  | .hbm, ⟨37, _⟩ => ⟨S256x256, .i1⟩
  | .hbm, ⟨38, _⟩ => ⟨S256x256, .f32⟩
  | .hbm, ⟨39, _⟩ => ⟨S2048x49152, .f32⟩
  | .hbm, ⟨40, _⟩ => ⟨S32x2048x512, .f32⟩
  | .local _ .vmem, ⟨0, _⟩ => ⟨S1x256x896, .f32⟩
  | .local _ .vmem, ⟨1, _⟩ => ⟨S1x256x896, .f32⟩
  | .local _ .vmem, ⟨2, _⟩ => ⟨S1x8x896, .f32⟩
  | .local _ .vmem, ⟨3, _⟩ => ⟨S1x8x896, .f32⟩
  | .local _ .vmem, ⟨4, _⟩ => ⟨S1x1x896, .f32⟩
  | .local _ .vmem, ⟨5, _⟩ => ⟨S1x1x896, .f32⟩
  | .local _ .vmem, ⟨6, _⟩ => ⟨S1x896, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S128x256, .bf16⟩
  | .local _ .vmem, ⟨13, _⟩ => ⟨S128x256, .bf16⟩
  | .local _ .vmem, ⟨14, _⟩ => ⟨S128x256, .bf16⟩
  | .local _ .vmem, ⟨15, _⟩ => ⟨S256x256, .f32⟩
  | .local _ .vmem, ⟨16, _⟩ => ⟨S256x1536, .f32⟩
  | .local _ .vmem, ⟨17, _⟩ => ⟨S256x1536, .f32⟩
  | .local _ .vmem, ⟨18, _⟩ => ⟨S1x256x512, .f32⟩
  | .local _ .vmem, ⟨19, _⟩ => ⟨S1x256x512, .f32⟩
  | _, _ => ⟨S32x2048x896, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_call0_v0 : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_call1_v0 : Ref sig .tc := ⟨.hbm, 22, rfl⟩
abbrev main_v8 : Ref sig .tc := ⟨.hbm, 23, rfl⟩
abbrev main_v9 : Ref sig .tc := ⟨.hbm, 24, rfl⟩
abbrev main_c_1 : Ref sig .tc := ⟨.hbm, 25, rfl⟩
abbrev main_call2_v0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21_0 : Ref sig .tc := ⟨.hbm, 39, rfl⟩
abbrev main_v21_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨2, ![32, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x896 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x896 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x896 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S128x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x1536 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ReferencePreIdeal.lean ====
abbrev S32x2048x896 : Shape := ⟨3, ![32, 2048, 896]⟩
abbrev S32x1x896 : Shape := ⟨3, ![32, 1, 896]⟩
abbrev S896 : Shape := ⟨1, ![896]⟩
abbrev S256 : Shape := ⟨1, ![256]⟩
abbrev S32x256 : Shape := ⟨2, ![32, 256]⟩
abbrev S4x64 : Shape := ⟨2, ![4, 64]⟩
abbrev S32x2047x896 : Shape := ⟨3, ![32, 2047, 896]⟩
abbrev S1x1x896 : Shape := ⟨3, ![1, 1, 896]⟩
abbrev S32x2048x256 : Shape := ⟨3, ![32, 2048, 256]⟩
abbrev S32x2048x32 : Shape := ⟨3, ![32, 2048, 32]⟩
abbrev S1x1x256 : Shape := ⟨3, ![1, 1, 256]⟩
abbrev S_ : Shape := ⟨0, ![]⟩
abbrev S32x2048x4x64 : Shape := ⟨4, ![32, 2048, 4, 64]⟩
abbrev S1x1x4x64 : Shape := ⟨4, ![1, 1, 4, 64]⟩
abbrev S32x2048x4 : Shape := ⟨3, ![32, 2048, 4]⟩
abbrev S32x2048x4x1 : Shape := ⟨4, ![32, 2048, 4, 1]⟩
abbrev S32x2048x4x1x64 : Shape := ⟨5, ![32, 2048, 4, 1, 64]⟩
abbrev S32x2048x4x6x64 : Shape := ⟨5, ![32, 2048, 4, 6, 64]⟩
abbrev S2048x32x4x6x64 : Shape := ⟨5, ![2048, 32, 4, 6, 64]⟩
abbrev S2048x49152 : Shape := ⟨2, ![2048, 49152]⟩
abbrev S32x2048x512 : Shape := ⟨3, ![32, 2048, 512]⟩

abbrev nBuf : Space → Nat
  | .hbm => 124
  | .vmem => 0
  | .smem => 0
  | _ => 0

abbrev bufTy : (tb : Table) → Fin (tcTables nBuf tb) → BufTy
  | .hbm, ⟨0, _⟩ => ⟨S32x2048x896, .f32⟩
  | .hbm, ⟨1, _⟩ => ⟨S32x1x896, .f32⟩
  | .hbm, ⟨2, _⟩ => ⟨S896, .f32⟩
  | .hbm, ⟨3, _⟩ => ⟨S256, .f32⟩
  | .hbm, ⟨4, _⟩ => ⟨S32x256, .f32⟩
  | .hbm, ⟨5, _⟩ => ⟨S256, .f32⟩
  | .hbm, ⟨6, _⟩ => ⟨S32x256, .f32⟩
  | .hbm, ⟨7, _⟩ => ⟨S32x256, .f32⟩
  | .hbm, ⟨8, _⟩ => ⟨S256, .f32⟩
  | .hbm, ⟨9, _⟩ => ⟨S256, .f32⟩
  | .hbm, ⟨10, _⟩ => ⟨S4x64, .f32⟩
  | .hbm, ⟨11, _⟩ => ⟨S32x2047x896, .f32⟩
  | .hbm, ⟨12, _⟩ => ⟨S32x2048x896, .f32⟩
  | .hbm, ⟨13, _⟩ => ⟨S32x2048x896, .f32⟩
  | .hbm, ⟨14, _⟩ => ⟨S1x1x896, .f32⟩
  | .hbm, ⟨15, _⟩ => ⟨S32x2048x896, .f32⟩
  | .hbm, ⟨16, _⟩ => ⟨S32x2048x896, .f32⟩
  | .hbm, ⟨17, _⟩ => ⟨S32x2048x896, .f32⟩
  | .hbm, ⟨18, _⟩ => ⟨S32x2048x256, .f32⟩
  | .hbm, ⟨19, _⟩ => ⟨S32x2048x256, .f32⟩
  | .hbm, ⟨20, _⟩ => ⟨S32x2048x256, .f32⟩
  | .hbm, ⟨21, _⟩ => ⟨S32x2048x32, .f32⟩
  | .hbm, ⟨22, _⟩ => ⟨S32x2048x32, .f32⟩
  | .hbm, ⟨23, _⟩ => ⟨S32x2048x32, .f32⟩
  | .hbm, ⟨24, _⟩ => ⟨S32x2048x32, .f32⟩
  | .hbm, ⟨25, _⟩ => ⟨S32x2048x32, .f32⟩
  | .hbm, ⟨26, _⟩ => ⟨S32x2048x256, .f32⟩
  | .hbm, ⟨27, _⟩ => ⟨S1x1x256, .f32⟩
  | .hbm, ⟨28, _⟩ => ⟨S32x2048x256, .f32⟩
  | .hbm, ⟨29, _⟩ => ⟨S32x2048x256, .f32⟩
  | .hbm, ⟨30, _⟩ => ⟨S32x2048x256, .f32⟩
  | .hbm, ⟨31, _⟩ => ⟨S_, .f32⟩
  | .hbm, ⟨32, _⟩ => ⟨S32x2048x256, .f32⟩
  | .hbm, ⟨33, _⟩ => ⟨S32x2048x256, .f32⟩
  | .hbm, ⟨34, _⟩ => ⟨S32x2048x256, .f32⟩
  | .hbm, ⟨35, _⟩ => ⟨S32x2048x256, .f32⟩
  | .hbm, ⟨36, _⟩ => ⟨S32x2048x256, .i1⟩
  | .hbm, ⟨37, _⟩ => ⟨S32x2048x256, .f32⟩
  | .hbm, ⟨38, _⟩ => ⟨S32x2048x256, .f32⟩
  | .hbm, ⟨39, _⟩ => ⟨S32x2048x256, .f32⟩
  | .hbm, ⟨40, _⟩ => ⟨S32x2048x256, .f32⟩
  | .hbm, ⟨41, _⟩ => ⟨S32x2048x256, .f32⟩
  | .hbm, ⟨42, _⟩ => ⟨S32x2048x256, .f32⟩
  | .hbm, ⟨43, _⟩ => ⟨S32x2048x256, .f32⟩
  | .hbm, ⟨44, _⟩ => ⟨S32x2048x256, .f32⟩
  | .hbm, ⟨45, _⟩ => ⟨S32x2048x256, .f32⟩
  | .hbm, ⟨46, _⟩ => ⟨S_, .f32⟩
  | .hbm, ⟨47, _⟩ => ⟨S32x2048x256, .f32⟩
  | .hbm, ⟨48, _⟩ => ⟨S32x2048x256, .f32⟩
  | .hbm, ⟨49, _⟩ => ⟨S32x2048x256, .f32⟩
  | .hbm, ⟨50, _⟩ => ⟨S32x2048x256, .f32⟩
  | .hbm, ⟨51, _⟩ => ⟨S32x2048x256, .f32⟩
  | .hbm, ⟨52, _⟩ => ⟨S32x2048x256, .f32⟩
  | .hbm, ⟨53, _⟩ => ⟨S1x1x256, .f32⟩
  | .hbm, ⟨54, _⟩ => ⟨S32x2048x256, .f32⟩
  | .hbm, ⟨55, _⟩ => ⟨S32x2048x256, .f32⟩
  | .hbm, ⟨56, _⟩ => ⟨S32x2048x256, .f32⟩
  | .hbm, ⟨57, _⟩ => ⟨S32x2048x256, .f32⟩
  | .hbm, ⟨58, _⟩ => ⟨S_, .f32⟩
  | .hbm, ⟨59, _⟩ => ⟨S32x2048x256, .f32⟩
  | .hbm, ⟨60, _⟩ => ⟨S32x2048x256, .f32⟩
  | .hbm, ⟨61, _⟩ => ⟨S_, .f32⟩
  | .hbm, ⟨62, _⟩ => ⟨S32x2048x256, .f32⟩
  | .hbm, ⟨63, _⟩ => ⟨S32x2048x256, .f32⟩
  | .hbm, ⟨64, _⟩ => ⟨S32x2048x32, .f32⟩
  | .hbm, ⟨65, _⟩ => ⟨S32x2048x32, .f32⟩
  | .hbm, ⟨66, _⟩ => ⟨S_, .f32⟩
  | .hbm, ⟨67, _⟩ => ⟨S32x2048x32, .f32⟩
  | .hbm, ⟨68, _⟩ => ⟨S32x2048x32, .f32⟩
  | .hbm, ⟨69, _⟩ => ⟨S_, .f32⟩
  | .hbm, ⟨70, _⟩ => ⟨S32x2048x32, .f32⟩
  | .hbm, ⟨71, _⟩ => ⟨S32x2048x32, .f32⟩
  | .hbm, ⟨72, _⟩ => ⟨S32x2048x256, .f32⟩
  | .hbm, ⟨73, _⟩ => ⟨S32x2048x4x64, .f32⟩
  | .hbm, ⟨74, _⟩ => ⟨S32x2048x4x64, .f32⟩
  | .hbm, ⟨75, _⟩ => ⟨S32x2048x4x64, .f32⟩
  | .hbm, ⟨76, _⟩ => ⟨S32x2048x4x64, .f32⟩
  | .hbm, ⟨77, _⟩ => ⟨S32x2048x4x64, .f32⟩
  | .hbm, ⟨78, _⟩ => ⟨S4x64, .f32⟩
  | .hbm, ⟨79, _⟩ => ⟨S1x1x4x64, .f32⟩
  | .hbm, ⟨80, _⟩ => ⟨S32x2048x4x64, .f32⟩
  | .hbm, ⟨81, _⟩ => ⟨S32x2048x4x64, .f32⟩
  | .hbm, ⟨82, _⟩ => ⟨S32x2048x4x64, .f32⟩
  | .hbm, ⟨83, _⟩ => ⟨S_, .f32⟩
  | .hbm, ⟨84, _⟩ => ⟨S32x2048x4, .f32⟩
  | .hbm, ⟨85, _⟩ => ⟨S32x2048x4x1, .f32⟩
  | .hbm, ⟨86, _⟩ => ⟨S_, .f32⟩
  | .hbm, ⟨87, _⟩ => ⟨S32x2048x4x1, .f32⟩
  | .hbm, ⟨88, _⟩ => ⟨S32x2048x4x1, .f32⟩
  | .hbm, ⟨89, _⟩ => ⟨S32x2048x4x1, .f32⟩
  | .hbm, ⟨90, _⟩ => ⟨S32x2048x4x64, .f32⟩
  | .hbm, ⟨91, _⟩ => ⟨S32x2048x4x64, .f32⟩
  | .hbm, ⟨92, _⟩ => ⟨S_, .f32⟩
  | .hbm, ⟨93, _⟩ => ⟨S32x2048x4x64, .f32⟩
  | .hbm, ⟨94, _⟩ => ⟨S32x2048x4x64, .f32⟩
  | .hbm, ⟨95, _⟩ => ⟨S4x64, .f32⟩
  | .hbm, ⟨96, _⟩ => ⟨S1x1x4x64, .f32⟩
  | .hbm, ⟨97, _⟩ => ⟨S32x2048x4x64, .f32⟩
  | .hbm, ⟨98, _⟩ => ⟨S32x2048x4x64, .f32⟩
  | .hbm, ⟨99, _⟩ => ⟨S_, .f32⟩
  | .hbm, ⟨100, _⟩ => ⟨S32x2048x4x64, .f32⟩
  | .hbm, ⟨101, _⟩ => ⟨S32x2048x4x64, .f32⟩
  | .hbm, ⟨102, _⟩ => ⟨S32x2048x4x64, .f32⟩
  | .hbm, ⟨103, _⟩ => ⟨S32x2048x4x64, .f32⟩
  | .hbm, ⟨104, _⟩ => ⟨S1x1x4x64, .f32⟩
  | .hbm, ⟨105, _⟩ => ⟨S32x2048x4x64, .f32⟩
  | .hbm, ⟨106, _⟩ => ⟨S32x2048x4x64, .f32⟩
  | .hbm, ⟨107, _⟩ => ⟨S_, .f32⟩
  | .hbm, ⟨108, _⟩ => ⟨S32x2048x4, .f32⟩
  | .hbm, ⟨109, _⟩ => ⟨S32x2048x4x1, .f32⟩
  | .hbm, ⟨110, _⟩ => ⟨S32x2048x4x64, .f32⟩
  | .hbm, ⟨111, _⟩ => ⟨S32x2048x4x64, .f32⟩
  | .hbm, ⟨112, _⟩ => ⟨S32x2048x4x64, .f32⟩
  | .hbm, ⟨113, _⟩ => ⟨S32x2048x4x1x64, .f32⟩
  | .hbm, ⟨114, _⟩ => ⟨S32x2048x4x1x64, .f32⟩
  | .hbm, ⟨115, _⟩ => ⟨S32x2048x4x1x64, .f32⟩
  | .hbm, ⟨116, _⟩ => ⟨S32x2048x4x1x64, .f32⟩
  | .hbm, ⟨117, _⟩ => ⟨S32x2048x4x1x64, .f32⟩
  | .hbm, ⟨118, _⟩ => ⟨S32x2048x4x1x64, .f32⟩
  | .hbm, ⟨119, _⟩ => ⟨S32x2048x4x6x64, .f32⟩
  | .hbm, ⟨120, _⟩ => ⟨S2048x32x4x6x64, .f32⟩
  | .hbm, ⟨121, _⟩ => ⟨S2048x49152, .f32⟩
  | .hbm, ⟨122, _⟩ => ⟨S32x2048x256, .f32⟩
  | .hbm, ⟨123, _⟩ => ⟨S32x2048x512, .f32⟩
  | _, _ => ⟨S32x2048x896, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_v20 : Ref sig .tc := ⟨.hbm, 44, rfl⟩
abbrev main_v21 : Ref sig .tc := ⟨.hbm, 45, rfl⟩
abbrev main_cst : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_cst_0 : Ref sig .tc := ⟨.hbm, 58, rfl⟩
abbrev main_v33 : Ref sig .tc := ⟨.hbm, 59, rfl⟩
abbrev main_v34 : Ref sig .tc := ⟨.hbm, 60, rfl⟩
abbrev main_cst_1 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_2 : Ref sig .tc := ⟨.hbm, 66, rfl⟩
abbrev main_v39 : Ref sig .tc := ⟨.hbm, 67, rfl⟩
abbrev main_v40 : Ref sig .tc := ⟨.hbm, 68, rfl⟩
abbrev main_cst_3 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_4 : Ref sig .tc := ⟨.hbm, 83, rfl⟩
abbrev main_v54 : Ref sig .tc := ⟨.hbm, 84, rfl⟩
abbrev main_v55 : Ref sig .tc := ⟨.hbm, 85, rfl⟩
abbrev main_cst_5 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_6 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_cst_7 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_8 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩

abbrev nD : Nat := 1
abbrev τ : Topo := Topo.v7x

variable {F : FTy → Type} [FloatOps F]
-- ==== Proof.Frames.lean ====
/- Every program runs to its end, leaves its arguments as they were and every semaphore at zero. -/
module

public import proofs.«01_k».proof.Defs
public import proofs.«01_k».proof.Proof.Gen.Kernel.Frame
public import proofs.«01_k».proof.Proof.Gen.KernelIdeal.Frame
public import proofs.«01_k».proof.Proof.Gen.KernelIn.Frame
public import proofs.«01_k».proof.Proof.Gen.KernelInIdeal.Frame
public import proofs.«01_k».proof.Proof.Gen.KernelOut.Frame
public import proofs.«01_k».proof.Proof.Gen.KernelOutIdeal.Frame
public import proofs.«01_k».proof.Proof.Gen.KernelPre.Frame
public import proofs.«01_k».proof.Proof.Gen.KernelPreIdeal.Frame
public import proofs.«01_k».proof.Proof.Gen.ReferenceIdeal.Run
public import proofs.«01_k».proof.Proof.Gen.ReferenceInIdeal.Run
public import proofs.«01_k».proof.Proof.Gen.ReferenceOutIdeal.Run
public import proofs.«01_k».proof.Proof.Gen.ReferencePreIdeal.Run
public import proofs.«01_k».proof.Proof.Gen.ReferenceIdeal
public import proofs.«01_k».proof.Proof.Gen.ReferenceInIdeal
public import proofs.«01_k».proof.Proof.Gen.ReferenceOutIdeal
public import proofs.«01_k».proof.Proof.Gen.ReferencePreIdeal

@[expose] public section

noncomputable section

namespace Cert.Frames

open Idealize.ShloMosaic Idealize.SL.Sem

/-- The attention kernel, bit for bit. -/
theorem fox_p : Cert.quiescent_Kernel (hKernel := Cert.Kernel.Gen.facts) := fun m ρ _ => Cert.Kernel.Gen.frame m ρ
/-- The attention kernel, at exact arithmetic. -/
theorem fox_pi : Cert.quiescent_KernelIdeal (hKernelIdeal := Cert.KernelIdeal.Gen.facts) := fun m ρ _ => Cert.KernelIdeal.Gen.frame m ρ
/-- The attention reference. -/
theorem fox_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)
/-- The layer's first half, bit for bit. -/
theorem in_p : Cert.quiescent_KernelIn (hKernelIn := Cert.KernelIn.Gen.facts) := fun m ρ _ => Cert.KernelIn.Gen.frame m ρ
/-- The layer's first half, at exact arithmetic. -/
theorem in_pi : Cert.quiescent_KernelInIdeal (hKernelInIdeal := Cert.KernelInIdeal.Gen.facts) := fun m ρ _ => Cert.KernelInIdeal.Gen.frame m ρ
/-- The first half's reference. -/
theorem in_ri : Cert.quiescent_ReferenceInIdeal (hReferenceInIdeal := Cert.ReferenceInIdeal.Gen.facts) := fun m ρ _ =>
  (θ_run Cert.ReferenceInIdeal.defs _ _).mono (fun r h => ⟨fun c => (h c).2.2.2.2.2.2.2.2, sem_eq_zero_of_no_sems (by decide) r.2⟩)
    (Cert.ReferenceInIdeal.Value.run (F := Ideal) m ρ)
/-- The layer's second half, bit for bit. -/
theorem out_p : Cert.quiescent_KernelOut (hKernelOut := Cert.KernelOut.Gen.facts) := fun m ρ _ => Cert.KernelOut.Gen.frame m ρ
/-- The layer's second half, at exact arithmetic. -/
theorem out_pi : Cert.quiescent_KernelOutIdeal (hKernelOutIdeal := Cert.KernelOutIdeal.Gen.facts) := fun m ρ _ => Cert.KernelOutIdeal.Gen.frame m ρ
/-- The second half's reference. -/
theorem out_ri : Cert.quiescent_ReferenceOutIdeal (hReferenceOutIdeal := Cert.ReferenceOutIdeal.Gen.facts) := fun m ρ _ =>
  (θ_run Cert.ReferenceOutIdeal.defs _ _).mono (fun r h => ⟨fun c => (h c).2, sem_eq_zero_of_no_sems (by decide) r.2⟩)
    (Cert.ReferenceOutIdeal.Value.run (F := Ideal) m ρ)
/-- The recurrence's inputs, bit for bit. -/
theorem pre_p : Cert.quiescent_KernelPre (hKernelPre := Cert.KernelPre.Gen.facts) := fun m ρ _ => Cert.KernelPre.Gen.frame m ρ
/-- The recurrence's inputs, at exact arithmetic. -/
theorem pre_pi : Cert.quiescent_KernelPreIdeal (hKernelPreIdeal := Cert.KernelPreIdeal.Gen.facts) := fun m ρ _ => Cert.KernelPreIdeal.Gen.frame m ρ
/-- The reference of the recurrence's inputs. -/
theorem pre_ri : Cert.quiescent_ReferencePreIdeal (hReferencePreIdeal := Cert.ReferencePreIdeal.Gen.facts) := fun m ρ _ =>
  (θ_run Cert.ReferencePreIdeal.defs _ _).mono (fun r h => ⟨fun c => (h c).2.2, sem_eq_zero_of_no_sems (by decide) r.2⟩)
    (Cert.ReferencePreIdeal.Value.run (F := Ideal) m ρ)

end Cert.Frames

end
-- ==== Proof.FoxMath.lean ====
/- The arithmetic of one row of softmax attention over extended reals: the row read in two blocks (the
   columns before the diagonal block and the diagonal block), with the quotient taken once at the end,
   is the softmax-weighted sum of the whole row. -/
module

public import Idealize.ShloMosaic.Lib.Pointwise

@[expose] public section

noncomputable section

namespace Cert.FoxMath

open Idealize.ShloMosaic

/-- The greatest of finitely many values (`⊥` of none). -/
def top {n : ℕ} (f : Fin n → EReal) : EReal := Finset.fold max ⊥ f Finset.univ

/-- Softmax of the scores `s` (greatest score subtracted), the weighted sum of `V`. -/
def soft {n : ℕ} (s V : Fin n → EReal) : EReal :=
  ∑ k, Ideal.div (Ideal.exp (s k - top s)) (∑ j, Ideal.exp (s j - top s)) * V k

/-- One block alone: the weighted sum of the unnormalised weights, divided by their sum. -/
def blk1 {d : ℕ} (sD vD : Fin d → EReal) : EReal :=
  Ideal.div (∑ x, Ideal.exp (sD x - top sD) * vD x) (∑ x, Ideal.exp (sD x - top sD))

/-- Two blocks: the same over both, with the greatest score of the two. -/
def blk2 {d n : ℕ} (sD vD : Fin d → EReal) (sP vP : Fin n → EReal) : EReal :=
  Ideal.div (∑ x, Ideal.exp (sD x - max (top sD) (top sP)) * vD x
      + ∑ x, Ideal.exp (sP x - max (top sD) (top sP)) * vP x)
    (∑ x, Ideal.exp (sD x - max (top sD) (top sP)) + ∑ x, Ideal.exp (sP x - max (top sD) (top sP)))

theorem top_le_iff {n : ℕ} (f : Fin n → EReal) (c : EReal) : top f ≤ c ↔ ∀ k, f k ≤ c := by
  unfold top
  rw [Finset.fold_max_le]
  simp

theorem le_top {n : ℕ} (f : Fin n → EReal) (k : Fin n) : f k ≤ top f := (top_le_iff f _).1 le_rfl k

/-- A family without `⊤` has a greatest value below `⊤`. -/
theorem top_ne_top {n : ℕ} (f : Fin n → EReal) (h : ∀ k, f k ≠ ⊤) : top f ≠ ⊤ := by
  unfold top
  refine ne_of_lt ?_
  rw [Finset.fold_max_lt]
  exact ⟨bot_lt_top, fun k _ => lt_top_iff_ne_top.2 (h k)⟩

/-- The greatest of a row whose columns from `n + d` on are `⊥` is the greatest of the two blocks. -/
theorem top_split {N : ℕ} (s : Fin N → EReal) (n d : ℕ) (h : n + d ≤ N)
    (hb : ∀ k : Fin N, n + d ≤ k.val → s k = ⊥) :
    top s = max (top fun x : Fin d => s ⟨n + x.val, by omega⟩) (top fun x : Fin n => s ⟨x.val, by omega⟩) := by
  apply le_antisymm
  · rw [top_le_iff]
    intro k
    by_cases h1 : k.val < n
    · exact le_max_of_le_right (le_top (fun x : Fin n => s ⟨x.val, by omega⟩) ⟨k.val, h1⟩)
    · by_cases h2 : k.val < n + d
      · refine le_max_of_le_left (le_trans (le_of_eq ?_) (le_top (fun x : Fin d => s ⟨n + x.val, by omega⟩) ⟨k.val - n, by omega⟩))
        congr 1
        apply Fin.ext
        simp only
        omega
      · rw [hb k (by omega)]
        exact bot_le
  · refine max_le ?_ ?_
    · rw [top_le_iff]; intro x; exact le_top s _
    · rw [top_le_iff]; intro x; exact le_top s _

/-- A sum over a row whose terms from column `n + d` on vanish is the sum of the two blocks. -/
theorem sum_split {N : ℕ} (f : Fin N → EReal) (n d : ℕ) (h : n + d ≤ N)
    (hb : ∀ k : Fin N, n + d ≤ k.val → f k = 0) :
    ∑ k, f k = ∑ x : Fin d, f ⟨n + x.val, by omega⟩ + ∑ x : Fin n, f ⟨x.val, by omega⟩ := by
  obtain ⟨m, rfl⟩ : ∃ m, N = (n + d) + m := ⟨N - (n + d), by omega⟩
  rw [Fin.sum_univ_add, Fin.sum_univ_add, add_comm (∑ x : Fin d, _)]
  have hz : ∑ i : Fin m, f (Fin.natAdd (n + d) i) = 0 :=
    Finset.sum_eq_zero fun i _ => hb _ (by simp)
  rw [hz, add_zero]
  rfl

/-- The exponential of a score that is not `⊤`, less a real, is a nonnegative real. -/
theorem exp_real (a : EReal) (M : ℝ) (h : a ≠ ⊤) : ∃ p : ℝ, 0 ≤ p ∧ Ideal.exp (a - (M : EReal)) = (p : EReal) := by
  induction a using EReal.rec with
  | bot => exact ⟨0, le_rfl, by simp⟩
  | top => exact absurd rfl h
  | coe a => exact ⟨Real.exp (a - M), (Real.exp_pos _).le, by rw [← EReal.coe_sub, Ideal.exp_coe]⟩

/-- A finite nonnegative factor moves into a sum. -/
theorem sum_mul_coe {n : ℕ} (f : Fin n → EReal) (c : ℝ) (hc : 0 ≤ c) : (∑ k, f k) * (c : EReal) = ∑ k, f k * (c : EReal) := by
  have key : ∀ t : Finset (Fin n), (∑ k ∈ t, f k) * (c : EReal) = ∑ k ∈ t, f k * (c : EReal) := by
    intro t
    induction t using Finset.induction_on with
    | empty => simp
    | insert a t ha ih =>
      rw [Finset.sum_insert ha, Finset.sum_insert ha,
        EReal.right_distrib_of_nonneg_of_ne_top (EReal.coe_nonneg.2 hc) (EReal.coe_ne_top c), ih]
  exact key _

/-- The sum of reals, read as an extended real. -/
theorem sum_coe {n : ℕ} (f : Fin n → ℝ) : ∑ k, ((f k : ℝ) : EReal) = ((∑ k, f k : ℝ) : EReal) := by
  have key : ∀ t : Finset (Fin n), ∑ k ∈ t, ((f k : ℝ) : EReal) = ((∑ k ∈ t, f k : ℝ) : EReal) := by
    intro t
    induction t using Finset.induction_on with
    | empty => simp
    | insert a t ha ih => rw [Finset.sum_insert ha, Finset.sum_insert ha, EReal.coe_add, ih]
  exact key _

/-- Dividing once by the sum of the weights is dividing every weight. -/
theorem soft_eq_quotient {N : ℕ} (s V : Fin N → EReal) (k0 : Fin N) (h0 : s k0 ≠ ⊥) (ht : ∀ k, s k ≠ ⊤) :
    soft s V = Ideal.div (∑ k, Ideal.exp (s k - top s) * V k) (∑ k, Ideal.exp (s k - top s)) := by
  have hM : ∃ M : ℝ, top s = (M : EReal) := by
    refine ⟨(top s).toReal, (EReal.coe_toReal (top_ne_top s ht) ?_).symm⟩
    intro hbot
    exact h0 (le_bot_iff.1 (hbot ▸ le_top s k0))
  obtain ⟨M, hM⟩ := hM
  unfold soft
  rw [hM]
  choose p hp0 hp using fun k => exp_real (s k) M (ht k)
  have hpos : 0 < p k0 := by
    have h1 := hp k0
    obtain ⟨a, ha⟩ : ∃ a : ℝ, s k0 = (a : EReal) := ⟨(s k0).toReal, (EReal.coe_toReal (ht k0) h0).symm⟩
    rw [ha, ← EReal.coe_sub, Ideal.exp_coe] at h1
    rw [← EReal.coe_injective h1]
    exact Real.exp_pos _
  have hS : 0 < ∑ k, p k := Finset.sum_pos' (fun k _ => hp0 k) ⟨k0, Finset.mem_univ _, hpos⟩
  simp only [hp]
  rw [sum_coe]
  have hne : ((∑ k, p k : ℝ) : EReal) ≠ 0 := by exact_mod_cast hS.ne'
  simp only [Ideal.div, if_neg hne]
  rw [← EReal.coe_inv, sum_mul_coe _ _ (inv_nonneg.2 hS.le)]
  refine Finset.sum_congr rfl fun k _ => ?_
  rw [mul_right_comm]

/-- A row that ends in the diagonal block: softmax attention over the whole row, from the two blocks. -/
theorem soft_eq_blk2 {N : ℕ} (s V : Fin N → EReal) (n d : ℕ) (h : n + d ≤ N) (k0 : Fin N) (h0 : s k0 ≠ ⊥)
    (ht : ∀ k, s k ≠ ⊤) (hb : ∀ k : Fin N, n + d ≤ k.val → s k = ⊥) :
    soft s V = blk2 (fun x : Fin d => s ⟨n + x.val, by omega⟩) (fun x : Fin d => V ⟨n + x.val, by omega⟩)
      (fun x : Fin n => s ⟨x.val, by omega⟩) (fun x : Fin n => V ⟨x.val, by omega⟩) := by
  have hM : top s ≠ ⊥ := fun hbot => h0 (le_bot_iff.1 (hbot ▸ le_top s k0))
  have hz : ∀ k : Fin N, n + d ≤ k.val → Ideal.exp (s k - top s) = 0 := by
    intro k hk
    rw [hb k hk, EReal.bot_sub, Ideal.exp_bot]
  rw [soft_eq_quotient s V k0 h0 ht, sum_split _ n d h hz,
    sum_split (fun k => Ideal.exp (s k - top s) * V k) n d h (fun k hk => by rw [hz k hk, zero_mul])]
  rw [top_split s n d h hb]
  rfl

/-- The first block has nothing before it. -/
theorem soft_eq_blk1 {N : ℕ} (s V : Fin N → EReal) (d : ℕ) (h : d ≤ N) (k0 : Fin N) (h0 : s k0 ≠ ⊥)
    (ht : ∀ k, s k ≠ ⊤) (hb : ∀ k : Fin N, d ≤ k.val → s k = ⊥) :
    soft s V = blk1 (fun x : Fin d => s ⟨x.val, by omega⟩) (fun x : Fin d => V ⟨x.val, by omega⟩) := by
  rw [soft_eq_blk2 s V 0 d (by omega) k0 h0 ht (fun k hk => hb k (by omega))]
  unfold blk2 blk1
  have ht0 : ∀ f : Fin 0 → EReal, top f = ⊥ := fun f => by simp [top]
  simp only [ht0, max_bot_right, Finset.univ_eq_empty, Finset.sum_empty, add_zero, zero_add]

end Cert.FoxMath

end
-- ==== Proof.FoxStages.lean ====
/- The steps of one block of queries that do not depend on which block it is, as operations on arrays,
   and what each of them holds at an index. -/
module

public import proofs.«01_k».proof.Proof.Gen.KernelIdeal.Value
public import proofs.«01_k».proof.Proof.FoxMath
public import Idealize.ShloMosaic.Lib.WordCmp

@[expose] public section

set_option maxRecDepth 16384

noncomputable section

namespace Cert.KernelIdeal.Fox

open Idealize.ShloMosaic Cert.KernelIdeal Cert.KernelIdeal.Gen

/-- The pattern of minus infinity is the least extended real. -/
theorem neg_inf : Ideal.ofBits FTy.f32 4286578688#32 = ⊥ := by
  simp [Ideal.ofBits, Ideal.ieee]

/-- The lane mask: the first 64 lanes belong to the pair's first head. -/
theorem low_apply (l : Fin 128) : k0_pay2 (ix2 0 l) = if l.val < 64 then 1#1 else 0#1 := by
  pointwise [k0_pay2]
  revert l
  decide +kernel

/-- The causal mask inside a diagonal block. -/
theorem tri_apply (r x : Fin 256) : k0_pay5 (ix2 r x) = if x.val ≤ r.val then 1#1 else 0#1 := by
  pointwise [k0_pay5]
  have hr := r.isLt
  have hx := x.isLt
  rw [WordCmp.cmpi_sge_of_lt (by simp only [BitVec.toNat_ofNat]; omega) (by simp only [BitVec.toNat_ofNat]; omega)]
  simp only [BitVec.toNat_ofNat]
  rw [Nat.mod_eq_of_lt (by omega), Nat.mod_eq_of_lt (by omega)]
  by_cases h : x.val ≤ r.val <;> simp [h]

/-- The queries of a block, twice: with the second head's lanes blanked, then with the first head's. -/
def q2 (q : Vec Ideal S1x256x128 .bf16) : FVec Ideal S512x128 .bf16 :=
  concatenate S512x128 0
    [⟨S256x128, select (broadcastTo S256x128 (shapeCast S1x128 k0_pay2 shapeCasts_S1x128_S1x128) broadcasts_S1x128_S256x128)
        (shapeCast S256x128 q shapeCasts_S1x256x128_S256x128) (broadcast S256x128 (Scalar.ofBits .bf16 0x0000#16))⟩,
     ⟨S256x128, select (broadcastTo S256x128 (shapeCast S1x128 k0_pay2 shapeCasts_S1x128_S1x128) broadcasts_S1x128_S256x128)
        (broadcast S256x128 (Scalar.ofBits .bf16 0x0000#16)) (shapeCast S256x128 q shapeCasts_S1x256x128_S256x128)⟩]
    concatenates_S256x128_S256x128_S512x128_d0

theorem q2_apply (q : Vec Ideal S1x256x128 .bf16) (r : Fin 512) (l : Fin 128) :
    q2 q (ix2 r l) = if h : r.val < 256 then (if l.val < 64 then q (ix3 0 ⟨r.val, h⟩ l) else 0)
      else (if l.val < 64 then 0 else q (ix3 0 ⟨r.val - 256, by omega⟩ l)) := by
  pointwise [q2]
  simp only [Scalar.select_def, low_apply]
  split <;> split <;> simp

/-- The query-side cumulative gate of head `w`: the lane `w` of the gate rows, picked by a masked sum. -/
def cq (w : BitVec 32) (cc : Vec Ideal S1x256x128 .f32) : FVec Ideal S256x1 .f32 :=
  shapeCast S256x1 (multiReduction .add [1] S256
    (select (broadcastTo S256x128 (shapeCast S1x128 (cmpi .eq (iota .tc S1x128 32 [1] iota_S1x128_d1_w32) (broadcast S1x128 w))
        shapeCasts_S1x128_S1x128) broadcasts_S1x128_S256x128)
      (shapeCast S256x128 cc shapeCasts_S1x256x128_S256x128) (broadcast S256x128 (Scalar.ofBits .f32 0x00000000#32)))
    0x00000000#32 reduces_S256x128_S256 (.inl rfl) rfl) shapeCasts_S256_S256x1

theorem cq_apply (w : BitVec 32) (cc : Vec Ideal S1x256x128 .f32) (r : Fin 256) (h : Fin 128) (hw : w = BitVec.ofNat 32 h.val) :
    cq w cc (ix2 r 0) = cc (ix3 0 r h) := by
  subst hw
  pointwise [cq]
  rw [Finset.sum_eq_single h]
  · simp [Scalar.select_def, IntOp.cmpi]
  · intro b _ hb
    have : BitVec.ofNat 32 b.val ≠ BitVec.ofNat 32 h.val := by
      intro e
      apply hb
      have := congrArg BitVec.toNat e
      simp only [BitVec.toNat_ofNat] at this
      omega
    simp [Scalar.select_def, IntOp.cmpi, this, beq_eq_false_iff_ne.2 this]
  · simp

/-- The end of a block: each head's weighted sum divided by its sum of weights, the two heads' lanes put
    side by side, times the logistic function of the output gate. -/
def fin (l0 l1 : FVec Ideal S256x1 .f32) (cx : FVec Ideal S512x128 .f32) (g : Vec Ideal S1x256x128 .f32) : FVec Ideal S1x256x128 .bf16 :=
  shapeCast S1x256x128 (truncf .bf16 (mulf
    (select (broadcastTo S256x128 (shapeCast S1x128 k0_pay2 shapeCasts_S1x128_S1x128) broadcasts_S1x128_S256x128)
      (divf (extractStridedSlice S256x128 ![0, 0] cx slices_S512x128_o0_0_S256x128) (broadcastTo S256x128 l0 broadcasts_S256x1_S256x128))
      (divf (extractStridedSlice S256x128 ![256, 0] cx slices_S512x128_o256_0_S256x128) (broadcastTo S256x128 l1 broadcasts_S256x1_S256x128)))
    (divf (broadcast S256x128 (Scalar.ofBits .f32 0x3F800000#32)) (addf (broadcast S256x128 (Scalar.ofBits .f32 0x3F800000#32))
      (exp (subf (broadcast S256x128 (Scalar.ofBits .f32 0x00000000#32)) (shapeCast S256x128 g shapeCasts_S1x256x128_S256x128))))))
    bitsLt_bf16_f32) shapeCasts_S256x128_S1x256x128

theorem fin_apply (l0 l1 : FVec Ideal S256x1 .f32) (cx : FVec Ideal S512x128 .f32) (g : Vec Ideal S1x256x128 .f32) (r : Fin 256) (l : Fin 128) :
    fin l0 l1 cx g (ix3 0 r l) = (if l.val < 64 then Ideal.div (cx (ix2 ⟨r.val, by omega⟩ l)) (l0 (ix2 r 0))
      else Ideal.div (cx (ix2 ⟨256 + r.val, by omega⟩ l)) (l1 (ix2 r 0)))
      * Ideal.div 1 (1 + Ideal.exp (0 - g (ix3 0 r l))) := by
  pointwise [fin]
  simp only [Scalar.select_def, low_apply]
  split <;> simp

/-- The gated score of a query against the key in column `c`, before masking: row `r'` of the doubled
    queries against the keys, plus the query's cumulative gate, minus the key's. -/
def rowS (q : Vec Ideal S1x256x128 .bf16) (K : Vec Ideal S1x128x2048 .f32) (cc : Vec Ideal S1x256x128 .f32)
    (cr : Vec Ideal S1x1x2048 .f32) (r' : Fin 512) (r : Fin 256) (h : Fin 128) (c : Fin 2048) : EReal :=
  (∑ l : Fin 128, q2 q (ix2 r' l) * K (ix3 0 l c)) + cc (ix3 0 r h) - cr (ix3 0 0 c)

end Cert.KernelIdeal.Fox
-- ==== Proof.FoxBlock0.lean ====
/- Block 0 of the attention kernel: the queries of rows 0 to 255. Each step as operations on arrays, and
   what the block holds at an index: the softmax-weighted sum over its diagonal block. -/
module

public import proofs.«01_k».proof.Proof.FoxStages

@[expose] public section

set_option maxRecDepth 16384

noncomputable section

namespace Cert.KernelIdeal.Fox.B0

open Idealize.ShloMosaic Cert.KernelIdeal Cert.KernelIdeal.Gen Cert.KernelIdeal.Fox Cert.FoxMath

/-- Products of the doubled queries with the keys of the diagonal block. -/
def dD (q : Vec Ideal S1x256x128 .bf16) (K : Vec Ideal S1x128x2048 .f32) : FVec Ideal S512x256 .f32 :=
  matmul dot_S512x128_S128x256_S512x256_1_0_0_1_n_n none (q2 q)
    (extractStridedSlice S128x256 ![0, 0] (k0_pay3 K) slices_S128x2048_o0_0_S128x256) (constant S512x256 .f32 0x00000000#32)

theorem dD_apply (q : Vec Ideal S1x256x128 .bf16) (K : Vec Ideal S1x128x2048 .f32) (r : Fin 512) (x : Fin 256) :
    dD q K (ix2 r x) = ∑ l : Fin 128, q2 q (ix2 r l) * K (ix3 0 l ⟨0 + x.val, by omega⟩) := by
  pointwise [dD, k0_pay3]

/-- Head 0's scores on the diagonal block, masked. -/
def sD0 (d : FVec Ideal S512x256 .f32) (c : FVec Ideal S256x1 .f32) (cr : Vec Ideal S1x1x2048 .f32) : FVec Ideal S256x256 .f32 :=
  select k0_pay5
    (subf (addf (extractStridedSlice S256x256 ![0, 0] d slices_S512x256_o0_0_S256x256) (broadcastTo S256x256 c broadcasts_S256x1_S256x256))
      (broadcastTo S256x256 (extractStridedSlice S1x256 ![0, 0] (shapeCast S1x2048 cr shapeCasts_S1x1x2048_S1x2048) slices_S1x2048_o0_0_S1x256)
        broadcasts_S1x256_S256x256))
    (broadcast S256x256 (Scalar.ofBits .f32 0xFF800000#32))

theorem sD0_apply (d : FVec Ideal S512x256 .f32) (c : FVec Ideal S256x1 .f32) (cr : Vec Ideal S1x1x2048 .f32) (r x : Fin 256) :
    sD0 d c cr (ix2 r x) = if x.val ≤ r.val then d (ix2 ⟨0 + r.val, by omega⟩ x) + c (ix2 r 0) - cr (ix3 0 0 ⟨0 + x.val, by omega⟩) else ⊥ := by
  pointwise [sD0]
  simp only [Scalar.select_def, tri_apply, neg_inf]
  split <;> simp

/-- Head 1's scores on the diagonal block, masked. -/
def sD1 (d : FVec Ideal S512x256 .f32) (c : FVec Ideal S256x1 .f32) (cr : Vec Ideal S1x1x2048 .f32) : FVec Ideal S256x256 .f32 :=
  select k0_pay5
    (subf (addf (extractStridedSlice S256x256 ![256, 0] d slices_S512x256_o256_0_S256x256) (broadcastTo S256x256 c broadcasts_S256x1_S256x256))
      (broadcastTo S256x256 (extractStridedSlice S1x256 ![0, 0] (shapeCast S1x2048 cr shapeCasts_S1x1x2048_S1x2048) slices_S1x2048_o0_0_S1x256)
        broadcasts_S1x256_S256x256))
    (broadcast S256x256 (Scalar.ofBits .f32 0xFF800000#32))

theorem sD1_apply (d : FVec Ideal S512x256 .f32) (c : FVec Ideal S256x1 .f32) (cr : Vec Ideal S1x1x2048 .f32) (r x : Fin 256) :
    sD1 d c cr (ix2 r x) = if x.val ≤ r.val then d (ix2 ⟨256 + r.val, by omega⟩ x) + c (ix2 r 0) - cr (ix3 0 0 ⟨0 + x.val, by omega⟩) else ⊥ := by
  pointwise [sD1]
  simp only [Scalar.select_def, tri_apply, neg_inf]
  split <;> simp

/-- The weights of a row: the exponential of each score less the row's greatest. -/
def eD (s : FVec Ideal S256x256 .f32) : FVec Ideal S256x256 .f32 :=
  exp (subf s (broadcastTo S256x256 (shapeCast S256x1 (multiReduction .maximumf [1] S256 s 0xFF800000#32 reduces_S256x256_S256 (.inl rfl) rfl)
    shapeCasts_S256_S256x1) broadcasts_S256x1_S256x256))

theorem eD_apply (s : FVec Ideal S256x256 .f32) (r x : Fin 256) :
    eD s (ix2 r x) = Ideal.exp (s (ix2 r x) - top fun x => s (ix2 r x)) := by
  pointwise [eD]
  simp only [neg_inf]
  rfl

/-- The sum of a row's weights. -/
def den (a : FVec Ideal S256x256 .f32) : FVec Ideal S256x1 .f32 :=
  shapeCast S256x1 (multiReduction .add [1] S256 a 0x00000000#32 reduces_S256x256_S256 (.inl rfl) rfl) shapeCasts_S256_S256x1

theorem den_apply (a : FVec Ideal S256x256 .f32) (r : Fin 256) : den a (ix2 r 0) = ∑ x, a (ix2 r x) := by
  pointwise [den]

/-- The values weighted, both heads one above the other. -/
def cx (W : Vec Ideal S1x128x2048 .f32) (a0 a1 : FVec Ideal S256x256 .f32) : FVec Ideal S512x128 .f32 :=
  matmul dot_S512x256_S128x256_S512x128_1_1_0_0_n_n none
    (concatenate S512x256 0 [⟨S256x256, truncf .bf16 a0 bitsLt_bf16_f32⟩, ⟨S256x256, truncf .bf16 a1 bitsLt_bf16_f32⟩] concatenates_S256x256_S256x256_S512x256_d0)
    (extractStridedSlice S128x256 ![0, 0] (k0_pay4 W) slices_S128x2048_o0_0_S128x256) (constant S512x128 .f32 0x00000000#32)

theorem cx_apply0 (W : Vec Ideal S1x128x2048 .f32) (a0 a1 : FVec Ideal S256x256 .f32) (r : Fin 256) (l : Fin 128) :
    cx W a0 a1 (ix2 ⟨r.val, by omega⟩ l) = ∑ x, a0 (ix2 r x) * W (ix3 0 l ⟨0 + x.val, by omega⟩) := by
  pointwise [cx, k0_pay4]

theorem cx_apply1 (W : Vec Ideal S1x128x2048 .f32) (a0 a1 : FVec Ideal S256x256 .f32) (r : Fin 256) (l : Fin 128) :
    cx W a0 a1 (ix2 ⟨256 + r.val, by omega⟩ l) = ∑ x, a1 (ix2 r x) * W (ix3 0 l ⟨0 + x.val, by omega⟩) := by
  pointwise [cx, k0_pay4]

/-- The block from its loaded operands. -/
def out (w0 w1 : BitVec 32) (q : Vec Ideal S1x256x128 .bf16) (K W : Vec Ideal S1x128x2048 .f32) (g cc : Vec Ideal S1x256x128 .f32)
    (c0 c1 : Vec Ideal S1x1x2048 .f32) : FVec Ideal S1x256x128 .bf16 :=
  let e0 := eD (sD0 (dD q K) (cq w0 cc) c0)
  let e1 := eD (sD1 (dD q K) (cq w1 cc) c1)
  fin (den e0) (den e1) (cx W e0 e1) g

/-- The block at an index: each head's softmax over the diagonal block, times the logistic function of the gate. -/
theorem out_apply (w0 w1 : BitVec 32) (q : Vec Ideal S1x256x128 .bf16) (K W : Vec Ideal S1x128x2048 .f32) (g cc : Vec Ideal S1x256x128 .f32)
    (c0 c1 : Vec Ideal S1x1x2048 .f32) (h0 h1 : Fin 128) (hw0 : w0 = BitVec.ofNat 32 h0.val) (hw1 : w1 = BitVec.ofNat 32 h1.val)
    (r : Fin 256) (l : Fin 128) :
    out w0 w1 q K W g cc c0 c1 (ix3 0 r l) =
      (if l.val < 64 then
        blk1 (fun x : Fin 256 => if x.val ≤ r.val then rowS q K cc c0 ⟨r.val, by omega⟩ r h0 ⟨0 + x.val, by omega⟩ else ⊥)
          (fun x => W (ix3 0 l ⟨0 + x.val, by omega⟩))
      else
        blk1 (fun x : Fin 256 => if x.val ≤ r.val then rowS q K cc c1 ⟨256 + r.val, by omega⟩ r h1 ⟨0 + x.val, by omega⟩ else ⊥)
          (fun x => W (ix3 0 l ⟨0 + x.val, by omega⟩)))
      * Ideal.div 1 (1 + Ideal.exp (0 - g (ix3 0 r l))) := by
  unfold out
  simp only [fin_apply, den_apply, cx_apply0, cx_apply1, eD_apply, sD0_apply, sD1_apply,
    dD_apply, cq_apply w0 cc r h0 hw0, cq_apply w1 cc r h1 hw1, Nat.zero_add]
  rfl

end Cert.KernelIdeal.Fox.B0
-- ==== Proof.FoxBlock1.lean ====
/- Block 1 of the attention kernel: the queries of rows 256 to 511. Each step as operations on arrays, and
   what the block holds at an index: the softmax-weighted sum over its diagonal block and the columns before it. -/
module

public import proofs.«01_k».proof.Proof.FoxStages

@[expose] public section

set_option maxRecDepth 16384

noncomputable section

namespace Cert.KernelIdeal.Fox.B1

open Idealize.ShloMosaic Cert.KernelIdeal Cert.KernelIdeal.Gen Cert.KernelIdeal.Fox Cert.FoxMath

/-- Products of the doubled queries with the keys of the diagonal block. -/
def dD (q : Vec Ideal S1x256x128 .bf16) (K : Vec Ideal S1x128x2048 .f32) : FVec Ideal S512x256 .f32 :=
  matmul dot_S512x128_S128x256_S512x256_1_0_0_1_n_n none (q2 q)
    (extractStridedSlice S128x256 ![0, 256] (k0_pay3 K) slices_S128x2048_o0_256_S128x256) (constant S512x256 .f32 0x00000000#32)

theorem dD_apply (q : Vec Ideal S1x256x128 .bf16) (K : Vec Ideal S1x128x2048 .f32) (r : Fin 512) (x : Fin 256) :
    dD q K (ix2 r x) = ∑ l : Fin 128, q2 q (ix2 r l) * K (ix3 0 l ⟨256 + x.val, by omega⟩) := by
  pointwise [dD, k0_pay3]

/-- Head 0's scores on the diagonal block, masked. -/
def sD0 (d : FVec Ideal S512x256 .f32) (c : FVec Ideal S256x1 .f32) (cr : Vec Ideal S1x1x2048 .f32) : FVec Ideal S256x256 .f32 :=
  select k0_pay5
    (subf (addf (extractStridedSlice S256x256 ![0, 0] d slices_S512x256_o0_0_S256x256) (broadcastTo S256x256 c broadcasts_S256x1_S256x256))
      (broadcastTo S256x256 (extractStridedSlice S1x256 ![0, 256] (shapeCast S1x2048 cr shapeCasts_S1x1x2048_S1x2048) slices_S1x2048_o0_256_S1x256)
        broadcasts_S1x256_S256x256))
    (broadcast S256x256 (Scalar.ofBits .f32 0xFF800000#32))

theorem sD0_apply (d : FVec Ideal S512x256 .f32) (c : FVec Ideal S256x1 .f32) (cr : Vec Ideal S1x1x2048 .f32) (r x : Fin 256) :
    sD0 d c cr (ix2 r x) = if x.val ≤ r.val then d (ix2 ⟨0 + r.val, by omega⟩ x) + c (ix2 r 0) - cr (ix3 0 0 ⟨256 + x.val, by omega⟩) else ⊥ := by
  pointwise [sD0]
  simp only [Scalar.select_def, tri_apply, neg_inf]
  split <;> simp

/-- Head 1's scores on the diagonal block, masked. -/
def sD1 (d : FVec Ideal S512x256 .f32) (c : FVec Ideal S256x1 .f32) (cr : Vec Ideal S1x1x2048 .f32) : FVec Ideal S256x256 .f32 :=
  select k0_pay5
    (subf (addf (extractStridedSlice S256x256 ![256, 0] d slices_S512x256_o256_0_S256x256) (broadcastTo S256x256 c broadcasts_S256x1_S256x256))
      (broadcastTo S256x256 (extractStridedSlice S1x256 ![0, 256] (shapeCast S1x2048 cr shapeCasts_S1x1x2048_S1x2048) slices_S1x2048_o0_256_S1x256)
        broadcasts_S1x256_S256x256))
    (broadcast S256x256 (Scalar.ofBits .f32 0xFF800000#32))

theorem sD1_apply (d : FVec Ideal S512x256 .f32) (c : FVec Ideal S256x1 .f32) (cr : Vec Ideal S1x1x2048 .f32) (r x : Fin 256) :
    sD1 d c cr (ix2 r x) = if x.val ≤ r.val then d (ix2 ⟨256 + r.val, by omega⟩ x) + c (ix2 r 0) - cr (ix3 0 0 ⟨256 + x.val, by omega⟩) else ⊥ := by
  pointwise [sD1]
  simp only [Scalar.select_def, tri_apply, neg_inf]
  split <;> simp

/-- Products of the doubled queries with the keys before the diagonal block. -/
def dP (q : Vec Ideal S1x256x128 .bf16) (K : Vec Ideal S1x128x2048 .f32) : FVec Ideal S512x256 .f32 :=
  matmul dot_S512x128_S128x256_S512x256_1_0_0_1_n_n none (q2 q)
    (extractStridedSlice S128x256 ![0, 0] (k0_pay3 K) slices_S128x2048_o0_0_S128x256) (constant S512x256 .f32 0x00000000#32)

theorem dP_apply (q : Vec Ideal S1x256x128 .bf16) (K : Vec Ideal S1x128x2048 .f32) (r : Fin 512) (x : Fin 256) :
    dP q K (ix2 r x) = ∑ l : Fin 128, q2 q (ix2 r l) * K (ix3 0 l ⟨x.val, by omega⟩) := by
  pointwise [dP, k0_pay3]

/-- Head 0's scores on the columns before the diagonal block. -/
def sP0 (d : FVec Ideal S512x256 .f32) (c : FVec Ideal S256x1 .f32) (cr : Vec Ideal S1x1x2048 .f32) : FVec Ideal S256x256 .f32 :=
  subf (addf (extractStridedSlice S256x256 ![0, 0] d slices_S512x256_o0_0_S256x256) (broadcastTo S256x256 c broadcasts_S256x1_S256x256))
    (broadcastTo S256x256 (extractStridedSlice S1x256 ![0, 0] (shapeCast S1x2048 cr shapeCasts_S1x1x2048_S1x2048) slices_S1x2048_o0_0_S1x256)
      broadcasts_S1x256_S256x256)

theorem sP0_apply (d : FVec Ideal S512x256 .f32) (c : FVec Ideal S256x1 .f32) (cr : Vec Ideal S1x1x2048 .f32) (r : Fin 256) (x : Fin 256) :
    sP0 d c cr (ix2 r x) = d (ix2 ⟨0 + r.val, by omega⟩ x) + c (ix2 r 0) - cr (ix3 0 0 ⟨x.val, by omega⟩) := by
  pointwise [sP0]

/-- Head 1's scores on the columns before the diagonal block. -/
def sP1 (d : FVec Ideal S512x256 .f32) (c : FVec Ideal S256x1 .f32) (cr : Vec Ideal S1x1x2048 .f32) : FVec Ideal S256x256 .f32 :=
  subf (addf (extractStridedSlice S256x256 ![256, 0] d slices_S512x256_o256_0_S256x256) (broadcastTo S256x256 c broadcasts_S256x1_S256x256))
    (broadcastTo S256x256 (extractStridedSlice S1x256 ![0, 0] (shapeCast S1x2048 cr shapeCasts_S1x1x2048_S1x2048) slices_S1x2048_o0_0_S1x256)
      broadcasts_S1x256_S256x256)

theorem sP1_apply (d : FVec Ideal S512x256 .f32) (c : FVec Ideal S256x1 .f32) (cr : Vec Ideal S1x1x2048 .f32) (r : Fin 256) (x : Fin 256) :
    sP1 d c cr (ix2 r x) = d (ix2 ⟨256 + r.val, by omega⟩ x) + c (ix2 r 0) - cr (ix3 0 0 ⟨x.val, by omega⟩) := by
  pointwise [sP1]

/-- The greatest score of each row. -/
def mx (s : FVec Ideal S256x256 .f32) (t : FVec Ideal S256x256 .f32) : FVec Ideal S256x1 .f32 :=
  maximumf (shapeCast S256x1 (multiReduction .maximumf [1] S256 s 0xFF800000#32 reduces_S256x256_S256 (.inl rfl) rfl) shapeCasts_S256_S256x1)
    (shapeCast S256x1 (multiReduction .maximumf [1] S256 t 0xFF800000#32 reduces_S256x256_S256 (.inl rfl) rfl) shapeCasts_S256_S256x1)

theorem mx_apply (s : FVec Ideal S256x256 .f32) (t : FVec Ideal S256x256 .f32) (r : Fin 256) :
    mx s t (ix2 r 0) = max (top fun x => s (ix2 r x)) (top fun x => t (ix2 r x)) := by
  pointwise [mx]
  simp only [neg_inf]
  rfl

/-- The weights on the diagonal block. -/
def eD (s : FVec Ideal S256x256 .f32) (m : FVec Ideal S256x1 .f32) : FVec Ideal S256x256 .f32 :=
  exp (subf s (broadcastTo S256x256 m broadcasts_S256x1_S256x256))

theorem eD_apply (s : FVec Ideal S256x256 .f32) (m : FVec Ideal S256x1 .f32) (r x : Fin 256) :
    eD s m (ix2 r x) = Ideal.exp (s (ix2 r x) - m (ix2 r 0)) := by
  pointwise [eD]

/-- The weights on the columns before it. -/
def eP (t : FVec Ideal S256x256 .f32) (m : FVec Ideal S256x1 .f32) : FVec Ideal S256x256 .f32 :=
  exp (subf t (broadcastTo S256x256 m broadcasts_S256x1_S256x256))

theorem eP_apply (t : FVec Ideal S256x256 .f32) (m : FVec Ideal S256x1 .f32) (r : Fin 256) (x : Fin 256) :
    eP t m (ix2 r x) = Ideal.exp (t (ix2 r x) - m (ix2 r 0)) := by
  pointwise [eP]

/-- The sum of a row's weights. -/
def den (a : FVec Ideal S256x256 .f32) (b : FVec Ideal S256x256 .f32) : FVec Ideal S256x1 .f32 :=
  addf (shapeCast S256x1 (multiReduction .add [1] S256 a 0x00000000#32 reduces_S256x256_S256 (.inl rfl) rfl) shapeCasts_S256_S256x1)
    (shapeCast S256x1 (multiReduction .add [1] S256 b 0x00000000#32 reduces_S256x256_S256 (.inl rfl) rfl) shapeCasts_S256_S256x1)

theorem den_apply (a : FVec Ideal S256x256 .f32) (b : FVec Ideal S256x256 .f32) (r : Fin 256) :
    den a b (ix2 r 0) = ∑ x, a (ix2 r x) + ∑ x, b (ix2 r x) := by
  pointwise [den]

/-- The values weighted, both heads one above the other. -/
def cx (W : Vec Ideal S1x128x2048 .f32) (a0 a1 : FVec Ideal S256x256 .f32) (b0 b1 : FVec Ideal S256x256 .f32) : FVec Ideal S512x128 .f32 :=
  addf
    (matmul dot_S512x256_S128x256_S512x128_1_1_0_0_n_n none
      (concatenate S512x256 0 [⟨S256x256, truncf .bf16 a0 bitsLt_bf16_f32⟩, ⟨S256x256, truncf .bf16 a1 bitsLt_bf16_f32⟩] concatenates_S256x256_S256x256_S512x256_d0)
      (extractStridedSlice S128x256 ![0, 256] (k0_pay4 W) slices_S128x2048_o0_256_S128x256) (constant S512x128 .f32 0x00000000#32))
    (matmul dot_S512x256_S128x256_S512x128_1_1_0_0_n_n none
      (concatenate S512x256 0 [⟨S256x256, truncf .bf16 b0 bitsLt_bf16_f32⟩, ⟨S256x256, truncf .bf16 b1 bitsLt_bf16_f32⟩] concatenates_S256x256_S256x256_S512x256_d0)
      (extractStridedSlice S128x256 ![0, 0] (k0_pay4 W) slices_S128x2048_o0_0_S128x256) (constant S512x128 .f32 0x00000000#32))

theorem cx_apply0 (W : Vec Ideal S1x128x2048 .f32) (a0 a1 : FVec Ideal S256x256 .f32) (b0 b1 : FVec Ideal S256x256 .f32) (r : Fin 256) (l : Fin 128) :
    cx W a0 a1 b0 b1 (ix2 ⟨r.val, by omega⟩ l) = ∑ x, a0 (ix2 r x) * W (ix3 0 l ⟨256 + x.val, by omega⟩)
      + ∑ x, b0 (ix2 r x) * W (ix3 0 l ⟨x.val, by omega⟩) := by
  pointwise [cx, k0_pay4]

theorem cx_apply1 (W : Vec Ideal S1x128x2048 .f32) (a0 a1 : FVec Ideal S256x256 .f32) (b0 b1 : FVec Ideal S256x256 .f32) (r : Fin 256) (l : Fin 128) :
    cx W a0 a1 b0 b1 (ix2 ⟨256 + r.val, by omega⟩ l) = ∑ x, a1 (ix2 r x) * W (ix3 0 l ⟨256 + x.val, by omega⟩)
      + ∑ x, b1 (ix2 r x) * W (ix3 0 l ⟨x.val, by omega⟩) := by
  pointwise [cx, k0_pay4]

/-- The block from its loaded operands. -/
def out (w0 w1 : BitVec 32) (q : Vec Ideal S1x256x128 .bf16) (K W : Vec Ideal S1x128x2048 .f32) (g cc : Vec Ideal S1x256x128 .f32)
    (c0 c1 : Vec Ideal S1x1x2048 .f32) : FVec Ideal S1x256x128 .bf16 :=
  let s0 := sD0 (dD q K) (cq w0 cc) c0
  let t0 := sP0 (dP q K) (cq w0 cc) c0
  let m0 := mx s0 t0
  let s1 := sD1 (dD q K) (cq w1 cc) c1
  let t1 := sP1 (dP q K) (cq w1 cc) c1
  let m1 := mx s1 t1
  fin (den (eD s0 m0) (eP t0 m0)) (den (eD s1 m1) (eP t1 m1)) (cx W (eD s0 m0) (eD s1 m1) (eP t0 m0) (eP t1 m1)) g

/-- The block at an index: each head's two-block softmax of its scores, times the logistic function of the gate. -/
theorem out_apply (w0 w1 : BitVec 32) (q : Vec Ideal S1x256x128 .bf16) (K W : Vec Ideal S1x128x2048 .f32) (g cc : Vec Ideal S1x256x128 .f32)
    (c0 c1 : Vec Ideal S1x1x2048 .f32) (h0 h1 : Fin 128) (hw0 : w0 = BitVec.ofNat 32 h0.val) (hw1 : w1 = BitVec.ofNat 32 h1.val)
    (r : Fin 256) (l : Fin 128) :
    out w0 w1 q K W g cc c0 c1 (ix3 0 r l) =
      (if l.val < 64 then
        blk2 (fun x : Fin 256 => if x.val ≤ r.val then rowS q K cc c0 ⟨r.val, by omega⟩ r h0 ⟨256 + x.val, by omega⟩ else ⊥)
          (fun x => W (ix3 0 l ⟨256 + x.val, by omega⟩))
          (fun x : Fin 256 => rowS q K cc c0 ⟨r.val, by omega⟩ r h0 ⟨x.val, by omega⟩) (fun x => W (ix3 0 l ⟨x.val, by omega⟩))
      else
        blk2 (fun x : Fin 256 => if x.val ≤ r.val then rowS q K cc c1 ⟨256 + r.val, by omega⟩ r h1 ⟨256 + x.val, by omega⟩ else ⊥)
          (fun x => W (ix3 0 l ⟨256 + x.val, by omega⟩))
          (fun x : Fin 256 => rowS q K cc c1 ⟨256 + r.val, by omega⟩ r h1 ⟨x.val, by omega⟩) (fun x => W (ix3 0 l ⟨x.val, by omega⟩)))
      * Ideal.div 1 (1 + Ideal.exp (0 - g (ix3 0 r l))) := by
  unfold out
  simp only [fin_apply, den_apply, cx_apply0, cx_apply1, eD_apply, eP_apply, mx_apply, sD0_apply, sD1_apply, sP0_apply, sP1_apply,
    dD_apply, dP_apply, cq_apply w0 cc r h0 hw0, cq_apply w1 cc r h1 hw1, Nat.zero_add]
  rfl

end Cert.KernelIdeal.Fox.B1
-- ==== Proof.FoxBlock2.lean ====
/- Block 2 of the attention kernel: the queries of rows 512 to 767. Each step as operations on arrays, and
   what the block holds at an index: the softmax-weighted sum over its diagonal block and the columns before it. -/
module

public import proofs.«01_k».proof.Proof.FoxStages

@[expose] public section

set_option maxRecDepth 16384

noncomputable section

namespace Cert.KernelIdeal.Fox.B2

open Idealize.ShloMosaic Cert.KernelIdeal Cert.KernelIdeal.Gen Cert.KernelIdeal.Fox Cert.FoxMath

/-- Products of the doubled queries with the keys of the diagonal block. -/
def dD (q : Vec Ideal S1x256x128 .bf16) (K : Vec Ideal S1x128x2048 .f32) : FVec Ideal S512x256 .f32 :=
  matmul dot_S512x128_S128x256_S512x256_1_0_0_1_n_n none (q2 q)
    (extractStridedSlice S128x256 ![0, 512] (k0_pay3 K) slices_S128x2048_o0_512_S128x256) (constant S512x256 .f32 0x00000000#32)

theorem dD_apply (q : Vec Ideal S1x256x128 .bf16) (K : Vec Ideal S1x128x2048 .f32) (r : Fin 512) (x : Fin 256) :
    dD q K (ix2 r x) = ∑ l : Fin 128, q2 q (ix2 r l) * K (ix3 0 l ⟨512 + x.val, by omega⟩) := by
  pointwise [dD, k0_pay3]

/-- Head 0's scores on the diagonal block, masked. -/
def sD0 (d : FVec Ideal S512x256 .f32) (c : FVec Ideal S256x1 .f32) (cr : Vec Ideal S1x1x2048 .f32) : FVec Ideal S256x256 .f32 :=
  select k0_pay5
    (subf (addf (extractStridedSlice S256x256 ![0, 0] d slices_S512x256_o0_0_S256x256) (broadcastTo S256x256 c broadcasts_S256x1_S256x256))
      (broadcastTo S256x256 (extractStridedSlice S1x256 ![0, 512] (shapeCast S1x2048 cr shapeCasts_S1x1x2048_S1x2048) slices_S1x2048_o0_512_S1x256)
        broadcasts_S1x256_S256x256))
    (broadcast S256x256 (Scalar.ofBits .f32 0xFF800000#32))

theorem sD0_apply (d : FVec Ideal S512x256 .f32) (c : FVec Ideal S256x1 .f32) (cr : Vec Ideal S1x1x2048 .f32) (r x : Fin 256) :
    sD0 d c cr (ix2 r x) = if x.val ≤ r.val then d (ix2 ⟨0 + r.val, by omega⟩ x) + c (ix2 r 0) - cr (ix3 0 0 ⟨512 + x.val, by omega⟩) else ⊥ := by
  pointwise [sD0]
  simp only [Scalar.select_def, tri_apply, neg_inf]
  split <;> simp

/-- Head 1's scores on the diagonal block, masked. -/
def sD1 (d : FVec Ideal S512x256 .f32) (c : FVec Ideal S256x1 .f32) (cr : Vec Ideal S1x1x2048 .f32) : FVec Ideal S256x256 .f32 :=
  select k0_pay5
    (subf (addf (extractStridedSlice S256x256 ![256, 0] d slices_S512x256_o256_0_S256x256) (broadcastTo S256x256 c broadcasts_S256x1_S256x256))
      (broadcastTo S256x256 (extractStridedSlice S1x256 ![0, 512] (shapeCast S1x2048 cr shapeCasts_S1x1x2048_S1x2048) slices_S1x2048_o0_512_S1x256)
        broadcasts_S1x256_S256x256))
    (broadcast S256x256 (Scalar.ofBits .f32 0xFF800000#32))

theorem sD1_apply (d : FVec Ideal S512x256 .f32) (c : FVec Ideal S256x1 .f32) (cr : Vec Ideal S1x1x2048 .f32) (r x : Fin 256) :
    sD1 d c cr (ix2 r x) = if x.val ≤ r.val then d (ix2 ⟨256 + r.val, by omega⟩ x) + c (ix2 r 0) - cr (ix3 0 0 ⟨512 + x.val, by omega⟩) else ⊥ := by
  pointwise [sD1]
  simp only [Scalar.select_def, tri_apply, neg_inf]
  split <;> simp

/-- Products of the doubled queries with the keys before the diagonal block. -/
def dP (q : Vec Ideal S1x256x128 .bf16) (K : Vec Ideal S1x128x2048 .f32) : FVec Ideal S512x512 .f32 :=
  matmul dot_S512x128_S128x512_S512x512_1_0_0_1_n_n none (q2 q)
    (extractStridedSlice S128x512 ![0, 0] (k0_pay3 K) slices_S128x2048_o0_0_S128x512) (constant S512x512 .f32 0x00000000#32)

theorem dP_apply (q : Vec Ideal S1x256x128 .bf16) (K : Vec Ideal S1x128x2048 .f32) (r : Fin 512) (x : Fin 512) :
    dP q K (ix2 r x) = ∑ l : Fin 128, q2 q (ix2 r l) * K (ix3 0 l ⟨x.val, by omega⟩) := by
  pointwise [dP, k0_pay3]

/-- Head 0's scores on the columns before the diagonal block. -/
def sP0 (d : FVec Ideal S512x512 .f32) (c : FVec Ideal S256x1 .f32) (cr : Vec Ideal S1x1x2048 .f32) : FVec Ideal S256x512 .f32 :=
  subf (addf (extractStridedSlice S256x512 ![0, 0] d slices_S512x512_o0_0_S256x512) (broadcastTo S256x512 c broadcasts_S256x1_S256x512))
    (broadcastTo S256x512 (extractStridedSlice S1x512 ![0, 0] (shapeCast S1x2048 cr shapeCasts_S1x1x2048_S1x2048) slices_S1x2048_o0_0_S1x512)
      broadcasts_S1x512_S256x512)

theorem sP0_apply (d : FVec Ideal S512x512 .f32) (c : FVec Ideal S256x1 .f32) (cr : Vec Ideal S1x1x2048 .f32) (r : Fin 256) (x : Fin 512) :
    sP0 d c cr (ix2 r x) = d (ix2 ⟨0 + r.val, by omega⟩ x) + c (ix2 r 0) - cr (ix3 0 0 ⟨x.val, by omega⟩) := by
  pointwise [sP0]

/-- Head 1's scores on the columns before the diagonal block. -/
def sP1 (d : FVec Ideal S512x512 .f32) (c : FVec Ideal S256x1 .f32) (cr : Vec Ideal S1x1x2048 .f32) : FVec Ideal S256x512 .f32 :=
  subf (addf (extractStridedSlice S256x512 ![256, 0] d slices_S512x512_o256_0_S256x512) (broadcastTo S256x512 c broadcasts_S256x1_S256x512))
    (broadcastTo S256x512 (extractStridedSlice S1x512 ![0, 0] (shapeCast S1x2048 cr shapeCasts_S1x1x2048_S1x2048) slices_S1x2048_o0_0_S1x512)
      broadcasts_S1x512_S256x512)

theorem sP1_apply (d : FVec Ideal S512x512 .f32) (c : FVec Ideal S256x1 .f32) (cr : Vec Ideal S1x1x2048 .f32) (r : Fin 256) (x : Fin 512) :
    sP1 d c cr (ix2 r x) = d (ix2 ⟨256 + r.val, by omega⟩ x) + c (ix2 r 0) - cr (ix3 0 0 ⟨x.val, by omega⟩) := by
  pointwise [sP1]

/-- The greatest score of each row. -/
def mx (s : FVec Ideal S256x256 .f32) (t : FVec Ideal S256x512 .f32) : FVec Ideal S256x1 .f32 :=
  maximumf (shapeCast S256x1 (multiReduction .maximumf [1] S256 s 0xFF800000#32 reduces_S256x256_S256 (.inl rfl) rfl) shapeCasts_S256_S256x1)
    (shapeCast S256x1 (multiReduction .maximumf [1] S256 t 0xFF800000#32 reduces_S256x512_S256 (.inl rfl) rfl) shapeCasts_S256_S256x1)

theorem mx_apply (s : FVec Ideal S256x256 .f32) (t : FVec Ideal S256x512 .f32) (r : Fin 256) :
    mx s t (ix2 r 0) = max (top fun x => s (ix2 r x)) (top fun x => t (ix2 r x)) := by
  pointwise [mx]
  simp only [neg_inf]
  rfl

/-- The weights on the diagonal block. -/
def eD (s : FVec Ideal S256x256 .f32) (m : FVec Ideal S256x1 .f32) : FVec Ideal S256x256 .f32 :=
  exp (subf s (broadcastTo S256x256 m broadcasts_S256x1_S256x256))

theorem eD_apply (s : FVec Ideal S256x256 .f32) (m : FVec Ideal S256x1 .f32) (r x : Fin 256) :
    eD s m (ix2 r x) = Ideal.exp (s (ix2 r x) - m (ix2 r 0)) := by
  pointwise [eD]

/-- The weights on the columns before it. -/
def eP (t : FVec Ideal S256x512 .f32) (m : FVec Ideal S256x1 .f32) : FVec Ideal S256x512 .f32 :=
  exp (subf t (broadcastTo S256x512 m broadcasts_S256x1_S256x512))

theorem eP_apply (t : FVec Ideal S256x512 .f32) (m : FVec Ideal S256x1 .f32) (r : Fin 256) (x : Fin 512) :
    eP t m (ix2 r x) = Ideal.exp (t (ix2 r x) - m (ix2 r 0)) := by
  pointwise [eP]

/-- The sum of a row's weights. -/
def den (a : FVec Ideal S256x256 .f32) (b : FVec Ideal S256x512 .f32) : FVec Ideal S256x1 .f32 :=
  addf (shapeCast S256x1 (multiReduction .add [1] S256 a 0x00000000#32 reduces_S256x256_S256 (.inl rfl) rfl) shapeCasts_S256_S256x1)
    (shapeCast S256x1 (multiReduction .add [1] S256 b 0x00000000#32 reduces_S256x512_S256 (.inl rfl) rfl) shapeCasts_S256_S256x1)

theorem den_apply (a : FVec Ideal S256x256 .f32) (b : FVec Ideal S256x512 .f32) (r : Fin 256) :
    den a b (ix2 r 0) = ∑ x, a (ix2 r x) + ∑ x, b (ix2 r x) := by
  pointwise [den]

/-- The values weighted, both heads one above the other. -/
def cx (W : Vec Ideal S1x128x2048 .f32) (a0 a1 : FVec Ideal S256x256 .f32) (b0 b1 : FVec Ideal S256x512 .f32) : FVec Ideal S512x128 .f32 :=
  addf
    (matmul dot_S512x256_S128x256_S512x128_1_1_0_0_n_n none
      (concatenate S512x256 0 [⟨S256x256, truncf .bf16 a0 bitsLt_bf16_f32⟩, ⟨S256x256, truncf .bf16 a1 bitsLt_bf16_f32⟩] concatenates_S256x256_S256x256_S512x256_d0)
      (extractStridedSlice S128x256 ![0, 512] (k0_pay4 W) slices_S128x2048_o0_512_S128x256) (constant S512x128 .f32 0x00000000#32))
    (matmul dot_S512x512_S128x512_S512x128_1_1_0_0_n_n none
      (concatenate S512x512 0 [⟨S256x512, truncf .bf16 b0 bitsLt_bf16_f32⟩, ⟨S256x512, truncf .bf16 b1 bitsLt_bf16_f32⟩] concatenates_S256x512_S256x512_S512x512_d0)
      (extractStridedSlice S128x512 ![0, 0] (k0_pay4 W) slices_S128x2048_o0_0_S128x512) (constant S512x128 .f32 0x00000000#32))

theorem cx_apply0 (W : Vec Ideal S1x128x2048 .f32) (a0 a1 : FVec Ideal S256x256 .f32) (b0 b1 : FVec Ideal S256x512 .f32) (r : Fin 256) (l : Fin 128) :
    cx W a0 a1 b0 b1 (ix2 ⟨r.val, by omega⟩ l) = ∑ x, a0 (ix2 r x) * W (ix3 0 l ⟨512 + x.val, by omega⟩)
      + ∑ x, b0 (ix2 r x) * W (ix3 0 l ⟨x.val, by omega⟩) := by
  pointwise [cx, k0_pay4]

theorem cx_apply1 (W : Vec Ideal S1x128x2048 .f32) (a0 a1 : FVec Ideal S256x256 .f32) (b0 b1 : FVec Ideal S256x512 .f32) (r : Fin 256) (l : Fin 128) :
    cx W a0 a1 b0 b1 (ix2 ⟨256 + r.val, by omega⟩ l) = ∑ x, a1 (ix2 r x) * W (ix3 0 l ⟨512 + x.val, by omega⟩)
      + ∑ x, b1 (ix2 r x) * W (ix3 0 l ⟨x.val, by omega⟩) := by
  pointwise [cx, k0_pay4]

/-- The block from its loaded operands. -/
def out (w0 w1 : BitVec 32) (q : Vec Ideal S1x256x128 .bf16) (K W : Vec Ideal S1x128x2048 .f32) (g cc : Vec Ideal S1x256x128 .f32)
    (c0 c1 : Vec Ideal S1x1x2048 .f32) : FVec Ideal S1x256x128 .bf16 :=
  let s0 := sD0 (dD q K) (cq w0 cc) c0
  let t0 := sP0 (dP q K) (cq w0 cc) c0
  let m0 := mx s0 t0
  let s1 := sD1 (dD q K) (cq w1 cc) c1
  let t1 := sP1 (dP q K) (cq w1 cc) c1
  let m1 := mx s1 t1
  fin (den (eD s0 m0) (eP t0 m0)) (den (eD s1 m1) (eP t1 m1)) (cx W (eD s0 m0) (eD s1 m1) (eP t0 m0) (eP t1 m1)) g

/-- The block at an index: each head's two-block softmax of its scores, times the logistic function of the gate. -/
theorem out_apply (w0 w1 : BitVec 32) (q : Vec Ideal S1x256x128 .bf16) (K W : Vec Ideal S1x128x2048 .f32) (g cc : Vec Ideal S1x256x128 .f32)
    (c0 c1 : Vec Ideal S1x1x2048 .f32) (h0 h1 : Fin 128) (hw0 : w0 = BitVec.ofNat 32 h0.val) (hw1 : w1 = BitVec.ofNat 32 h1.val)
    (r : Fin 256) (l : Fin 128) :
    out w0 w1 q K W g cc c0 c1 (ix3 0 r l) =
      (if l.val < 64 then
        blk2 (fun x : Fin 256 => if x.val ≤ r.val then rowS q K cc c0 ⟨r.val, by omega⟩ r h0 ⟨512 + x.val, by omega⟩ else ⊥)
          (fun x => W (ix3 0 l ⟨512 + x.val, by omega⟩))
          (fun x : Fin 512 => rowS q K cc c0 ⟨r.val, by omega⟩ r h0 ⟨x.val, by omega⟩) (fun x => W (ix3 0 l ⟨x.val, by omega⟩))
      else
        blk2 (fun x : Fin 256 => if x.val ≤ r.val then rowS q K cc c1 ⟨256 + r.val, by omega⟩ r h1 ⟨512 + x.val, by omega⟩ else ⊥)
          (fun x => W (ix3 0 l ⟨512 + x.val, by omega⟩))
          (fun x : Fin 512 => rowS q K cc c1 ⟨256 + r.val, by omega⟩ r h1 ⟨x.val, by omega⟩) (fun x => W (ix3 0 l ⟨x.val, by omega⟩)))
      * Ideal.div 1 (1 + Ideal.exp (0 - g (ix3 0 r l))) := by
  unfold out
  simp only [fin_apply, den_apply, cx_apply0, cx_apply1, eD_apply, eP_apply, mx_apply, sD0_apply, sD1_apply, sP0_apply, sP1_apply,
    dD_apply, dP_apply, cq_apply w0 cc r h0 hw0, cq_apply w1 cc r h1 hw1, Nat.zero_add]
  rfl

end Cert.KernelIdeal.Fox.B2
-- ==== Proof.FoxBlock3.lean ====
/- Block 3 of the attention kernel: the queries of rows 768 to 1023. Each step as operations on arrays, and
   what the block holds at an index: the softmax-weighted sum over its diagonal block and the columns before it. -/
module

public import proofs.«01_k».proof.Proof.FoxStages

@[expose] public section

set_option maxRecDepth 16384

noncomputable section

namespace Cert.KernelIdeal.Fox.B3

open Idealize.ShloMosaic Cert.KernelIdeal Cert.KernelIdeal.Gen Cert.KernelIdeal.Fox Cert.FoxMath

/-- Products of the doubled queries with the keys of the diagonal block. -/
def dD (q : Vec Ideal S1x256x128 .bf16) (K : Vec Ideal S1x128x2048 .f32) : FVec Ideal S512x256 .f32 :=
  matmul dot_S512x128_S128x256_S512x256_1_0_0_1_n_n none (q2 q)
    (extractStridedSlice S128x256 ![0, 768] (k0_pay3 K) slices_S128x2048_o0_768_S128x256) (constant S512x256 .f32 0x00000000#32)

theorem dD_apply (q : Vec Ideal S1x256x128 .bf16) (K : Vec Ideal S1x128x2048 .f32) (r : Fin 512) (x : Fin 256) :
    dD q K (ix2 r x) = ∑ l : Fin 128, q2 q (ix2 r l) * K (ix3 0 l ⟨768 + x.val, by omega⟩) := by
  pointwise [dD, k0_pay3]

/-- Head 0's scores on the diagonal block, masked. -/
def sD0 (d : FVec Ideal S512x256 .f32) (c : FVec Ideal S256x1 .f32) (cr : Vec Ideal S1x1x2048 .f32) : FVec Ideal S256x256 .f32 :=
  select k0_pay5
    (subf (addf (extractStridedSlice S256x256 ![0, 0] d slices_S512x256_o0_0_S256x256) (broadcastTo S256x256 c broadcasts_S256x1_S256x256))
      (broadcastTo S256x256 (extractStridedSlice S1x256 ![0, 768] (shapeCast S1x2048 cr shapeCasts_S1x1x2048_S1x2048) slices_S1x2048_o0_768_S1x256)
        broadcasts_S1x256_S256x256))
    (broadcast S256x256 (Scalar.ofBits .f32 0xFF800000#32))

theorem sD0_apply (d : FVec Ideal S512x256 .f32) (c : FVec Ideal S256x1 .f32) (cr : Vec Ideal S1x1x2048 .f32) (r x : Fin 256) :
    sD0 d c cr (ix2 r x) = if x.val ≤ r.val then d (ix2 ⟨0 + r.val, by omega⟩ x) + c (ix2 r 0) - cr (ix3 0 0 ⟨768 + x.val, by omega⟩) else ⊥ := by
  pointwise [sD0]
  simp only [Scalar.select_def, tri_apply, neg_inf]
  split <;> simp

/-- Head 1's scores on the diagonal block, masked. -/
def sD1 (d : FVec Ideal S512x256 .f32) (c : FVec Ideal S256x1 .f32) (cr : Vec Ideal S1x1x2048 .f32) : FVec Ideal S256x256 .f32 :=
  select k0_pay5
    (subf (addf (extractStridedSlice S256x256 ![256, 0] d slices_S512x256_o256_0_S256x256) (broadcastTo S256x256 c broadcasts_S256x1_S256x256))
      (broadcastTo S256x256 (extractStridedSlice S1x256 ![0, 768] (shapeCast S1x2048 cr shapeCasts_S1x1x2048_S1x2048) slices_S1x2048_o0_768_S1x256)
        broadcasts_S1x256_S256x256))
    (broadcast S256x256 (Scalar.ofBits .f32 0xFF800000#32))

theorem sD1_apply (d : FVec Ideal S512x256 .f32) (c : FVec Ideal S256x1 .f32) (cr : Vec Ideal S1x1x2048 .f32) (r x : Fin 256) :
    sD1 d c cr (ix2 r x) = if x.val ≤ r.val then d (ix2 ⟨256 + r.val, by omega⟩ x) + c (ix2 r 0) - cr (ix3 0 0 ⟨768 + x.val, by omega⟩) else ⊥ := by
  pointwise [sD1]
  simp only [Scalar.select_def, tri_apply, neg_inf]
  split <;> simp

/-- Products of the doubled queries with the keys before the diagonal block. -/
def dP (q : Vec Ideal S1x256x128 .bf16) (K : Vec Ideal S1x128x2048 .f32) : FVec Ideal S512x768 .f32 :=
  matmul dot_S512x128_S128x768_S512x768_1_0_0_1_n_n none (q2 q)
    (extractStridedSlice S128x768 ![0, 0] (k0_pay3 K) slices_S128x2048_o0_0_S128x768) (constant S512x768 .f32 0x00000000#32)

theorem dP_apply (q : Vec Ideal S1x256x128 .bf16) (K : Vec Ideal S1x128x2048 .f32) (r : Fin 512) (x : Fin 768) :
    dP q K (ix2 r x) = ∑ l : Fin 128, q2 q (ix2 r l) * K (ix3 0 l ⟨x.val, by omega⟩) := by
  pointwise [dP, k0_pay3]

/-- Head 0's scores on the columns before the diagonal block. -/
def sP0 (d : FVec Ideal S512x768 .f32) (c : FVec Ideal S256x1 .f32) (cr : Vec Ideal S1x1x2048 .f32) : FVec Ideal S256x768 .f32 :=
  subf (addf (extractStridedSlice S256x768 ![0, 0] d slices_S512x768_o0_0_S256x768) (broadcastTo S256x768 c broadcasts_S256x1_S256x768))
    (broadcastTo S256x768 (extractStridedSlice S1x768 ![0, 0] (shapeCast S1x2048 cr shapeCasts_S1x1x2048_S1x2048) slices_S1x2048_o0_0_S1x768)
      broadcasts_S1x768_S256x768)

theorem sP0_apply (d : FVec Ideal S512x768 .f32) (c : FVec Ideal S256x1 .f32) (cr : Vec Ideal S1x1x2048 .f32) (r : Fin 256) (x : Fin 768) :
    sP0 d c cr (ix2 r x) = d (ix2 ⟨0 + r.val, by omega⟩ x) + c (ix2 r 0) - cr (ix3 0 0 ⟨x.val, by omega⟩) := by
  pointwise [sP0]

/-- Head 1's scores on the columns before the diagonal block. -/
def sP1 (d : FVec Ideal S512x768 .f32) (c : FVec Ideal S256x1 .f32) (cr : Vec Ideal S1x1x2048 .f32) : FVec Ideal S256x768 .f32 :=
  subf (addf (extractStridedSlice S256x768 ![256, 0] d slices_S512x768_o256_0_S256x768) (broadcastTo S256x768 c broadcasts_S256x1_S256x768))
    (broadcastTo S256x768 (extractStridedSlice S1x768 ![0, 0] (shapeCast S1x2048 cr shapeCasts_S1x1x2048_S1x2048) slices_S1x2048_o0_0_S1x768)
      broadcasts_S1x768_S256x768)

theorem sP1_apply (d : FVec Ideal S512x768 .f32) (c : FVec Ideal S256x1 .f32) (cr : Vec Ideal S1x1x2048 .f32) (r : Fin 256) (x : Fin 768) :
    sP1 d c cr (ix2 r x) = d (ix2 ⟨256 + r.val, by omega⟩ x) + c (ix2 r 0) - cr (ix3 0 0 ⟨x.val, by omega⟩) := by
  pointwise [sP1]

/-- The greatest score of each row. -/
def mx (s : FVec Ideal S256x256 .f32) (t : FVec Ideal S256x768 .f32) : FVec Ideal S256x1 .f32 :=
  maximumf (shapeCast S256x1 (multiReduction .maximumf [1] S256 s 0xFF800000#32 reduces_S256x256_S256 (.inl rfl) rfl) shapeCasts_S256_S256x1)
    (shapeCast S256x1 (multiReduction .maximumf [1] S256 t 0xFF800000#32 reduces_S256x768_S256 (.inl rfl) rfl) shapeCasts_S256_S256x1)

theorem mx_apply (s : FVec Ideal S256x256 .f32) (t : FVec Ideal S256x768 .f32) (r : Fin 256) :
    mx s t (ix2 r 0) = max (top fun x => s (ix2 r x)) (top fun x => t (ix2 r x)) := by
  pointwise [mx]
  simp only [neg_inf]
  rfl

/-- The weights on the diagonal block. -/
def eD (s : FVec Ideal S256x256 .f32) (m : FVec Ideal S256x1 .f32) : FVec Ideal S256x256 .f32 :=
  exp (subf s (broadcastTo S256x256 m broadcasts_S256x1_S256x256))

theorem eD_apply (s : FVec Ideal S256x256 .f32) (m : FVec Ideal S256x1 .f32) (r x : Fin 256) :
    eD s m (ix2 r x) = Ideal.exp (s (ix2 r x) - m (ix2 r 0)) := by
  pointwise [eD]

/-- The weights on the columns before it. -/
def eP (t : FVec Ideal S256x768 .f32) (m : FVec Ideal S256x1 .f32) : FVec Ideal S256x768 .f32 :=
  exp (subf t (broadcastTo S256x768 m broadcasts_S256x1_S256x768))

theorem eP_apply (t : FVec Ideal S256x768 .f32) (m : FVec Ideal S256x1 .f32) (r : Fin 256) (x : Fin 768) :
    eP t m (ix2 r x) = Ideal.exp (t (ix2 r x) - m (ix2 r 0)) := by
  pointwise [eP]

/-- The sum of a row's weights. -/
def den (a : FVec Ideal S256x256 .f32) (b : FVec Ideal S256x768 .f32) : FVec Ideal S256x1 .f32 :=
  addf (shapeCast S256x1 (multiReduction .add [1] S256 a 0x00000000#32 reduces_S256x256_S256 (.inl rfl) rfl) shapeCasts_S256_S256x1)
    (shapeCast S256x1 (multiReduction .add [1] S256 b 0x00000000#32 reduces_S256x768_S256 (.inl rfl) rfl) shapeCasts_S256_S256x1)

theorem den_apply (a : FVec Ideal S256x256 .f32) (b : FVec Ideal S256x768 .f32) (r : Fin 256) :
    den a b (ix2 r 0) = ∑ x, a (ix2 r x) + ∑ x, b (ix2 r x) := by
  pointwise [den]

/-- The values weighted, both heads one above the other. -/
def cx (W : Vec Ideal S1x128x2048 .f32) (a0 a1 : FVec Ideal S256x256 .f32) (b0 b1 : FVec Ideal S256x768 .f32) : FVec Ideal S512x128 .f32 :=
  addf
    (matmul dot_S512x256_S128x256_S512x128_1_1_0_0_n_n none
      (concatenate S512x256 0 [⟨S256x256, truncf .bf16 a0 bitsLt_bf16_f32⟩, ⟨S256x256, truncf .bf16 a1 bitsLt_bf16_f32⟩] concatenates_S256x256_S256x256_S512x256_d0)
      (extractStridedSlice S128x256 ![0, 768] (k0_pay4 W) slices_S128x2048_o0_768_S128x256) (constant S512x128 .f32 0x00000000#32))
    (matmul dot_S512x768_S128x768_S512x128_1_1_0_0_n_n none
      (concatenate S512x768 0 [⟨S256x768, truncf .bf16 b0 bitsLt_bf16_f32⟩, ⟨S256x768, truncf .bf16 b1 bitsLt_bf16_f32⟩] concatenates_S256x768_S256x768_S512x768_d0)
      (extractStridedSlice S128x768 ![0, 0] (k0_pay4 W) slices_S128x2048_o0_0_S128x768) (constant S512x128 .f32 0x00000000#32))

theorem cx_apply0 (W : Vec Ideal S1x128x2048 .f32) (a0 a1 : FVec Ideal S256x256 .f32) (b0 b1 : FVec Ideal S256x768 .f32) (r : Fin 256) (l : Fin 128) :
    cx W a0 a1 b0 b1 (ix2 ⟨r.val, by omega⟩ l) = ∑ x, a0 (ix2 r x) * W (ix3 0 l ⟨768 + x.val, by omega⟩)
      + ∑ x, b0 (ix2 r x) * W (ix3 0 l ⟨x.val, by omega⟩) := by
  pointwise [cx, k0_pay4]

theorem cx_apply1 (W : Vec Ideal S1x128x2048 .f32) (a0 a1 : FVec Ideal S256x256 .f32) (b0 b1 : FVec Ideal S256x768 .f32) (r : Fin 256) (l : Fin 128) :
    cx W a0 a1 b0 b1 (ix2 ⟨256 + r.val, by omega⟩ l) = ∑ x, a1 (ix2 r x) * W (ix3 0 l ⟨768 + x.val, by omega⟩)
      + ∑ x, b1 (ix2 r x) * W (ix3 0 l ⟨x.val, by omega⟩) := by
  pointwise [cx, k0_pay4]

/-- The block from its loaded operands. -/
def out (w0 w1 : BitVec 32) (q : Vec Ideal S1x256x128 .bf16) (K W : Vec Ideal S1x128x2048 .f32) (g cc : Vec Ideal S1x256x128 .f32)
    (c0 c1 : Vec Ideal S1x1x2048 .f32) : FVec Ideal S1x256x128 .bf16 :=
  let s0 := sD0 (dD q K) (cq w0 cc) c0
  let t0 := sP0 (dP q K) (cq w0 cc) c0
  let m0 := mx s0 t0
  let s1 := sD1 (dD q K) (cq w1 cc) c1
  let t1 := sP1 (dP q K) (cq w1 cc) c1
  let m1 := mx s1 t1
  fin (den (eD s0 m0) (eP t0 m0)) (den (eD s1 m1) (eP t1 m1)) (cx W (eD s0 m0) (eD s1 m1) (eP t0 m0) (eP t1 m1)) g

/-- The block at an index: each head's two-block softmax of its scores, times the logistic function of the gate. -/
theorem out_apply (w0 w1 : BitVec 32) (q : Vec Ideal S1x256x128 .bf16) (K W : Vec Ideal S1x128x2048 .f32) (g cc : Vec Ideal S1x256x128 .f32)
    (c0 c1 : Vec Ideal S1x1x2048 .f32) (h0 h1 : Fin 128) (hw0 : w0 = BitVec.ofNat 32 h0.val) (hw1 : w1 = BitVec.ofNat 32 h1.val)
    (r : Fin 256) (l : Fin 128) :
    out w0 w1 q K W g cc c0 c1 (ix3 0 r l) =
      (if l.val < 64 then
        blk2 (fun x : Fin 256 => if x.val ≤ r.val then rowS q K cc c0 ⟨r.val, by omega⟩ r h0 ⟨768 + x.val, by omega⟩ else ⊥)
          (fun x => W (ix3 0 l ⟨768 + x.val, by omega⟩))
          (fun x : Fin 768 => rowS q K cc c0 ⟨r.val, by omega⟩ r h0 ⟨x.val, by omega⟩) (fun x => W (ix3 0 l ⟨x.val, by omega⟩))
      else
        blk2 (fun x : Fin 256 => if x.val ≤ r.val then rowS q K cc c1 ⟨256 + r.val, by omega⟩ r h1 ⟨768 + x.val, by omega⟩ else ⊥)
          (fun x => W (ix3 0 l ⟨768 + x.val, by omega⟩))
          (fun x : Fin 768 => rowS q K cc c1 ⟨256 + r.val, by omega⟩ r h1 ⟨x.val, by omega⟩) (fun x => W (ix3 0 l ⟨x.val, by omega⟩)))
      * Ideal.div 1 (1 + Ideal.exp (0 - g (ix3 0 r l))) := by
  unfold out
  simp only [fin_apply, den_apply, cx_apply0, cx_apply1, eD_apply, eP_apply, mx_apply, sD0_apply, sD1_apply, sP0_apply, sP1_apply,
    dD_apply, dP_apply, cq_apply w0 cc r h0 hw0, cq_apply w1 cc r h1 hw1, Nat.zero_add]
  rfl

end Cert.KernelIdeal.Fox.B3
-- ==== Proof.FoxBlock4.lean ====
/- Block 4 of the attention kernel: the queries of rows 1024 to 1279. Each step as operations on arrays, and
   what the block holds at an index: the softmax-weighted sum over its diagonal block and the columns before it. -/
module

public import proofs.«01_k».proof.Proof.FoxStages

@[expose] public section

set_option maxRecDepth 16384

noncomputable section

namespace Cert.KernelIdeal.Fox.B4

open Idealize.ShloMosaic Cert.KernelIdeal Cert.KernelIdeal.Gen Cert.KernelIdeal.Fox Cert.FoxMath

/-- Products of the doubled queries with the keys of the diagonal block. -/
def dD (q : Vec Ideal S1x256x128 .bf16) (K : Vec Ideal S1x128x2048 .f32) : FVec Ideal S512x256 .f32 :=
  matmul dot_S512x128_S128x256_S512x256_1_0_0_1_n_n none (q2 q)
    (extractStridedSlice S128x256 ![0, 1024] (k0_pay3 K) slices_S128x2048_o0_1024_S128x256) (constant S512x256 .f32 0x00000000#32)

theorem dD_apply (q : Vec Ideal S1x256x128 .bf16) (K : Vec Ideal S1x128x2048 .f32) (r : Fin 512) (x : Fin 256) :
    dD q K (ix2 r x) = ∑ l : Fin 128, q2 q (ix2 r l) * K (ix3 0 l ⟨1024 + x.val, by omega⟩) := by
  pointwise [dD, k0_pay3]

/-- Head 0's scores on the diagonal block, masked. -/
def sD0 (d : FVec Ideal S512x256 .f32) (c : FVec Ideal S256x1 .f32) (cr : Vec Ideal S1x1x2048 .f32) : FVec Ideal S256x256 .f32 :=
  select k0_pay5
    (subf (addf (extractStridedSlice S256x256 ![0, 0] d slices_S512x256_o0_0_S256x256) (broadcastTo S256x256 c broadcasts_S256x1_S256x256))
      (broadcastTo S256x256 (extractStridedSlice S1x256 ![0, 1024] (shapeCast S1x2048 cr shapeCasts_S1x1x2048_S1x2048) slices_S1x2048_o0_1024_S1x256)
        broadcasts_S1x256_S256x256))
    (broadcast S256x256 (Scalar.ofBits .f32 0xFF800000#32))

theorem sD0_apply (d : FVec Ideal S512x256 .f32) (c : FVec Ideal S256x1 .f32) (cr : Vec Ideal S1x1x2048 .f32) (r x : Fin 256) :
    sD0 d c cr (ix2 r x) = if x.val ≤ r.val then d (ix2 ⟨0 + r.val, by omega⟩ x) + c (ix2 r 0) - cr (ix3 0 0 ⟨1024 + x.val, by omega⟩) else ⊥ := by
  pointwise [sD0]
  simp only [Scalar.select_def, tri_apply, neg_inf]
  split <;> simp

/-- Head 1's scores on the diagonal block, masked. -/
def sD1 (d : FVec Ideal S512x256 .f32) (c : FVec Ideal S256x1 .f32) (cr : Vec Ideal S1x1x2048 .f32) : FVec Ideal S256x256 .f32 :=
  select k0_pay5
    (subf (addf (extractStridedSlice S256x256 ![256, 0] d slices_S512x256_o256_0_S256x256) (broadcastTo S256x256 c broadcasts_S256x1_S256x256))
      (broadcastTo S256x256 (extractStridedSlice S1x256 ![0, 1024] (shapeCast S1x2048 cr shapeCasts_S1x1x2048_S1x2048) slices_S1x2048_o0_1024_S1x256)
        broadcasts_S1x256_S256x256))
    (broadcast S256x256 (Scalar.ofBits .f32 0xFF800000#32))

theorem sD1_apply (d : FVec Ideal S512x256 .f32) (c : FVec Ideal S256x1 .f32) (cr : Vec Ideal S1x1x2048 .f32) (r x : Fin 256) :
    sD1 d c cr (ix2 r x) = if x.val ≤ r.val then d (ix2 ⟨256 + r.val, by omega⟩ x) + c (ix2 r 0) - cr (ix3 0 0 ⟨1024 + x.val, by omega⟩) else ⊥ := by
  pointwise [sD1]
  simp only [Scalar.select_def, tri_apply, neg_inf]
  split <;> simp

/-- Products of the doubled queries with the keys before the diagonal block. -/
def dP (q : Vec Ideal S1x256x128 .bf16) (K : Vec Ideal S1x128x2048 .f32) : FVec Ideal S512x1024 .f32 :=
  matmul dot_S512x128_S128x1024_S512x1024_1_0_0_1_n_n none (q2 q)
    (extractStridedSlice S128x1024 ![0, 0] (k0_pay3 K) slices_S128x2048_o0_0_S128x1024) (constant S512x1024 .f32 0x00000000#32)

theorem dP_apply (q : Vec Ideal S1x256x128 .bf16) (K : Vec Ideal S1x128x2048 .f32) (r : Fin 512) (x : Fin 1024) :
    dP q K (ix2 r x) = ∑ l : Fin 128, q2 q (ix2 r l) * K (ix3 0 l ⟨x.val, by omega⟩) := by
  pointwise [dP, k0_pay3]

/-- Head 0's scores on the columns before the diagonal block. -/
def sP0 (d : FVec Ideal S512x1024 .f32) (c : FVec Ideal S256x1 .f32) (cr : Vec Ideal S1x1x2048 .f32) : FVec Ideal S256x1024 .f32 :=
  subf (addf (extractStridedSlice S256x1024 ![0, 0] d slices_S512x1024_o0_0_S256x1024) (broadcastTo S256x1024 c broadcasts_S256x1_S256x1024))
    (broadcastTo S256x1024 (extractStridedSlice S1x1024 ![0, 0] (shapeCast S1x2048 cr shapeCasts_S1x1x2048_S1x2048) slices_S1x2048_o0_0_S1x1024)
      broadcasts_S1x1024_S256x1024)

theorem sP0_apply (d : FVec Ideal S512x1024 .f32) (c : FVec Ideal S256x1 .f32) (cr : Vec Ideal S1x1x2048 .f32) (r : Fin 256) (x : Fin 1024) :
    sP0 d c cr (ix2 r x) = d (ix2 ⟨0 + r.val, by omega⟩ x) + c (ix2 r 0) - cr (ix3 0 0 ⟨x.val, by omega⟩) := by
  pointwise [sP0]

/-- Head 1's scores on the columns before the diagonal block. -/
def sP1 (d : FVec Ideal S512x1024 .f32) (c : FVec Ideal S256x1 .f32) (cr : Vec Ideal S1x1x2048 .f32) : FVec Ideal S256x1024 .f32 :=
  subf (addf (extractStridedSlice S256x1024 ![256, 0] d slices_S512x1024_o256_0_S256x1024) (broadcastTo S256x1024 c broadcasts_S256x1_S256x1024))
    (broadcastTo S256x1024 (extractStridedSlice S1x1024 ![0, 0] (shapeCast S1x2048 cr shapeCasts_S1x1x2048_S1x2048) slices_S1x2048_o0_0_S1x1024)
      broadcasts_S1x1024_S256x1024)

theorem sP1_apply (d : FVec Ideal S512x1024 .f32) (c : FVec Ideal S256x1 .f32) (cr : Vec Ideal S1x1x2048 .f32) (r : Fin 256) (x : Fin 1024) :
    sP1 d c cr (ix2 r x) = d (ix2 ⟨256 + r.val, by omega⟩ x) + c (ix2 r 0) - cr (ix3 0 0 ⟨x.val, by omega⟩) := by
  pointwise [sP1]

/-- The greatest score of each row. -/
def mx (s : FVec Ideal S256x256 .f32) (t : FVec Ideal S256x1024 .f32) : FVec Ideal S256x1 .f32 :=
  maximumf (shapeCast S256x1 (multiReduction .maximumf [1] S256 s 0xFF800000#32 reduces_S256x256_S256 (.inl rfl) rfl) shapeCasts_S256_S256x1)
    (shapeCast S256x1 (multiReduction .maximumf [1] S256 t 0xFF800000#32 reduces_S256x1024_S256 (.inl rfl) rfl) shapeCasts_S256_S256x1)

theorem mx_apply (s : FVec Ideal S256x256 .f32) (t : FVec Ideal S256x1024 .f32) (r : Fin 256) :
    mx s t (ix2 r 0) = max (top fun x => s (ix2 r x)) (top fun x => t (ix2 r x)) := by
  pointwise [mx]
  simp only [neg_inf]
  rfl

/-- The weights on the diagonal block. -/
def eD (s : FVec Ideal S256x256 .f32) (m : FVec Ideal S256x1 .f32) : FVec Ideal S256x256 .f32 :=
  exp (subf s (broadcastTo S256x256 m broadcasts_S256x1_S256x256))

theorem eD_apply (s : FVec Ideal S256x256 .f32) (m : FVec Ideal S256x1 .f32) (r x : Fin 256) :
    eD s m (ix2 r x) = Ideal.exp (s (ix2 r x) - m (ix2 r 0)) := by
  pointwise [eD]

/-- The weights on the columns before it. -/
def eP (t : FVec Ideal S256x1024 .f32) (m : FVec Ideal S256x1 .f32) : FVec Ideal S256x1024 .f32 :=
  exp (subf t (broadcastTo S256x1024 m broadcasts_S256x1_S256x1024))

theorem eP_apply (t : FVec Ideal S256x1024 .f32) (m : FVec Ideal S256x1 .f32) (r : Fin 256) (x : Fin 1024) :
    eP t m (ix2 r x) = Ideal.exp (t (ix2 r x) - m (ix2 r 0)) := by
  pointwise [eP]

/-- The sum of a row's weights. -/
def den (a : FVec Ideal S256x256 .f32) (b : FVec Ideal S256x1024 .f32) : FVec Ideal S256x1 .f32 :=
  addf (shapeCast S256x1 (multiReduction .add [1] S256 a 0x00000000#32 reduces_S256x256_S256 (.inl rfl) rfl) shapeCasts_S256_S256x1)
    (shapeCast S256x1 (multiReduction .add [1] S256 b 0x00000000#32 reduces_S256x1024_S256 (.inl rfl) rfl) shapeCasts_S256_S256x1)

theorem den_apply (a : FVec Ideal S256x256 .f32) (b : FVec Ideal S256x1024 .f32) (r : Fin 256) :
    den a b (ix2 r 0) = ∑ x, a (ix2 r x) + ∑ x, b (ix2 r x) := by
  pointwise [den]

/-- The values weighted, both heads one above the other. -/
def cx (W : Vec Ideal S1x128x2048 .f32) (a0 a1 : FVec Ideal S256x256 .f32) (b0 b1 : FVec Ideal S256x1024 .f32) : FVec Ideal S512x128 .f32 :=
  addf
    (matmul dot_S512x256_S128x256_S512x128_1_1_0_0_n_n none
      (concatenate S512x256 0 [⟨S256x256, truncf .bf16 a0 bitsLt_bf16_f32⟩, ⟨S256x256, truncf .bf16 a1 bitsLt_bf16_f32⟩] concatenates_S256x256_S256x256_S512x256_d0)
      (extractStridedSlice S128x256 ![0, 1024] (k0_pay4 W) slices_S128x2048_o0_1024_S128x256) (constant S512x128 .f32 0x00000000#32))
    (matmul dot_S512x1024_S128x1024_S512x128_1_1_0_0_n_n none
      (concatenate S512x1024 0 [⟨S256x1024, truncf .bf16 b0 bitsLt_bf16_f32⟩, ⟨S256x1024, truncf .bf16 b1 bitsLt_bf16_f32⟩] concatenates_S256x1024_S256x1024_S512x1024_d0)
      (extractStridedSlice S128x1024 ![0, 0] (k0_pay4 W) slices_S128x2048_o0_0_S128x1024) (constant S512x128 .f32 0x00000000#32))

theorem cx_apply0 (W : Vec Ideal S1x128x2048 .f32) (a0 a1 : FVec Ideal S256x256 .f32) (b0 b1 : FVec Ideal S256x1024 .f32) (r : Fin 256) (l : Fin 128) :
    cx W a0 a1 b0 b1 (ix2 ⟨r.val, by omega⟩ l) = ∑ x, a0 (ix2 r x) * W (ix3 0 l ⟨1024 + x.val, by omega⟩)
      + ∑ x, b0 (ix2 r x) * W (ix3 0 l ⟨x.val, by omega⟩) := by
  pointwise [cx, k0_pay4]

theorem cx_apply1 (W : Vec Ideal S1x128x2048 .f32) (a0 a1 : FVec Ideal S256x256 .f32) (b0 b1 : FVec Ideal S256x1024 .f32) (r : Fin 256) (l : Fin 128) :
    cx W a0 a1 b0 b1 (ix2 ⟨256 + r.val, by omega⟩ l) = ∑ x, a1 (ix2 r x) * W (ix3 0 l ⟨1024 + x.val, by omega⟩)
      + ∑ x, b1 (ix2 r x) * W (ix3 0 l ⟨x.val, by omega⟩) := by
  pointwise [cx, k0_pay4]

/-- The block from its loaded operands. -/
def out (w0 w1 : BitVec 32) (q : Vec Ideal S1x256x128 .bf16) (K W : Vec Ideal S1x128x2048 .f32) (g cc : Vec Ideal S1x256x128 .f32)
    (c0 c1 : Vec Ideal S1x1x2048 .f32) : FVec Ideal S1x256x128 .bf16 :=
  let s0 := sD0 (dD q K) (cq w0 cc) c0
  let t0 := sP0 (dP q K) (cq w0 cc) c0
  let m0 := mx s0 t0
  let s1 := sD1 (dD q K) (cq w1 cc) c1
  let t1 := sP1 (dP q K) (cq w1 cc) c1
  let m1 := mx s1 t1
  fin (den (eD s0 m0) (eP t0 m0)) (den (eD s1 m1) (eP t1 m1)) (cx W (eD s0 m0) (eD s1 m1) (eP t0 m0) (eP t1 m1)) g

/-- The block at an index: each head's two-block softmax of its scores, times the logistic function of the gate. -/
theorem out_apply (w0 w1 : BitVec 32) (q : Vec Ideal S1x256x128 .bf16) (K W : Vec Ideal S1x128x2048 .f32) (g cc : Vec Ideal S1x256x128 .f32)
    (c0 c1 : Vec Ideal S1x1x2048 .f32) (h0 h1 : Fin 128) (hw0 : w0 = BitVec.ofNat 32 h0.val) (hw1 : w1 = BitVec.ofNat 32 h1.val)
    (r : Fin 256) (l : Fin 128) :
    out w0 w1 q K W g cc c0 c1 (ix3 0 r l) =
      (if l.val < 64 then
        blk2 (fun x : Fin 256 => if x.val ≤ r.val then rowS q K cc c0 ⟨r.val, by omega⟩ r h0 ⟨1024 + x.val, by omega⟩ else ⊥)
          (fun x => W (ix3 0 l ⟨1024 + x.val, by omega⟩))
          (fun x : Fin 1024 => rowS q K cc c0 ⟨r.val, by omega⟩ r h0 ⟨x.val, by omega⟩) (fun x => W (ix3 0 l ⟨x.val, by omega⟩))
      else
        blk2 (fun x : Fin 256 => if x.val ≤ r.val then rowS q K cc c1 ⟨256 + r.val, by omega⟩ r h1 ⟨1024 + x.val, by omega⟩ else ⊥)
          (fun x => W (ix3 0 l ⟨1024 + x.val, by omega⟩))
          (fun x : Fin 1024 => rowS q K cc c1 ⟨256 + r.val, by omega⟩ r h1 ⟨x.val, by omega⟩) (fun x => W (ix3 0 l ⟨x.val, by omega⟩)))
      * Ideal.div 1 (1 + Ideal.exp (0 - g (ix3 0 r l))) := by
  unfold out
  simp only [fin_apply, den_apply, cx_apply0, cx_apply1, eD_apply, eP_apply, mx_apply, sD0_apply, sD1_apply, sP0_apply, sP1_apply,
    dD_apply, dP_apply, cq_apply w0 cc r h0 hw0, cq_apply w1 cc r h1 hw1, Nat.zero_add]
  rfl

end Cert.KernelIdeal.Fox.B4
-- ==== Proof.FoxBlock5.lean ====
/- Block 5 of the attention kernel: the queries of rows 1280 to 1535. Each step as operations on arrays, and
   what the block holds at an index: the softmax-weighted sum over its diagonal block and the columns before it. -/
module

public import proofs.«01_k».proof.Proof.FoxStages

@[expose] public section

set_option maxRecDepth 16384

noncomputable section

namespace Cert.KernelIdeal.Fox.B5

open Idealize.ShloMosaic Cert.KernelIdeal Cert.KernelIdeal.Gen Cert.KernelIdeal.Fox Cert.FoxMath

/-- Products of the doubled queries with the keys of the diagonal block. -/
def dD (q : Vec Ideal S1x256x128 .bf16) (K : Vec Ideal S1x128x2048 .f32) : FVec Ideal S512x256 .f32 :=
  matmul dot_S512x128_S128x256_S512x256_1_0_0_1_n_n none (q2 q)
    (extractStridedSlice S128x256 ![0, 1280] (k0_pay3 K) slices_S128x2048_o0_1280_S128x256) (constant S512x256 .f32 0x00000000#32)

theorem dD_apply (q : Vec Ideal S1x256x128 .bf16) (K : Vec Ideal S1x128x2048 .f32) (r : Fin 512) (x : Fin 256) :
    dD q K (ix2 r x) = ∑ l : Fin 128, q2 q (ix2 r l) * K (ix3 0 l ⟨1280 + x.val, by omega⟩) := by
  pointwise [dD, k0_pay3]

/-- Head 0's scores on the diagonal block, masked. -/
def sD0 (d : FVec Ideal S512x256 .f32) (c : FVec Ideal S256x1 .f32) (cr : Vec Ideal S1x1x2048 .f32) : FVec Ideal S256x256 .f32 :=
  select k0_pay5
    (subf (addf (extractStridedSlice S256x256 ![0, 0] d slices_S512x256_o0_0_S256x256) (broadcastTo S256x256 c broadcasts_S256x1_S256x256))
      (broadcastTo S256x256 (extractStridedSlice S1x256 ![0, 1280] (shapeCast S1x2048 cr shapeCasts_S1x1x2048_S1x2048) slices_S1x2048_o0_1280_S1x256)
        broadcasts_S1x256_S256x256))
    (broadcast S256x256 (Scalar.ofBits .f32 0xFF800000#32))

theorem sD0_apply (d : FVec Ideal S512x256 .f32) (c : FVec Ideal S256x1 .f32) (cr : Vec Ideal S1x1x2048 .f32) (r x : Fin 256) :
    sD0 d c cr (ix2 r x) = if x.val ≤ r.val then d (ix2 ⟨0 + r.val, by omega⟩ x) + c (ix2 r 0) - cr (ix3 0 0 ⟨1280 + x.val, by omega⟩) else ⊥ := by
  pointwise [sD0]
  simp only [Scalar.select_def, tri_apply, neg_inf]
  split <;> simp

/-- Head 1's scores on the diagonal block, masked. -/
def sD1 (d : FVec Ideal S512x256 .f32) (c : FVec Ideal S256x1 .f32) (cr : Vec Ideal S1x1x2048 .f32) : FVec Ideal S256x256 .f32 :=
  select k0_pay5
    (subf (addf (extractStridedSlice S256x256 ![256, 0] d slices_S512x256_o256_0_S256x256) (broadcastTo S256x256 c broadcasts_S256x1_S256x256))
      (broadcastTo S256x256 (extractStridedSlice S1x256 ![0, 1280] (shapeCast S1x2048 cr shapeCasts_S1x1x2048_S1x2048) slices_S1x2048_o0_1280_S1x256)
        broadcasts_S1x256_S256x256))
    (broadcast S256x256 (Scalar.ofBits .f32 0xFF800000#32))

theorem sD1_apply (d : FVec Ideal S512x256 .f32) (c : FVec Ideal S256x1 .f32) (cr : Vec Ideal S1x1x2048 .f32) (r x : Fin 256) :
    sD1 d c cr (ix2 r x) = if x.val ≤ r.val then d (ix2 ⟨256 + r.val, by omega⟩ x) + c (ix2 r 0) - cr (ix3 0 0 ⟨1280 + x.val, by omega⟩) else ⊥ := by
  pointwise [sD1]
  simp only [Scalar.select_def, tri_apply, neg_inf]
  split <;> simp

/-- Products of the doubled queries with the keys before the diagonal block. -/
def dP (q : Vec Ideal S1x256x128 .bf16) (K : Vec Ideal S1x128x2048 .f32) : FVec Ideal S512x1280 .f32 :=
  matmul dot_S512x128_S128x1280_S512x1280_1_0_0_1_n_n none (q2 q)
    (extractStridedSlice S128x1280 ![0, 0] (k0_pay3 K) slices_S128x2048_o0_0_S128x1280) (constant S512x1280 .f32 0x00000000#32)

theorem dP_apply (q : Vec Ideal S1x256x128 .bf16) (K : Vec Ideal S1x128x2048 .f32) (r : Fin 512) (x : Fin 1280) :
    dP q K (ix2 r x) = ∑ l : Fin 128, q2 q (ix2 r l) * K (ix3 0 l ⟨x.val, by omega⟩) := by
  pointwise [dP, k0_pay3]

/-- Head 0's scores on the columns before the diagonal block. -/
def sP0 (d : FVec Ideal S512x1280 .f32) (c : FVec Ideal S256x1 .f32) (cr : Vec Ideal S1x1x2048 .f32) : FVec Ideal S256x1280 .f32 :=
  subf (addf (extractStridedSlice S256x1280 ![0, 0] d slices_S512x1280_o0_0_S256x1280) (broadcastTo S256x1280 c broadcasts_S256x1_S256x1280))
    (broadcastTo S256x1280 (extractStridedSlice S1x1280 ![0, 0] (shapeCast S1x2048 cr shapeCasts_S1x1x2048_S1x2048) slices_S1x2048_o0_0_S1x1280)
      broadcasts_S1x1280_S256x1280)

theorem sP0_apply (d : FVec Ideal S512x1280 .f32) (c : FVec Ideal S256x1 .f32) (cr : Vec Ideal S1x1x2048 .f32) (r : Fin 256) (x : Fin 1280) :
    sP0 d c cr (ix2 r x) = d (ix2 ⟨0 + r.val, by omega⟩ x) + c (ix2 r 0) - cr (ix3 0 0 ⟨x.val, by omega⟩) := by
  pointwise [sP0]

/-- Head 1's scores on the columns before the diagonal block. -/
def sP1 (d : FVec Ideal S512x1280 .f32) (c : FVec Ideal S256x1 .f32) (cr : Vec Ideal S1x1x2048 .f32) : FVec Ideal S256x1280 .f32 :=
  subf (addf (extractStridedSlice S256x1280 ![256, 0] d slices_S512x1280_o256_0_S256x1280) (broadcastTo S256x1280 c broadcasts_S256x1_S256x1280))
    (broadcastTo S256x1280 (extractStridedSlice S1x1280 ![0, 0] (shapeCast S1x2048 cr shapeCasts_S1x1x2048_S1x2048) slices_S1x2048_o0_0_S1x1280)
      broadcasts_S1x1280_S256x1280)

theorem sP1_apply (d : FVec Ideal S512x1280 .f32) (c : FVec Ideal S256x1 .f32) (cr : Vec Ideal S1x1x2048 .f32) (r : Fin 256) (x : Fin 1280) :
    sP1 d c cr (ix2 r x) = d (ix2 ⟨256 + r.val, by omega⟩ x) + c (ix2 r 0) - cr (ix3 0 0 ⟨x.val, by omega⟩) := by
  pointwise [sP1]

/-- The greatest score of each row. -/
def mx (s : FVec Ideal S256x256 .f32) (t : FVec Ideal S256x1280 .f32) : FVec Ideal S256x1 .f32 :=
  maximumf (shapeCast S256x1 (multiReduction .maximumf [1] S256 s 0xFF800000#32 reduces_S256x256_S256 (.inl rfl) rfl) shapeCasts_S256_S256x1)
    (shapeCast S256x1 (multiReduction .maximumf [1] S256 t 0xFF800000#32 reduces_S256x1280_S256 (.inl rfl) rfl) shapeCasts_S256_S256x1)

theorem mx_apply (s : FVec Ideal S256x256 .f32) (t : FVec Ideal S256x1280 .f32) (r : Fin 256) :
    mx s t (ix2 r 0) = max (top fun x => s (ix2 r x)) (top fun x => t (ix2 r x)) := by
  pointwise [mx]
  simp only [neg_inf]
  rfl

/-- The weights on the diagonal block. -/
def eD (s : FVec Ideal S256x256 .f32) (m : FVec Ideal S256x1 .f32) : FVec Ideal S256x256 .f32 :=
  exp (subf s (broadcastTo S256x256 m broadcasts_S256x1_S256x256))

theorem eD_apply (s : FVec Ideal S256x256 .f32) (m : FVec Ideal S256x1 .f32) (r x : Fin 256) :
    eD s m (ix2 r x) = Ideal.exp (s (ix2 r x) - m (ix2 r 0)) := by
  pointwise [eD]

/-- The weights on the columns before it. -/
def eP (t : FVec Ideal S256x1280 .f32) (m : FVec Ideal S256x1 .f32) : FVec Ideal S256x1280 .f32 :=
  exp (subf t (broadcastTo S256x1280 m broadcasts_S256x1_S256x1280))

theorem eP_apply (t : FVec Ideal S256x1280 .f32) (m : FVec Ideal S256x1 .f32) (r : Fin 256) (x : Fin 1280) :
    eP t m (ix2 r x) = Ideal.exp (t (ix2 r x) - m (ix2 r 0)) := by
  pointwise [eP]

/-- The sum of a row's weights. -/
def den (a : FVec Ideal S256x256 .f32) (b : FVec Ideal S256x1280 .f32) : FVec Ideal S256x1 .f32 :=
  addf (shapeCast S256x1 (multiReduction .add [1] S256 a 0x00000000#32 reduces_S256x256_S256 (.inl rfl) rfl) shapeCasts_S256_S256x1)
    (shapeCast S256x1 (multiReduction .add [1] S256 b 0x00000000#32 reduces_S256x1280_S256 (.inl rfl) rfl) shapeCasts_S256_S256x1)

theorem den_apply (a : FVec Ideal S256x256 .f32) (b : FVec Ideal S256x1280 .f32) (r : Fin 256) :
    den a b (ix2 r 0) = ∑ x, a (ix2 r x) + ∑ x, b (ix2 r x) := by
  pointwise [den]

/-- The values weighted, both heads one above the other. -/
def cx (W : Vec Ideal S1x128x2048 .f32) (a0 a1 : FVec Ideal S256x256 .f32) (b0 b1 : FVec Ideal S256x1280 .f32) : FVec Ideal S512x128 .f32 :=
  addf
    (matmul dot_S512x256_S128x256_S512x128_1_1_0_0_n_n none
      (concatenate S512x256 0 [⟨S256x256, truncf .bf16 a0 bitsLt_bf16_f32⟩, ⟨S256x256, truncf .bf16 a1 bitsLt_bf16_f32⟩] concatenates_S256x256_S256x256_S512x256_d0)
      (extractStridedSlice S128x256 ![0, 1280] (k0_pay4 W) slices_S128x2048_o0_1280_S128x256) (constant S512x128 .f32 0x00000000#32))
    (matmul dot_S512x1280_S128x1280_S512x128_1_1_0_0_n_n none
      (concatenate S512x1280 0 [⟨S256x1280, truncf .bf16 b0 bitsLt_bf16_f32⟩, ⟨S256x1280, truncf .bf16 b1 bitsLt_bf16_f32⟩] concatenates_S256x1280_S256x1280_S512x1280_d0)
      (extractStridedSlice S128x1280 ![0, 0] (k0_pay4 W) slices_S128x2048_o0_0_S128x1280) (constant S512x128 .f32 0x00000000#32))

theorem cx_apply0 (W : Vec Ideal S1x128x2048 .f32) (a0 a1 : FVec Ideal S256x256 .f32) (b0 b1 : FVec Ideal S256x1280 .f32) (r : Fin 256) (l : Fin 128) :
    cx W a0 a1 b0 b1 (ix2 ⟨r.val, by omega⟩ l) = ∑ x, a0 (ix2 r x) * W (ix3 0 l ⟨1280 + x.val, by omega⟩)
      + ∑ x, b0 (ix2 r x) * W (ix3 0 l ⟨x.val, by omega⟩) := by
  pointwise [cx, k0_pay4]

theorem cx_apply1 (W : Vec Ideal S1x128x2048 .f32) (a0 a1 : FVec Ideal S256x256 .f32) (b0 b1 : FVec Ideal S256x1280 .f32) (r : Fin 256) (l : Fin 128) :
    cx W a0 a1 b0 b1 (ix2 ⟨256 + r.val, by omega⟩ l) = ∑ x, a1 (ix2 r x) * W (ix3 0 l ⟨1280 + x.val, by omega⟩)
      + ∑ x, b1 (ix2 r x) * W (ix3 0 l ⟨x.val, by omega⟩) := by
  pointwise [cx, k0_pay4]

/-- The block from its loaded operands. -/
def out (w0 w1 : BitVec 32) (q : Vec Ideal S1x256x128 .bf16) (K W : Vec Ideal S1x128x2048 .f32) (g cc : Vec Ideal S1x256x128 .f32)
    (c0 c1 : Vec Ideal S1x1x2048 .f32) : FVec Ideal S1x256x128 .bf16 :=
  let s0 := sD0 (dD q K) (cq w0 cc) c0
  let t0 := sP0 (dP q K) (cq w0 cc) c0
  let m0 := mx s0 t0
  let s1 := sD1 (dD q K) (cq w1 cc) c1
  let t1 := sP1 (dP q K) (cq w1 cc) c1
  let m1 := mx s1 t1
  fin (den (eD s0 m0) (eP t0 m0)) (den (eD s1 m1) (eP t1 m1)) (cx W (eD s0 m0) (eD s1 m1) (eP t0 m0) (eP t1 m1)) g

/-- The block at an index: each head's two-block softmax of its scores, times the logistic function of the gate. -/
theorem out_apply (w0 w1 : BitVec 32) (q : Vec Ideal S1x256x128 .bf16) (K W : Vec Ideal S1x128x2048 .f32) (g cc : Vec Ideal S1x256x128 .f32)
    (c0 c1 : Vec Ideal S1x1x2048 .f32) (h0 h1 : Fin 128) (hw0 : w0 = BitVec.ofNat 32 h0.val) (hw1 : w1 = BitVec.ofNat 32 h1.val)
    (r : Fin 256) (l : Fin 128) :
    out w0 w1 q K W g cc c0 c1 (ix3 0 r l) =
      (if l.val < 64 then
        blk2 (fun x : Fin 256 => if x.val ≤ r.val then rowS q K cc c0 ⟨r.val, by omega⟩ r h0 ⟨1280 + x.val, by omega⟩ else ⊥)
          (fun x => W (ix3 0 l ⟨1280 + x.val, by omega⟩))
          (fun x : Fin 1280 => rowS q K cc c0 ⟨r.val, by omega⟩ r h0 ⟨x.val, by omega⟩) (fun x => W (ix3 0 l ⟨x.val, by omega⟩))
      else
        blk2 (fun x : Fin 256 => if x.val ≤ r.val then rowS q K cc c1 ⟨256 + r.val, by omega⟩ r h1 ⟨1280 + x.val, by omega⟩ else ⊥)
          (fun x => W (ix3 0 l ⟨1280 + x.val, by omega⟩))
          (fun x : Fin 1280 => rowS q K cc c1 ⟨256 + r.val, by omega⟩ r h1 ⟨x.val, by omega⟩) (fun x => W (ix3 0 l ⟨x.val, by omega⟩)))
      * Ideal.div 1 (1 + Ideal.exp (0 - g (ix3 0 r l))) := by
  unfold out
  simp only [fin_apply, den_apply, cx_apply0, cx_apply1, eD_apply, eP_apply, mx_apply, sD0_apply, sD1_apply, sP0_apply, sP1_apply,
    dD_apply, dP_apply, cq_apply w0 cc r h0 hw0, cq_apply w1 cc r h1 hw1, Nat.zero_add]
  rfl

end Cert.KernelIdeal.Fox.B5
-- ==== Proof.FoxBlock6.lean ====
/- Block 6 of the attention kernel: the queries of rows 1536 to 1791. Each step as operations on arrays, and
   what the block holds at an index: the softmax-weighted sum over its diagonal block and the columns before it. -/
module

public import proofs.«01_k».proof.Proof.FoxStages

@[expose] public section

set_option maxRecDepth 16384

noncomputable section

namespace Cert.KernelIdeal.Fox.B6

open Idealize.ShloMosaic Cert.KernelIdeal Cert.KernelIdeal.Gen Cert.KernelIdeal.Fox Cert.FoxMath

/-- Products of the doubled queries with the keys of the diagonal block. -/
def dD (q : Vec Ideal S1x256x128 .bf16) (K : Vec Ideal S1x128x2048 .f32) : FVec Ideal S512x256 .f32 :=
  matmul dot_S512x128_S128x256_S512x256_1_0_0_1_n_n none (q2 q)
    (extractStridedSlice S128x256 ![0, 1536] (k0_pay3 K) slices_S128x2048_o0_1536_S128x256) (constant S512x256 .f32 0x00000000#32)

theorem dD_apply (q : Vec Ideal S1x256x128 .bf16) (K : Vec Ideal S1x128x2048 .f32) (r : Fin 512) (x : Fin 256) :
    dD q K (ix2 r x) = ∑ l : Fin 128, q2 q (ix2 r l) * K (ix3 0 l ⟨1536 + x.val, by omega⟩) := by
  pointwise [dD, k0_pay3]

/-- Head 0's scores on the diagonal block, masked. -/
def sD0 (d : FVec Ideal S512x256 .f32) (c : FVec Ideal S256x1 .f32) (cr : Vec Ideal S1x1x2048 .f32) : FVec Ideal S256x256 .f32 :=
  select k0_pay5
    (subf (addf (extractStridedSlice S256x256 ![0, 0] d slices_S512x256_o0_0_S256x256) (broadcastTo S256x256 c broadcasts_S256x1_S256x256))
      (broadcastTo S256x256 (extractStridedSlice S1x256 ![0, 1536] (shapeCast S1x2048 cr shapeCasts_S1x1x2048_S1x2048) slices_S1x2048_o0_1536_S1x256)
        broadcasts_S1x256_S256x256))
    (broadcast S256x256 (Scalar.ofBits .f32 0xFF800000#32))

theorem sD0_apply (d : FVec Ideal S512x256 .f32) (c : FVec Ideal S256x1 .f32) (cr : Vec Ideal S1x1x2048 .f32) (r x : Fin 256) :
    sD0 d c cr (ix2 r x) = if x.val ≤ r.val then d (ix2 ⟨0 + r.val, by omega⟩ x) + c (ix2 r 0) - cr (ix3 0 0 ⟨1536 + x.val, by omega⟩) else ⊥ := by
  pointwise [sD0]
  simp only [Scalar.select_def, tri_apply, neg_inf]
  split <;> simp

/-- Head 1's scores on the diagonal block, masked. -/
def sD1 (d : FVec Ideal S512x256 .f32) (c : FVec Ideal S256x1 .f32) (cr : Vec Ideal S1x1x2048 .f32) : FVec Ideal S256x256 .f32 :=
  select k0_pay5
    (subf (addf (extractStridedSlice S256x256 ![256, 0] d slices_S512x256_o256_0_S256x256) (broadcastTo S256x256 c broadcasts_S256x1_S256x256))
      (broadcastTo S256x256 (extractStridedSlice S1x256 ![0, 1536] (shapeCast S1x2048 cr shapeCasts_S1x1x2048_S1x2048) slices_S1x2048_o0_1536_S1x256)
        broadcasts_S1x256_S256x256))
    (broadcast S256x256 (Scalar.ofBits .f32 0xFF800000#32))

theorem sD1_apply (d : FVec Ideal S512x256 .f32) (c : FVec Ideal S256x1 .f32) (cr : Vec Ideal S1x1x2048 .f32) (r x : Fin 256) :
    sD1 d c cr (ix2 r x) = if x.val ≤ r.val then d (ix2 ⟨256 + r.val, by omega⟩ x) + c (ix2 r 0) - cr (ix3 0 0 ⟨1536 + x.val, by omega⟩) else ⊥ := by
  pointwise [sD1]
  simp only [Scalar.select_def, tri_apply, neg_inf]
  split <;> simp

/-- Products of the doubled queries with the keys before the diagonal block. -/
def dP (q : Vec Ideal S1x256x128 .bf16) (K : Vec Ideal S1x128x2048 .f32) : FVec Ideal S512x1536 .f32 :=
  matmul dot_S512x128_S128x1536_S512x1536_1_0_0_1_n_n none (q2 q)
    (extractStridedSlice S128x1536 ![0, 0] (k0_pay3 K) slices_S128x2048_o0_0_S128x1536) (constant S512x1536 .f32 0x00000000#32)

theorem dP_apply (q : Vec Ideal S1x256x128 .bf16) (K : Vec Ideal S1x128x2048 .f32) (r : Fin 512) (x : Fin 1536) :
    dP q K (ix2 r x) = ∑ l : Fin 128, q2 q (ix2 r l) * K (ix3 0 l ⟨x.val, by omega⟩) := by
  pointwise [dP, k0_pay3]

/-- Head 0's scores on the columns before the diagonal block. -/
def sP0 (d : FVec Ideal S512x1536 .f32) (c : FVec Ideal S256x1 .f32) (cr : Vec Ideal S1x1x2048 .f32) : FVec Ideal S256x1536 .f32 :=
  subf (addf (extractStridedSlice S256x1536 ![0, 0] d slices_S512x1536_o0_0_S256x1536) (broadcastTo S256x1536 c broadcasts_S256x1_S256x1536))
    (broadcastTo S256x1536 (extractStridedSlice S1x1536 ![0, 0] (shapeCast S1x2048 cr shapeCasts_S1x1x2048_S1x2048) slices_S1x2048_o0_0_S1x1536)
      broadcasts_S1x1536_S256x1536)

theorem sP0_apply (d : FVec Ideal S512x1536 .f32) (c : FVec Ideal S256x1 .f32) (cr : Vec Ideal S1x1x2048 .f32) (r : Fin 256) (x : Fin 1536) :
    sP0 d c cr (ix2 r x) = d (ix2 ⟨0 + r.val, by omega⟩ x) + c (ix2 r 0) - cr (ix3 0 0 ⟨x.val, by omega⟩) := by
  pointwise [sP0]

/-- Head 1's scores on the columns before the diagonal block. -/
def sP1 (d : FVec Ideal S512x1536 .f32) (c : FVec Ideal S256x1 .f32) (cr : Vec Ideal S1x1x2048 .f32) : FVec Ideal S256x1536 .f32 :=
  subf (addf (extractStridedSlice S256x1536 ![256, 0] d slices_S512x1536_o256_0_S256x1536) (broadcastTo S256x1536 c broadcasts_S256x1_S256x1536))
    (broadcastTo S256x1536 (extractStridedSlice S1x1536 ![0, 0] (shapeCast S1x2048 cr shapeCasts_S1x1x2048_S1x2048) slices_S1x2048_o0_0_S1x1536)
      broadcasts_S1x1536_S256x1536)

theorem sP1_apply (d : FVec Ideal S512x1536 .f32) (c : FVec Ideal S256x1 .f32) (cr : Vec Ideal S1x1x2048 .f32) (r : Fin 256) (x : Fin 1536) :
    sP1 d c cr (ix2 r x) = d (ix2 ⟨256 + r.val, by omega⟩ x) + c (ix2 r 0) - cr (ix3 0 0 ⟨x.val, by omega⟩) := by
  pointwise [sP1]

/-- The greatest score of each row. -/
def mx (s : FVec Ideal S256x256 .f32) (t : FVec Ideal S256x1536 .f32) : FVec Ideal S256x1 .f32 :=
  maximumf (shapeCast S256x1 (multiReduction .maximumf [1] S256 s 0xFF800000#32 reduces_S256x256_S256 (.inl rfl) rfl) shapeCasts_S256_S256x1)
    (shapeCast S256x1 (multiReduction .maximumf [1] S256 t 0xFF800000#32 reduces_S256x1536_S256 (.inl rfl) rfl) shapeCasts_S256_S256x1)

theorem mx_apply (s : FVec Ideal S256x256 .f32) (t : FVec Ideal S256x1536 .f32) (r : Fin 256) :
    mx s t (ix2 r 0) = max (top fun x => s (ix2 r x)) (top fun x => t (ix2 r x)) := by
  pointwise [mx]
  simp only [neg_inf]
  rfl

/-- The weights on the diagonal block. -/
def eD (s : FVec Ideal S256x256 .f32) (m : FVec Ideal S256x1 .f32) : FVec Ideal S256x256 .f32 :=
  exp (subf s (broadcastTo S256x256 m broadcasts_S256x1_S256x256))

theorem eD_apply (s : FVec Ideal S256x256 .f32) (m : FVec Ideal S256x1 .f32) (r x : Fin 256) :
    eD s m (ix2 r x) = Ideal.exp (s (ix2 r x) - m (ix2 r 0)) := by
  pointwise [eD]

/-- The weights on the columns before it. -/
def eP (t : FVec Ideal S256x1536 .f32) (m : FVec Ideal S256x1 .f32) : FVec Ideal S256x1536 .f32 :=
  exp (subf t (broadcastTo S256x1536 m broadcasts_S256x1_S256x1536))

theorem eP_apply (t : FVec Ideal S256x1536 .f32) (m : FVec Ideal S256x1 .f32) (r : Fin 256) (x : Fin 1536) :
    eP t m (ix2 r x) = Ideal.exp (t (ix2 r x) - m (ix2 r 0)) := by
  pointwise [eP]

/-- The sum of a row's weights. -/
def den (a : FVec Ideal S256x256 .f32) (b : FVec Ideal S256x1536 .f32) : FVec Ideal S256x1 .f32 :=
  addf (shapeCast S256x1 (multiReduction .add [1] S256 a 0x00000000#32 reduces_S256x256_S256 (.inl rfl) rfl) shapeCasts_S256_S256x1)
    (shapeCast S256x1 (multiReduction .add [1] S256 b 0x00000000#32 reduces_S256x1536_S256 (.inl rfl) rfl) shapeCasts_S256_S256x1)

theorem den_apply (a : FVec Ideal S256x256 .f32) (b : FVec Ideal S256x1536 .f32) (r : Fin 256) :
    den a b (ix2 r 0) = ∑ x, a (ix2 r x) + ∑ x, b (ix2 r x) := by
  pointwise [den]

/-- The values weighted, both heads one above the other. -/
def cx (W : Vec Ideal S1x128x2048 .f32) (a0 a1 : FVec Ideal S256x256 .f32) (b0 b1 : FVec Ideal S256x1536 .f32) : FVec Ideal S512x128 .f32 :=
  addf
    (matmul dot_S512x256_S128x256_S512x128_1_1_0_0_n_n none
      (concatenate S512x256 0 [⟨S256x256, truncf .bf16 a0 bitsLt_bf16_f32⟩, ⟨S256x256, truncf .bf16 a1 bitsLt_bf16_f32⟩] concatenates_S256x256_S256x256_S512x256_d0)
      (extractStridedSlice S128x256 ![0, 1536] (k0_pay4 W) slices_S128x2048_o0_1536_S128x256) (constant S512x128 .f32 0x00000000#32))
    (matmul dot_S512x1536_S128x1536_S512x128_1_1_0_0_n_n none
      (concatenate S512x1536 0 [⟨S256x1536, truncf .bf16 b0 bitsLt_bf16_f32⟩, ⟨S256x1536, truncf .bf16 b1 bitsLt_bf16_f32⟩] concatenates_S256x1536_S256x1536_S512x1536_d0)
      (extractStridedSlice S128x1536 ![0, 0] (k0_pay4 W) slices_S128x2048_o0_0_S128x1536) (constant S512x128 .f32 0x00000000#32))

theorem cx_apply0 (W : Vec Ideal S1x128x2048 .f32) (a0 a1 : FVec Ideal S256x256 .f32) (b0 b1 : FVec Ideal S256x1536 .f32) (r : Fin 256) (l : Fin 128) :
    cx W a0 a1 b0 b1 (ix2 ⟨r.val, by omega⟩ l) = ∑ x, a0 (ix2 r x) * W (ix3 0 l ⟨1536 + x.val, by omega⟩)
      + ∑ x, b0 (ix2 r x) * W (ix3 0 l ⟨x.val, by omega⟩) := by
  pointwise [cx, k0_pay4]

theorem cx_apply1 (W : Vec Ideal S1x128x2048 .f32) (a0 a1 : FVec Ideal S256x256 .f32) (b0 b1 : FVec Ideal S256x1536 .f32) (r : Fin 256) (l : Fin 128) :
    cx W a0 a1 b0 b1 (ix2 ⟨256 + r.val, by omega⟩ l) = ∑ x, a1 (ix2 r x) * W (ix3 0 l ⟨1536 + x.val, by omega⟩)
      + ∑ x, b1 (ix2 r x) * W (ix3 0 l ⟨x.val, by omega⟩) := by
  pointwise [cx, k0_pay4]

/-- The block from its loaded operands. -/
def out (w0 w1 : BitVec 32) (q : Vec Ideal S1x256x128 .bf16) (K W : Vec Ideal S1x128x2048 .f32) (g cc : Vec Ideal S1x256x128 .f32)
    (c0 c1 : Vec Ideal S1x1x2048 .f32) : FVec Ideal S1x256x128 .bf16 :=
  let s0 := sD0 (dD q K) (cq w0 cc) c0
  let t0 := sP0 (dP q K) (cq w0 cc) c0
  let m0 := mx s0 t0
  let s1 := sD1 (dD q K) (cq w1 cc) c1
  let t1 := sP1 (dP q K) (cq w1 cc) c1
  let m1 := mx s1 t1
  fin (den (eD s0 m0) (eP t0 m0)) (den (eD s1 m1) (eP t1 m1)) (cx W (eD s0 m0) (eD s1 m1) (eP t0 m0) (eP t1 m1)) g

/-- The block at an index: each head's two-block softmax of its scores, times the logistic function of the gate. -/
theorem out_apply (w0 w1 : BitVec 32) (q : Vec Ideal S1x256x128 .bf16) (K W : Vec Ideal S1x128x2048 .f32) (g cc : Vec Ideal S1x256x128 .f32)
    (c0 c1 : Vec Ideal S1x1x2048 .f32) (h0 h1 : Fin 128) (hw0 : w0 = BitVec.ofNat 32 h0.val) (hw1 : w1 = BitVec.ofNat 32 h1.val)
    (r : Fin 256) (l : Fin 128) :
    out w0 w1 q K W g cc c0 c1 (ix3 0 r l) =
      (if l.val < 64 then
        blk2 (fun x : Fin 256 => if x.val ≤ r.val then rowS q K cc c0 ⟨r.val, by omega⟩ r h0 ⟨1536 + x.val, by omega⟩ else ⊥)
          (fun x => W (ix3 0 l ⟨1536 + x.val, by omega⟩))
          (fun x : Fin 1536 => rowS q K cc c0 ⟨r.val, by omega⟩ r h0 ⟨x.val, by omega⟩) (fun x => W (ix3 0 l ⟨x.val, by omega⟩))
      else
        blk2 (fun x : Fin 256 => if x.val ≤ r.val then rowS q K cc c1 ⟨256 + r.val, by omega⟩ r h1 ⟨1536 + x.val, by omega⟩ else ⊥)
          (fun x => W (ix3 0 l ⟨1536 + x.val, by omega⟩))
          (fun x : Fin 1536 => rowS q K cc c1 ⟨256 + r.val, by omega⟩ r h1 ⟨x.val, by omega⟩) (fun x => W (ix3 0 l ⟨x.val, by omega⟩)))
      * Ideal.div 1 (1 + Ideal.exp (0 - g (ix3 0 r l))) := by
  unfold out
  simp only [fin_apply, den_apply, cx_apply0, cx_apply1, eD_apply, eP_apply, mx_apply, sD0_apply, sD1_apply, sP0_apply, sP1_apply,
    dD_apply, dP_apply, cq_apply w0 cc r h0 hw0, cq_apply w1 cc r h1 hw1, Nat.zero_add]
  rfl

end Cert.KernelIdeal.Fox.B6
-- ==== Proof.FoxBlock7.lean ====
/- Block 7 of the attention kernel: the queries of rows 1792 to 2047. Each step as operations on arrays, and
   what the block holds at an index: the softmax-weighted sum over its diagonal block and the columns before it. -/
module

public import proofs.«01_k».proof.Proof.FoxStages

@[expose] public section

set_option maxRecDepth 16384

noncomputable section

namespace Cert.KernelIdeal.Fox.B7

open Idealize.ShloMosaic Cert.KernelIdeal Cert.KernelIdeal.Gen Cert.KernelIdeal.Fox Cert.FoxMath

/-- Products of the doubled queries with the keys of the diagonal block. -/
def dD (q : Vec Ideal S1x256x128 .bf16) (K : Vec Ideal S1x128x2048 .f32) : FVec Ideal S512x256 .f32 :=
  matmul dot_S512x128_S128x256_S512x256_1_0_0_1_n_n none (q2 q)
    (extractStridedSlice S128x256 ![0, 1792] (k0_pay3 K) slices_S128x2048_o0_1792_S128x256) (constant S512x256 .f32 0x00000000#32)

theorem dD_apply (q : Vec Ideal S1x256x128 .bf16) (K : Vec Ideal S1x128x2048 .f32) (r : Fin 512) (x : Fin 256) :
    dD q K (ix2 r x) = ∑ l : Fin 128, q2 q (ix2 r l) * K (ix3 0 l ⟨1792 + x.val, by omega⟩) := by
  pointwise [dD, k0_pay3]

/-- Head 0's scores on the diagonal block, masked. -/
def sD0 (d : FVec Ideal S512x256 .f32) (c : FVec Ideal S256x1 .f32) (cr : Vec Ideal S1x1x2048 .f32) : FVec Ideal S256x256 .f32 :=
  select k0_pay5
    (subf (addf (extractStridedSlice S256x256 ![0, 0] d slices_S512x256_o0_0_S256x256) (broadcastTo S256x256 c broadcasts_S256x1_S256x256))
      (broadcastTo S256x256 (extractStridedSlice S1x256 ![0, 1792] (shapeCast S1x2048 cr shapeCasts_S1x1x2048_S1x2048) slices_S1x2048_o0_1792_S1x256)
        broadcasts_S1x256_S256x256))
    (broadcast S256x256 (Scalar.ofBits .f32 0xFF800000#32))

theorem sD0_apply (d : FVec Ideal S512x256 .f32) (c : FVec Ideal S256x1 .f32) (cr : Vec Ideal S1x1x2048 .f32) (r x : Fin 256) :
    sD0 d c cr (ix2 r x) = if x.val ≤ r.val then d (ix2 ⟨0 + r.val, by omega⟩ x) + c (ix2 r 0) - cr (ix3 0 0 ⟨1792 + x.val, by omega⟩) else ⊥ := by
  pointwise [sD0]
  simp only [Scalar.select_def, tri_apply, neg_inf]
  split <;> simp

/-- Head 1's scores on the diagonal block, masked. -/
def sD1 (d : FVec Ideal S512x256 .f32) (c : FVec Ideal S256x1 .f32) (cr : Vec Ideal S1x1x2048 .f32) : FVec Ideal S256x256 .f32 :=
  select k0_pay5
    (subf (addf (extractStridedSlice S256x256 ![256, 0] d slices_S512x256_o256_0_S256x256) (broadcastTo S256x256 c broadcasts_S256x1_S256x256))
      (broadcastTo S256x256 (extractStridedSlice S1x256 ![0, 1792] (shapeCast S1x2048 cr shapeCasts_S1x1x2048_S1x2048) slices_S1x2048_o0_1792_S1x256)
        broadcasts_S1x256_S256x256))
    (broadcast S256x256 (Scalar.ofBits .f32 0xFF800000#32))

theorem sD1_apply (d : FVec Ideal S512x256 .f32) (c : FVec Ideal S256x1 .f32) (cr : Vec Ideal S1x1x2048 .f32) (r x : Fin 256) :
    sD1 d c cr (ix2 r x) = if x.val ≤ r.val then d (ix2 ⟨256 + r.val, by omega⟩ x) + c (ix2 r 0) - cr (ix3 0 0 ⟨1792 + x.val, by omega⟩) else ⊥ := by
  pointwise [sD1]
  simp only [Scalar.select_def, tri_apply, neg_inf]
  split <;> simp

/-- Products of the doubled queries with the keys before the diagonal block. -/
def dP (q : Vec Ideal S1x256x128 .bf16) (K : Vec Ideal S1x128x2048 .f32) : FVec Ideal S512x1792 .f32 :=
  matmul dot_S512x128_S128x1792_S512x1792_1_0_0_1_n_n none (q2 q)
    (extractStridedSlice S128x1792 ![0, 0] (k0_pay3 K) slices_S128x2048_o0_0_S128x1792) (constant S512x1792 .f32 0x00000000#32)

theorem dP_apply (q : Vec Ideal S1x256x128 .bf16) (K : Vec Ideal S1x128x2048 .f32) (r : Fin 512) (x : Fin 1792) :
    dP q K (ix2 r x) = ∑ l : Fin 128, q2 q (ix2 r l) * K (ix3 0 l ⟨x.val, by omega⟩) := by
  pointwise [dP, k0_pay3]

/-- Head 0's scores on the columns before the diagonal block. -/
def sP0 (d : FVec Ideal S512x1792 .f32) (c : FVec Ideal S256x1 .f32) (cr : Vec Ideal S1x1x2048 .f32) : FVec Ideal S256x1792 .f32 :=
  subf (addf (extractStridedSlice S256x1792 ![0, 0] d slices_S512x1792_o0_0_S256x1792) (broadcastTo S256x1792 c broadcasts_S256x1_S256x1792))
    (broadcastTo S256x1792 (extractStridedSlice S1x1792 ![0, 0] (shapeCast S1x2048 cr shapeCasts_S1x1x2048_S1x2048) slices_S1x2048_o0_0_S1x1792)
      broadcasts_S1x1792_S256x1792)

theorem sP0_apply (d : FVec Ideal S512x1792 .f32) (c : FVec Ideal S256x1 .f32) (cr : Vec Ideal S1x1x2048 .f32) (r : Fin 256) (x : Fin 1792) :
    sP0 d c cr (ix2 r x) = d (ix2 ⟨0 + r.val, by omega⟩ x) + c (ix2 r 0) - cr (ix3 0 0 ⟨x.val, by omega⟩) := by
  pointwise [sP0]

/-- Head 1's scores on the columns before the diagonal block. -/
def sP1 (d : FVec Ideal S512x1792 .f32) (c : FVec Ideal S256x1 .f32) (cr : Vec Ideal S1x1x2048 .f32) : FVec Ideal S256x1792 .f32 :=
  subf (addf (extractStridedSlice S256x1792 ![256, 0] d slices_S512x1792_o256_0_S256x1792) (broadcastTo S256x1792 c broadcasts_S256x1_S256x1792))
    (broadcastTo S256x1792 (extractStridedSlice S1x1792 ![0, 0] (shapeCast S1x2048 cr shapeCasts_S1x1x2048_S1x2048) slices_S1x2048_o0_0_S1x1792)
      broadcasts_S1x1792_S256x1792)

theorem sP1_apply (d : FVec Ideal S512x1792 .f32) (c : FVec Ideal S256x1 .f32) (cr : Vec Ideal S1x1x2048 .f32) (r : Fin 256) (x : Fin 1792) :
    sP1 d c cr (ix2 r x) = d (ix2 ⟨256 + r.val, by omega⟩ x) + c (ix2 r 0) - cr (ix3 0 0 ⟨x.val, by omega⟩) := by
  pointwise [sP1]

/-- The greatest score of each row. -/
def mx (s : FVec Ideal S256x256 .f32) (t : FVec Ideal S256x1792 .f32) : FVec Ideal S256x1 .f32 :=
  maximumf (shapeCast S256x1 (multiReduction .maximumf [1] S256 s 0xFF800000#32 reduces_S256x256_S256 (.inl rfl) rfl) shapeCasts_S256_S256x1)
    (shapeCast S256x1 (multiReduction .maximumf [1] S256 t 0xFF800000#32 reduces_S256x1792_S256 (.inl rfl) rfl) shapeCasts_S256_S256x1)

theorem mx_apply (s : FVec Ideal S256x256 .f32) (t : FVec Ideal S256x1792 .f32) (r : Fin 256) :
    mx s t (ix2 r 0) = max (top fun x => s (ix2 r x)) (top fun x => t (ix2 r x)) := by
  pointwise [mx]
  simp only [neg_inf]
  rfl

/-- The weights on the diagonal block. -/
def eD (s : FVec Ideal S256x256 .f32) (m : FVec Ideal S256x1 .f32) : FVec Ideal S256x256 .f32 :=
  exp (subf s (broadcastTo S256x256 m broadcasts_S256x1_S256x256))

theorem eD_apply (s : FVec Ideal S256x256 .f32) (m : FVec Ideal S256x1 .f32) (r x : Fin 256) :
    eD s m (ix2 r x) = Ideal.exp (s (ix2 r x) - m (ix2 r 0)) := by
  pointwise [eD]

/-- The weights on the columns before it. -/
def eP (t : FVec Ideal S256x1792 .f32) (m : FVec Ideal S256x1 .f32) : FVec Ideal S256x1792 .f32 :=
  exp (subf t (broadcastTo S256x1792 m broadcasts_S256x1_S256x1792))

theorem eP_apply (t : FVec Ideal S256x1792 .f32) (m : FVec Ideal S256x1 .f32) (r : Fin 256) (x : Fin 1792) :
    eP t m (ix2 r x) = Ideal.exp (t (ix2 r x) - m (ix2 r 0)) := by
  pointwise [eP]

/-- The sum of a row's weights. -/
def den (a : FVec Ideal S256x256 .f32) (b : FVec Ideal S256x1792 .f32) : FVec Ideal S256x1 .f32 :=
  addf (shapeCast S256x1 (multiReduction .add [1] S256 a 0x00000000#32 reduces_S256x256_S256 (.inl rfl) rfl) shapeCasts_S256_S256x1)
    (shapeCast S256x1 (multiReduction .add [1] S256 b 0x00000000#32 reduces_S256x1792_S256 (.inl rfl) rfl) shapeCasts_S256_S256x1)

theorem den_apply (a : FVec Ideal S256x256 .f32) (b : FVec Ideal S256x1792 .f32) (r : Fin 256) :
    den a b (ix2 r 0) = ∑ x, a (ix2 r x) + ∑ x, b (ix2 r x) := by
  pointwise [den]

/-- The values weighted, both heads one above the other. -/
def cx (W : Vec Ideal S1x128x2048 .f32) (a0 a1 : FVec Ideal S256x256 .f32) (b0 b1 : FVec Ideal S256x1792 .f32) : FVec Ideal S512x128 .f32 :=
  addf
    (matmul dot_S512x256_S128x256_S512x128_1_1_0_0_n_n none
      (concatenate S512x256 0 [⟨S256x256, truncf .bf16 a0 bitsLt_bf16_f32⟩, ⟨S256x256, truncf .bf16 a1 bitsLt_bf16_f32⟩] concatenates_S256x256_S256x256_S512x256_d0)
      (extractStridedSlice S128x256 ![0, 1792] (k0_pay4 W) slices_S128x2048_o0_1792_S128x256) (constant S512x128 .f32 0x00000000#32))
    (matmul dot_S512x1792_S128x1792_S512x128_1_1_0_0_n_n none
      (concatenate S512x1792 0 [⟨S256x1792, truncf .bf16 b0 bitsLt_bf16_f32⟩, ⟨S256x1792, truncf .bf16 b1 bitsLt_bf16_f32⟩] concatenates_S256x1792_S256x1792_S512x1792_d0)
      (extractStridedSlice S128x1792 ![0, 0] (k0_pay4 W) slices_S128x2048_o0_0_S128x1792) (constant S512x128 .f32 0x00000000#32))

theorem cx_apply0 (W : Vec Ideal S1x128x2048 .f32) (a0 a1 : FVec Ideal S256x256 .f32) (b0 b1 : FVec Ideal S256x1792 .f32) (r : Fin 256) (l : Fin 128) :
    cx W a0 a1 b0 b1 (ix2 ⟨r.val, by omega⟩ l) = ∑ x, a0 (ix2 r x) * W (ix3 0 l ⟨1792 + x.val, by omega⟩)
      + ∑ x, b0 (ix2 r x) * W (ix3 0 l ⟨x.val, by omega⟩) := by
  pointwise [cx, k0_pay4]

theorem cx_apply1 (W : Vec Ideal S1x128x2048 .f32) (a0 a1 : FVec Ideal S256x256 .f32) (b0 b1 : FVec Ideal S256x1792 .f32) (r : Fin 256) (l : Fin 128) :
    cx W a0 a1 b0 b1 (ix2 ⟨256 + r.val, by omega⟩ l) = ∑ x, a1 (ix2 r x) * W (ix3 0 l ⟨1792 + x.val, by omega⟩)
      + ∑ x, b1 (ix2 r x) * W (ix3 0 l ⟨x.val, by omega⟩) := by
  pointwise [cx, k0_pay4]

/-- The block from its loaded operands. -/
def out (w0 w1 : BitVec 32) (q : Vec Ideal S1x256x128 .bf16) (K W : Vec Ideal S1x128x2048 .f32) (g cc : Vec Ideal S1x256x128 .f32)
    (c0 c1 : Vec Ideal S1x1x2048 .f32) : FVec Ideal S1x256x128 .bf16 :=
  let s0 := sD0 (dD q K) (cq w0 cc) c0
  let t0 := sP0 (dP q K) (cq w0 cc) c0
  let m0 := mx s0 t0
  let s1 := sD1 (dD q K) (cq w1 cc) c1
  let t1 := sP1 (dP q K) (cq w1 cc) c1
  let m1 := mx s1 t1
  fin (den (eD s0 m0) (eP t0 m0)) (den (eD s1 m1) (eP t1 m1)) (cx W (eD s0 m0) (eD s1 m1) (eP t0 m0) (eP t1 m1)) g

/-- The block at an index: each head's two-block softmax of its scores, times the logistic function of the gate. -/
theorem out_apply (w0 w1 : BitVec 32) (q : Vec Ideal S1x256x128 .bf16) (K W : Vec Ideal S1x128x2048 .f32) (g cc : Vec Ideal S1x256x128 .f32)
    (c0 c1 : Vec Ideal S1x1x2048 .f32) (h0 h1 : Fin 128) (hw0 : w0 = BitVec.ofNat 32 h0.val) (hw1 : w1 = BitVec.ofNat 32 h1.val)
    (r : Fin 256) (l : Fin 128) :
    out w0 w1 q K W g cc c0 c1 (ix3 0 r l) =
      (if l.val < 64 then
        blk2 (fun x : Fin 256 => if x.val ≤ r.val then rowS q K cc c0 ⟨r.val, by omega⟩ r h0 ⟨1792 + x.val, by omega⟩ else ⊥)
          (fun x => W (ix3 0 l ⟨1792 + x.val, by omega⟩))
          (fun x : Fin 1792 => rowS q K cc c0 ⟨r.val, by omega⟩ r h0 ⟨x.val, by omega⟩) (fun x => W (ix3 0 l ⟨x.val, by omega⟩))
      else
        blk2 (fun x : Fin 256 => if x.val ≤ r.val then rowS q K cc c1 ⟨256 + r.val, by omega⟩ r h1 ⟨1792 + x.val, by omega⟩ else ⊥)
          (fun x => W (ix3 0 l ⟨1792 + x.val, by omega⟩))
          (fun x : Fin 1792 => rowS q K cc c1 ⟨256 + r.val, by omega⟩ r h1 ⟨x.val, by omega⟩) (fun x => W (ix3 0 l ⟨x.val, by omega⟩)))
      * Ideal.div 1 (1 + Ideal.exp (0 - g (ix3 0 r l))) := by
  unfold out
  simp only [fin_apply, den_apply, cx_apply0, cx_apply1, eD_apply, eP_apply, mx_apply, sD0_apply, sD1_apply, sP0_apply, sP1_apply,
    dD_apply, dP_apply, cq_apply w0 cc r h0 hw0, cq_apply w1 cc r h1 hw1, Nat.zero_add]
  rfl

end Cert.KernelIdeal.Fox.B7
-- ==== Proof.FoxRow.lean ====
/- From the operands loaded for one block of queries to the whole rows: what a block holds at an index is the
   softmax attention of its row, whichever block the row lies in. -/
module

public import proofs.«01_k».proof.Proof.FoxStages

@[expose] public section

set_option maxRecDepth 16384

noncomputable section

namespace Cert.KernelIdeal.Fox

open Idealize.ShloMosaic Cert.KernelIdeal Cert.KernelIdeal.Gen Cert.FoxMath

/-- Which of the pair's two heads a lane belongs to. -/
def half (l : Fin 128) : Fin 2 := if l.val < 64 then 0 else 1

variable (x0 : Vec Ideal S1x2048x128 .bf16) (x1 x2 : Vec Ideal S1x128x2048 .f32) (x3 x4 : Vec Ideal S1x2048x128 .f32)
  (x5 : Vec Ideal S1x8x2048 .f32)

/-- The gated score of query row `r` against key column `c` for head `u` of pair `p`. -/
def pairS (p : Fin 4) (u : Fin 2) (r c : Fin 2048) : EReal :=
  (∑ d : Fin 64, x0 (ix3 0 r ⟨64 * u.val + d.val, by omega⟩) * x1 (ix3 0 ⟨64 * u.val + d.val, by omega⟩ c))
    + x4 (ix3 0 r ⟨2 * p.val + u.val, by omega⟩) - x5 (ix3 0 ⟨2 * p.val + u.val, by omega⟩ c)

/-- Causal softmax attention of one row and lane, times the logistic function of the output gate. -/
def pairVal (p : Fin 4) (r : Fin 2048) (l : Fin 128) : EReal :=
  soft (fun c : Fin 2048 => if c.val ≤ r.val then pairS x0 x1 x4 x5 p (half l) r c else ⊥) (fun c => x2 (ix3 0 l c))
    * Ideal.div 1 (1 + Ideal.exp (0 - x3 (ix3 0 r l)))

variable (q : Vec Ideal S1x256x128 .bf16) (K W : Vec Ideal S1x128x2048 .f32) (g cc : Vec Ideal S1x256x128 .f32)
    (c0 c1 : Vec Ideal S1x1x2048 .f32) (p : Fin 4)

/-- What a block's operands are in terms of the whole rows: `n` is the block's first row. -/
structure Loads (n : ℕ) : Prop where
  le : n + 256 ≤ 2048
  hq : ∀ (r : Fin 256) (l : Fin 128), q (ix3 0 r l) = x0 (ix3 0 ⟨n + r.val, by omega⟩ l)
  hK : ∀ (l : Fin 128) (c : Fin 2048), K (ix3 0 l c) = x1 (ix3 0 l c)
  hW : ∀ (l : Fin 128) (c : Fin 2048), W (ix3 0 l c) = x2 (ix3 0 l c)
  hg : ∀ (r : Fin 256) (l : Fin 128), g (ix3 0 r l) = x3 (ix3 0 ⟨n + r.val, by omega⟩ l)
  hcc : ∀ (r : Fin 256) (l : Fin 128), cc (ix3 0 r l) = x4 (ix3 0 ⟨n + r.val, by omega⟩ l)
  h0 : ∀ c : Fin 2048, c0 (ix3 0 0 c) = x5 (ix3 0 ⟨2 * p.val + 0, by omega⟩ c)
  h1 : ∀ c : Fin 2048, c1 (ix3 0 0 c) = x5 (ix3 0 ⟨2 * p.val + 1, by omega⟩ c)

variable {x0 x1 x2 x3 x4 x5 q K W g cc c0 c1 p}

theorem sum_two_halves (f : Fin 128 → EReal) :
    ∑ l, f l = (∑ d : Fin 64, f ⟨d.val, by omega⟩) + ∑ d : Fin 64, f ⟨64 + d.val, by omega⟩ := by
  exact Fin.sum_univ_add (a := 64) (b := 64) f

theorem rowS_low {n : ℕ} (L : Loads x0 x1 x2 x3 x4 x5 q K W g cc c0 c1 p n) (r : Fin 256) (c : Fin 2048) :
    rowS q K cc c0 ⟨r.val, by omega⟩ r ⟨2 * p.val + 0, by omega⟩ c
      = pairS x0 x1 x4 x5 p 0 ⟨n + r.val, by have := L.le; omega⟩ c := by
  unfold rowS pairS
  rw [sum_two_halves, L.hcc, L.h0]
  congr 2
  rw [Finset.sum_eq_zero (s := Finset.univ) (f := fun d : Fin 64 => q2 q (ix2 ⟨r.val, by omega⟩ ⟨64 + d.val, by omega⟩) * K (ix3 0 ⟨64 + d.val, by omega⟩ c)), add_zero]
  · refine Finset.sum_congr rfl fun d _ => ?_
    rw [q2_apply, dif_pos (show (⟨r.val, by omega⟩ : Fin 512).val < 256 from r.isLt), if_pos (show (⟨d.val, by omega⟩ : Fin 128).val < 64 from d.isLt), L.hq, L.hK]
    simp
  · intro d _
    rw [q2_apply, dif_pos (show (⟨r.val, by omega⟩ : Fin 512).val < 256 from r.isLt), if_neg (by simp), zero_mul]

theorem rowS_high {n : ℕ} (L : Loads x0 x1 x2 x3 x4 x5 q K W g cc c0 c1 p n) (r : Fin 256) (c : Fin 2048) :
    rowS q K cc c1 ⟨256 + r.val, by omega⟩ r ⟨2 * p.val + 1, by omega⟩ c
      = pairS x0 x1 x4 x5 p 1 ⟨n + r.val, by have := L.le; omega⟩ c := by
  unfold rowS pairS
  rw [sum_two_halves, L.hcc, L.h1]
  congr 2
  rw [Finset.sum_eq_zero (s := Finset.univ) (f := fun d : Fin 64 => q2 q (ix2 ⟨256 + r.val, by omega⟩ ⟨d.val, by omega⟩) * K (ix3 0 ⟨d.val, by omega⟩ c)), zero_add]
  · refine Finset.sum_congr rfl fun d _ => ?_
    rw [q2_apply, dif_neg (by simp), if_neg (by simp), L.hK]
    have : (⟨(⟨256 + r.val, by omega⟩ : Fin 512).val - 256, by simp⟩ : Fin 256) = r := Fin.ext (by simp)
    rw [this, L.hq]
    simp
  · intro d _
    rw [q2_apply, dif_neg (by simp), if_pos (show (⟨d.val, by omega⟩ : Fin 128).val < 64 from d.isLt), zero_mul]

/-- A row of a block after the first. -/
theorem value_blk2 {n : ℕ} (L : Loads x0 x1 x2 x3 x4 x5 q K W g cc c0 c1 p n)
    (hb : ∀ u r c, pairS x0 x1 x4 x5 p u r c ≠ ⊥) (ht : ∀ u r c, pairS x0 x1 x4 x5 p u r c ≠ ⊤) (r : Fin 256) (l : Fin 128) :
    (if l.val < 64 then
        blk2 (fun x : Fin 256 => if x.val ≤ r.val then rowS q K cc c0 ⟨r.val, by omega⟩ r ⟨2 * p.val + 0, by omega⟩ ⟨n + x.val, by have := L.le; omega⟩ else ⊥)
          (fun x => W (ix3 0 l ⟨n + x.val, by have := L.le; omega⟩))
          (fun x : Fin n => rowS q K cc c0 ⟨r.val, by omega⟩ r ⟨2 * p.val + 0, by omega⟩ ⟨x.val, by have := L.le; omega⟩) (fun x => W (ix3 0 l ⟨x.val, by have := L.le; omega⟩))
      else
        blk2 (fun x : Fin 256 => if x.val ≤ r.val then rowS q K cc c1 ⟨256 + r.val, by omega⟩ r ⟨2 * p.val + 1, by omega⟩ ⟨n + x.val, by have := L.le; omega⟩ else ⊥)
          (fun x => W (ix3 0 l ⟨n + x.val, by have := L.le; omega⟩))
          (fun x : Fin n => rowS q K cc c1 ⟨256 + r.val, by omega⟩ r ⟨2 * p.val + 1, by omega⟩ ⟨x.val, by have := L.le; omega⟩) (fun x => W (ix3 0 l ⟨x.val, by have := L.le; omega⟩)))
      * Ideal.div 1 (1 + Ideal.exp (0 - g (ix3 0 r l)))
    = pairVal x0 x1 x2 x3 x4 x5 p ⟨n + r.val, by have := L.le; omega⟩ l := by
  have hle := L.le
  unfold pairVal
  rw [L.hg]
  congr 1
  rw [soft_eq_blk2 _ _ n 256 hle ⟨n + r.val, by omega⟩]
  · simp only [rowS_low L, rowS_high L, L.hW]
    by_cases hl : l.val < 64
    · rw [if_pos hl]
      simp only [half, if_pos hl, Nat.add_le_add_iff_left]
      congr 1
      funext x
      rw [if_pos (by omega)]
    · rw [if_neg hl]
      simp only [half, if_neg hl, Nat.add_le_add_iff_left]
      congr 1
      funext x
      rw [if_pos (by omega)]
  · rw [if_pos le_rfl]; exact hb _ _ _
  · intro k
    split
    · exact ht _ _ _
    · exact bot_ne_top
  · intro k hk
    rw [if_neg (by simp only; omega)]

/-- A row of the first block. -/
theorem value_blk1 (L : Loads x0 x1 x2 x3 x4 x5 q K W g cc c0 c1 p 0)
    (hb : ∀ u r c, pairS x0 x1 x4 x5 p u r c ≠ ⊥) (ht : ∀ u r c, pairS x0 x1 x4 x5 p u r c ≠ ⊤) (r : Fin 256) (l : Fin 128) :
    (if l.val < 64 then
        blk1 (fun x : Fin 256 => if x.val ≤ r.val then rowS q K cc c0 ⟨r.val, by omega⟩ r ⟨2 * p.val + 0, by omega⟩ ⟨0 + x.val, by omega⟩ else ⊥)
          (fun x => W (ix3 0 l ⟨0 + x.val, by omega⟩))
      else
        blk1 (fun x : Fin 256 => if x.val ≤ r.val then rowS q K cc c1 ⟨256 + r.val, by omega⟩ r ⟨2 * p.val + 1, by omega⟩ ⟨0 + x.val, by omega⟩ else ⊥)
          (fun x => W (ix3 0 l ⟨0 + x.val, by omega⟩)))
      * Ideal.div 1 (1 + Ideal.exp (0 - g (ix3 0 r l)))
    = pairVal x0 x1 x2 x3 x4 x5 p ⟨0 + r.val, by omega⟩ l := by
  unfold pairVal
  rw [L.hg]
  congr 1
  rw [soft_eq_blk1 _ _ 256 (by omega) ⟨0 + r.val, by omega⟩]
  · simp only [rowS_low L, rowS_high L, L.hW]
    by_cases hl : l.val < 64
    · rw [if_pos hl]
      simp only [half, if_pos hl, Nat.zero_add]
    · rw [if_neg hl]
      simp only [half, if_neg hl, Nat.zero_add]
  · rw [if_pos le_rfl]; exact hb _ _ _
  · intro k
    split
    · exact ht _ _ _
    · exact bot_ne_top
  · intro k hk
    rw [if_neg (by simp only; omega)]

end Cert.KernelIdeal.Fox
-- ==== Proof.FoxPoint.lean ====
/- What one point of the attention kernel's grid leaves in its output block: the eight blocks of queries together
   hold the causal softmax attention of every row. -/
module

public import proofs.«01_k».proof.Proof.FoxBlock0
public import proofs.«01_k».proof.Proof.FoxBlock1
public import proofs.«01_k».proof.Proof.FoxBlock2
public import proofs.«01_k».proof.Proof.FoxBlock3
public import proofs.«01_k».proof.Proof.FoxBlock4
public import proofs.«01_k».proof.Proof.FoxBlock5
public import proofs.«01_k».proof.Proof.FoxBlock6
public import proofs.«01_k».proof.Proof.FoxBlock7
public import proofs.«01_k».proof.Proof.FoxRow

@[expose] public section

set_option maxRecDepth 16384

noncomputable section

namespace Cert.KernelIdeal.Fox

open Idealize.ShloMosaic Cert.KernelIdeal Cert.KernelIdeal.Gen Idealize.ShloMosaic.TcCoe

/-- The word of the pair's first head. -/
theorem word0 (i : grid0.Coords) : Scalar.addi (Scalar.muli 2#32 (BitVec.ofNat 32 (i 1).val)) 0#32 = BitVec.ofNat 32 (2 * (i 1).val + 0) := by
  have h : (i 1).val < 4 := (i 1).isLt
  simp only [Scalar.addi, Scalar.muli, IntOp.addi, IntOp.muli]
  apply BitVec.eq_of_toNat_eq
  simp

/-- The word of the pair's second head. -/
theorem word1 (i : grid0.Coords) : Scalar.addi (Scalar.muli 2#32 (BitVec.ofNat 32 (i 1).val)) 1#32 = BitVec.ofNat 32 (2 * (i 1).val + 1) := by
  have h : (i 1).val < 4 := (i 1).isLt
  simp only [Scalar.addi, Scalar.muli, IntOp.addi, IntOp.muli]
  apply BitVec.eq_of_toNat_eq
  simp

theorem off0 (i : grid0.Coords) : k0_off1 i 0#32 = ![0, 2 * (i 1).val + 0, 0] := by
  have h : (i 1).val < 4 := (i 1).isLt
  have e := congrArg BitVec.toNat (word0 i)
  rw [BitVec.toNat_ofNat, Nat.mod_eq_of_lt (by omega)] at e
  rw [← e]
  rfl

theorem off1 (i : grid0.Coords) : k0_off1 i 1#32 = ![0, 2 * (i 1).val + 1, 0] := by
  have h : (i 1).val < 4 := (i 1).isLt
  have e := congrArg BitVec.toNat (word1 i)
  rw [BitVec.toNat_ofNat, Nat.mod_eq_of_lt (by omega)] at e
  rw [← e]
  rfl

theorem off0_le (i : grid0.Coords) (a : Fin 3) : k0_off1 i 0#32 a + S1x1x2048.size a ≤ S1x8x2048.size a := k0_off1_inb i 0 a
theorem off1_le (i : grid0.Coords) (a : Fin 3) : k0_off1 i 1#32 a + S1x1x2048.size a ≤ S1x8x2048.size a := k0_off1_inb i 1 a

section loads
variable (x0 : Vec Ideal S1x2048x128 .bf16) (x1 : Vec Ideal S1x128x2048 .f32) (x3 : Vec Ideal S1x2048x128 .f32) (x5 : Vec Ideal S1x8x2048 .f32)

theorem ld_rows16 (n : ℕ) (hn : n + 256 ≤ 2048) (h) (r : Fin 256) (l : Fin 128) :
    View.ld x0 (Rect.unit (s := S1x2048x128) ![0, n, 0] S1x256x128.size h) (ix3 0 r l) = x0 (ix3 0 ⟨n + r.val, by omega⟩ l) := by
  unfold View.ld
  congr 1
  funext a
  apply Fin.ext
  fin_cases a <;> simp [ix3]

theorem ld_rows32 (n : ℕ) (hn : n + 256 ≤ 2048) (h) (r : Fin 256) (l : Fin 128) :
    View.ld x3 (Rect.unit (s := S1x2048x128) ![0, n, 0] S1x256x128.size h) (ix3 0 r l) = x3 (ix3 0 ⟨n + r.val, by omega⟩ l) := by
  unfold View.ld
  congr 1
  funext a
  apply Fin.ext
  fin_cases a <;> simp [ix3]

theorem ld_whole (h) (l : Fin 128) (c : Fin 2048) :
    View.ld x1 (Rect.unit (s := S1x128x2048) ![0, 0, 0] S1x128x2048.size h) (ix3 0 l c) = x1 (ix3 0 l c) := by
  unfold View.ld
  congr 1
  funext a
  apply Fin.ext
  fin_cases a <;> simp [ix3]

theorem ld_row (o : Fin 3 → ℕ) (w : ℕ) (ho : o = ![0, w, 0]) (hw : w < 8) (h) (c : Fin 2048) :
    View.ld x5 (Rect.unit (s := S1x8x2048) o S1x1x2048.size h) (ix3 0 0 c) = x5 (ix3 0 ⟨w, hw⟩ c) := by
  subst ho
  unfold View.ld
  congr 1
  funext a
  apply Fin.ext
  fin_cases a <;> simp [ix3]

end loads

/-- An index of a block of 256 rows. -/
theorem idx_block (x : S1x256x128.Idx) : ∃ (r : Fin 256) (l : Fin 128), x = ix3 0 r l := by
  refine ⟨x 1, x 2, ?_⟩
  funext a
  fin_cases a
  · exact Subsingleton.elim (α := Fin 1) _ _
  · rfl
  · rfl

/-- The whole block: row and lane of the index. -/
def blockVal (x0 : Vec Ideal S1x2048x128 .bf16) (x1 x2 : Vec Ideal S1x128x2048 .f32) (x3 x4 : Vec Ideal S1x2048x128 .f32)
    (x5 : Vec Ideal S1x8x2048 .f32) (p : Fin 4) : FVec Ideal S1x2048x128 .bf16 :=
  fun y => pairVal x0 x1 x2 x3 x4 x5 p (y 1) (y 2)

theorem blockVal_emb (x0 : Vec Ideal S1x2048x128 .bf16) (x1 x2 : Vec Ideal S1x128x2048 .f32) (x3 x4 : Vec Ideal S1x2048x128 .f32)
    (x5 : Vec Ideal S1x8x2048 .f32) (p : Fin 4) (n : ℕ) (hn : n + 256 ≤ 2048) (h) (r : Fin 256) (l : Fin 128) :
    blockVal x0 x1 x2 x3 x4 x5 p ((Rect.unit (s := S1x2048x128) ![0, n, 0] S1x256x128.size h).emb (ix3 0 r l))
      = pairVal x0 x1 x2 x3 x4 x5 p ⟨n + r.val, by omega⟩ l := by
  unfold blockVal
  congr 1
  · apply Fin.ext
    simp [ix3]
  · apply Fin.ext
    simp [ix3]

set_option maxHeartbeats 1000000 in
/-- The block one point leaves, when every score is finite. -/
theorem point_value (c : Dev nD) (i : grid0.Coords) (arg2 : Memref sig .tc .vmem S1x2048x128 .bf16) (harg2 : arg2.IsWhole) (arg3 : Memref sig .tc .vmem S1x128x2048 .f32) (harg3 : arg3.IsWhole) (arg4 : Memref sig .tc .vmem S1x128x2048 .f32) (harg4 : arg4.IsWhole) (arg5 : Memref sig .tc .vmem S1x2048x128 .f32) (harg5 : arg5.IsWhole) (arg6 : Memref sig .tc .vmem S1x2048x128 .f32) (harg6 : arg6.IsWhole) (arg7 : Memref sig .tc .vmem S1x8x2048 .f32) (harg7 : arg7.IsWhole) (arg8 : Memref sig .tc .vmem S1x2048x128 .bf16) (harg8 : arg8.IsWhole)
    (x0 : Vec Ideal S1x2048x128 .bf16) (x1 x2 : Vec Ideal S1x128x2048 .f32) (x3 x4 : Vec Ideal S1x2048x128 .f32) (x5 : Vec Ideal S1x8x2048 .f32)
    (hb : ∀ u r c, pairS x0 x1 x4 x5 (i 1) u r c ≠ ⊥) (ht : ∀ u r c, pairS x0 x1 x4 x5 (i 1) u r c ≠ ⊤) :
    out0_A_6 c i arg2 harg2 arg3 harg3 arg4 harg4 arg5 harg5 arg6 harg6 arg7 harg7 arg8 harg8 x0 x1 x2 x3 x4 x5 = blockVal x0 x1 x2 x3 x4 x5 (i 1) := by
  unfold out0_A_6
  rw [View.read_writes_eq_canon _ _ _ (cover0_A_6 c i arg2 harg2 arg3 harg3 arg4 harg4 arg5 harg5 arg6 harg6 arg7 harg7 arg8 harg8 x0 x1 x2 x3 x4 x5)]
  funext y
  refine View.canon_apply_of_pieces (blockVal x0 x1 x2 x3 x4 x5 (i 1)) _ ?_ y (cover0_A_6 c i arg2 harg2 arg3 harg3 arg4 harg4 arg5 harg5 arg6 harg6 arg7 harg7 arg8 harg8 x0 x1 x2 x3 x4 x5 y)
  unfold kernelRun0_A
  dsimp only
  sl_unfold_run_names
  simp only [View.readAt_eq_ld, harg2.read_unread, harg3.read_unread, harg4.read_unread, harg5.read_unread, harg6.read_unread, harg7.read_unread]
  simp only [List.forall_mem_cons]
  refine ⟨?_, ?_, ?_, ?_, ?_, ?_, ?_, ?_, List.forall_mem_nil _⟩
  · intro x
    obtain ⟨r, l, rfl⟩ := idx_block x
    rw [blockVal_emb x0 x1 x2 x3 x4 x5 (i 1) 1792 (by omega)]
    refine (congrFun (show _ = B7.out (Scalar.addi (Scalar.muli 2#32 (BitVec.ofNat 32 (i 1).val)) 0#32) (Scalar.addi (Scalar.muli 2#32 (BitVec.ofNat 32 (i 1).val)) 1#32)
      (View.ld x0 (Rect.unit ![0, 1792, 0] S1x256x128.size inb_S1x2048x128_S1x256x128_0_1792_0))
      (View.ld x1 (Rect.unit ![0, 0, 0] S1x128x2048.size inb_S1x128x2048_S1x128x2048_0_0_0))
      (View.ld x2 (Rect.unit ![0, 0, 0] S1x128x2048.size inb_S1x128x2048_S1x128x2048_0_0_0))
      (View.ld x3 (Rect.unit ![0, 1792, 0] S1x256x128.size inb_S1x2048x128_S1x256x128_0_1792_0))
      (View.ld x4 (Rect.unit ![0, 1792, 0] S1x256x128.size inb_S1x2048x128_S1x256x128_0_1792_0))
      (View.ld x5 (Rect.unit (k0_off1 i 0#32) S1x1x2048.size (off0_le i)))
      (View.ld x5 (Rect.unit (k0_off1 i 1#32) S1x1x2048.size (off1_le i))) from rfl) _).trans ?_
    refine (B7.out_apply _ _ _ _ _ _ _ _ _ ⟨2 * (i 1).val + 0, by have h : (i 1).val < 4 := (i 1).isLt; omega⟩
      ⟨2 * (i 1).val + 1, by have h : (i 1).val < 4 := (i 1).isLt; omega⟩ (word0 i) (word1 i) r l).trans ?_
    exact value_blk2 (p := i 1) ⟨by omega, ld_rows16 x0 1792 (by omega) _, ld_whole x1 _, ld_whole x2 _, ld_rows32 x3 1792 (by omega) _,
      ld_rows32 x4 1792 (by omega) _, ld_row x5 _ _ (off0 i) _ _, ld_row x5 _ _ (off1 i) _ _⟩ hb ht r l
  · intro x
    obtain ⟨r, l, rfl⟩ := idx_block x
    rw [blockVal_emb x0 x1 x2 x3 x4 x5 (i 1) 1536 (by omega)]
    refine (congrFun (show _ = B6.out (Scalar.addi (Scalar.muli 2#32 (BitVec.ofNat 32 (i 1).val)) 0#32) (Scalar.addi (Scalar.muli 2#32 (BitVec.ofNat 32 (i 1).val)) 1#32)
      (View.ld x0 (Rect.unit ![0, 1536, 0] S1x256x128.size inb_S1x2048x128_S1x256x128_0_1536_0))
      (View.ld x1 (Rect.unit ![0, 0, 0] S1x128x2048.size inb_S1x128x2048_S1x128x2048_0_0_0))
      (View.ld x2 (Rect.unit ![0, 0, 0] S1x128x2048.size inb_S1x128x2048_S1x128x2048_0_0_0))
      (View.ld x3 (Rect.unit ![0, 1536, 0] S1x256x128.size inb_S1x2048x128_S1x256x128_0_1536_0))
      (View.ld x4 (Rect.unit ![0, 1536, 0] S1x256x128.size inb_S1x2048x128_S1x256x128_0_1536_0))
      (View.ld x5 (Rect.unit (k0_off1 i 0#32) S1x1x2048.size (off0_le i)))
      (View.ld x5 (Rect.unit (k0_off1 i 1#32) S1x1x2048.size (off1_le i))) from rfl) _).trans ?_
    refine (B6.out_apply _ _ _ _ _ _ _ _ _ ⟨2 * (i 1).val + 0, by have h : (i 1).val < 4 := (i 1).isLt; omega⟩
      ⟨2 * (i 1).val + 1, by have h : (i 1).val < 4 := (i 1).isLt; omega⟩ (word0 i) (word1 i) r l).trans ?_
    exact value_blk2 (p := i 1) ⟨by omega, ld_rows16 x0 1536 (by omega) _, ld_whole x1 _, ld_whole x2 _, ld_rows32 x3 1536 (by omega) _,
      ld_rows32 x4 1536 (by omega) _, ld_row x5 _ _ (off0 i) _ _, ld_row x5 _ _ (off1 i) _ _⟩ hb ht r l
  · intro x
    obtain ⟨r, l, rfl⟩ := idx_block x
    rw [blockVal_emb x0 x1 x2 x3 x4 x5 (i 1) 1280 (by omega)]
    refine (congrFun (show _ = B5.out (Scalar.addi (Scalar.muli 2#32 (BitVec.ofNat 32 (i 1).val)) 0#32) (Scalar.addi (Scalar.muli 2#32 (BitVec.ofNat 32 (i 1).val)) 1#32)
      (View.ld x0 (Rect.unit ![0, 1280, 0] S1x256x128.size inb_S1x2048x128_S1x256x128_0_1280_0))
      (View.ld x1 (Rect.unit ![0, 0, 0] S1x128x2048.size inb_S1x128x2048_S1x128x2048_0_0_0))
      (View.ld x2 (Rect.unit ![0, 0, 0] S1x128x2048.size inb_S1x128x2048_S1x128x2048_0_0_0))
      (View.ld x3 (Rect.unit ![0, 1280, 0] S1x256x128.size inb_S1x2048x128_S1x256x128_0_1280_0))
      (View.ld x4 (Rect.unit ![0, 1280, 0] S1x256x128.size inb_S1x2048x128_S1x256x128_0_1280_0))
      (View.ld x5 (Rect.unit (k0_off1 i 0#32) S1x1x2048.size (off0_le i)))
      (View.ld x5 (Rect.unit (k0_off1 i 1#32) S1x1x2048.size (off1_le i))) from rfl) _).trans ?_
    refine (B5.out_apply _ _ _ _ _ _ _ _ _ ⟨2 * (i 1).val + 0, by have h : (i 1).val < 4 := (i 1).isLt; omega⟩
      ⟨2 * (i 1).val + 1, by have h : (i 1).val < 4 := (i 1).isLt; omega⟩ (word0 i) (word1 i) r l).trans ?_
    exact value_blk2 (p := i 1) ⟨by omega, ld_rows16 x0 1280 (by omega) _, ld_whole x1 _, ld_whole x2 _, ld_rows32 x3 1280 (by omega) _,
      ld_rows32 x4 1280 (by omega) _, ld_row x5 _ _ (off0 i) _ _, ld_row x5 _ _ (off1 i) _ _⟩ hb ht r l
  · intro x
    obtain ⟨r, l, rfl⟩ := idx_block x
    rw [blockVal_emb x0 x1 x2 x3 x4 x5 (i 1) 1024 (by omega)]
    refine (congrFun (show _ = B4.out (Scalar.addi (Scalar.muli 2#32 (BitVec.ofNat 32 (i 1).val)) 0#32) (Scalar.addi (Scalar.muli 2#32 (BitVec.ofNat 32 (i 1).val)) 1#32)
      (View.ld x0 (Rect.unit ![0, 1024, 0] S1x256x128.size inb_S1x2048x128_S1x256x128_0_1024_0))
      (View.ld x1 (Rect.unit ![0, 0, 0] S1x128x2048.size inb_S1x128x2048_S1x128x2048_0_0_0))
      (View.ld x2 (Rect.unit ![0, 0, 0] S1x128x2048.size inb_S1x128x2048_S1x128x2048_0_0_0))
      (View.ld x3 (Rect.unit ![0, 1024, 0] S1x256x128.size inb_S1x2048x128_S1x256x128_0_1024_0))
      (View.ld x4 (Rect.unit ![0, 1024, 0] S1x256x128.size inb_S1x2048x128_S1x256x128_0_1024_0))
      (View.ld x5 (Rect.unit (k0_off1 i 0#32) S1x1x2048.size (off0_le i)))
      (View.ld x5 (Rect.unit (k0_off1 i 1#32) S1x1x2048.size (off1_le i))) from rfl) _).trans ?_
    refine (B4.out_apply _ _ _ _ _ _ _ _ _ ⟨2 * (i 1).val + 0, by have h : (i 1).val < 4 := (i 1).isLt; omega⟩
      ⟨2 * (i 1).val + 1, by have h : (i 1).val < 4 := (i 1).isLt; omega⟩ (word0 i) (word1 i) r l).trans ?_
    exact value_blk2 (p := i 1) ⟨by omega, ld_rows16 x0 1024 (by omega) _, ld_whole x1 _, ld_whole x2 _, ld_rows32 x3 1024 (by omega) _,
      ld_rows32 x4 1024 (by omega) _, ld_row x5 _ _ (off0 i) _ _, ld_row x5 _ _ (off1 i) _ _⟩ hb ht r l
  · intro x
    obtain ⟨r, l, rfl⟩ := idx_block x
    rw [blockVal_emb x0 x1 x2 x3 x4 x5 (i 1) 768 (by omega)]
    refine (congrFun (show _ = B3.out (Scalar.addi (Scalar.muli 2#32 (BitVec.ofNat 32 (i 1).val)) 0#32) (Scalar.addi (Scalar.muli 2#32 (BitVec.ofNat 32 (i 1).val)) 1#32)
      (View.ld x0 (Rect.unit ![0, 768, 0] S1x256x128.size inb_S1x2048x128_S1x256x128_0_768_0))
      (View.ld x1 (Rect.unit ![0, 0, 0] S1x128x2048.size inb_S1x128x2048_S1x128x2048_0_0_0))
      (View.ld x2 (Rect.unit ![0, 0, 0] S1x128x2048.size inb_S1x128x2048_S1x128x2048_0_0_0))
      (View.ld x3 (Rect.unit ![0, 768, 0] S1x256x128.size inb_S1x2048x128_S1x256x128_0_768_0))
      (View.ld x4 (Rect.unit ![0, 768, 0] S1x256x128.size inb_S1x2048x128_S1x256x128_0_768_0))
      (View.ld x5 (Rect.unit (k0_off1 i 0#32) S1x1x2048.size (off0_le i)))
      (View.ld x5 (Rect.unit (k0_off1 i 1#32) S1x1x2048.size (off1_le i))) from rfl) _).trans ?_
    refine (B3.out_apply _ _ _ _ _ _ _ _ _ ⟨2 * (i 1).val + 0, by have h : (i 1).val < 4 := (i 1).isLt; omega⟩
      ⟨2 * (i 1).val + 1, by have h : (i 1).val < 4 := (i 1).isLt; omega⟩ (word0 i) (word1 i) r l).trans ?_
    exact value_blk2 (p := i 1) ⟨by omega, ld_rows16 x0 768 (by omega) _, ld_whole x1 _, ld_whole x2 _, ld_rows32 x3 768 (by omega) _,
      ld_rows32 x4 768 (by omega) _, ld_row x5 _ _ (off0 i) _ _, ld_row x5 _ _ (off1 i) _ _⟩ hb ht r l
  · intro x
    obtain ⟨r, l, rfl⟩ := idx_block x
    rw [blockVal_emb x0 x1 x2 x3 x4 x5 (i 1) 512 (by omega)]
    refine (congrFun (show _ = B2.out (Scalar.addi (Scalar.muli 2#32 (BitVec.ofNat 32 (i 1).val)) 0#32) (Scalar.addi (Scalar.muli 2#32 (BitVec.ofNat 32 (i 1).val)) 1#32)
      (View.ld x0 (Rect.unit ![0, 512, 0] S1x256x128.size inb_S1x2048x128_S1x256x128_0_512_0))
      (View.ld x1 (Rect.unit ![0, 0, 0] S1x128x2048.size inb_S1x128x2048_S1x128x2048_0_0_0))
      (View.ld x2 (Rect.unit ![0, 0, 0] S1x128x2048.size inb_S1x128x2048_S1x128x2048_0_0_0))
      (View.ld x3 (Rect.unit ![0, 512, 0] S1x256x128.size inb_S1x2048x128_S1x256x128_0_512_0))
      (View.ld x4 (Rect.unit ![0, 512, 0] S1x256x128.size inb_S1x2048x128_S1x256x128_0_512_0))
      (View.ld x5 (Rect.unit (k0_off1 i 0#32) S1x1x2048.size (off0_le i)))
      (View.ld x5 (Rect.unit (k0_off1 i 1#32) S1x1x2048.size (off1_le i))) from rfl) _).trans ?_
    refine (B2.out_apply _ _ _ _ _ _ _ _ _ ⟨2 * (i 1).val + 0, by have h : (i 1).val < 4 := (i 1).isLt; omega⟩
      ⟨2 * (i 1).val + 1, by have h : (i 1).val < 4 := (i 1).isLt; omega⟩ (word0 i) (word1 i) r l).trans ?_
    exact value_blk2 (p := i 1) ⟨by omega, ld_rows16 x0 512 (by omega) _, ld_whole x1 _, ld_whole x2 _, ld_rows32 x3 512 (by omega) _,
      ld_rows32 x4 512 (by omega) _, ld_row x5 _ _ (off0 i) _ _, ld_row x5 _ _ (off1 i) _ _⟩ hb ht r l
  · intro x
    obtain ⟨r, l, rfl⟩ := idx_block x
    rw [blockVal_emb x0 x1 x2 x3 x4 x5 (i 1) 256 (by omega)]
    refine (congrFun (show _ = B1.out (Scalar.addi (Scalar.muli 2#32 (BitVec.ofNat 32 (i 1).val)) 0#32) (Scalar.addi (Scalar.muli 2#32 (BitVec.ofNat 32 (i 1).val)) 1#32)
      (View.ld x0 (Rect.unit ![0, 256, 0] S1x256x128.size inb_S1x2048x128_S1x256x128_0_256_0))
      (View.ld x1 (Rect.unit ![0, 0, 0] S1x128x2048.size inb_S1x128x2048_S1x128x2048_0_0_0))
      (View.ld x2 (Rect.unit ![0, 0, 0] S1x128x2048.size inb_S1x128x2048_S1x128x2048_0_0_0))
      (View.ld x3 (Rect.unit ![0, 256, 0] S1x256x128.size inb_S1x2048x128_S1x256x128_0_256_0))
      (View.ld x4 (Rect.unit ![0, 256, 0] S1x256x128.size inb_S1x2048x128_S1x256x128_0_256_0))
      (View.ld x5 (Rect.unit (k0_off1 i 0#32) S1x1x2048.size (off0_le i)))
      (View.ld x5 (Rect.unit (k0_off1 i 1#32) S1x1x2048.size (off1_le i))) from rfl) _).trans ?_
    refine (B1.out_apply _ _ _ _ _ _ _ _ _ ⟨2 * (i 1).val + 0, by have h : (i 1).val < 4 := (i 1).isLt; omega⟩
      ⟨2 * (i 1).val + 1, by have h : (i 1).val < 4 := (i 1).isLt; omega⟩ (word0 i) (word1 i) r l).trans ?_
    exact value_blk2 (p := i 1) ⟨by omega, ld_rows16 x0 256 (by omega) _, ld_whole x1 _, ld_whole x2 _, ld_rows32 x3 256 (by omega) _,
      ld_rows32 x4 256 (by omega) _, ld_row x5 _ _ (off0 i) _ _, ld_row x5 _ _ (off1 i) _ _⟩ hb ht r l
  · intro x
    obtain ⟨r, l, rfl⟩ := idx_block x
    rw [blockVal_emb x0 x1 x2 x3 x4 x5 (i 1) 0 (by omega)]
    refine (congrFun (show _ = B0.out (Scalar.addi (Scalar.muli 2#32 (BitVec.ofNat 32 (i 1).val)) 0#32) (Scalar.addi (Scalar.muli 2#32 (BitVec.ofNat 32 (i 1).val)) 1#32)
      (View.ld x0 (Rect.unit ![0, 0, 0] S1x256x128.size inb_S1x2048x128_S1x256x128_0_0_0))
      (View.ld x1 (Rect.unit ![0, 0, 0] S1x128x2048.size inb_S1x128x2048_S1x128x2048_0_0_0))
      (View.ld x2 (Rect.unit ![0, 0, 0] S1x128x2048.size inb_S1x128x2048_S1x128x2048_0_0_0))
      (View.ld x3 (Rect.unit ![0, 0, 0] S1x256x128.size inb_S1x2048x128_S1x256x128_0_0_0))
      (View.ld x4 (Rect.unit ![0, 0, 0] S1x256x128.size inb_S1x2048x128_S1x256x128_0_0_0))
      (View.ld x5 (Rect.unit (k0_off1 i 0#32) S1x1x2048.size (off0_le i)))
      (View.ld x5 (Rect.unit (k0_off1 i 1#32) S1x1x2048.size (off1_le i))) from rfl) _).trans ?_
    refine (B0.out_apply _ _ _ _ _ _ _ _ _ ⟨2 * (i 1).val + 0, by have h : (i 1).val < 4 := (i 1).isLt; omega⟩
      ⟨2 * (i 1).val + 1, by have h : (i 1).val < 4 := (i 1).isLt; omega⟩ (word0 i) (word1 i) r l).trans ?_
    exact value_blk1 (p := i 1) ⟨by omega, ld_rows16 x0 0 (by omega) _, ld_whole x1 _, ld_whole x2 _, ld_rows32 x3 0 (by omega) _,
      ld_rows32 x4 0 (by omega) _, ld_row x5 _ _ (off0 i) _ _, ld_row x5 _ _ (off1 i) _ _⟩ hb ht r l

end Cert.KernelIdeal.Fox
-- ==== Proof.FoxSpec.lean ====
/- The forgetting attention of one layer, written as one formula over the whole arrays: the causal softmax of the
   queries against the keys with the two decay terms, applied to the values, times the logistic of the gate. -/
module

public import proofs.«01_k».proof.Proof.FoxMath

@[expose] public section

noncomputable section

namespace Cert.FoxSpec

open Idealize.ShloMosaic Cert.FoxMath

/-- The score of row `r` against column `c` in head `h` of batch `b`: the 64 products, plus the row's decay,
    minus the column's. -/
def score (q : Fin 32 → Fin 2048 → Fin 512 → EReal) (k : Fin 32 → Fin 512 → Fin 2048 → EReal)
    (cc : Fin 32 → Fin 2048 → Fin 128 → EReal) (cr : Fin 32 → Fin 8 → Fin 2048 → EReal)
    (b : Fin 32) (h : Fin 8) (r c : Fin 2048) : EReal :=
  (∑ d : Fin 64, q b r ⟨64 * h.val + d.val, by omega⟩ * k b ⟨64 * h.val + d.val, by omega⟩ c)
    + cc b r ⟨h.val, by omega⟩ - cr b h c

/-- The head of a column. -/
def headOf (l : Fin 512) : Fin 8 := ⟨l.val / 64, by omega⟩

/-- The gated attention at batch `b`, row `r`, column `l`. -/
def att (q : Fin 32 → Fin 2048 → Fin 512 → EReal) (k v : Fin 32 → Fin 512 → Fin 2048 → EReal)
    (g : Fin 32 → Fin 2048 → Fin 512 → EReal)
    (cc : Fin 32 → Fin 2048 → Fin 128 → EReal) (cr : Fin 32 → Fin 8 → Fin 2048 → EReal)
    (b : Fin 32) (r : Fin 2048) (l : Fin 512) : EReal :=
  soft (fun c => if c.val ≤ r.val then score q k cc cr b (headOf l) r c else ⊥) (fun c => v b l c)
    * Ideal.div 1 (1 + Ideal.exp (0 - g b r l))

/-- A sum of real numbers is a real number. -/
theorem sum_real {ι : Type} (s : Finset ι) (f : ι → EReal) (hf : ∀ i, ∃ x : ℝ, f i = x) : ∃ x : ℝ, ∑ i ∈ s, f i = x := by
  choose x hx using hf
  exact ⟨∑ i ∈ s, x i, by simp only [hx]; exact (map_sum (⟨⟨((↑) : ℝ → EReal), rfl⟩, EReal.coe_add⟩ : ℝ →+ EReal) x s).symm⟩

/-- Real queries, keys and decays make real scores. -/
theorem score_real (q : Fin 32 → Fin 2048 → Fin 512 → EReal) (k : Fin 32 → Fin 512 → Fin 2048 → EReal)
    (cc : Fin 32 → Fin 2048 → Fin 128 → EReal) (cr : Fin 32 → Fin 8 → Fin 2048 → EReal)
    (hq : ∀ b r l, ∃ x : ℝ, q b r l = x) (hk : ∀ b l c, ∃ x : ℝ, k b l c = x)
    (hcc : ∀ b r h, ∃ x : ℝ, cc b r h = x) (hcr : ∀ b h c, ∃ x : ℝ, cr b h c = x)
    (b : Fin 32) (h : Fin 8) (r c : Fin 2048) : ∃ x : ℝ, score q k cc cr b h r c = x := by
  obtain ⟨s, hs⟩ := sum_real Finset.univ
    (fun d : Fin 64 => q b r ⟨64 * h.val + d.val, by omega⟩ * k b ⟨64 * h.val + d.val, by omega⟩ c) (fun d => by
      obtain ⟨x, hx⟩ := hq b r ⟨64 * h.val + d.val, by omega⟩
      obtain ⟨y, hy⟩ := hk b ⟨64 * h.val + d.val, by omega⟩ c
      exact ⟨x * y, by rw [hx, hy, EReal.coe_mul]⟩)
  obtain ⟨y, hy⟩ := hcc b r ⟨h.val, by omega⟩
  obtain ⟨z, hz⟩ := hcr b h c
  exact ⟨s + y - z, by unfold score; rw [hs, hy, hz, ← EReal.coe_add, ← EReal.coe_sub]⟩

end Cert.FoxSpec

end
-- ==== Proof.FoxArray.lean ====
/- The attention kernel's result array: the blocks its grid points leave, put together, hold the gated attention of
   the argument arrays. -/
module

public import proofs.«01_k».proof.Proof.FoxPoint
public import proofs.«01_k».proof.Proof.FoxSpec
public import proofs.«01_k».proof.Proof.Gen.KernelIdeal.Value
public import Idealize.ShloMosaic.Lib.Pipeline.ValueKit

@[expose] public section

set_option maxRecDepth 16384

noncomputable section

namespace Cert.KernelIdeal.Fox

open Idealize.ShloMosaic Cert.KernelIdeal Cert.KernelIdeal.Gen Idealize.ShloMosaic.TcCoe Idealize.SL.Sem Cert.FoxMath

variable (m : (ℓ : Loc nD τ sig) → Buf (Elt Ideal) ℓ)

/-- The argument arrays by their coordinates. -/
abbrev qA (c : Dev nD) (b : Fin 32) (r : Fin 2048) (l : Fin 512) : EReal := m ((c : Thread nD τ).loc main_arg0) (ix3 b r l)
abbrev kA (c : Dev nD) (b : Fin 32) (l : Fin 512) (k : Fin 2048) : EReal := m ((c : Thread nD τ).loc main_arg1) (ix3 b l k)
abbrev vA (c : Dev nD) (b : Fin 32) (l : Fin 512) (k : Fin 2048) : EReal := m ((c : Thread nD τ).loc main_arg2) (ix3 b l k)
abbrev gA (c : Dev nD) (b : Fin 32) (r : Fin 2048) (l : Fin 512) : EReal := m ((c : Thread nD τ).loc main_arg3) (ix3 b r l)
abbrev ccA (c : Dev nD) (b : Fin 32) (r : Fin 2048) (h : Fin 128) : EReal := m ((c : Thread nD τ).loc main_arg4) (ix3 b r h)
abbrev crA (c : Dev nD) (b : Fin 32) (h : Fin 8) (k : Fin 2048) : EReal := m ((c : Thread nD τ).loc main_arg5) (ix3 b h k)

/-- The block each window takes at a grid point. -/
theorem idx0 : ∀ t : Fin cfg0.N, win0_0.index t = ![(grid0.coords t 0).val, 0, (grid0.coords t 1).val] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, (grid0.coords t 1).val, 0] := (by decide +kernel : ∀ t : Fin grid0.N, _)
theorem idx3 : ∀ t : Fin cfg0.N, win0_3.index t = ![(grid0.coords t 0).val, 0, (grid0.coords t 1).val] := (by decide +kernel : ∀ t : Fin grid0.N, _)
theorem idx4 : ∀ t : Fin cfg0.N, win0_4.index t = ![(grid0.coords t 0).val, 0, 0] := (by decide +kernel : ∀ t : Fin grid0.N, _)
theorem idx5 : ∀ t : Fin cfg0.N, win0_5.index t = ![(grid0.coords t 0).val, 0, 0] := (by decide +kernel : ∀ t : Fin grid0.N, _)
theorem idx6 : ∀ t : Fin cfg0.N, win0_6.index t = ![(grid0.coords t 0).val, 0, (grid0.coords t 1).val] := (by decide +kernel : ∀ t : Fin grid0.N, _)

/-- The batch and the pair of heads of a grid point. -/
abbrev bt (t : Fin cfg0.N) : Fin 32 := grid0.coords t 0
abbrev pt (t : Fin cfg0.N) : Fin 4 := grid0.coords t 1

/-- A column of the pair's block, in the array. -/
abbrev colOf (p : Fin 4) (l : Fin 128) : Fin 512 := ⟨128 * p.val + l.val, by omega⟩

theorem iblk0 (c : Dev nD) (t : Fin cfg0.N) (r : Fin 2048) (l : Fin 128) : (iblk m c 0 t : Vec Ideal S1x2048x128 .bf16) (ix3 0 r l) = qA m c (bt t) r (colOf (pt t) l) := by
  unfold qA; blk_ext [iblk, V, idx0 t, bt, pt, colOf, Nat.mul_comm]
theorem iblk1 (c : Dev nD) (t : Fin cfg0.N) (l : Fin 128) (k : Fin 2048) : (iblk m c 1 t : Vec Ideal S1x128x2048 .f32) (ix3 0 l k) = kA m c (bt t) (colOf (pt t) l) k := by
  unfold kA; blk_ext [iblk, V, idx1 t, bt, pt, colOf, Nat.mul_comm]
theorem iblk2 (c : Dev nD) (t : Fin cfg0.N) (l : Fin 128) (k : Fin 2048) : (iblk m c 2 t : Vec Ideal S1x128x2048 .f32) (ix3 0 l k) = vA m c (bt t) (colOf (pt t) l) k := by
  unfold vA; blk_ext [iblk, V, idx2 t, bt, pt, colOf, Nat.mul_comm]
theorem iblk3 (c : Dev nD) (t : Fin cfg0.N) (r : Fin 2048) (l : Fin 128) : (iblk m c 3 t : Vec Ideal S1x2048x128 .f32) (ix3 0 r l) = gA m c (bt t) r (colOf (pt t) l) := by
  unfold gA; blk_ext [iblk, V, idx3 t, bt, pt, colOf, Nat.mul_comm]
theorem iblk4 (c : Dev nD) (t : Fin cfg0.N) (r : Fin 2048) (h : Fin 128) : (iblk m c 4 t : Vec Ideal S1x2048x128 .f32) (ix3 0 r h) = ccA m c (bt t) r h := by
  unfold ccA; blk_ext [iblk, V, idx4 t, bt, pt, colOf, Nat.mul_comm]
theorem iblk5 (c : Dev nD) (t : Fin cfg0.N) (h : Fin 8) (k : Fin 2048) : (iblk m c 5 t : Vec Ideal S1x8x2048 .f32) (ix3 0 h k) = crA m c (bt t) h k := by
  unfold crA; blk_ext [iblk, V, idx5 t, bt, pt, colOf, Nat.mul_comm]

/-- The score within the pair's block is the score of the arrays. -/
theorem pair_score (c : Dev nD) (t : Fin cfg0.N) (u : Fin 2) (r k : Fin 2048) :
    pairS (iblk m c 0 t) (iblk m c 1 t) (iblk m c 4 t) (iblk m c 5 t) (pt t) u r k
      = FoxSpec.score (qA m c) (kA m c) (ccA m c) (crA m c) (bt t) ⟨2 * (pt t).val + u.val, by have := (pt t).isLt; omega⟩ r k := by
  unfold pairS FoxSpec.score
  have e : ∀ d : Fin 64, (⟨128 * (pt t).val + (64 * u.val + d.val), by have := (pt t).isLt; omega⟩ : Fin 512)
      = ⟨64 * (2 * (pt t).val + u.val) + d.val, by have := (pt t).isLt; omega⟩ := fun d => Fin.ext (by dsimp only; omega)
  simp only [iblk0, iblk1, iblk4, iblk5, colOf, e]

/-- The gated attention of the arguments, as the result array. -/
def res (c : Dev nD) : FVec Ideal S32x2048x512 .bf16 :=
  fun i => FoxSpec.att (qA m c) (kA m c) (vA m c) (gA m c) (ccA m c) (crA m c) (i 0) (i 1) (i 2)

/-- Where every score is a real number, the kernel's result array is the gated attention. -/
theorem array_value (c : Dev nD)
    (hs : ∀ b h r k, ∃ x : ℝ, FoxSpec.score (qA m c) (kA m c) (ccA m c) (crA m c) b h r k = x) :
    (dats m 0 c).arrAt 6 cfg0.N = res m c := by
  refine (dats m 0 c).arrAt_eq_of_covers 6 _ (by decide +kernel) fun t hf y => ?_
  blk_simp
  rw [after0_6]
  unfold outsAt0
  rw [point_value c (grid0.coords t) _ _ _ _ _ _ _ _ _ _ _ _ _ _ _ _ _ _ _ _
    (fun u r k => by rw [pair_score]; obtain ⟨x, hx⟩ := hs (bt t) ⟨2 * (pt t).val + u.val, by have := (pt t).isLt; omega⟩ r k; rw [hx]; exact EReal.coe_ne_bot x)
    (fun u r k => by rw [pair_score]; obtain ⟨x, hx⟩ := hs (bt t) ⟨2 * (pt t).val + u.val, by have := (pt t).isLt; omega⟩ r k; rw [hx]; exact EReal.coe_ne_top x)]
  obtain ⟨r, l, rfl⟩ : ∃ (r : Fin 2048) (l : Fin 128), y = ix3 0 r l := ⟨y 1, y 2, by
    funext a; fin_cases a
    · exact Subsingleton.elim (α := Fin 1) _ _
    · rfl
    · rfl⟩
  have e : ((cfg0.win 6).blk t).view.emb (ix3 0 r l) = ix3 (bt t) r (colOf (pt t) l) := by
    blk_ext [idx6 t, bt, pt, colOf, Nat.mul_comm]
  refine Eq.trans ?_ (congrArg (res m c) e.symm)
  show pairVal _ _ _ _ _ _ (pt t) r l = FoxSpec.att _ _ _ _ _ _ (bt t) r (colOf (pt t) l)
  unfold pairVal FoxSpec.att
  have eh : FoxSpec.headOf (colOf (pt t) l) = ⟨2 * (pt t).val + (half l).val, by have := (pt t).isLt; have := (half l).isLt; omega⟩ := by
    apply Fin.ext
    have hp := (pt t).isLt
    simp only [FoxSpec.headOf, half, colOf]
    split_ifs <;> simp <;> omega
  simp only [pair_score, iblk2, iblk3, eh]

end Cert.KernelIdeal.Fox

end
-- ==== Proof.FoxRef.lean ====
/- The attention reference's result array, read entry by entry: it is the gated attention of its arguments. -/
module

public import proofs.«01_k».proof.Proof.FoxSpec
public import proofs.«01_k».proof.Proof.Gen.ReferenceIdeal.Read
public import Idealize.ShloMosaic.Lib.Pointwise
public import Idealize.ShloMosaic.Lib.WordCmp
public import Idealize.ShloMosaic.Lib.Tactic.CleanTypes

@[expose] public section

set_option maxRecDepth 16384

noncomputable section

namespace Cert.ReferenceIdeal.Fox

open Idealize.ShloMosaic Cert.ReferenceIdeal Cert.ReferenceIdeal.Gen Cert.ReferenceIdeal.Read Cert.FoxMath Cert.FoxSpec

variable (x0 : FVec Ideal S32x2048x512 .bf16) (x1 x2 : FVec Ideal S32x512x2048 .f32) (x3 : FVec Ideal S32x2048x512 .f32)
  (x4 : FVec Ideal S32x2048x128 .f32) (x5 : FVec Ideal S32x8x2048 .f32)

/-- The word of minus infinity. -/
theorem neg_inf : Ideal.ofBits FTy.f32 4286578688#32 = ⊥ := by simp [Ideal.ofBits, Ideal.ieee]

/-- The arguments by their coordinates. -/
abbrev qR (b : Fin 32) (r : Fin 2048) (l : Fin 512) : EReal := x0 (ix3 b r l)
abbrev kR (b : Fin 32) (l : Fin 512) (k : Fin 2048) : EReal := x1 (ix3 b l k)
abbrev vR (b : Fin 32) (l : Fin 512) (k : Fin 2048) : EReal := x2 (ix3 b l k)
abbrev gR (b : Fin 32) (r : Fin 2048) (l : Fin 512) : EReal := x3 (ix3 b r l)
abbrev ccR (b : Fin 32) (r : Fin 2048) (h : Fin 128) : EReal := x4 (ix3 b r h)
abbrev crR (b : Fin 32) (h : Fin 8) (k : Fin 2048) : EReal := x5 (ix3 b h k)

/-- The masked scores of a row. -/
abbrev rowR (b : Fin 32) (h : Fin 8) (r c : Fin 2048) : EReal :=
  if c.val ≤ r.val then score (qR x0) (kR x1) (ccR x4) (crR x5) b h r c else ⊥

/-- The scores before the mask. -/
theorem v12_apply (b : Fin 32) (h : Fin 8) (r c : Fin 2048) :
    val_main_v12 (F := Ideal) x0 x1 x4 x5 (ix4 b h r c) = score (qR x0) (kR x1) (ccR x4) (crR x5) b h r c := by
  pointwise [val_main_v12, val_main_v9, val_main_v4, val_main_v1, val_main_v0, val_main_v2, val_main_v8, val_main_v7, val_main_v6, val_main_v5, val_main_v11, val_main_v10]
  unfold score
  have e : ∀ d : Fin 64, (⟨h.val * 64 + d.val, by omega⟩ : Fin 512) = ⟨64 * h.val + d.val, by omega⟩ := fun d => Fin.ext (by dsimp only; omega)
  simp only [e]

/-- The scores after the mask. -/
theorem v21_apply (b : Fin 32) (h : Fin 8) (r c : Fin 2048) :
    val_main_v21 (F := Ideal) x0 x1 x4 x5 (ix4 b h r c) = rowR x0 x1 x4 x5 b h r c := by
  have hy := v12_apply x0 x1 x4 x5 b h r c
  unfold val_main_v21
  generalize val_main_v12 (F := Ideal) x0 x1 x4 x5 = y at hy
  pointwise [val_main_call0_v1, val_main_call0_v2, val_main_v20, val_main_v19, val_main_v18, val_main_v17, val_main_v16, val_main_v15, val_main_v14, val_main_v13, val_main_call0_v0, val_main_cst]
  rw [hy]
  have hr := r.isLt
  have hc := c.isLt
  rw [WordCmp.cmpi_sge_of_lt (by simp only [BitVec.toNat_ofNat]; omega) (by simp only [BitVec.toNat_ofNat]; omega)]
  simp only [BitVec.toNat_ofNat, Nat.mod_eq_of_lt (show r.val < 2 ^ 32 by omega), Nat.mod_eq_of_lt (show c.val < 2 ^ 32 by omega)]
  unfold rowR
  by_cases hle : c.val ≤ r.val
  · simp [hle, Scalar.select_def]
  · simp only [hle, decide_false, if_false, Scalar.select_def]
    exact neg_inf

/-- The greatest entry of a row of a four-axis array. -/
theorem max_row (y : FVec Ideal S32x8x2048x2048 .f32) (b : Fin 32) (h : Fin 8) (r : Fin 2048) :
    Host.reduce FloatOps.maximumf y (constant S_ .f32 0xFF800000#32) reducesTo_S32x8x2048x2048_S32x8x2048_d3 h_S_ (ix3 b h r)
      = Finset.fold max (Ideal.ofBits FTy.f32 4286578688#32) (fun x => y (ix4 b h r x)) Finset.univ := by
  pointwise []

/-- The greatest score of each row. -/
theorem v22_apply (b : Fin 32) (h : Fin 8) (r : Fin 2048) :
    val_main_v22 (F := Ideal) x0 x1 x4 x5 (ix3 b h r) = top (rowR x0 x1 x4 x5 b h r) := by
  have hy := fun c => v21_apply x0 x1 x4 x5 b h r c
  unfold val_main_v22 val_main_cst_0
  generalize val_main_v21 (F := Ideal) x0 x1 x4 x5 = y at hy
  change FVec Ideal S32x8x2048x2048 .f32 at y
  clean_types
  rw [max_row y b h r]
  unfold top
  rw [neg_inf]
  simp only [hy]

/-- The comparison with minus infinity changes nothing. -/
theorem max_bot (y : FVec Ideal S32x8x2048 .f32) (i : S32x8x2048.Idx) : maximumf (val_main_v23 (F := Ideal)) y i = y i := by
  obtain ⟨b, h, r, rfl⟩ : ∃ b h r, i = ix3 b h r := ⟨i 0, i 1, i 2, by funext a; fin_cases a <;> rfl⟩
  pointwise [val_main_v23, val_main_cst_1]
  rw [neg_inf]
  exact max_eq_right bot_le

/-- The greatest score of each row, as the softmax subtracts it. -/
theorem v24_apply (b : Fin 32) (h : Fin 8) (r : Fin 2048) :
    val_main_v24 (F := Ideal) x0 x1 x4 x5 (ix3 b h r) = top (rowR x0 x1 x4 x5 b h r) := by
  unfold val_main_v24
  rw [← v22_apply x0 x1 x4 x5 b h r]
  generalize val_main_v22 (F := Ideal) x0 x1 x4 x5 = y
  change FVec Ideal S32x8x2048 .f32 at y
  clean_types
  rw [max_bot y]

/-- The unnormalised weights. -/
theorem v28_apply (b : Fin 32) (h : Fin 8) (r c : Fin 2048) :
    val_main_v28 (F := Ideal) x0 x1 x4 x5 (ix4 b h r c)
      = Ideal.exp (rowR x0 x1 x4 x5 b h r c - top (rowR x0 x1 x4 x5 b h r)) := by
  have h21 := v21_apply x0 x1 x4 x5 b h r c
  have h24 := v24_apply x0 x1 x4 x5 b h r
  unfold val_main_v28 val_main_v27 val_main_v26 val_main_v25
  generalize val_main_v21 (F := Ideal) x0 x1 x4 x5 = y at h21
  generalize val_main_v24 (F := Ideal) x0 x1 x4 x5 = z at h24
  pointwise []
  rw [h21, h24]

/-- The softmax weights. -/
theorem v32_apply (b : Fin 32) (h : Fin 8) (r c : Fin 2048) :
    val_main_v32 (F := Ideal) x0 x1 x4 x5 (ix4 b h r c)
      = Ideal.div (Ideal.exp (rowR x0 x1 x4 x5 b h r c - top (rowR x0 x1 x4 x5 b h r)))
          (∑ k, Ideal.exp (rowR x0 x1 x4 x5 b h r k - top (rowR x0 x1 x4 x5 b h r))) := by
  have h28 := fun k => v28_apply x0 x1 x4 x5 b h r k
  unfold val_main_v32 val_main_v31 val_main_v30 val_main_v29
  generalize val_main_v28 (F := Ideal) x0 x1 x4 x5 = y at h28
  pointwise [val_main_cst_2]
  simp only [h28]

/-- The weighted sums of the values, gated. -/
theorem v43_apply (b : Fin 32) (r : Fin 2048) (l : Fin 512) :
    val_main_v43 (F := Ideal) x0 x1 x2 x3 x4 x5 (ix3 b r l)
      = att (qR x0) (kR x1) (vR x2) (gR x3) (ccR x4) (crR x5) b r l := by
  have h32 := fun k => v32_apply x0 x1 x4 x5 b (headOf l) r k
  unfold val_main_v43 val_main_v42 val_main_v35 val_main_v34 val_main_v33 val_main_v3
  generalize val_main_v32 (F := Ideal) x0 x1 x4 x5 = y at h32
  pointwise [val_main_v41, val_main_v40, val_main_cst_4, val_main_v39, val_main_v38, val_main_cst_3, val_main_v37, val_main_v36]
  unfold att soft
  show (∑ x, x2 (ix3 b l x) * y (ix4 b (headOf l) r x)) * _ = _
  simp only [h32, zero_sub]
  congr 1
  exact Finset.sum_congr rfl fun k _ => mul_comm _ _

end Cert.ReferenceIdeal.Fox

end
-- ==== Proof.FoxPre.lean ====
/- What the stated precondition of the attention says: its queries, keys and decays are real numbers. -/
module

public import proofs.«01_k».proof.Pre_scores_finite
public import Idealize.ShloMosaic.Lib.Pointwise
public import Idealize.ShloMosaic.Lib.ReduceAll

@[expose] public section

set_option maxRecDepth 16384

noncomputable section

namespace Cert.FoxPre

open Idealize.ShloMosaic Cert.Pre_scores_finite Cert.Pre_scores_finite.Facts

variable [Cert.Pre_scores_finite.Facts]

/-- The word of plus infinity. -/
theorem pos_inf : Ideal.ofBits FTy.f32 0x7F800000#32 = ⊤ := by simp [Ideal.ofBits, Ideal.ieee]

/-- A value whose absolute value is below plus infinity is a real number. -/
theorem real_of_abs_lt (x : EReal) (h : Ideal.cmp .olt (max x (-x)) ⊤ = 1#1) : ∃ r : ℝ, x = r := by
  induction x with
  | bot => simp [Ideal.cmp] at h
  | top => simp [Ideal.cmp] at h
  | coe r => exact ⟨r, rfl⟩

/-- A rank-0 shape has one index. -/
instance : Subsingleton S_.Idx := ⟨fun a b => funext fun i => i.elim0⟩

/-- A conjunction of two bits is 1 only if both are. -/
theorem and_bits (a b : BitVec 1) (h : a &&& b = 1#1) : a = 1#1 ∧ b = 1#1 := by
  revert a b; decide

theorem unpack (x0 : FVec Ideal S32x2048x512 .bf16) (x1 x2 : FVec Ideal S32x512x2048 .f32) (x3 : FVec Ideal S32x2048x512 .f32)
    (x4 : FVec Ideal S32x2048x128 .f32) (x5 : FVec Ideal S32x8x2048 .f32) (h : fn (F := Ideal) x0 x1 x2 x3 x4 x5 = fun _ => 1#1) :
    (∀ i, ∃ r : ℝ, x0 i = r) ∧ (∀ i, ∃ r : ℝ, x1 i = r) ∧ (∀ i, ∃ r : ℝ, x4 i = r) ∧ (∀ i, ∃ r : ℝ, x5 i = r) := by
  have e := congrFun h (Shape.Idx.first h_S_)
  simp only [fn, fn_part1] at e
  obtain ⟨e, h5⟩ := and_bits _ _ e
  obtain ⟨e, h4⟩ := and_bits _ _ e
  obtain ⟨h0, h1⟩ := and_bits _ _ e
  have g0 := fun i => Host.reduce_andi_all _ _ _ _ _ h0 i
  have g1 := fun i => Host.reduce_andi_all _ _ _ _ _ h1 i
  have g4 := fun i => Host.reduce_andi_all _ _ _ _ _ h4 i
  have g5 := fun i => Host.reduce_andi_all _ _ _ _ _ h5 i
  refine ⟨fun i => real_of_abs_lt _ ?_, fun i => real_of_abs_lt _ ?_, fun i => real_of_abs_lt _ ?_, fun i => real_of_abs_lt _ ?_⟩
  · rw [← pos_inf]; exact g0 i
  · rw [← pos_inf]; exact g1 i
  · rw [← pos_inf]; exact g4 i
  · rw [← pos_inf]; exact g5 i

end Cert.FoxPre

end
-- ==== Proof.FoxClaim.lean ====
/- The attention kernel computes what the attention reference computes. -/
module

public import proofs.«01_k».proof.Defs
public import proofs.«01_k».proof.Proof.FoxArray
public import proofs.«01_k».proof.Proof.FoxRef
public import proofs.«01_k».proof.Proof.FoxPre
public import proofs.«01_k».proof.Proof.Gen.ReferenceIdeal
public import proofs.«01_k».proof.Proof.Gen.KernelIdeal.Value

@[expose] public section

set_option maxRecDepth 16384

noncomputable section

namespace Cert.FoxClaim

open Idealize.ShloMosaic Idealize.SL.Sem Cert.FoxSpec

/-- The precondition's shape facts. -/
theorem preFacts : Cert.Pre_scores_finite.Facts := ⟨by decide, by decide, by decide, by decide, by decide, by decide, by decide, by decide, by decide, by decide⟩

/-- Under the precondition every score is a real number. -/
theorem scores (m : (ℓ : Loc Cert.KernelIdeal.nD Cert.KernelIdeal.τ Cert.KernelIdeal.sig) → Buf (Elt Ideal) ℓ)
    (hpre : Cert.Pre_KernelIdeal_scores_finite (hPre_scores_finite := preFacts) m) (c : Dev Cert.KernelIdeal.nD) (b : Fin 32) (h : Fin 8) (r k : Fin 2048) :
    ∃ x : ℝ, score (Cert.KernelIdeal.Fox.qA m c) (Cert.KernelIdeal.Fox.kA m c) (Cert.KernelIdeal.Fox.ccA m c) (Cert.KernelIdeal.Fox.crA m c) b h r k = x := by
  have hp := @Cert.FoxPre.unpack preFacts _ _ _ _ _ _ (hpre c)
  exact score_real _ _ _ _ (fun b r l => hp.1 _) (fun b l c => hp.2.1 _) (fun b r h => hp.2.2.1 _) (fun b h c => hp.2.2.2 _) b h r k

/-- At exact arithmetic the attention kernel's result is its reference's, where the scores' inputs are finite. -/
theorem algebraic : Cert.algebraic_KernelIdeal_ReferenceIdeal_pre_scores_finite (hKernelIdeal := Cert.KernelIdeal.Gen.facts)
    (hReferenceIdeal := Cert.ReferenceIdeal.Gen.facts) (hPre_scores_finite := preFacts) :=
  fun m ρ m' ρ' hpre hag => ⟨fun c => Cert.KernelIdeal.Fox.res m c,
    (θ_run _ _ _).mono (fun _ h c => ⟨(h c).1.trans (Cert.KernelIdeal.Fox.array_value m c (scores m hpre c)), (h c).2⟩)
      (Cert.KernelIdeal.Value.run_blocks m ρ),
    (θ_run _ _ _).mono (fun _ h c => ⟨(h c).1.trans (by
      rw [Cert.ReferenceIdeal.Read.val_main_v43_eq]
      obtain ⟨e0, e1, e2, e3, e4, e5⟩ := hag c
      rw [e0, e1, e2, e3, e4, e5]
      funext i
      obtain ⟨b, r, l, rfl⟩ : ∃ (b : Fin 32) (r : Fin 2048) (l : Fin 512), i = ix3 b r l := ⟨i 0, i 1, i 2, by funext a; fin_cases a <;> rfl⟩
      exact Cert.ReferenceIdeal.Fox.v43_apply _ _ _ _ _ _ b r l), (h c).2⟩)
      (Cert.ReferenceIdeal.Value.run m' ρ')⟩

end Cert.FoxClaim

end
-- ==== Proof.DenseSpec.lean ====
/- What the dense calls compute for one row of the activations: the root-mean-square norm, the gated
   feed-forward sum, and the sums it is compared with. -/
module

public import proofs.«01_k».proof.Proof.FoxMath
public import Idealize.ShloMosaic.Lib.Pointwise

@[expose] public section

set_option maxRecDepth 16384

noncomputable section

namespace Cert.DenseSpec

open Idealize.ShloMosaic

/-- A row divided by the root of its mean square (the small number added under the root), times the weights. -/
def rms (x g : Fin 1024 → EReal) (j : Fin 1024) : EReal :=
  x j * Ideal.rsqrt (Ideal.div (∑ k, x k * x k) (Ideal.ofBits .f32 0x44800000#32) + Ideal.ofBits .f32 0x358637BD#32) * g j

/-- A row times a column of a matrix. -/
def dot {n p : ℕ} (h : Fin n → EReal) (w : Fin n → Fin p → EReal) (c : Fin p) : EReal := ∑ k, h k * w k c

/-- The gate `g · σ(g)` times `u`. -/
def act (g u : EReal) : EReal := g * Ideal.div 1 (1 + Ideal.exp (0 - g)) * u

/-- The feed-forward row: gate and up products, then the down product. -/
def ffn {f : ℕ} (h : Fin 1024 → EReal) (wg wu : Fin 1024 → Fin f → EReal) (wd : Fin f → Fin 1024 → EReal) (j : Fin 1024) : EReal :=
  ∑ c : Fin f, act (dot h wg c) (dot h wu c) * wd c j

/-- The row with half the feed-forward of its norm added. -/
def mid (x n : Fin 1024 → EReal) (wg wu : Fin 1024 → Fin 2816 → EReal) (wd : Fin 2816 → Fin 1024 → EReal) (j : Fin 1024) : EReal :=
  x j + Ideal.ofBits .f32 0x3F000000#32 * ffn (rms x n) wg wu wd j

/-- The feed-forward sum is the sum over the first half of the hidden columns plus the sum over the second. -/
theorem ffn_chunks (h : Fin 1024 → EReal) (wg wu : Fin 1024 → Fin 2816 → EReal) (wd : Fin 2816 → Fin 1024 → EReal) (j : Fin 1024) :
    ffn h wg wu wd j
      = (∑ c : Fin 1408, act (dot h wg ⟨c.val, by omega⟩) (dot h wu ⟨c.val, by omega⟩) * wd ⟨c.val, by omega⟩ j)
        + ∑ c : Fin 1408, act (dot h wg ⟨1408 + c.val, by omega⟩) (dot h wu ⟨1408 + c.val, by omega⟩) * wd ⟨1408 + c.val, by omega⟩ j :=
  Fin.sum_univ_add (M := EReal) (a := 1408) (b := 1408) fun c => act (dot h wg c) (dot h wu c) * wd c j

/-- The recurrence's columns in the order the call takes them (receptances, keys, values, then the three low-rank parts), and
    zero past the last. -/
def rwSel (f : Fin 3944 → EReal) (j : Fin 896) : EReal :=
  if h : j.val < 256 then f ⟨2056 + j.val, by omega⟩
  else if h : j.val < 512 then f ⟨2088 + j.val, by omega⟩
  else if h : j.val < 768 then f ⟨2088 + j.val, by omega⟩
  else if h : j.val < 800 then f ⟨1544 + j.val, by omega⟩
  else if h : j.val < 864 then f ⟨2056 + j.val, by omega⟩
  else 0

/-- Choosing columns of the matrix or of the product is the same. -/
theorem dot_rwSel (h : Fin 1024 → EReal) (w : Fin 1024 → Fin 3944 → EReal) (j : Fin 896) :
    (∑ k, h k * rwSel (w k) j) = rwSel (dot h w) j := by
  unfold rwSel dot
  split_ifs <;> simp

/-- The logarithm of the sigmoid, as the call writes it. -/
def ls (f : EReal) : EReal := min f 0 - Ideal.log (1 + Ideal.exp (0 - max f (-f)))

theorem log_ne_bot (y : EReal) : Ideal.log (1 + Ideal.exp y) ≠ ⊥ := by
  induction y using EReal.rec with
  | bot =>
    rw [Ideal.exp_bot, add_zero, ← EReal.coe_one, Ideal.log_coe, if_neg (by norm_num)]
    exact EReal.coe_ne_bot _
  | top =>
    have e : (1 : EReal) + Ideal.exp ⊤ = ⊤ := by rw [Ideal.exp_top, ← EReal.coe_one, EReal.coe_add_top]
    have l : Ideal.log ⊤ = ⊤ := rfl
    rw [e, l]
    exact top_ne_bot
  | coe r =>
    rw [Ideal.exp_coe, ← EReal.coe_one, ← EReal.coe_add, Ideal.log_coe, if_neg (not_le.mpr (by have := Real.exp_pos r; linarith))]
    exact EReal.coe_ne_bot _

/-- It is the negated softplus of the negated argument, as the reference writes it. -/
theorem ls_softplus (f : EReal) : -(max (-f) 0 + Ideal.log1p (Ideal.exp (-max (-f) (- -f)))) = ls f := by
  unfold ls Ideal.log1p
  rw [neg_neg, max_comm (-f) f, zero_sub]
  rw [EReal.neg_add (Or.inl (ne_of_gt (lt_of_lt_of_le EReal.bot_lt_zero (le_max_right _ _)))) (Or.inr (log_ne_bot _))]
  congr 1
  rcases le_total f 0 with h | h
  · rw [min_eq_left h, max_eq_left (by rw [EReal.le_neg, neg_zero]; exact h), neg_neg]
  · rw [min_eq_right h, max_eq_right (by rw [EReal.neg_le, neg_zero]; exact h), neg_zero]

end Cert.DenseSpec

end
-- ==== Proof.InBlock.lean ====
/- The block of 256 rows that one grid point of the first dense call leaves in each result, in terms of the blocks it reads. -/
module

public import proofs.«01_k».proof.Proof.DenseSpec
public import proofs.«01_k».proof.Proof.Gen.KernelInIdeal.Frame
public import Idealize.ShloMosaic.Lib.Pipeline.ValueKit

@[expose] public section

set_option maxRecDepth 16384

noncomputable section

namespace Cert.KernelInIdeal.Dense

open Idealize.ShloMosaic Cert.KernelInIdeal Cert.KernelInIdeal.Gen Cert.DenseSpec

/-- The norm of a block's rows. -/
theorem pay4_apply (v0 : Vec Ideal S256x1024 .f32) (v1 : Vec Ideal S1x1024 .f32) (r : Fin 256) (j : Fin 1024) :
    k0_pay4 v0 v1 (ix2 r j) = rms (fun k => v0 (ix2 r k)) (fun k => v1 (ix2 0 k)) j := by
  unfold rms; pointwise [k0_pay4]

/-- The feed-forward over a half of the hidden columns. -/
def chunk (h : FVec Ideal S256x1024 .bf16) (v16 : Vec Ideal S1024x1408 .bf16) (v19 : Vec Ideal S1024x1408 .bf16) (v32 : Vec Ideal S1408x1024 .bf16) : FVec Ideal S256x1024 .f32 :=
  have v17 : FVec Ideal S1024x1408 .bf16 := shapeCast S1024x1408 v16 shapeCasts_S1024x1408_S1024x1408
  have cst_7 : FVec Ideal S256x1408 .f32 := constant S256x1408 .f32 0x00000000#32
  have v18 : FVec Ideal S256x1408 .f32 := matmul dot_S256x1024_S1024x1408_S256x1408_1_0_0_1_n_n none h v17 cst_7
  have v20 : FVec Ideal S1024x1408 .bf16 := shapeCast S1024x1408 v19 shapeCasts_S1024x1408_S1024x1408
  have v21 : FVec Ideal S256x1408 .f32 := matmul dot_S256x1024_S1024x1408_S256x1408_1_0_0_1_n_n none h v20 cst_7
  have v22 : FVec Ideal S256x1408 .f32 := broadcast S256x1408 (Scalar.ofBits .f32 0x00000000#32)
  have v24 : FVec Ideal S256x1408 .f32 := exp (subf v22 v18)
  have v25 : FVec Ideal S256x1408 .f32 := broadcast S256x1408 (Scalar.ofBits .f32 0x3F800000#32)
  have v28 : FVec Ideal S256x1408 .f32 := divf v25 (addf v25 v24)
  have v31 : FVec Ideal S256x1408 .bf16 := truncf .bf16 (mulf (mulf v18 v28) v21) bitsLt_bf16_f32
  have v33 : FVec Ideal S1408x1024 .bf16 := shapeCast S1408x1024 v32 shapeCasts_S1408x1024_S1408x1024
  matmul dot_S256x1408_S1408x1024_S256x1024_1_0_0_1_n_n none v31 v33 (constant S256x1024 .f32 0x00000000#32)

theorem chunk_apply (h : FVec Ideal S256x1024 .bf16) (a b : Vec Ideal S1024x1408 .bf16) (d : Vec Ideal S1408x1024 .bf16) (r : Fin 256) (j : Fin 1024) :
    chunk h a b d (ix2 r j) = ffn (fun k => h (ix2 r k)) (fun k c => a (ix2 k c)) (fun k c => b (ix2 k c)) (fun c j => d (ix2 c j)) j := by
  unfold ffn act dot; pointwise [chunk]

theorem pay5_eq (v0 : Vec Ideal S256x1024 .f32) (v1 : Vec Ideal S1x1024 .f32) (v16 v19 : Vec Ideal S1024x1408 .bf16) (v32 : Vec Ideal S1408x1024 .bf16) :
    k0_pay5 v0 v1 v16 v19 v32 = chunk (k0_pay4 v0 v1) v16 v19 v32 := rfl

/-- The rows with half of both halves of the feed-forward added. -/
theorem pay7_apply (v0 : Vec Ideal S256x1024 .f32) (h : FVec Ideal S256x1024 .bf16) (v34 : FVec Ideal S256x1024 .f32) (a b : Vec Ideal S1024x1408 .bf16)
    (d : Vec Ideal S1408x1024 .bf16) (r : Fin 256) (j : Fin 1024) :
    k0_pay7 v0 h v34 (k0_pay6 a) (constant S256x1408 .f32 0x00000000#32) b d (ix2 r j)
      = v0 (ix2 r j) + Ideal.ofBits .f32 0x3F000000#32 * (v34 (ix2 r j)
          + ffn (fun k => h (ix2 r k)) (fun k c => a (ix2 k c)) (fun k c => b (ix2 k c)) (fun c j => d (ix2 c j)) j) := by
  unfold ffn act dot; pointwise [k0_pay7, k0_pay6]

theorem pay8_eq (v0 : Vec Ideal S256x1024 .f32) (v15 : FVec Ideal S256x1024 .bf16) (v34 : FVec Ideal S256x1024 .f32) (v36 : FVec Ideal S1024x1408 .bf16)
    (cst_18 : FVec Ideal S256x1408 .f32) (v38 : Vec Ideal S1024x1408 .bf16) (v51 : Vec Ideal S1408x1024 .bf16) (v59 : Vec Ideal S1x1024 .f32) :
    k0_pay8 v0 v15 v34 v36 cst_18 v38 v51 v59 = k0_pay4 (k0_pay7 v0 v15 v34 v36 cst_18 v38 v51) v59 := rfl

/-- The transposed key and value products. -/
theorem pay11_apply (h : FVec Ideal S256x1024 .bf16) (w : Vec Ideal S1024x1024 .bf16) (l : Fin 512) (r : Fin 256) :
    k0_pay11 h w (ix3 0 l r) = ∑ k : Fin 1024, w (ix2 ⟨l.val, by omega⟩ k) * h (ix2 r k) := by
  pointwise [k0_pay11, k0_pay10]
theorem pay12_apply (h : FVec Ideal S256x1024 .bf16) (w : Vec Ideal S1024x1024 .bf16) (l : Fin 512) (r : Fin 256) :
    k0_pay12 h w (ix3 0 l r) = ∑ k : Fin 1024, w (ix2 ⟨512 + l.val, by omega⟩ k) * h (ix2 r k) := by
  pointwise [k0_pay12, k0_pay10]

/-- The other products. -/
theorem pay13_apply (h : FVec Ideal S256x1024 .bf16) (w : Vec Ideal S1024x2560 .bf16) (r : Fin 256) (j : Fin 2560) :
    k0_pay13 h w (ix2 r j) = dot (fun k => h (ix2 r k)) (fun k c => w (ix2 k c)) j := by
  unfold dot; pointwise [k0_pay13]
theorem pay14_apply (h : FVec Ideal S256x1024 .bf16) (w : Vec Ideal S1024x512 .bf16) (r : Fin 256) (j : Fin 512) :
    k0_pay14 h (k0_pay9 w) (constant S256x512 .f32 0x00000000#32) (ix2 r j)
      = dot (fun k => h (ix2 r k)) (fun k c => w (ix2 k c)) j * Ideal.ofBits .f32 0x3E000000#32 := by
  unfold dot; pointwise [k0_pay14, k0_pay9]
theorem pay15_apply (h : FVec Ideal S256x1024 .bf16) (w : Vec Ideal S1024x2560 .bf16) (r : Fin 256) (j : Fin 512) :
    k0_pay15 h w (ix2 r j) = dot (fun k => h (ix2 r k)) (fun k c => w (ix2 k c)) (⟨j.val, by omega⟩ : Fin 2560) := by
  rw [← pay13_apply]; unfold k0_pay15; generalize k0_pay13 h w = z; pointwise
theorem pay2_apply (z : FVec Ideal S256x2560 .f32) (r : Fin 256) (j : Fin 896) : k0_pay2 z (ix2 r j) = z (ix2 r ⟨640 + j.val, by omega⟩) := by
  pointwise [k0_pay2]
theorem pay3_apply (z : FVec Ideal S256x2560 .f32) (r : Fin 256) (j : Fin 1024) : k0_pay3 z (ix2 r j) = z (ix2 r ⟨1536 + j.val, by omega⟩) := by
  pointwise [k0_pay3]
theorem pay16_apply (h : FVec Ideal S256x1024 .bf16) (w : Vec Ideal S1024x2560 .bf16) (b : Vec Ideal S1x128 .f32) (r : Fin 256) (j : Fin 128) :
    k0_pay16 h w b (ix2 r j) = dot (fun k => h (ix2 r k)) (fun k c => w (ix2 k c)) (⟨512 + j.val, by omega⟩ : Fin 2560) + b (ix2 0 j) := by
  rw [← pay13_apply]; unfold k0_pay16; generalize k0_pay13 h w = z; pointwise

theorem pay1_apply (h : FVec Ideal S256x1024 .bf16) (w : Vec Ideal S1024x2560 .bf16) (b : Vec Ideal S1x128 .f32) (r : Fin 256) (j : Fin 128) :
    k0_pay1 (k0_pay17 h w b) (k0_pay18 h w b) (ix2 r j) = ls (k0_pay16 h w b (ix2 r j)) := by
  unfold k0_pay17 k0_pay18; generalize k0_pay16 h w b = z; unfold ls; pointwise [k0_pay1]; rfl

/-- Of a weight matrix, the first half of the hidden columns. -/
def part2 (x : Vec Ideal S1024x2816 .bf16) : Vec Ideal S1024x1408 .bf16 := View.ld x r0_2
theorem part2_apply (x : Vec Ideal S1024x2816 .bf16) (k : Fin 1024) (c : Fin 1408) : part2 x (ix2 k c) = x (ix2 k ⟨c.val, by omega⟩) := by
  unfold part2; pointwise
/-- Of a weight matrix, the second half of the hidden columns. -/
def part4 (x : Vec Ideal S1024x2816 .bf16) : Vec Ideal S1024x1408 .bf16 := View.ld x r0_4
theorem part4_apply (x : Vec Ideal S1024x2816 .bf16) (k : Fin 1024) (c : Fin 1408) : part4 x (ix2 k c) = x (ix2 k ⟨1408 + c.val, by omega⟩) := by
  unfold part4; pointwise
/-- Of a weight matrix, the first half of the hidden rows. -/
def part3 (x : Vec Ideal S2816x1024 .bf16) : Vec Ideal S1408x1024 .bf16 := View.ld x r0_3
theorem part3_apply (x : Vec Ideal S2816x1024 .bf16) (c : Fin 1408) (k : Fin 1024) : part3 x (ix2 c k) = x (ix2 ⟨c.val, by omega⟩ k) := by
  unfold part3; pointwise
/-- Of a weight matrix, the second half of the hidden rows. -/
def part5 (x : Vec Ideal S2816x1024 .bf16) : Vec Ideal S1408x1024 .bf16 := View.ld x r0_5
theorem part5_apply (x : Vec Ideal S2816x1024 .bf16) (c : Fin 1408) (k : Fin 1024) : part5 x (ix2 c k) = x (ix2 ⟨1408 + c.val, by omega⟩ k) := by
  unfold part5; pointwise
/-- Of a weight matrix, the query columns. -/
def part6 (x : Vec Ideal S1024x4096 .bf16) : Vec Ideal S1024x512 .bf16 := View.ld x r0_6
theorem part6_apply (x : Vec Ideal S1024x4096 .bf16) (k : Fin 1024) (c : Fin 512) : part6 x (ix2 k c) = x (ix2 k ⟨c.val, by omega⟩) := by
  unfold part6; pointwise
/-- Of a weight matrix, the columns from the gates on. -/
def part9 (x : Vec Ideal S1024x4096 .bf16) : Vec Ideal S1024x2560 .bf16 := View.ld x r0_9
theorem part9_apply (x : Vec Ideal S1024x4096 .bf16) (k : Fin 1024) (c : Fin 2560) : part9 x (ix2 k c) = x (ix2 k ⟨1536 + c.val, by omega⟩) := by
  unfold part9; pointwise

variable (x0 : Vec Ideal S256x1024 .f32) (x1 : Vec Ideal S1x1024 .f32) (x2 x3 : Vec Ideal S1024x2816 .bf16) (x4 : Vec Ideal S2816x1024 .bf16)
  (x5 : Vec Ideal S1x1024 .f32) (x6 : Vec Ideal S1024x4096 .bf16) (x7 : Vec Ideal S1024x1024 .bf16) (x8 : Vec Ideal S1x128 .f32)

/-- The row after the feed-forward, from the blocks read. -/
abbrev bMid (r : Fin 256) : Fin 1024 → EReal :=
  mid (fun k => x0 (ix2 r k)) (fun k => x1 (ix2 0 k)) (fun k c => x2 (ix2 k c)) (fun k c => x3 (ix2 k c)) (fun c k => x4 (ix2 c k))
/-- Its norm. -/
abbrev bNorm (r : Fin 256) : Fin 1024 → EReal := rms (bMid x0 x1 x2 x3 x4 r) (fun k => x5 (ix2 0 k))

theorem mid_apply (r : Fin 256) (j : Fin 1024) :
    k0_pay7 (View.ld x0 r0_0) (k0_pay20 x0 x1 x2 x3 x4 x5 x6 x7 x8) (k0_pay21 x0 x1 x2 x3 x4 x5 x6 x7 x8) (k0_pay22 x0 x1 x2 x3 x4 x5 x6 x7 x8) (k0_pay19 x0 x1 x2 x3 x4 x5 x6 x7 x8) (View.ld x3 r0_4) (View.ld x4 r0_5) (ix2 r j)
      = bMid x0 x1 x2 x3 x4 r j := by
  unfold k0_pay22 k0_pay19 k0_pay21 k0_pay20
  change k0_pay7 _ _ (k0_pay5 _ _ (part2 x2) (part2 x3) (part3 x4)) (k0_pay6 (part4 x2)) _ (part4 x3) (part5 x4) _ = _
  rw [pay7_apply, pay5_eq, chunk_apply, View.ld_unit_lit _ x0 (by decide), View.ld_unit_lit _ x1 (by decide)]
  unfold bMid mid
  rw [ffn_chunks]
  unfold ffn dot
  simp only [part2_apply, part3_apply, part4_apply, part5_apply, pay4_apply]

theorem norm_apply (r : Fin 256) (j : Fin 1024) : k0_pay23 x0 x1 x2 x3 x4 x5 x6 x7 x8 (ix2 r j) = bNorm x0 x1 x2 x3 x4 x5 r j := by
  unfold k0_pay23
  rw [pay8_eq, pay4_apply, View.ld_unit_lit _ x5 (by decide)]
  unfold bNorm
  congr 1
  funext k
  exact mid_apply ..

theorem block9 (r : Fin 256) (j : Fin 1024) : out0_9 x0 x1 x2 x3 x4 x5 x6 x7 x8 (ix2 r j) = bMid x0 x1 x2 x3 x4 r j := by
  unfold out0_9
  rw [View.canon_cons_unit_lit _ _ _ (by decide)]
  exact mid_apply ..
theorem block10 (r : Fin 256) (j : Fin 512) : out0_10 x0 x1 x2 x3 x4 x5 x6 x7 x8 (ix2 r j)
    = dot (bNorm x0 x1 x2 x3 x4 x5 r) (fun k c => x6 (ix2 k c)) (⟨j.val, by omega⟩ : Fin 4096) * Ideal.ofBits .f32 0x3E000000#32 := by
  unfold out0_10
  rw [View.canon_cons_unit_lit _ _ _ (by decide)]
  change k0_pay14 _ (k0_pay9 (part6 x6)) _ _ = _
  rw [pay14_apply]
  unfold dot
  simp only [norm_apply, part6_apply]
theorem block11 (l : Fin 512) (r : Fin 256) : out0_11 x0 x1 x2 x3 x4 x5 x6 x7 x8 (ix3 0 l r)
    = dot (bNorm x0 x1 x2 x3 x4 x5 r) (fun k c => x7 (ix2 c k)) (⟨l.val, by omega⟩ : Fin 1024) := by
  unfold out0_11
  rw [View.canon_cons_unit_lit _ _ _ (by decide), pay11_apply, View.ld_unit_lit _ x7 (by decide)]
  unfold dot
  simp only [norm_apply, mul_comm]
theorem block12 (l : Fin 512) (r : Fin 256) : out0_12 x0 x1 x2 x3 x4 x5 x6 x7 x8 (ix3 0 l r)
    = dot (bNorm x0 x1 x2 x3 x4 x5 r) (fun k c => x7 (ix2 c k)) (⟨512 + l.val, by omega⟩ : Fin 1024) := by
  unfold out0_12
  rw [View.canon_cons_unit_lit _ _ _ (by decide), pay12_apply, View.ld_unit_lit _ x7 (by decide)]
  unfold dot
  simp only [norm_apply, mul_comm]
theorem block13 (r : Fin 256) (j : Fin 512) : out0_13 x0 x1 x2 x3 x4 x5 x6 x7 x8 (ix2 r j)
    = dot (bNorm x0 x1 x2 x3 x4 x5 r) (fun k c => x6 (ix2 k c)) (⟨1536 + j.val, by omega⟩ : Fin 4096) := by
  unfold out0_13
  rw [View.canon_cons_unit_lit _ _ _ (by decide)]
  change k0_pay15 _ (part9 x6) _ = _
  rw [pay15_apply]
  unfold dot
  simp only [norm_apply, part9_apply]
theorem block14 (r : Fin 256) (j : Fin 128) : out0_14 x0 x1 x2 x3 x4 x5 x6 x7 x8 (ix2 r j)
    = ls (dot (bNorm x0 x1 x2 x3 x4 x5 r) (fun k c => x6 (ix2 k c)) (⟨1536 + (512 + j.val), by omega⟩ : Fin 4096) + x8 (ix2 0 j)) := by
  unfold out0_14
  rw [View.canon_cons_unit_lit _ _ _ (by decide)]
  change k0_pay1 (k0_pay17 _ (part9 x6) _) (k0_pay18 _ (part9 x6) _) _ = _
  rw [pay1_apply, pay16_apply, View.ld_unit_lit _ x8 (by decide)]
  unfold dot
  simp only [norm_apply, part9_apply]
theorem block15 (r : Fin 256) (j : Fin 896) : out0_15 x0 x1 x2 x3 x4 x5 x6 x7 x8 (ix2 r j)
    = dot (bNorm x0 x1 x2 x3 x4 x5 r) (fun k c => x6 (ix2 k c)) (⟨1536 + (640 + j.val), by omega⟩ : Fin 4096) := by
  unfold out0_15
  rw [View.canon_cons_unit_lit _ _ _ (by decide), pay2_apply]
  unfold k0_pay24
  change k0_pay13 _ (part9 x6) _ = _
  rw [pay13_apply]
  unfold dot
  simp only [norm_apply, part9_apply]
theorem block16 (r : Fin 256) (j : Fin 1024) : out0_16 x0 x1 x2 x3 x4 x5 x6 x7 x8 (ix2 r j)
    = dot (bNorm x0 x1 x2 x3 x4 x5 r) (fun k c => x6 (ix2 k c)) (⟨1536 + (1536 + j.val), by omega⟩ : Fin 4096) := by
  unfold out0_16
  rw [View.canon_cons_unit_lit _ _ _ (by decide), pay3_apply]
  unfold k0_pay24
  change k0_pay13 _ (part9 x6) _ = _
  rw [pay13_apply]
  unfold dot
  simp only [norm_apply, part9_apply]

end Cert.KernelInIdeal.Dense

end
-- ==== Proof.InHost.lean ====
/- The operands the first dense call reads that are made of the arguments beforehand: the weight columns regrouped, the
   key and value columns turned, the bias padded, the casts and the vectors as rows. -/
module

public import proofs.«01_k».proof.Proof.DenseSpec
public import proofs.«01_k».proof.Proof.Gen.KernelInIdeal.Frame
public import Idealize.ShloMosaic.Lib.StableHlo.ReadAt
public import Idealize.ShloMosaic.Lib.Pipeline.ValueKit

@[expose] public section

set_option maxRecDepth 16384

noncomputable section

namespace Cert.KernelInIdeal.Dense

open Idealize.ShloMosaic Cert.KernelInIdeal Cert.KernelInIdeal.Gen Idealize.ShloMosaic.TcCoe Idealize.SL.Sem Cert.DenseSpec

/-- The integer zero as a number. -/
theorem zero_word : (FloatOps.sitofp (F := Ideal) .f32 0#32 : EReal) = 0 := by
  show ((((0#32 : BitVec 32).toInt : ℝ) : EReal)) = 0
  simp

variable (m : (ℓ : Loc nD τ sig) → Buf (Elt Ideal) ℓ)

theorem v19_apply (c : Dev nD) (k : Fin 1024) : (V m c main_v19 : Vec Ideal S1x1024 .f32) (ix2 0 k) = (m ((c : Thread nD τ).loc main_arg1) : Vec Ideal S1024 .f32) (ix1 k) := by
  unfold V
  simp only [hostOps0, hostOps0_1, hostOps0_2, List.flatten_cons, List.flatten_nil, List.append_nil, List.cons_append, List.nil_append]
  after_reads_at
theorem v23_apply (c : Dev nD) (k : Fin 1024) : (V m c main_v23 : Vec Ideal S1x1024 .f32) (ix2 0 k) = (m ((c : Thread nD τ).loc main_arg5) : Vec Ideal S1024 .f32) (ix1 k) := by
  unfold V
  simp only [hostOps0, hostOps0_1, hostOps0_2, List.flatten_cons, List.flatten_nil, List.append_nil, List.cons_append, List.nil_append]
  after_reads_at
theorem v20_apply (c : Dev nD) (k : Fin 1024) (j : Fin 2816) : (V m c main_v20 : Vec Ideal S1024x2816 .bf16) (ix2 k j) = (m ((c : Thread nD τ).loc main_arg2) : Vec Ideal S1024x2816 .f32) (ix2 k j) := by
  unfold V
  simp only [hostOps0, hostOps0_1, hostOps0_2, List.flatten_cons, List.flatten_nil, List.append_nil, List.cons_append, List.nil_append]
  after_reads_at
theorem v21_apply (c : Dev nD) (k : Fin 1024) (j : Fin 2816) : (V m c main_v21 : Vec Ideal S1024x2816 .bf16) (ix2 k j) = (m ((c : Thread nD τ).loc main_arg3) : Vec Ideal S1024x2816 .f32) (ix2 k j) := by
  unfold V
  simp only [hostOps0, hostOps0_1, hostOps0_2, List.flatten_cons, List.flatten_nil, List.append_nil, List.cons_append, List.nil_append]
  after_reads_at
theorem v22_apply (c : Dev nD) (k : Fin 2816) (j : Fin 1024) : (V m c main_v22 : Vec Ideal S2816x1024 .bf16) (ix2 k j) = (m ((c : Thread nD τ).loc main_arg4) : Vec Ideal S2816x1024 .f32) (ix2 k j) := by
  unfold V
  simp only [hostOps0, hostOps0_1, hostOps0_2, List.flatten_cons, List.flatten_nil, List.append_nil, List.cons_append, List.nil_append]
  after_reads_at

theorem v18_apply (c : Dev nD) (j : Fin 128) : (V m c main_v18 : Vec Ideal S1x128 .f32) (ix2 0 j) = if h : j.val < 8 then (m ((c : Thread nD τ).loc main_arg7) : Vec Ideal S8 .f32) (ix1 ⟨j.val, h⟩) else (0 : EReal) := by
  unfold V
  simp only [hostOps0, hostOps0_1, hostOps0_2, List.flatten_cons, List.flatten_nil, List.append_nil, List.cons_append, List.nil_append]
  after_reads_at
  split
  · rfl
  · exact zero_word
/-- The recurrence's columns of the input matrix, regrouped and padded with zero columns. -/
def rwW (w : Vec Ideal S1024x3944 .f32) : FVec Ideal S1024x896 .f32 :=
  have v4 : FVec Ideal S1024x864 .f32 := extractStridedSlice S1024x864 ![0, 2056] w slices_S1024x3944_S1024x864_0_2056
  concatenate S1024x896 1 [⟨S1024x256, extractStridedSlice S1024x256 ![0, 0] v4 slices_S1024x864_S1024x256_0_0⟩,
    ⟨S1024x256, extractStridedSlice S1024x256 ![0, 288] v4 slices_S1024x864_S1024x256_0_288⟩,
    ⟨S1024x256, extractStridedSlice S1024x256 ![0, 544] v4 slices_S1024x864_S1024x256_0_544⟩,
    ⟨S1024x32, extractStridedSlice S1024x32 ![0, 256] v4 slices_S1024x864_S1024x32_0_256⟩,
    ⟨S1024x64, extractStridedSlice S1024x64 ![0, 800] v4 slices_S1024x864_S1024x64_0_800⟩,
    ⟨S1024x32, broadcastInDim S1024x32 ![] bcast_S_S1024x32 (constant S_ .f32 0x00000000#32)⟩]
    concatenates_S1024x256_S1024x256_S1024x256_S1024x32_S1024x64_S1024x32_S1024x896_d1

/-- The whole matrix regrouped: queries, keys and values, gates, forget gates padded, the recurrence, the retention. -/
def winW (w : Vec Ideal S1024x3944 .f32) : FVec Ideal S1024x4096 .f32 :=
  concatenate S1024x4096 1 [⟨S1024x1536, extractStridedSlice S1024x1536 ![0, 0] w slices_S1024x3944_S1024x1536_0_0⟩,
    ⟨S1024x512, extractStridedSlice S1024x512 ![0, 1544] w slices_S1024x3944_S1024x512_0_1544⟩,
    ⟨S1024x8, extractStridedSlice S1024x8 ![0, 1536] w slices_S1024x3944_S1024x8_0_1536⟩,
    ⟨S1024x120, broadcastInDim S1024x120 ![] bcast_S_S1024x120 (constant S_ .f32 0x00000000#32)⟩,
    ⟨S1024x896, rwW w⟩,
    ⟨S1024x1024, extractStridedSlice S1024x1024 ![0, 2920] w slices_S1024x3944_S1024x1024_0_2920⟩]
    concatenates_S1024x1536_S1024x512_S1024x8_S1024x120_S1024x896_S1024x1024_S1024x4096_d1

/-- The regrouped columns of the recurrence, of any function of the input matrix's columns. -/
theorem rwW_apply (w : Vec Ideal S1024x3944 .f32) (k : Fin 1024) (j : Fin 896) : rwW w (ix2 k j) = rwSel (fun c => w (ix2 k c)) j := by
  pointwise [rwW]
  unfold rwSel
  repeat' split
  all_goals first
    | (exfalso; omega)
    | rfl
    | exact congrArg (fun c => w (ix2 k c)) (Fin.ext (by first | rfl | (dsimp only; omega)))

theorem winW_apply (w : Vec Ideal S1024x3944 .f32) (k : Fin 1024) (j : Fin 4096) : winW w (ix2 k j)
    = if h : j.val < 1536 then w (ix2 k ⟨j.val, by omega⟩)
      else if h : j.val < 2048 then w (ix2 k ⟨j.val + 8, by omega⟩)
      else if h : j.val < 2056 then w (ix2 k ⟨j.val - 512, by omega⟩)
      else if h : j.val < 2176 then (0 : EReal)
      else if h : j.val < 3072 then rwW w (ix2 k ⟨j.val - 2176, by omega⟩)
      else w (ix2 k ⟨j.val - 152, by omega⟩) := by
  unfold winW
  generalize rwW w = z
  pointwise
  repeat' split
  all_goals first
    | (exfalso; omega)
    | rfl
    | exact congrArg (fun c => w (ix2 k c)) (Fin.ext (by first | rfl | (dsimp only; omega)))
    | exact congrArg (fun c => z (ix2 k c)) (Fin.ext (by first | rfl | (dsimp only; omega)))

theorem v14_eq (c : Dev nD) : (V m c main_v14 : Vec Ideal S1024x4096 .bf16)
    = truncf .bf16 (winW (m ((c : Thread nD τ).loc main_arg6) : Vec Ideal S1024x3944 .f32)) bitsLt_bf16_f32 := by
  unfold V
  simp only [hostOps0, hostOps0_1, hostOps0_2, List.flatten_cons, List.flatten_nil, List.append_nil, List.cons_append, List.nil_append]
  after_results
  rfl
theorem v16_eq (c : Dev nD) : (V m c main_v16 : Vec Ideal S1024x1024 .bf16)
    = transpose S1024x1024 [1, 0] (extractStridedSlice S1024x1024 ![0, 512]
        (truncf .bf16 (winW (m ((c : Thread nD τ).loc main_arg6) : Vec Ideal S1024x3944 .f32)) bitsLt_bf16_f32) slices_S1024x4096_S1024x1024_0_512)
        transposes_S1024x1024_S1024x1024_1_0 := by
  unfold V
  simp only [hostOps0, hostOps0_1, hostOps0_2, List.flatten_cons, List.flatten_nil, List.append_nil, List.cons_append, List.nil_append]
  after_results
  rfl

/-- The operand of weights, by the ranges of columns the call reads. -/
theorem v14_apply (c : Dev nD) (k : Fin 1024) (j : Fin 4096) : (V m c main_v14 : Vec Ideal S1024x4096 .bf16) (ix2 k j)
    = winW (m ((c : Thread nD τ).loc main_arg6) : Vec Ideal S1024x3944 .f32) (ix2 k j) := by
  rw [v14_eq]; rfl
theorem v16_apply (c : Dev nD) (k : Fin 1024) (j : Fin 1024) : (V m c main_v16 : Vec Ideal S1024x1024 .bf16) (ix2 j k)
    = (m ((c : Thread nD τ).loc main_arg6) : Vec Ideal S1024x3944 .f32) (ix2 k ⟨512 + j.val, by omega⟩) := by
  rw [v16_eq]
  have e := winW_apply (m ((c : Thread nD τ).loc main_arg6) : Vec Ideal S1024x3944 .f32) k ⟨512 + j.val, by omega⟩
  rw [dif_pos (show 512 + j.val < 1536 by omega)] at e
  rw [← e]
  generalize winW (m ((c : Thread nD τ).loc main_arg6) : Vec Ideal S1024x3944 .f32) = z
  pointwise
theorem colQ (w : Vec Ideal S1024x3944 .f32) (k : Fin 1024) (j : Fin 512) : winW w (ix2 k ⟨j.val, by omega⟩) = w (ix2 k ⟨j.val, by omega⟩) := by
  rw [winW_apply, dif_pos (show j.val < 1536 by omega)]
theorem colG (w : Vec Ideal S1024x3944 .f32) (k : Fin 1024) (j : Fin 512) : winW w (ix2 k ⟨1536 + j.val, by omega⟩) = w (ix2 k ⟨1544 + j.val, by omega⟩) := by
  rw [winW_apply, dif_neg (show ¬ 1536 + j.val < 1536 by omega), dif_pos (show 1536 + j.val < 2048 by omega)]
  exact congrArg (fun c => w (ix2 k c)) (Fin.ext (by first | rfl | (dsimp only; omega)))
theorem colF (w : Vec Ideal S1024x3944 .f32) (k : Fin 1024) (j : Fin 128) : winW w (ix2 k ⟨1536 + (512 + j.val), by omega⟩)
    = if h : j.val < 8 then w (ix2 k ⟨1536 + j.val, by omega⟩) else (0 : EReal) := by
  rw [winW_apply, dif_neg (show ¬ 1536 + (512 + j.val) < 1536 by omega), dif_neg (show ¬ 1536 + (512 + j.val) < 2048 by omega)]
  by_cases h : j.val < 8
  · rw [dif_pos (show 1536 + (512 + j.val) < 2056 by omega), dif_pos h]
    exact congrArg (fun c => w (ix2 k c)) (Fin.ext (by first | rfl | (dsimp only; omega)))
  · rw [dif_neg (show ¬ 1536 + (512 + j.val) < 2056 by omega), dif_neg h, dif_pos (show 1536 + (512 + j.val) < 2176 by omega)]
theorem colR (w : Vec Ideal S1024x3944 .f32) (k : Fin 1024) (j : Fin 896) : winW w (ix2 k ⟨1536 + (640 + j.val), by omega⟩)
    = rwSel (fun c => w (ix2 k c)) j := by
  rw [winW_apply, dif_neg (show ¬ 1536 + (640 + j.val) < 1536 by omega), dif_neg (show ¬ 1536 + (640 + j.val) < 2048 by omega),
    dif_neg (show ¬ 1536 + (640 + j.val) < 2056 by omega), dif_neg (show ¬ 1536 + (640 + j.val) < 2176 by omega),
    dif_pos (show 1536 + (640 + j.val) < 3072 by omega), ← rwW_apply]
  exact congrArg (fun c => rwW w (ix2 k c)) (Fin.ext (by first | rfl | (dsimp only; omega)))
theorem colT (w : Vec Ideal S1024x3944 .f32) (k : Fin 1024) (j : Fin 1024) : winW w (ix2 k ⟨1536 + (1536 + j.val), by omega⟩) = w (ix2 k ⟨2920 + j.val, by omega⟩) := by
  rw [winW_apply, dif_neg (show ¬ 1536 + (1536 + j.val) < 1536 by omega), dif_neg (show ¬ 1536 + (1536 + j.val) < 2048 by omega),
    dif_neg (show ¬ 1536 + (1536 + j.val) < 2056 by omega), dif_neg (show ¬ 1536 + (1536 + j.val) < 2176 by omega),
    dif_neg (show ¬ 1536 + (1536 + j.val) < 3072 by omega)]
  exact congrArg (fun c => w (ix2 k c)) (Fin.ext (by first | rfl | (dsimp only; omega)))

end Cert.KernelInIdeal.Dense

end
-- ==== Proof.InArray.lean ====
/- The first dense call's result arrays: the blocks its grid points leave, put together, in terms of the arguments. -/
module

public import proofs.«01_k».proof.Proof.InBlock
public import proofs.«01_k».proof.Proof.InHost
public import proofs.«01_k».proof.Proof.Gen.KernelInIdeal.Value

@[expose] public section

set_option maxRecDepth 16384

noncomputable section

namespace Cert.KernelInIdeal.Dense

open Idealize.ShloMosaic Cert.KernelInIdeal Cert.KernelInIdeal.Gen Idealize.ShloMosaic.TcCoe Idealize.SL.Sem Cert.DenseSpec

variable (m : (ℓ : Loc nD τ sig) → Buf (Elt Ideal) ℓ)

/-- The block each window takes at a grid point. -/
theorem idx0 : ∀ t : Fin cfg0.N, win0_0.index t = ![(grid0.coords t 0).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![(grid0.coords t 0).val, 0] := (by decide +kernel : ∀ t : Fin grid0.N, _)
theorem idx10 : ∀ t : Fin cfg0.N, win0_10.index t = ![(grid0.coords t 0).val, 0] := (by decide +kernel : ∀ t : Fin grid0.N, _)
theorem idx11 : ∀ t : Fin cfg0.N, win0_11.index t = ![(grid0.coords t 0).val / 8, 0, (grid0.coords t 0).val % 8] := (by decide +kernel : ∀ t : Fin grid0.N, _)
theorem idx12 : ∀ t : Fin cfg0.N, win0_12.index t = ![(grid0.coords t 0).val / 8, 0, (grid0.coords t 0).val % 8] := (by decide +kernel : ∀ t : Fin grid0.N, _)
theorem idx13 : ∀ t : Fin cfg0.N, win0_13.index t = ![(grid0.coords t 0).val, 0] := (by decide +kernel : ∀ t : Fin grid0.N, _)
theorem idx14 : ∀ t : Fin cfg0.N, win0_14.index t = ![(grid0.coords t 0).val, 0] := (by decide +kernel : ∀ t : Fin grid0.N, _)
theorem idx15 : ∀ t : Fin cfg0.N, win0_15.index t = ![(grid0.coords t 0).val, 0] := (by decide +kernel : ∀ t : Fin grid0.N, _)
theorem idx16 : ∀ t : Fin cfg0.N, win0_16.index t = ![(grid0.coords t 0).val, 0] := (by decide +kernel : ∀ t : Fin grid0.N, _)

/-- The grid point's number, and a row of its block in the array. -/
abbrev pt (t : Fin cfg0.N) : Fin 256 := grid0.coords t 0
abbrev rowOf (p : Fin 256) (r : Fin 256) : Fin 65536 := ⟨256 * p.val + r.val, by omega⟩

/-- The arguments by their coordinates. -/
abbrev xA (c : Dev nD) (r : Fin 65536) (k : Fin 1024) : EReal := (m ((c : Thread nD τ).loc main_arg0) : Vec Ideal S65536x1024 .f32) (ix2 r k)
abbrev n1A (c : Dev nD) (k : Fin 1024) : EReal := (m ((c : Thread nD τ).loc main_arg1) : Vec Ideal S1024 .f32) (ix1 k)
abbrev wgA (c : Dev nD) (k : Fin 1024) (j : Fin 2816) : EReal := (m ((c : Thread nD τ).loc main_arg2) : Vec Ideal S1024x2816 .f32) (ix2 k j)
abbrev wuA (c : Dev nD) (k : Fin 1024) (j : Fin 2816) : EReal := (m ((c : Thread nD τ).loc main_arg3) : Vec Ideal S1024x2816 .f32) (ix2 k j)
abbrev wdA (c : Dev nD) (k : Fin 2816) (j : Fin 1024) : EReal := (m ((c : Thread nD τ).loc main_arg4) : Vec Ideal S2816x1024 .f32) (ix2 k j)
abbrev nmA (c : Dev nD) (k : Fin 1024) : EReal := (m ((c : Thread nD τ).loc main_arg5) : Vec Ideal S1024 .f32) (ix1 k)
abbrev wA (c : Dev nD) (k : Fin 1024) (j : Fin 3944) : EReal := (m ((c : Thread nD τ).loc main_arg6) : Vec Ideal S1024x3944 .f32) (ix2 k j)
abbrev bA (c : Dev nD) (k : Fin 8) : EReal := (m ((c : Thread nD τ).loc main_arg7) : Vec Ideal S8 .f32) (ix1 k)

theorem iblk0 (c : Dev nD) (t : Fin cfg0.N) (r : Fin 256) (k : Fin 1024) : (iblk m c 0 t : Vec Ideal S256x1024 .f32) (ix2 r k) = xA m c (rowOf (pt t) r) k := by
  have h : (iblk m c 0 t : Vec Ideal S256x1024 .f32) (ix2 r k) = (V m c main_arg0 : Vec Ideal S65536x1024 .f32) (ix2 (rowOf (pt t) r) k) := by
    blk_ext [iblk, idx0 t, pt, rowOf, Nat.mul_comm]
  rw [h, V_main_arg0]
theorem iblk1 (c : Dev nD) (t : Fin cfg0.N) (j : Fin 1024) : (iblk m c 1 t : Vec Ideal S1x1024 .f32) (ix2 0 j) = (V m c main_v19 : Vec Ideal S1x1024 .f32) (ix2 0 j) := by
  blk_ext [iblk, idx1 t]
theorem iblk2 (c : Dev nD) (t : Fin cfg0.N) (k : Fin 1024) (j : Fin 2816) : (iblk m c 2 t : Vec Ideal S1024x2816 .bf16) (ix2 k j) = (V m c main_v20 : Vec Ideal S1024x2816 .bf16) (ix2 k j) := by
  blk_ext [iblk, idx2 t]
theorem iblk3 (c : Dev nD) (t : Fin cfg0.N) (k : Fin 1024) (j : Fin 2816) : (iblk m c 3 t : Vec Ideal S1024x2816 .bf16) (ix2 k j) = (V m c main_v21 : Vec Ideal S1024x2816 .bf16) (ix2 k j) := by
  blk_ext [iblk, idx3 t]
theorem iblk4 (c : Dev nD) (t : Fin cfg0.N) (k : Fin 2816) (j : Fin 1024) : (iblk m c 4 t : Vec Ideal S2816x1024 .bf16) (ix2 k j) = (V m c main_v22 : Vec Ideal S2816x1024 .bf16) (ix2 k j) := by
  blk_ext [iblk, idx4 t]
theorem iblk5 (c : Dev nD) (t : Fin cfg0.N) (j : Fin 1024) : (iblk m c 5 t : Vec Ideal S1x1024 .f32) (ix2 0 j) = (V m c main_v23 : Vec Ideal S1x1024 .f32) (ix2 0 j) := by
  blk_ext [iblk, idx5 t]
theorem iblk6 (c : Dev nD) (t : Fin cfg0.N) (k : Fin 1024) (j : Fin 4096) : (iblk m c 6 t : Vec Ideal S1024x4096 .bf16) (ix2 k j) = (V m c main_v14 : Vec Ideal S1024x4096 .bf16) (ix2 k j) := by
  blk_ext [iblk, idx6 t]
theorem iblk7 (c : Dev nD) (t : Fin cfg0.N) (k : Fin 1024) (j : Fin 1024) : (iblk m c 7 t : Vec Ideal S1024x1024 .bf16) (ix2 k j) = (V m c main_v16 : Vec Ideal S1024x1024 .bf16) (ix2 k j) := by
  blk_ext [iblk, idx7 t]
theorem iblk8 (c : Dev nD) (t : Fin cfg0.N) (j : Fin 128) : (iblk m c 8 t : Vec Ideal S1x128 .f32) (ix2 0 j) = (V m c main_v18 : Vec Ideal S1x128 .f32) (ix2 0 j) := by
  blk_ext [iblk, idx8 t]

theorem in1 (c : Dev nD) (t : Fin cfg0.N) (j : Fin 1024) : (iblk m c 1 t : Vec Ideal S1x1024 .f32) (ix2 0 j) = n1A m c j := by
  rw [iblk1, v19_apply]
theorem in2 (c : Dev nD) (t : Fin cfg0.N) (k : Fin 1024) (j : Fin 2816) : (iblk m c 2 t : Vec Ideal S1024x2816 .bf16) (ix2 k j) = wgA m c k j := by
  rw [iblk2, v20_apply]
theorem in3 (c : Dev nD) (t : Fin cfg0.N) (k : Fin 1024) (j : Fin 2816) : (iblk m c 3 t : Vec Ideal S1024x2816 .bf16) (ix2 k j) = wuA m c k j := by
  rw [iblk3, v21_apply]
theorem in4 (c : Dev nD) (t : Fin cfg0.N) (k : Fin 2816) (j : Fin 1024) : (iblk m c 4 t : Vec Ideal S2816x1024 .bf16) (ix2 k j) = wdA m c k j := by
  rw [iblk4, v22_apply]
theorem in5 (c : Dev nD) (t : Fin cfg0.N) (j : Fin 1024) : (iblk m c 5 t : Vec Ideal S1x1024 .f32) (ix2 0 j) = nmA m c j := by
  rw [iblk5, v23_apply]
theorem in6q (c : Dev nD) (t : Fin cfg0.N) (k : Fin 1024) (j : Fin 512) : (iblk m c 6 t : Vec Ideal S1024x4096 .bf16) (ix2 k ⟨j.val, by omega⟩) = wA m c k ⟨j.val, by omega⟩ := by
  rw [iblk6, v14_apply, colQ]
theorem in6g (c : Dev nD) (t : Fin cfg0.N) (k : Fin 1024) (j : Fin 512) : (iblk m c 6 t : Vec Ideal S1024x4096 .bf16) (ix2 k ⟨1536 + j.val, by omega⟩) = wA m c k ⟨1544 + j.val, by omega⟩ := by
  rw [iblk6, v14_apply, colG]
theorem in6f (c : Dev nD) (t : Fin cfg0.N) (k : Fin 1024) (j : Fin 128) : (iblk m c 6 t : Vec Ideal S1024x4096 .bf16) (ix2 k ⟨1536 + (512 + j.val), by omega⟩)
    = if h : j.val < 8 then wA m c k ⟨1536 + j.val, by omega⟩ else 0 := by
  rw [iblk6, v14_apply, colF]
theorem in6r (c : Dev nD) (t : Fin cfg0.N) (k : Fin 1024) (j : Fin 896) : (iblk m c 6 t : Vec Ideal S1024x4096 .bf16) (ix2 k ⟨1536 + (640 + j.val), by omega⟩) = rwSel (wA m c k) j := by
  rw [iblk6, v14_apply, colR]
theorem in6t (c : Dev nD) (t : Fin cfg0.N) (k : Fin 1024) (j : Fin 1024) : (iblk m c 6 t : Vec Ideal S1024x4096 .bf16) (ix2 k ⟨1536 + (1536 + j.val), by omega⟩) = wA m c k ⟨2920 + j.val, by omega⟩ := by
  rw [iblk6, v14_apply, colT]
theorem in7 (c : Dev nD) (t : Fin cfg0.N) (k : Fin 1024) (j : Fin 1024) : (iblk m c 7 t : Vec Ideal S1024x1024 .bf16) (ix2 j k) = wA m c k ⟨512 + j.val, by omega⟩ := by
  rw [iblk7, v16_apply]
theorem in8 (c : Dev nD) (t : Fin cfg0.N) (j : Fin 128) : (iblk m c 8 t : Vec Ideal S1x128 .f32) (ix2 0 j) = if h : j.val < 8 then bA m c ⟨j.val, h⟩ else 0 := by
  rw [iblk8, v18_apply]

/-- A row with half its feed-forward added, its norm, and the norm's products with the input matrix's columns. -/
def kMid (c : Dev nD) (r : Fin 65536) : Fin 1024 → EReal := mid (xA m c r) (n1A m c) (wgA m c) (wuA m c) (wdA m c)
def kNorm (c : Dev nD) (r : Fin 65536) : Fin 1024 → EReal := rms (kMid m c r) (nmA m c)
def kZ (c : Dev nD) (r : Fin 65536) : Fin 3944 → EReal := dot (kNorm m c r) (wA m c)

theorem mid_point (c : Dev nD) (t : Fin cfg0.N) (r : Fin 256) :
    bMid (iblk m c 0 t) (iblk m c 1 t) (iblk m c 2 t) (iblk m c 3 t) (iblk m c 4 t) r = kMid m c (rowOf (pt t) r) := by
  unfold bMid kMid
  simp only [iblk0, in1, in2, in3, in4]
theorem norm_point (c : Dev nD) (t : Fin cfg0.N) (r : Fin 256) :
    bNorm (iblk m c 0 t) (iblk m c 1 t) (iblk m c 2 t) (iblk m c 3 t) (iblk m c 4 t) (iblk m c 5 t) r = kNorm m c (rowOf (pt t) r) := by
  unfold bNorm kNorm
  rw [mid_point]
  simp only [in5]

/-- The batch and the column of the key and value blocks, and the row they come from. -/
abbrev batOf (p : Fin 256) : Fin 32 := ⟨p.val / 8, by omega⟩
abbrev colOf (p r : Fin 256) : Fin 2048 := ⟨256 * (p.val % 8) + r.val, by omega⟩
abbrev flat (b : Fin 32) (t : Fin 2048) : Fin 65536 := ⟨b.val * 2048 + t.val, by omega⟩
theorem flatRow (p r : Fin 256) : flat (batOf p) (colOf p r) = rowOf p r := Fin.ext (by dsimp only; omega)

/-- The results as arrays. -/
def res9 (c : Dev nD) : FVec Ideal S65536x1024 .f32 := fun i => kMid m c (i 0) (i 1)
def res10 (c : Dev nD) : FVec Ideal S65536x512 .bf16 := fun i => kZ m c (i 0) ⟨(i 1).val, lt_trans (i 1).isLt (by decide)⟩ * Ideal.ofBits .f32 0x3E000000#32
def res11 (c : Dev nD) : FVec Ideal S32x512x2048 .f32 := fun i => kZ m c (flat (i 0) (i 2)) ⟨512 + (i 1).val, by have := (i 1).isLt; change (i 1).val < 512 at this; omega⟩
def res12 (c : Dev nD) : FVec Ideal S32x512x2048 .f32 := fun i => kZ m c (flat (i 0) (i 2)) ⟨1024 + (i 1).val, by have := (i 1).isLt; change (i 1).val < 512 at this; omega⟩
def res13 (c : Dev nD) : FVec Ideal S65536x512 .f32 := fun i => kZ m c (i 0) ⟨1544 + (i 1).val, by have := (i 1).isLt; change (i 1).val < 512 at this; omega⟩
def res14 (c : Dev nD) : FVec Ideal S65536x128 .f32 := fun i =>
  ls (if h : (i 1).val < 8 then kZ m c (i 0) ⟨1536 + (i 1).val, by omega⟩ + bA m c ⟨(i 1).val, h⟩ else 0)
def res15 (c : Dev nD) : FVec Ideal S65536x896 .f32 := fun i => rwSel (kZ m c (i 0)) (i 1)
def res16 (c : Dev nD) : FVec Ideal S65536x1024 .f32 := fun i => kZ m c (i 0) ⟨2920 + (i 1).val, by have := (i 1).isLt; change (i 1).val < 1024 at this; omega⟩

theorem arr9 (c : Dev nD) : (dats m 0 c).arrAt 9 cfg0.N = res9 m c := by
  refine (dats m 0 c).arrAt_eq_of_covers 9 _ (by decide +kernel) fun t hf y => ?_
  blk_simp
  rw [after0_9]
  obtain ⟨r, j, rfl⟩ : ∃ (r : Fin 256) (j : Fin 1024), y = ix2 r j := ⟨y 0, y 1, by funext a; fin_cases a <;> rfl⟩
  have e : ((cfg0.win 9).blk t).view.emb (ix2 r j) = ix2 (rowOf (pt t) r) j := by
    blk_ext [idx9 t, pt, rowOf, Nat.mul_comm]
  refine Eq.trans ?_ (congrArg (res9 m c) e.symm)
  rw [block9]
  rw [mid_point]
  rfl

theorem arr10 (c : Dev nD) : (dats m 0 c).arrAt 10 cfg0.N = res10 m c := by
  refine (dats m 0 c).arrAt_eq_of_covers 10 _ (by decide +kernel) fun t hf y => ?_
  blk_simp
  rw [after0_10]
  obtain ⟨r, j, rfl⟩ : ∃ (r : Fin 256) (j : Fin 512), y = ix2 r j := ⟨y 0, y 1, by funext a; fin_cases a <;> rfl⟩
  have e : ((cfg0.win 10).blk t).view.emb (ix2 r j) = ix2 (rowOf (pt t) r) j := by
    blk_ext [idx10 t, pt, rowOf, Nat.mul_comm]
  refine Eq.trans ?_ (congrArg (res10 m c) e.symm)
  rw [block10]
  rw [norm_point]
  show _ = kZ m c (rowOf (pt t) r) ⟨j.val, by omega⟩ * _
  congr 1
  unfold kZ dot
  refine Finset.sum_congr rfl fun k _ => ?_
  exact congrArg (kNorm m c (rowOf (pt t) r) k * ·) (in6q m c t k j)

theorem arr11 (c : Dev nD) : (dats m 0 c).arrAt 11 cfg0.N = res11 m c := by
  refine (dats m 0 c).arrAt_eq_of_covers 11 _ (by decide +kernel) fun t hf y => ?_
  blk_simp
  rw [after0_11]
  obtain ⟨l, r, rfl⟩ : ∃ (l : Fin 512) (r : Fin 256), y = ix3 0 l r := ⟨y 1, y 2, by
    funext a; fin_cases a
    · exact Subsingleton.elim (α := Fin 1) _ _
    · rfl
    · rfl⟩
  have e : ((cfg0.win 11).blk t).view.emb (ix3 0 l r) = ix3 (batOf (pt t)) l (colOf (pt t) r) := by
    blk_ext [idx11 t, pt, batOf, colOf, Nat.mul_comm]
  refine Eq.trans ?_ (congrArg (res11 m c) e.symm)
  rw [block11, norm_point]
  show _ = kZ m c (flat (batOf (pt t)) (colOf (pt t) r)) ⟨512 + l.val, by omega⟩
  rw [flatRow (pt t) r]
  unfold kZ dot
  refine Finset.sum_congr rfl fun k _ => ?_
  exact congrArg (kNorm m c (rowOf (pt t) r) k * ·) (in7 m c t k ⟨l.val, by omega⟩)

theorem arr12 (c : Dev nD) : (dats m 0 c).arrAt 12 cfg0.N = res12 m c := by
  refine (dats m 0 c).arrAt_eq_of_covers 12 _ (by decide +kernel) fun t hf y => ?_
  blk_simp
  rw [after0_12]
  obtain ⟨l, r, rfl⟩ : ∃ (l : Fin 512) (r : Fin 256), y = ix3 0 l r := ⟨y 1, y 2, by
    funext a; fin_cases a
    · exact Subsingleton.elim (α := Fin 1) _ _
    · rfl
    · rfl⟩
  have e : ((cfg0.win 12).blk t).view.emb (ix3 0 l r) = ix3 (batOf (pt t)) l (colOf (pt t) r) := by
    blk_ext [idx12 t, pt, batOf, colOf, Nat.mul_comm]
  refine Eq.trans ?_ (congrArg (res12 m c) e.symm)
  rw [block12, norm_point]
  show _ = kZ m c (flat (batOf (pt t)) (colOf (pt t) r)) ⟨1024 + l.val, by omega⟩
  rw [flatRow (pt t) r]
  unfold kZ dot
  refine Finset.sum_congr rfl fun k _ => ?_
  refine (congrArg (kNorm m c (rowOf (pt t) r) k * ·) (in7 m c t k ⟨512 + l.val, by omega⟩)).trans ?_
  exact congrArg (fun j => kNorm m c (rowOf (pt t) r) k * wA m c k j) (Fin.ext (by dsimp only; omega))

theorem arr13 (c : Dev nD) : (dats m 0 c).arrAt 13 cfg0.N = res13 m c := by
  refine (dats m 0 c).arrAt_eq_of_covers 13 _ (by decide +kernel) fun t hf y => ?_
  blk_simp
  rw [after0_13]
  obtain ⟨r, j, rfl⟩ : ∃ (r : Fin 256) (j : Fin 512), y = ix2 r j := ⟨y 0, y 1, by funext a; fin_cases a <;> rfl⟩
  have e : ((cfg0.win 13).blk t).view.emb (ix2 r j) = ix2 (rowOf (pt t) r) j := by
    blk_ext [idx13 t, pt, rowOf, Nat.mul_comm]
  refine Eq.trans ?_ (congrArg (res13 m c) e.symm)
  rw [block13]
  rw [norm_point]
  show _ = kZ m c (rowOf (pt t) r) ⟨1544 + j.val, by omega⟩
  unfold kZ dot
  refine Finset.sum_congr rfl fun k _ => ?_
  exact congrArg (kNorm m c (rowOf (pt t) r) k * ·) (in6g m c t k j)

theorem arr14 (c : Dev nD) : (dats m 0 c).arrAt 14 cfg0.N = res14 m c := by
  refine (dats m 0 c).arrAt_eq_of_covers 14 _ (by decide +kernel) fun t hf y => ?_
  blk_simp
  rw [after0_14]
  obtain ⟨r, j, rfl⟩ : ∃ (r : Fin 256) (j : Fin 128), y = ix2 r j := ⟨y 0, y 1, by funext a; fin_cases a <;> rfl⟩
  have e : ((cfg0.win 14).blk t).view.emb (ix2 r j) = ix2 (rowOf (pt t) r) j := by
    blk_ext [idx14 t, pt, rowOf, Nat.mul_comm]
  refine Eq.trans ?_ (congrArg (res14 m c) e.symm)
  rw [block14]
  rw [norm_point]
  show ls _ = ls (if h : j.val < 8 then kZ m c (rowOf (pt t) r) ⟨1536 + j.val, by omega⟩ + bA m c ⟨j.val, h⟩ else 0)
  congr 1
  rw [in8]
  unfold kZ dot
  rw [Finset.sum_congr rfl fun k _ => congrArg (kNorm m c (rowOf (pt t) r) k * ·) (in6f m c t k j)]
  by_cases h : j.val < 8
  · simp only [dif_pos h]
  · simp only [dif_neg h, mul_zero, Finset.sum_const_zero, add_zero]

theorem arr15 (c : Dev nD) : (dats m 0 c).arrAt 15 cfg0.N = res15 m c := by
  refine (dats m 0 c).arrAt_eq_of_covers 15 _ (by decide +kernel) fun t hf y => ?_
  blk_simp
  rw [after0_15]
  obtain ⟨r, j, rfl⟩ : ∃ (r : Fin 256) (j : Fin 896), y = ix2 r j := ⟨y 0, y 1, by funext a; fin_cases a <;> rfl⟩
  have e : ((cfg0.win 15).blk t).view.emb (ix2 r j) = ix2 (rowOf (pt t) r) j := by
    blk_ext [idx15 t, pt, rowOf, Nat.mul_comm]
  refine Eq.trans ?_ (congrArg (res15 m c) e.symm)
  rw [block15]
  rw [norm_point]
  show _ = rwSel (kZ m c (rowOf (pt t) r)) j
  unfold kZ
  rw [← dot_rwSel]
  unfold dot
  refine Finset.sum_congr rfl fun k _ => ?_
  exact congrArg (kNorm m c (rowOf (pt t) r) k * ·) (in6r m c t k j)

theorem arr16 (c : Dev nD) : (dats m 0 c).arrAt 16 cfg0.N = res16 m c := by
  refine (dats m 0 c).arrAt_eq_of_covers 16 _ (by decide +kernel) fun t hf y => ?_
  blk_simp
  rw [after0_16]
  obtain ⟨r, j, rfl⟩ : ∃ (r : Fin 256) (j : Fin 1024), y = ix2 r j := ⟨y 0, y 1, by funext a; fin_cases a <;> rfl⟩
  have e : ((cfg0.win 16).blk t).view.emb (ix2 r j) = ix2 (rowOf (pt t) r) j := by
    blk_ext [idx16 t, pt, rowOf, Nat.mul_comm]
  refine Eq.trans ?_ (congrArg (res16 m c) e.symm)
  rw [block16]
  rw [norm_point]
  show _ = kZ m c (rowOf (pt t) r) ⟨2920 + j.val, by omega⟩
  unfold kZ dot
  refine Finset.sum_congr rfl fun k _ => ?_
  exact congrArg (kNorm m c (rowOf (pt t) r) k * ·) (in6t m c t k j)

end Cert.KernelInIdeal.Dense

end
-- ==== Proof.InRef.lean ====
/- The first dense reference's results at an index, in terms of its arguments. -/
module

public import proofs.«01_k».proof.Proof.DenseSpec
public import proofs.«01_k».proof.Proof.Gen.ReferenceInIdeal.Read
public import Idealize.ShloMosaic.Lib.Tactic.CleanTypes

@[expose] public section

set_option maxRecDepth 16384

noncomputable section

namespace Cert.ReferenceInIdeal.Dense

open Idealize.ShloMosaic Cert.ReferenceInIdeal Cert.ReferenceInIdeal.Gen Cert.ReferenceInIdeal.Read Cert.DenseSpec

variable (x0 : FVec Ideal S65536x1024 .f32) (x1 : FVec Ideal S1024 .f32) (x2 x3 : FVec Ideal S1024x2816 .f32) (x4 : FVec Ideal S2816x1024 .f32)
  (x5 : FVec Ideal S1024 .f32) (x6 : FVec Ideal S1024x3944 .f32) (x7 : FVec Ideal S8 .f32)

theorem v12_apply (r : Fin 65536) (j : Fin 1024) :
    val_main_v12 (F := Ideal) x0 x1 (ix2 r j) = rms (fun k => x0 (ix2 r k)) (fun k => x1 (ix1 k)) j := by
  unfold rms
  pointwise [val_main_v12, val_main_v11, val_main_v10, val_main_v9, val_main_v8, val_main_v7, val_main_v6, val_main_v5, val_main_cst_1, val_main_v4,
    val_main_v3, val_main_cst_0, val_main_v2, val_main_v1, val_main_cst, val_main_v0]

theorem v16_apply (r : Fin 65536) (c : Fin 2816) :
    val_main_v16 (F := Ideal) x0 x1 x2 x3 (ix2 r c)
      = act (dot (rms (fun k => x0 (ix2 r k)) (fun k => x1 (ix1 k))) (fun k c => x2 (ix2 k c)) c)
          (dot (rms (fun k => x0 (ix2 r k)) (fun k => x1 (ix1 k))) (fun k c => x3 (ix2 k c)) c) := by
  have h := v12_apply x0 x1
  unfold val_main_v16 val_main_v15 val_main_v14 val_main_call0_v5 val_main_call0_v3 val_main_call0_v1 val_main_call0_v0 val_main_v13
  generalize val_main_v12 (F := Ideal) x0 x1 = y at h
  unfold act dot
  simp only [← h]
  pointwise [val_main_call0_v4, val_main_call0_cst_0, val_main_call0_v2, val_main_call0_cst]
  simp only [zero_sub]

/-- The row after the feed-forward, and its norm, from the arguments. -/
abbrev rMid (r : Fin 65536) : Fin 1024 → EReal :=
  mid (fun k => x0 (ix2 r k)) (fun k => x1 (ix1 k)) (fun k c => x2 (ix2 k c)) (fun k c => x3 (ix2 k c)) (fun c k => x4 (ix2 c k))
abbrev rNorm (r : Fin 65536) : Fin 1024 → EReal := rms (rMid x0 x1 x2 x3 x4 r) (fun k => x5 (ix1 k))
/-- The norm's product with a column of the input matrix. -/
abbrev rZ (r : Fin 65536) : Fin 3944 → EReal := dot (rNorm x0 x1 x2 x3 x4 x5 r) (fun k c => x6 (ix2 k c))

theorem v20_apply (r : Fin 65536) (j : Fin 1024) : val_main_v20 (F := Ideal) x0 x1 x2 x3 x4 (ix2 r j) = rMid x0 x1 x2 x3 x4 r j := by
  have h := v16_apply x0 x1 x2 x3
  unfold val_main_v20 val_main_v19 val_main_v17
  generalize val_main_v16 (F := Ideal) x0 x1 x2 x3 = y at h
  unfold rMid mid ffn
  simp only [← h]
  pointwise [val_main_v18, val_main_cst_2]

theorem v33_apply (r : Fin 65536) (j : Fin 1024) : val_main_v33 (F := Ideal) x0 x1 x2 x3 x4 x5 (ix2 r j) = rNorm x0 x1 x2 x3 x4 x5 r j := by
  have h := v20_apply x0 x1 x2 x3 x4
  unfold val_main_v33 val_main_v30 val_main_v29 val_main_v28 val_main_v27 val_main_v25 val_main_v23 val_main_v22 val_main_v21
  generalize val_main_v20 (F := Ideal) x0 x1 x2 x3 x4 = y at h
  unfold rNorm rms
  simp only [← h]
  pointwise [val_main_v32, val_main_v31, val_main_v26, val_main_cst_5, val_main_v24, val_main_cst_4, val_main_cst_3]

theorem v34_apply (r : Fin 65536) (c : Fin 3944) : val_main_v34 (F := Ideal) x0 x1 x2 x3 x4 x5 x6 (ix2 r c) = rZ x0 x1 x2 x3 x4 x5 x6 r c := by
  have h := v33_apply x0 x1 x2 x3 x4 x5
  unfold val_main_v34
  generalize val_main_v33 (F := Ideal) x0 x1 x2 x3 x4 x5 = y at h
  unfold rZ dot
  simp only [← h]
  pointwise

theorem q_apply (r : Fin 65536) (j : Fin 512) : val_main_v61 (F := Ideal) x0 x1 x2 x3 x4 x5 x6 (ix2 r j)
    = rZ x0 x1 x2 x3 x4 x5 x6 r ⟨j.val, by omega⟩ * Ideal.ofBits .f32 0x3E000000#32 := by
  have h := v34_apply x0 x1 x2 x3 x4 x5 x6
  unfold val_main_v61 val_main_v60 val_main_v35
  generalize val_main_v34 (F := Ideal) x0 x1 x2 x3 x4 x5 x6 = y at h
  simp only [← h]
  pointwise [val_main_v59, val_main_cst_7]
theorem k_apply (b : Fin 32) (l : Fin 512) (t : Fin 2048) : val_main_v56 (F := Ideal) x0 x1 x2 x3 x4 x5 x6 (ix3 b l t)
    = rZ x0 x1 x2 x3 x4 x5 x6 ⟨b.val * 2048 + t.val, by omega⟩ ⟨512 + l.val, by omega⟩ := by
  have h := v34_apply x0 x1 x2 x3 x4 x5 x6
  unfold val_main_v56 val_main_v55 val_main_v36
  generalize val_main_v34 (F := Ideal) x0 x1 x2 x3 x4 x5 x6 = y at h
  simp only [← h]
  pointwise
theorem v_apply (b : Fin 32) (l : Fin 512) (t : Fin 2048) : val_main_v58 (F := Ideal) x0 x1 x2 x3 x4 x5 x6 (ix3 b l t)
    = rZ x0 x1 x2 x3 x4 x5 x6 ⟨b.val * 2048 + t.val, by omega⟩ ⟨1024 + l.val, by omega⟩ := by
  have h := v34_apply x0 x1 x2 x3 x4 x5 x6
  unfold val_main_v58 val_main_v57 val_main_v37
  generalize val_main_v34 (F := Ideal) x0 x1 x2 x3 x4 x5 x6 = y at h
  simp only [← h]
  pointwise
theorem g_apply (r : Fin 65536) (j : Fin 512) : val_main_v39 (F := Ideal) x0 x1 x2 x3 x4 x5 x6 (ix2 r j)
    = rZ x0 x1 x2 x3 x4 x5 x6 r ⟨1544 + j.val, by omega⟩ := by
  have h := v34_apply x0 x1 x2 x3 x4 x5 x6
  unfold val_main_v39
  generalize val_main_v34 (F := Ideal) x0 x1 x2 x3 x4 x5 x6 = y at h
  simp only [← h]
  pointwise
theorem t_apply (r : Fin 65536) (j : Fin 1024) : val_main_v41 (F := Ideal) x0 x1 x2 x3 x4 x5 x6 (ix2 r j)
    = rZ x0 x1 x2 x3 x4 x5 x6 r ⟨2920 + j.val, by omega⟩ := by
  have h := v34_apply x0 x1 x2 x3 x4 x5 x6
  unfold val_main_v41
  generalize val_main_v34 (F := Ideal) x0 x1 x2 x3 x4 x5 x6 = y at h
  simp only [← h]
  pointwise

/-- The integer zero as a number. -/
theorem zero_word : (FloatOps.sitofp (F := Ideal) .f32 0#32 : EReal) = 0 := by
  show ((((0#32 : BitVec 32).toInt : ℝ) : EReal)) = 0
  simp

/-- The recurrence's columns, regrouped and padded. -/
def rwOut (y : FVec Ideal S65536x3944 .f32) : FVec Ideal S65536x896 .f32 :=
  have z : FVec Ideal S65536x864 .f32 := extractStridedSlice S65536x864 ![0, 2056] y slices_S65536x3944_S65536x864_0_2056
  have u : FVec Ideal S65536x864 .f32 := concatenate S65536x864 1 [⟨S65536x256, extractStridedSlice S65536x256 ![0, 0] z slices_S65536x864_S65536x256_0_0⟩,
    ⟨S65536x256, extractStridedSlice S65536x256 ![0, 288] z slices_S65536x864_S65536x256_0_288⟩,
    ⟨S65536x256, extractStridedSlice S65536x256 ![0, 544] z slices_S65536x864_S65536x256_0_544⟩,
    ⟨S65536x32, extractStridedSlice S65536x32 ![0, 256] z slices_S65536x864_S65536x32_0_256⟩,
    ⟨S65536x32, extractStridedSlice S65536x32 ![0, 800] z slices_S65536x864_S65536x32_0_800⟩,
    ⟨S65536x32, extractStridedSlice S65536x32 ![0, 832] z slices_S65536x864_S65536x32_0_832⟩]
    concatenates_S65536x256_S65536x256_S65536x256_S65536x32_S65536x32_S65536x32_S65536x864_d1
  pad S65536x896 ![0, 0] ![0, 32] ![0, 0] u (val_main_call3_v0 (F := Ideal)) pads_S65536x864_S65536x896_000_0320 h_S_

theorem rwOut_apply (y : FVec Ideal S65536x3944 .f32) (r : Fin 65536) (j : Fin 896) : rwOut y (ix2 r j) = rwSel (fun c => y (ix2 r c)) j := by
  pointwise [rwOut, val_main_call3_v0, val_main_c_6]
  simp only [zero_word]
  unfold rwSel
  repeat' split
  all_goals first
    | (exfalso; omega)
    | rfl
    | exact congrArg (fun c => y (ix2 r c)) (Fin.ext (by first | rfl | (dsimp only; omega)))

theorem r_apply (r : Fin 65536) (j : Fin 896) : val_main_v54 (F := Ideal) x0 x1 x2 x3 x4 x5 x6 (ix2 r j) = rwSel (rZ x0 x1 x2 x3 x4 x5 x6 r) j := by
  have e : val_main_v54 (F := Ideal) x0 x1 x2 x3 x4 x5 x6 = rwOut (val_main_v34 (F := Ideal) x0 x1 x2 x3 x4 x5 x6) := rfl
  rw [e, rwOut_apply]
  congr 1
  funext c
  exact v34_apply x0 x1 x2 x3 x4 x5 x6 r c

/-- The forget gates with their bias, padded with zeros. -/
def fOut (y : FVec Ideal S65536x3944 .f32) (b : FVec Ideal S8 .f32) : FVec Ideal S65536x128 .f32 :=
  pad S65536x128 ![0, 0] ![0, 120] ![0, 0] (addf (extractStridedSlice S65536x8 ![0, 1536] y slices_S65536x3944_S65536x8_0_1536) (val_main_v43 (F := Ideal) b))
    (val_main_call1_v0 (F := Ideal)) pads_S65536x8_S65536x128_000_01200 h_S_

theorem fOut_apply (y : FVec Ideal S65536x3944 .f32) (b : FVec Ideal S8 .f32) (r : Fin 65536) (j : Fin 128) : fOut y b (ix2 r j)
    = if h : j.val < 8 then y (ix2 r ⟨1536 + j.val, by omega⟩) + b (ix1 ⟨j.val, h⟩) else (0 : EReal) := by
  pointwise [fOut, val_main_v43, val_main_v42, val_main_call1_v0, val_main_c]
  simp only [zero_word]

/-- The logarithm of the sigmoid, as the reference writes it. -/
def lsOut (y : FVec Ideal S65536x128 .f32) : FVec Ideal S65536x128 .f32 :=
  have z : FVec Ideal S65536x128 .f32 := broadcastInDim S65536x128 ![] bcast_S_S65536x128 (constant S_ .f32 0x00000000#32)
  have n : FVec Ideal S65536x128 .f32 := negf y
  have d : FVec Ideal S65536x128 .f32 := subf n z
  negf (select (cmpf .une d d) (addf n z) (addf (maximumf n z) (log1p (exp (negf (absf d))))))

theorem lsOut_apply (y : FVec Ideal S65536x128 .f32) (i : S65536x128.Idx) : lsOut y i = ls (y i) := by
  rw [← ls_softplus]
  pointwise [lsOut]
  rw [if_neg (by simp)]
  rfl

theorem f_apply (r : Fin 65536) (j : Fin 128) : val_main_v46 (F := Ideal) x0 x1 x2 x3 x4 x5 x6 x7 (ix2 r j)
    = ls (if h : j.val < 8 then rZ x0 x1 x2 x3 x4 x5 x6 r ⟨1536 + j.val, by omega⟩ + x7 (ix1 ⟨j.val, h⟩) else 0) := by
  have e : val_main_v46 (F := Ideal) x0 x1 x2 x3 x4 x5 x6 x7 = lsOut (fOut (val_main_v34 (F := Ideal) x0 x1 x2 x3 x4 x5 x6) x7) := rfl
  rw [e, lsOut_apply, fOut_apply]
  simp only [v34_apply]

end Cert.ReferenceInIdeal.Dense

end
-- ==== Proof.InClaim.lean ====
/- The first dense call computes what the layer's first half is in the reference. -/
module

public import proofs.«01_k».proof.Defs
public import proofs.«01_k».proof.Proof.InArray
public import proofs.«01_k».proof.Proof.InRef
public import proofs.«01_k».proof.Proof.Gen.ReferenceInIdeal
public import proofs.«01_k».proof.Proof.Gen.ReferenceInIdeal.Run

@[expose] public section

set_option maxRecDepth 16384

noncomputable section

namespace Cert.InClaim

open Idealize.ShloMosaic Idealize.SL.Sem Cert.DenseSpec Cert.KernelInIdeal.Dense Cert.ReferenceInIdeal.Dense Cert.ReferenceInIdeal.Read

variable (m : (ℓ : Loc Cert.KernelInIdeal.nD Cert.KernelInIdeal.τ Cert.KernelInIdeal.sig) → Buf (Elt Ideal) ℓ) (c : Dev Cert.KernelInIdeal.nD)

/-- The argument arrays. -/
abbrev a0 : Vec Ideal Cert.KernelInIdeal.S65536x1024 .f32 := m ((c.tc : Thread Cert.KernelInIdeal.nD Cert.KernelInIdeal.τ).loc Cert.KernelInIdeal.main_arg0)
abbrev a1 : Vec Ideal Cert.KernelInIdeal.S1024 .f32 := m ((c.tc : Thread Cert.KernelInIdeal.nD Cert.KernelInIdeal.τ).loc Cert.KernelInIdeal.main_arg1)
abbrev a2 : Vec Ideal Cert.KernelInIdeal.S1024x2816 .f32 := m ((c.tc : Thread Cert.KernelInIdeal.nD Cert.KernelInIdeal.τ).loc Cert.KernelInIdeal.main_arg2)
abbrev a3 : Vec Ideal Cert.KernelInIdeal.S1024x2816 .f32 := m ((c.tc : Thread Cert.KernelInIdeal.nD Cert.KernelInIdeal.τ).loc Cert.KernelInIdeal.main_arg3)
abbrev a4 : Vec Ideal Cert.KernelInIdeal.S2816x1024 .f32 := m ((c.tc : Thread Cert.KernelInIdeal.nD Cert.KernelInIdeal.τ).loc Cert.KernelInIdeal.main_arg4)
abbrev a5 : Vec Ideal Cert.KernelInIdeal.S1024 .f32 := m ((c.tc : Thread Cert.KernelInIdeal.nD Cert.KernelInIdeal.τ).loc Cert.KernelInIdeal.main_arg5)
abbrev a6 : Vec Ideal Cert.KernelInIdeal.S1024x3944 .f32 := m ((c.tc : Thread Cert.KernelInIdeal.nD Cert.KernelInIdeal.τ).loc Cert.KernelInIdeal.main_arg6)
abbrev a7 : Vec Ideal Cert.KernelInIdeal.S8 .f32 := m ((c.tc : Thread Cert.KernelInIdeal.nD Cert.KernelInIdeal.τ).loc Cert.KernelInIdeal.main_arg7)

/-- Each result of the reference, of the same arguments, is the array the call leaves. -/
theorem eq9 : val_main_v20 (F := Ideal) (a0 m c) (a1 m c) (a2 m c) (a3 m c) (a4 m c) = res9 m c := by
  funext i
  obtain ⟨r, j, rfl⟩ : ∃ (r : Fin 65536) (j : Fin 1024), i = ix2 r j := ⟨i 0, i 1, by funext a; fin_cases a <;> rfl⟩
  exact v20_apply (a0 m c) (a1 m c) (a2 m c) (a3 m c) (a4 m c) r j
theorem eq10 : val_main_v61 (F := Ideal) (a0 m c) (a1 m c) (a2 m c) (a3 m c) (a4 m c) (a5 m c) (a6 m c) = res10 m c := by
  funext i
  obtain ⟨r, j, rfl⟩ : ∃ (r : Fin 65536) (j : Fin 512), i = ix2 r j := ⟨i 0, i 1, by funext a; fin_cases a <;> rfl⟩
  exact q_apply (a0 m c) (a1 m c) (a2 m c) (a3 m c) (a4 m c) (a5 m c) (a6 m c) r j
theorem eq11 : val_main_v56 (F := Ideal) (a0 m c) (a1 m c) (a2 m c) (a3 m c) (a4 m c) (a5 m c) (a6 m c) = res11 m c := by
  funext i
  obtain ⟨b, l, t, rfl⟩ : ∃ (b : Fin 32) (l : Fin 512) (t : Fin 2048), i = ix3 b l t := ⟨i 0, i 1, i 2, by funext a; fin_cases a <;> rfl⟩
  exact k_apply (a0 m c) (a1 m c) (a2 m c) (a3 m c) (a4 m c) (a5 m c) (a6 m c) b l t
theorem eq12 : val_main_v58 (F := Ideal) (a0 m c) (a1 m c) (a2 m c) (a3 m c) (a4 m c) (a5 m c) (a6 m c) = res12 m c := by
  funext i
  obtain ⟨b, l, t, rfl⟩ : ∃ (b : Fin 32) (l : Fin 512) (t : Fin 2048), i = ix3 b l t := ⟨i 0, i 1, i 2, by funext a; fin_cases a <;> rfl⟩
  exact v_apply (a0 m c) (a1 m c) (a2 m c) (a3 m c) (a4 m c) (a5 m c) (a6 m c) b l t
theorem eq13 : val_main_v39 (F := Ideal) (a0 m c) (a1 m c) (a2 m c) (a3 m c) (a4 m c) (a5 m c) (a6 m c) = res13 m c := by
  funext i
  obtain ⟨r, j, rfl⟩ : ∃ (r : Fin 65536) (j : Fin 512), i = ix2 r j := ⟨i 0, i 1, by funext a; fin_cases a <;> rfl⟩
  exact g_apply (a0 m c) (a1 m c) (a2 m c) (a3 m c) (a4 m c) (a5 m c) (a6 m c) r j
theorem eq14 : val_main_v46 (F := Ideal) (a0 m c) (a1 m c) (a2 m c) (a3 m c) (a4 m c) (a5 m c) (a6 m c) (a7 m c) = res14 m c := by
  funext i
  obtain ⟨r, j, rfl⟩ : ∃ (r : Fin 65536) (j : Fin 128), i = ix2 r j := ⟨i 0, i 1, by funext a; fin_cases a <;> rfl⟩
  exact f_apply (a0 m c) (a1 m c) (a2 m c) (a3 m c) (a4 m c) (a5 m c) (a6 m c) (a7 m c) r j
theorem eq15 : val_main_v54 (F := Ideal) (a0 m c) (a1 m c) (a2 m c) (a3 m c) (a4 m c) (a5 m c) (a6 m c) = res15 m c := by
  funext i
  obtain ⟨r, j, rfl⟩ : ∃ (r : Fin 65536) (j : Fin 896), i = ix2 r j := ⟨i 0, i 1, by funext a; fin_cases a <;> rfl⟩
  exact r_apply (a0 m c) (a1 m c) (a2 m c) (a3 m c) (a4 m c) (a5 m c) (a6 m c) r j
theorem eq16 : val_main_v41 (F := Ideal) (a0 m c) (a1 m c) (a2 m c) (a3 m c) (a4 m c) (a5 m c) (a6 m c) = res16 m c := by
  funext i
  obtain ⟨r, j, rfl⟩ : ∃ (r : Fin 65536) (j : Fin 1024), i = ix2 r j := ⟨i 0, i 1, by funext a; fin_cases a <;> rfl⟩
  exact t_apply (a0 m c) (a1 m c) (a2 m c) (a3 m c) (a4 m c) (a5 m c) (a6 m c) r j

variable (m' : (ℓ : Loc Cert.ReferenceInIdeal.nD Cert.ReferenceInIdeal.τ Cert.ReferenceInIdeal.sig) → Buf (Elt Ideal) ℓ)

/-- The reference's memory holds the same arguments. -/
structure Same : Prop where
  e0 : m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
  e1 : m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
  e2 : m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
  e3 : m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
  e4 : m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
  e5 : m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
  e6 : m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
  e7 : m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)

/-- So its results are the arrays the call leaves. -/
theorem ref10 (h : Same m c m') : Cert.ReferenceInIdeal.Value.res_main_v61 m' c = res10 m c := by
  rw [val_main_v61_eq, h.e0, h.e1, h.e2, h.e3, h.e4, h.e5, h.e6]
  exact eq10 m c
theorem ref11 (h : Same m c m') : Cert.ReferenceInIdeal.Value.res_main_v56 m' c = res11 m c := by
  rw [val_main_v56_eq, h.e0, h.e1, h.e2, h.e3, h.e4, h.e5, h.e6]
  exact eq11 m c
theorem ref12 (h : Same m c m') : Cert.ReferenceInIdeal.Value.res_main_v58 m' c = res12 m c := by
  rw [val_main_v58_eq, h.e0, h.e1, h.e2, h.e3, h.e4, h.e5, h.e6]
  exact eq12 m c
theorem ref13 (h : Same m c m') : Cert.ReferenceInIdeal.Value.res_main_v39 m' c = res13 m c := by
  rw [val_main_v39_eq, h.e0, h.e1, h.e2, h.e3, h.e4, h.e5, h.e6]
  exact eq13 m c
theorem ref14 (h : Same m c m') : Cert.ReferenceInIdeal.Value.res_main_v46 m' c = res14 m c := by
  rw [val_main_v46_eq, h.e0, h.e1, h.e2, h.e3, h.e4, h.e5, h.e6, h.e7]
  exact eq14 m c
theorem ref15 (h : Same m c m') : Cert.ReferenceInIdeal.Value.res_main_v54 m' c = res15 m c := by
  rw [val_main_v54_eq, h.e0, h.e1, h.e2, h.e3, h.e4, h.e5, h.e6]
  exact eq15 m c
theorem ref16 (h : Same m c m') : Cert.ReferenceInIdeal.Value.res_main_v41 m' c = res16 m c := by
  rw [val_main_v41_eq, h.e0, h.e1, h.e2, h.e3, h.e4, h.e5, h.e6]
  exact eq16 m c

set_option maxHeartbeats 4000000 in
/-- At exact arithmetic the first dense call's results are its reference's. -/
theorem algebraic : Cert.algebraic_KernelInIdeal_ReferenceInIdeal (hKernelInIdeal := Cert.KernelInIdeal.Gen.facts)
    (hReferenceInIdeal := Cert.ReferenceInIdeal.Gen.facts) := by
  intro m ρ m' ρ' _ hag
  refine ⟨fun c => res9 m c, fun c => res10 m c, fun c => res11 m c, fun c => res12 m c, fun c => res13 m c, fun c => res14 m c, fun c => res15 m c, fun c => res16 m c, ?_, ?_⟩
  · refine (θ_run _ _ _).mono ?_ (Cert.KernelInIdeal.Value.run_blocks m ρ)
    intro r h c
    obtain ⟨h9, h10, h11, h12, h13, h14, h15, h16, hk⟩ := h c
    exact ⟨h9.trans (arr9 m c), h10.trans (arr10 m c), h11.trans (arr11 m c), h12.trans (arr12 m c), h13.trans (arr13 m c), h14.trans (arr14 m c), h15.trans (arr15 m c), h16.trans (arr16 m c), hk⟩
  · refine (θ_run _ _ _).mono ?_ (Cert.ReferenceInIdeal.Value.run m' ρ')
    intro r h c
    obtain ⟨e0, e1, e2, e3, e4, e5, e6, e7⟩ := hag c
    have hs : Same m c m' := ⟨e0, e1, e2, e3, e4, e5, e6, e7⟩
    obtain ⟨h9, h10, h11, h12, h13, h14, h15, h16, hk⟩ := h c
    refine ⟨(h9.trans (val_main_v20_eq (F := Ideal) _ _ _ _ _)).trans ?_, h10.trans (ref10 m c m' hs), h11.trans (ref11 m c m' hs), h12.trans (ref12 m c m' hs), h13.trans (ref13 m c m' hs), h14.trans (ref14 m c m' hs), h15.trans (ref15 m c m' hs), h16.trans (ref16 m c m' hs), hk⟩
    rw [e0, e1, e2, e3, e4]
    exact eq9 m c

end Cert.InClaim

end
-- ==== Proof.OutSpec.lean ====
/- What the second dense call computes for one row: the per-head norm, the gated sum of the three mixers, the
   feed-forward, the gated embedding and the last norm. -/
module

public import proofs.«01_k».proof.Proof.DenseSpec

@[expose] public section

set_option maxRecDepth 16384

noncomputable section

namespace Cert.DenseSpec

open Idealize.ShloMosaic

/-- A sum over a head, by a matrix of ones in the head's block, of the number and of what rounding it leaves. -/
def blockSum (x : Fin 256 → EReal) (bd : Fin 256 → Fin 256 → EReal) (c : Fin 256) : EReal :=
  (∑ k, x k * bd k c) + ∑ k, (x k - x k) * bd k c

/-- The difference from the head's mean, as the call takes it. -/
def dev (x : Fin 256 → EReal) (bd : Fin 256 → Fin 256 → EReal) (c : Fin 256) : EReal :=
  x c - blockSum x bd c * Ideal.ofBits .f32 0x3C800000#32

/-- The norm over the head, as the call takes it. -/
def headN (x : Fin 256 → EReal) (bd : Fin 256 → Fin 256 → EReal) (c : Fin 256) : EReal :=
  dev x bd c * Ideal.rsqrt (blockSum (fun k => dev x bd k * dev x bd k) bd c * Ideal.ofBits .f32 0x3C800000#32 + Ideal.ofBits .f32 0x3A27C5AC#32)

/-- A column's place in its head's columns. -/
abbrev mate (c : Fin 256) (d : Fin 64) : Fin 256 := ⟨64 * (c.val / 64) + d.val, by omega⟩

/-- The mean over a column's head. -/
def headMean (x : Fin 256 → EReal) (c : Fin 256) : EReal := Ideal.div (∑ d : Fin 64, x (mate c d)) (Ideal.ofBits .f32 0x42800000#32)

/-- The norm over the head: the difference from the mean times the reciprocal root of the variance. -/
def headR (x : Fin 256 → EReal) (c : Fin 256) : EReal :=
  (x c - headMean x c) * Ideal.rsqrt (Ideal.div (∑ d : Fin 64, (x (mate c d) - headMean x c) * (x (mate c d) - headMean x c)) (Ideal.ofBits .f32 0x42800000#32)
    + Ideal.ofBits .f32 0x3A27C5AC#32)

/-- The matrix of ones in the heads' blocks. -/
def ones (k c : Fin 256) : EReal := if k.val / 64 = c.val / 64 then 1 else 0

theorem sum_ones (x : Fin 256 → EReal) (c : Fin 256) : (∑ k, x k * ones k c) = ∑ d : Fin 64, x (mate c d) := by
  have h : (∑ k : Fin 256, x k * ones k c) = ∑ k ∈ Finset.univ.filter (fun k : Fin 256 => k.val / 64 = c.val / 64), x k := by
    rw [Finset.sum_filter]
    refine Finset.sum_congr rfl fun k _ => ?_
    unfold ones
    split_ifs
    · exact mul_one _
    · exact mul_zero _
  rw [h]
  refine (Finset.sum_bij (fun d _ => mate c d) ?_ ?_ ?_ ?_).symm
  · intro d _
    simp only [Finset.mem_filter, Finset.mem_univ, true_and, mate]
    omega
  · intro a _ b _ e
    have := congrArg Fin.val e
    simp only [mate] at this
    exact Fin.ext (by omega)
  · intro k hk
    simp only [Finset.mem_filter, Finset.mem_univ, true_and] at hk
    exact ⟨⟨k.val % 64, by omega⟩, Finset.mem_univ _, Fin.ext (by simp only [mate]; omega)⟩
  · intro d _
    rfl

/-- Of numbers that are real, the rounding leaves nothing. -/
theorem blockSum_real (x : Fin 256 → EReal) (hx : ∀ k, ∃ r : ℝ, x k = r) (c : Fin 256) : blockSum x ones c = ∑ d : Fin 64, x (mate c d) := by
  unfold blockSum
  rw [sum_ones]
  have z : (∑ k, (x k - x k) * ones k c) = 0 := by
    refine Finset.sum_eq_zero fun k _ => ?_
    obtain ⟨r, e⟩ := hx k
    rw [e, ← EReal.coe_sub, sub_self, EReal.coe_zero, zero_mul]
  rw [z, add_zero]

theorem bits_inv64 : Ideal.ofBits .f32 0x3C800000#32 = ((1 / 64 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num

/-- Times the reciprocal of sixty-four is divided by sixty-four. -/
theorem mul_inv64 (s : EReal) : s * Ideal.ofBits .f32 0x3C800000#32 = Ideal.div s (Ideal.ofBits .f32 0x42800000#32) := by
  rw [bits_inv64, bits_64, Ideal.div_coe (by norm_num)]

theorem sum_real {n : ℕ} (x : Fin n → EReal) (hx : ∀ k, ∃ r : ℝ, x k = r) : ∃ r : ℝ, (∑ k, x k) = r := by
  choose f hf using hx
  exact ⟨∑ k, f k, by rw [Finset.sum_congr rfl fun k _ => hf k]; exact (map_sum (⟨⟨Real.toEReal, EReal.coe_zero⟩, EReal.coe_add⟩ : ℝ →+ EReal) f Finset.univ).symm⟩

theorem mate_mate (c : Fin 256) (d e : Fin 64) : mate (mate c d) e = mate c e := Fin.ext (by simp only [mate]; omega)
theorem headMean_mate (x : Fin 256 → EReal) (c : Fin 256) (d : Fin 64) : headMean x (mate c d) = headMean x c := by
  unfold headMean; simp only [mate_mate]

theorem headMean_real (x : Fin 256 → EReal) (hx : ∀ k, ∃ r : ℝ, x k = r) (c : Fin 256) : ∃ r : ℝ, headMean x c = r := by
  obtain ⟨s, e⟩ := sum_real (fun d : Fin 64 => x (mate c d)) fun d => hx _
  exact ⟨s * (1 / 64), by unfold headMean; rw [e, bits_64, Ideal.div_coe (by norm_num), ← EReal.coe_mul]⟩

/-- Of numbers that are real, the call's norm over a head is the norm over the head. -/
theorem headN_eq (x : Fin 256 → EReal) (hx : ∀ k, ∃ r : ℝ, x k = r) (c : Fin 256) : headN x ones c = headR x c := by
  have hd : ∀ k, dev x ones k = x k - headMean x k := fun k => by
    unfold dev headMean; rw [blockSum_real x hx, mul_inv64]
  have hs : ∀ k, ∃ r : ℝ, dev x ones k * dev x ones k = r := fun k => by
    obtain ⟨a, ea⟩ := hx k
    obtain ⟨b, eb⟩ := headMean_real x hx k
    exact ⟨(a - b) * (a - b), by rw [hd, ea, eb, ← EReal.coe_sub, ← EReal.coe_mul]⟩
  unfold headN headR
  rw [blockSum_real _ hs, mul_inv64]
  simp only [hd, headMean_mate]

/-- The recurrence's row: normed by heads, scaled and shifted, the bonus added, gated. -/
def gated (n : Fin 256 → EReal) (lnw lnb : Fin 256 → EReal) (gb : Fin 512 → EReal) (c : Fin 256) : EReal :=
  (n c * lnw c + lnb c + gb ⟨256 + c.val, by omega⟩) * gb ⟨c.val, by omega⟩

/-- The row with the three mixers' products added. -/
def mixed (x : Fin 1024 → EReal) (of : Fin 512 → EReal) (rw ret : Fin 256 → EReal) (w : Fin 1024 → Fin 1024 → EReal) (j : Fin 1024) : EReal :=
  x j + (dot of (fun k c => w ⟨k.val, by omega⟩ c) j + dot rw (fun k c => w ⟨512 + k.val, by omega⟩ c) j
    + dot ret (fun k c => w ⟨768 + k.val, by omega⟩ c) j)

/-- The three mixers side by side. -/
def beside (of : Fin 512 → EReal) (rw ret : Fin 256 → EReal) (k : Fin 1024) : EReal :=
  if h : k.val < 512 then of ⟨k.val, h⟩ else if h : k.val < 768 then rw ⟨k.val - 512, by omega⟩ else ret ⟨k.val - 768, by omega⟩

/-- One product of the three side by side is the three products. -/
theorem beside_dot (x : Fin 1024 → EReal) (of : Fin 512 → EReal) (rw ret : Fin 256 → EReal) (w : Fin 1024 → Fin 1024 → EReal) (j : Fin 1024) :
    x j + dot (beside of rw ret) w j = mixed x of rw ret w j := by
  unfold mixed dot
  have e1 := Fin.sum_univ_add (M := EReal) (a := 768) (b := 256) fun k => beside of rw ret k * w k j
  have e2 := Fin.sum_univ_add (M := EReal) (a := 512) (b := 256) fun k => beside of rw ret (Fin.castAdd 256 k) * w (Fin.castAdd 256 k) j
  refine congrArg (x j + ·) (e1.trans ?_)
  rw [e2]
  refine congrArg₂ (· + ·) (congrArg₂ (· + ·) ?_ ?_) ?_
  · refine Finset.sum_congr rfl fun k _ => ?_
    have : beside of rw ret (Fin.castAdd 256 (Fin.castAdd 256 k)) = of k := by
      unfold beside; rw [dif_pos (show (Fin.castAdd 256 (Fin.castAdd 256 k)).val < 512 from k.isLt)]; rfl
    exact congrArg (· * w ⟨k.val, by omega⟩ j) this
  · refine Finset.sum_congr rfl fun k _ => ?_
    have : beside of rw ret (Fin.castAdd 256 (Fin.natAdd 512 k)) = rw k := by
      unfold beside
      have v : (Fin.castAdd 256 (Fin.natAdd 512 k)).val = 512 + k.val := rfl
      rw [dif_neg (by omega), dif_pos (by omega)]
      exact congrArg rw (Fin.ext (by simp))
    exact congrArg (· * w ⟨512 + k.val, by omega⟩ j) this
  · refine Finset.sum_congr rfl fun k _ => ?_
    have : beside of rw ret (Fin.natAdd 768 k) = ret k := by
      unfold beside
      have v : (Fin.natAdd 768 k).val = 768 + k.val := rfl
      rw [dif_neg (by omega), dif_neg (by omega)]
      exact congrArg ret (Fin.ext (by simp))
    exact congrArg (· * w ⟨768 + k.val, by omega⟩ j) this

/-- The row with the gated embedding added. -/
def emb (y : Fin 1024 → EReal) (pe : Fin 256 → EReal) (wpp : Fin 256 → Fin 1024 → EReal) (pn : Fin 1024 → EReal) (wpg : Fin 1024 → Fin 1024 → EReal)
    (j : Fin 1024) : EReal :=
  y j + Ideal.div 1 (1 + Ideal.exp (0 - dot y wpg j)) * rms (dot pe wpp) pn j

end Cert.DenseSpec

end
-- ==== Proof.OutBlock.lean ====
/- The block of 512 rows that one grid point of the second dense call leaves, in terms of the blocks it reads. -/
module

public import proofs.«01_k».proof.Proof.OutSpec
public import proofs.«01_k».proof.Proof.Gen.KernelOutIdeal.Frame
public import Idealize.ShloMosaic.Lib.Pipeline.ValueKit

@[expose] public section

set_option maxRecDepth 16384

noncomputable section

namespace Cert.KernelOutIdeal.Dense

open Idealize.ShloMosaic Cert.KernelOutIdeal Cert.KernelOutIdeal.Gen Cert.DenseSpec

/-- The sum over a head by the matrix of ones, of the high and the low part. -/
def bsum (x : FVec Ideal S512x256 .f32) (bd : Vec Ideal S256x256 .f32) : FVec Ideal S512x256 .f32 :=
  have v2 : FVec Ideal S256x256 .f32 := shapeCast S256x256 bd shapeCasts_S256x256_S256x256
  have v3 : FVec Ideal S512x256 .bf16 := truncf .bf16 x bitsLt_bf16_f32
  have v4 : FVec Ideal S512x256 .f32 := extf .f32 v3 bitsLt_bf16_f32
  have v5 : FVec Ideal S512x256 .f32 := subf x v4
  have v6 : FVec Ideal S512x256 .bf16 := truncf .bf16 v5 bitsLt_bf16_f32
  have v7 : FVec Ideal S512x256 .f32 := extf .f32 v6 bitsLt_bf16_f32
  have v8 : FVec Ideal S512x256 .f32 := matmul dot_S512x256_S256x256_S512x256_1_0_0_1_n_n none v4 v2 (constant S512x256 .f32 0x00000000#32)
  have v9 : FVec Ideal S512x256 .f32 := matmul dot_S512x256_S256x256_S512x256_1_0_0_1_n_n none v7 v2 (constant S512x256 .f32 0x00000000#32)
  addf v8 v9

theorem bsum_apply (x : FVec Ideal S512x256 .f32) (bd : Vec Ideal S256x256 .f32) (r : Fin 512) (c : Fin 256) :
    bsum x bd (ix2 r c) = blockSum (fun k => x (ix2 r k)) (fun k c => bd (ix2 k c)) c := by
  unfold blockSum; pointwise [bsum]

/-- The difference from the head's mean. -/
def dv (x : FVec Ideal S512x256 .f32) (bd : Vec Ideal S256x256 .f32) : FVec Ideal S512x256 .f32 :=
  subf x (mulf (bsum x bd) (broadcast S512x256 (Scalar.ofBits .f32 0x3C800000#32)))

theorem dv_apply (x : FVec Ideal S512x256 .f32) (bd : Vec Ideal S256x256 .f32) (r : Fin 512) (c : Fin 256) :
    dv x bd (ix2 r c) = dev (fun k => x (ix2 r k)) (fun k c => bd (ix2 k c)) c := by
  unfold dev; rw [← bsum_apply]; unfold dv; generalize bsum x bd = z; pointwise

/-- The head norm scaled and shifted, and the bonus added, from the difference and the summed squares. -/
def pre (d s : FVec Ideal S512x256 .f32) (v29 v33 : Vec Ideal S1x256 .f32) (v37 : Vec Ideal S512x256 .f32) : FVec Ideal S512x256 .f32 :=
  have v24 : FVec Ideal S512x256 .f32 := mulf s (broadcast S512x256 (Scalar.ofBits .f32 0x3C800000#32))
  have v26 : FVec Ideal S512x256 .f32 := addf v24 (broadcast S512x256 (Scalar.ofBits .f32 0x3A27C5AC#32))
  have v28 : FVec Ideal S512x256 .f32 := mulf d (rsqrt v26)
  have v31 : FVec Ideal S512x256 .f32 := broadcastTo S512x256 (shapeCast S1x256 v29 shapeCasts_S1x256_S1x256) broadcasts_S1x256_S512x256
  have v35 : FVec Ideal S512x256 .f32 := broadcastTo S512x256 (shapeCast S1x256 v33 shapeCasts_S1x256_S1x256) broadcasts_S1x256_S512x256
  addf (addf (mulf v28 v31) v35) v37

theorem pay2_apply (x : Vec Ideal S512x256 .f32) (bd : Vec Ideal S256x256 .f32) (v29 v33 : Vec Ideal S1x256 .f32) (v37 : Vec Ideal S512x256 .f32)
    (r : Fin 512) (c : Fin 256) :
    k0_pay2 x bd v29 v33 v37 (ix2 r c)
      = headN (fun k => x (ix2 r k)) (fun k c => bd (ix2 k c)) c * v29 (ix2 0 c) + v33 (ix2 0 c) + v37 (ix2 r c) := by
  have e : k0_pay2 x bd v29 v33 v37 = pre (dv x bd) (bsum (mulf (dv x bd) (dv x bd)) bd) v29 v33 v37 := rfl
  have hs : bsum (mulf (dv x bd) (dv x bd)) bd (ix2 r c)
      = blockSum (fun k => dev (fun k => x (ix2 r k)) (fun k c => bd (ix2 k c)) k * dev (fun k => x (ix2 r k)) (fun k c => bd (ix2 k c)) k) (fun k c => bd (ix2 k c)) c := by
    rw [bsum_apply]
    congr 1
    funext k
    rw [← dv_apply]
    rfl
  rw [e]
  unfold headN
  rw [← hs, ← dv_apply]
  generalize bsum (mulf (dv x bd) (dv x bd)) bd = s
  generalize dv x bd = d
  pointwise [pre]

theorem pay3_apply (v38 : FVec Ideal S512x256 .f32) (v39 : Vec Ideal S512x256 .f32) (v42 : Vec Ideal S512x1024 .f32) (v43 : Vec Ideal S512x512 .bf16)
    (v44 : Vec Ideal S512x1024 .bf16) (v47 : Vec Ideal S256x1024 .bf16) (v51 : Vec Ideal S512x256 .bf16) (v52 : Vec Ideal S256x1024 .bf16) (r : Fin 512) (j : Fin 1024) :
    k0_pay3 v38 v39 v42 v43 v44 v47 v51 v52 (ix2 r j)
      = v42 (ix2 r j) + (dot (fun k => v43 (ix2 r k)) (fun k c => v44 (ix2 k c)) j
          + dot (fun k => v38 (ix2 r k) * v39 (ix2 r k)) (fun k c => v47 (ix2 k c)) j + dot (fun k => v51 (ix2 r k)) (fun k c => v52 (ix2 k c)) j) := by
  unfold dot; pointwise [k0_pay3]

theorem pay4_apply (v38 : FVec Ideal S512x256 .f32) (v39 : Vec Ideal S512x256 .f32) (v42 : Vec Ideal S512x1024 .f32) (v43 : Vec Ideal S512x512 .bf16)
    (v44 : Vec Ideal S512x1024 .bf16) (v47 : Vec Ideal S256x1024 .bf16) (v51 : Vec Ideal S512x256 .bf16) (v52 : Vec Ideal S256x1024 .bf16) (v57 : Vec Ideal S1x1024 .f32)
    (r : Fin 512) (j : Fin 1024) :
    k0_pay4 v38 v39 v42 v43 v44 v47 v51 v52 v57 (ix2 r j) = rms (fun k => k0_pay3 v38 v39 v42 v43 v44 v47 v51 v52 (ix2 r k)) (fun k => v57 (ix2 0 k)) j := by
  unfold k0_pay4
  generalize k0_pay3 v38 v39 v42 v43 v44 v47 v51 v52 = z
  unfold rms; pointwise

theorem pay5_apply (v38 : FVec Ideal S512x256 .f32) (v39 : Vec Ideal S512x256 .f32) (v42 : Vec Ideal S512x1024 .f32) (v43 : Vec Ideal S512x512 .bf16)
    (v44 : Vec Ideal S512x1024 .bf16) (v47 : Vec Ideal S256x1024 .bf16) (v51 : Vec Ideal S512x256 .bf16) (v52 : Vec Ideal S256x1024 .bf16) (v57 : Vec Ideal S1x1024 .f32)
    (v72 : Vec Ideal S1024x1408 .bf16) (r : Fin 512) (j : Fin 1408) :
    k0_pay5 v38 v39 v42 v43 v44 v47 v51 v52 v57 v72 (ix2 r j) = dot (fun k => k0_pay4 v38 v39 v42 v43 v44 v47 v51 v52 v57 (ix2 r k)) (fun k c => v72 (ix2 k c)) j := by
  unfold k0_pay5
  generalize k0_pay4 v38 v39 v42 v43 v44 v47 v51 v52 v57 = z
  unfold dot; pointwise

theorem pay6_apply (v56 : FVec Ideal S512x1024 .f32) (h : FVec Ideal S512x1024 .bf16) (v74 : FVec Ideal S512x1408 .f32) (v75 : Vec Ideal S1024x1408 .bf16)
    (v88 : Vec Ideal S1408x1024 .bf16) (a b : Vec Ideal S1024x1408 .bf16) (d : Vec Ideal S1408x1024 .bf16) (r : Fin 512) (j : Fin 1024) :
    k0_pay6 v56 h v74 v75 v88 a b d (ix2 r j)
      = v56 (ix2 r j) + Ideal.ofBits .f32 0x3F000000#32 * ((∑ c : Fin 1408, act (v74 (ix2 r c)) (dot (fun k => h (ix2 r k)) (fun k c => v75 (ix2 k c)) c) * v88 (ix2 c j))
          + ffn (fun k => h (ix2 r k)) (fun k c => a (ix2 k c)) (fun k c => b (ix2 k c)) (fun c j => d (ix2 c j)) j) := by
  unfold ffn act dot; pointwise [k0_pay6]

theorem pay7_apply (y : FVec Ideal S512x1024 .f32) (pe : Vec Ideal S1x512x256 .f32) (wpp : Vec Ideal S256x1024 .bf16) (pn : Vec Ideal S1x1024 .f32)
    (wpg : Vec Ideal S1024x1024 .bf16) (r : Fin 512) (j : Fin 1024) :
    k0_pay7 y pe wpp pn wpg (ix2 r j)
      = emb (fun k => y (ix2 r k)) (fun k => pe (ix3 0 r k)) (fun k c => wpp (ix2 k c)) (fun k => pn (ix2 0 k)) (fun k c => wpg (ix2 k c)) j := by
  unfold emb rms dot; pointwise [k0_pay7]

theorem pay1_apply (y : FVec Ideal S512x1024 .f32) (pe : Vec Ideal S1x512x256 .f32) (wpp : Vec Ideal S256x1024 .bf16) (pn : Vec Ideal S1x1024 .f32)
    (wpg : Vec Ideal S1024x1024 .bf16) (nf : Vec Ideal S1x1024 .f32) (r : Fin 512) (j : Fin 1024) :
    k0_pay1 (k0_pay7 y pe wpp pn wpg) (k0_pay8 nf) (k0_pay9 y pe wpp pn wpg) (ix2 r j)
      = rms (fun k => k0_pay7 y pe wpp pn wpg (ix2 r k)) (fun k => nf (ix2 0 k)) j := by
  unfold k0_pay9
  generalize k0_pay7 y pe wpp pn wpg = z
  unfold rms; pointwise [k0_pay1, k0_pay8]

/-- Of the gates and bonuses, the bonuses. -/
def part3 (x : Vec Ideal S512x512 .f32) : Vec Ideal S512x256 .f32 := View.ld x r0_3
theorem part3_apply (x : Vec Ideal S512x512 .f32) (k : Fin 512) (c : Fin 256) : part3 x (ix2 k c) = x (ix2 k ⟨256 + c.val, by omega⟩) := by
  unfold part3; pointwise
/-- Of the gates and bonuses, the gates. -/
def part4 (x : Vec Ideal S512x512 .f32) : Vec Ideal S512x256 .f32 := View.ld x r0_4
theorem part4_apply (x : Vec Ideal S512x512 .f32) (k : Fin 512) (c : Fin 256) : part4 x (ix2 k c) = x (ix2 k ⟨c.val, by omega⟩) := by
  unfold part4; pointwise
/-- Of a weight matrix, the first half of the hidden columns. -/
def part9 (x : Vec Ideal S1024x2816 .bf16) : Vec Ideal S1024x1408 .bf16 := View.ld x r0_9
theorem part9_apply (x : Vec Ideal S1024x2816 .bf16) (k : Fin 1024) (c : Fin 1408) : part9 x (ix2 k c) = x (ix2 k ⟨c.val, by omega⟩) := by
  unfold part9; pointwise
/-- Of a weight matrix, the second half of the hidden columns. -/
def part11 (x : Vec Ideal S1024x2816 .bf16) : Vec Ideal S1024x1408 .bf16 := View.ld x r0_11
theorem part11_apply (x : Vec Ideal S1024x2816 .bf16) (k : Fin 1024) (c : Fin 1408) : part11 x (ix2 k c) = x (ix2 k ⟨1408 + c.val, by omega⟩) := by
  unfold part11; pointwise
/-- Of a weight matrix, the first half of the hidden rows. -/
def part10 (x : Vec Ideal S2816x1024 .bf16) : Vec Ideal S1408x1024 .bf16 := View.ld x r0_10
theorem part10_apply (x : Vec Ideal S2816x1024 .bf16) (c : Fin 1408) (k : Fin 1024) : part10 x (ix2 c k) = x (ix2 ⟨c.val, by omega⟩ k) := by
  unfold part10; pointwise
/-- Of a weight matrix, the second half of the hidden rows. -/
def part12 (x : Vec Ideal S2816x1024 .bf16) : Vec Ideal S1408x1024 .bf16 := View.ld x r0_12
theorem part12_apply (x : Vec Ideal S2816x1024 .bf16) (c : Fin 1408) (k : Fin 1024) : part12 x (ix2 c k) = x (ix2 ⟨1408 + c.val, by omega⟩ k) := by
  unfold part12; pointwise

variable (x0 : Vec Ideal S512x1024 .f32) (x1 : Vec Ideal S512x512 .bf16) (x2 : Vec Ideal S512x256 .f32) (x3 : Vec Ideal S512x512 .f32) (x4 : Vec Ideal S512x256 .bf16)
  (x5 : Vec Ideal S1x512x256 .f32) (x6 x7 : Vec Ideal S1x256 .f32) (x8 : Vec Ideal S256x256 .f32) (x9 : Vec Ideal S512x1024 .bf16) (x10 x11 : Vec Ideal S256x1024 .bf16)
  (x12 : Vec Ideal S1x1024 .f32) (x13 x14 : Vec Ideal S1024x2816 .bf16) (x15 : Vec Ideal S2816x1024 .bf16) (x16 : Vec Ideal S256x1024 .bf16) (x17 : Vec Ideal S1x1024 .f32)
  (x18 : Vec Ideal S1024x1024 .bf16) (x19 : Vec Ideal S1x1024 .f32)

/-- The row with the mixers' products added, from the blocks read. -/
abbrev bMix (r : Fin 512) (j : Fin 1024) : EReal :=
  x0 (ix2 r j) + (dot (fun k => x1 (ix2 r k)) (fun k c => x9 (ix2 k c)) j
    + dot (gated (headN (fun k => x2 (ix2 r k)) (fun k c => x8 (ix2 k c))) (fun k => x6 (ix2 0 k)) (fun k => x7 (ix2 0 k)) (fun k => x3 (ix2 r k)))
        (fun k c => x10 (ix2 k c)) j
    + dot (fun k => x4 (ix2 r k)) (fun k c => x11 (ix2 k c)) j)

theorem mix_apply (r : Fin 512) (j : Fin 1024) :
    k0_pay3 (k0_pay10 x0 x1 x2 x3 x4 x5 x6 x7 x8 x9 x10 x11 x12 x13 x14 x15 x16 x17 x18 x19) (View.ld x3 r0_4) (View.ld x0 r0_5) (View.ld x1 r0_6) (View.ld x9 r0_5) (View.ld x10 r0_7) (View.ld x4 r0_0) (View.ld x11 r0_7) (ix2 r j)
      = bMix x0 x1 x2 x3 x4 x6 x7 x8 x9 x10 x11 r j := by
  unfold k0_pay10
  change k0_pay3 (k0_pay2 _ _ _ _ (part3 x3)) (part4 x3) _ _ _ _ _ _ _ = _
  rw [pay3_apply, View.ld_unit_lit _ x0 (by decide), View.ld_unit_lit _ x1 (by decide), View.ld_unit_lit _ x9 (by decide), View.ld_unit_lit _ x10 (by decide),
    View.ld_unit_lit _ x4 (by decide), View.ld_unit_lit _ x11 (by decide), View.ld_unit_lit _ x2 (by decide), View.ld_unit_lit _ x8 (by decide),
    View.ld_unit_lit _ x6 (by decide), View.ld_unit_lit _ x7 (by decide)]
  simp only [pay2_apply, part3_apply, part4_apply]
  rfl

/-- The row after the feed-forward. -/
abbrev bMid (r : Fin 512) : Fin 1024 → EReal :=
  mid (bMix x0 x1 x2 x3 x4 x6 x7 x8 x9 x10 x11 r) (fun k => x12 (ix2 0 k)) (fun k c => x13 (ix2 k c)) (fun k c => x14 (ix2 k c)) (fun c k => x15 (ix2 c k))

theorem mid_apply (r : Fin 512) (j : Fin 1024) :
    k0_pay11 x0 x1 x2 x3 x4 x5 x6 x7 x8 x9 x10 x11 x12 x13 x14 x15 x16 x17 x18 x19 (ix2 r j) = bMid x0 x1 x2 x3 x4 x6 x7 x8 x9 x10 x11 x12 x13 x14 x15 r j := by
  unfold k0_pay11
  change k0_pay6 _ _ (k0_pay5 _ _ _ _ _ _ _ _ _ (part9 x13)) (part9 x14) (part10 x15) (part11 x13) (part11 x14) (part12 x15) _ = _
  rw [pay6_apply, mix_apply]
  unfold bMid mid
  rw [ffn_chunks]
  unfold ffn
  simp only [pay5_apply, pay4_apply, mix_apply]
  rw [View.ld_unit_lit _ x12 (by decide)]
  unfold dot
  simp only [part9_apply, part10_apply, part11_apply, part12_apply]

/-- What the grid point leaves. -/
theorem block20 (r : Fin 512) (j : Fin 1024) : out0_20 x0 x1 x2 x3 x4 x5 x6 x7 x8 x9 x10 x11 x12 x13 x14 x15 x16 x17 x18 x19 (ix2 r j)
    = rms (emb (bMid x0 x1 x2 x3 x4 x6 x7 x8 x9 x10 x11 x12 x13 x14 x15 r) (fun k => x5 (ix3 0 r k)) (fun k c => x16 (ix2 k c)) (fun k => x17 (ix2 0 k))
        (fun k c => x18 (ix2 k c))) (fun k => x19 (ix2 0 k)) j := by
  unfold out0_20
  rw [View.canon_cons_unit_lit _ _ _ (by decide), pay1_apply, View.ld_unit_lit _ x5 (by decide), View.ld_unit_lit _ x16 (by decide), View.ld_unit_lit _ x17 (by decide),
    View.ld_unit_lit _ x18 (by decide), View.ld_unit_lit _ x19 (by decide)]
  simp only [pay7_apply, mid_apply]

end Cert.KernelOutIdeal.Dense

end
-- ==== Proof.OutHost.lean ====
/- The operands the second dense call reads that are made of the arguments beforehand: the matrix of ones in the heads'
   blocks, the output matrix's three parts, the casts and the vectors as rows. -/
module

public import proofs.«01_k».proof.Proof.OutSpec
public import proofs.«01_k».proof.Proof.Gen.KernelOutIdeal.Frame
public import Idealize.ShloMosaic.Lib.StableHlo.ReadAt
public import Idealize.ShloMosaic.Lib.Pipeline.ValueKit

@[expose] public section

set_option maxRecDepth 16384

noncomputable section

namespace Cert.KernelOutIdeal.Dense

open Idealize.ShloMosaic Cert.KernelOutIdeal Cert.KernelOutIdeal.Gen Idealize.ShloMosaic.TcCoe Idealize.SL.Sem Cert.DenseSpec

variable (m : (ℓ : Loc nD τ sig) → Buf (Elt Ideal) ℓ)

theorem v10_apply (c : Dev nD) (k : Fin 256) : (V m c main_v10 : Vec Ideal S1x256 .f32) (ix2 0 k) = (m ((c : Thread nD τ).loc main_arg6) : Vec Ideal S256 .f32) (ix1 k) := by
  unfold V
  simp only [hostOps0, List.flatten_cons, List.flatten_nil, List.append_nil, List.cons_append, List.nil_append]
  after_reads_at
theorem v11_apply (c : Dev nD) (k : Fin 256) : (V m c main_v11 : Vec Ideal S1x256 .f32) (ix2 0 k) = (m ((c : Thread nD τ).loc main_arg7) : Vec Ideal S256 .f32) (ix1 k) := by
  unfold V
  simp only [hostOps0, List.flatten_cons, List.flatten_nil, List.append_nil, List.cons_append, List.nil_append]
  after_reads_at
theorem v15_apply (c : Dev nD) (k : Fin 1024) : (V m c main_v15 : Vec Ideal S1x1024 .f32) (ix2 0 k) = (m ((c : Thread nD τ).loc main_arg9) : Vec Ideal S1024 .f32) (ix1 k) := by
  unfold V
  simp only [hostOps0, List.flatten_cons, List.flatten_nil, List.append_nil, List.cons_append, List.nil_append]
  after_reads_at
theorem v20_apply (c : Dev nD) (k : Fin 1024) : (V m c main_v20 : Vec Ideal S1x1024 .f32) (ix2 0 k) = (m ((c : Thread nD τ).loc main_arg14) : Vec Ideal S1024 .f32) (ix1 k) := by
  unfold V
  simp only [hostOps0, List.flatten_cons, List.flatten_nil, List.append_nil, List.cons_append, List.nil_append]
  after_reads_at
theorem v22_apply (c : Dev nD) (k : Fin 1024) : (V m c main_v22 : Vec Ideal S1x1024 .f32) (ix2 0 k) = (m ((c : Thread nD τ).loc main_arg16) : Vec Ideal S1024 .f32) (ix1 k) := by
  unfold V
  simp only [hostOps0, List.flatten_cons, List.flatten_nil, List.append_nil, List.cons_append, List.nil_append]
  after_reads_at
theorem v12_apply (c : Dev nD) (k : Fin 512) (j : Fin 1024) : (V m c main_v12 : Vec Ideal S512x1024 .bf16) (ix2 k j) = (m ((c : Thread nD τ).loc main_arg8) : Vec Ideal S1024x1024 .f32) (ix2 ⟨k.val, by omega⟩ j) := by
  unfold V
  simp only [hostOps0, List.flatten_cons, List.flatten_nil, List.append_nil, List.cons_append, List.nil_append]
  after_reads_at
theorem v13_apply (c : Dev nD) (k : Fin 256) (j : Fin 1024) : (V m c main_v13 : Vec Ideal S256x1024 .bf16) (ix2 k j) = (m ((c : Thread nD τ).loc main_arg8) : Vec Ideal S1024x1024 .f32) (ix2 ⟨512 + k.val, by omega⟩ j) := by
  unfold V
  simp only [hostOps0, List.flatten_cons, List.flatten_nil, List.append_nil, List.cons_append, List.nil_append]
  after_reads_at
theorem v14_apply (c : Dev nD) (k : Fin 256) (j : Fin 1024) : (V m c main_v14 : Vec Ideal S256x1024 .bf16) (ix2 k j) = (m ((c : Thread nD τ).loc main_arg8) : Vec Ideal S1024x1024 .f32) (ix2 ⟨768 + k.val, by omega⟩ j) := by
  unfold V
  simp only [hostOps0, List.flatten_cons, List.flatten_nil, List.append_nil, List.cons_append, List.nil_append]
  after_reads_at
theorem v16_apply (c : Dev nD) (k : Fin 1024) (j : Fin 2816) : (V m c main_v16 : Vec Ideal S1024x2816 .bf16) (ix2 k j) = (m ((c : Thread nD τ).loc main_arg10) : Vec Ideal S1024x2816 .f32) (ix2 k j) := by
  unfold V
  simp only [hostOps0, List.flatten_cons, List.flatten_nil, List.append_nil, List.cons_append, List.nil_append]
  after_reads_at
theorem v17_apply (c : Dev nD) (k : Fin 1024) (j : Fin 2816) : (V m c main_v17 : Vec Ideal S1024x2816 .bf16) (ix2 k j) = (m ((c : Thread nD τ).loc main_arg11) : Vec Ideal S1024x2816 .f32) (ix2 k j) := by
  unfold V
  simp only [hostOps0, List.flatten_cons, List.flatten_nil, List.append_nil, List.cons_append, List.nil_append]
  after_reads_at
theorem v18_apply (c : Dev nD) (k : Fin 2816) (j : Fin 1024) : (V m c main_v18 : Vec Ideal S2816x1024 .bf16) (ix2 k j) = (m ((c : Thread nD τ).loc main_arg12) : Vec Ideal S2816x1024 .f32) (ix2 k j) := by
  unfold V
  simp only [hostOps0, List.flatten_cons, List.flatten_nil, List.append_nil, List.cons_append, List.nil_append]
  after_reads_at
theorem v19_apply (c : Dev nD) (k : Fin 256) (j : Fin 1024) : (V m c main_v19 : Vec Ideal S256x1024 .bf16) (ix2 k j) = (m ((c : Thread nD τ).loc main_arg13) : Vec Ideal S256x1024 .f32) (ix2 k j) := by
  unfold V
  simp only [hostOps0, List.flatten_cons, List.flatten_nil, List.append_nil, List.cons_append, List.nil_append]
  after_reads_at
theorem v21_apply (c : Dev nD) (k : Fin 1024) (j : Fin 1024) : (V m c main_v21 : Vec Ideal S1024x1024 .bf16) (ix2 k j) = (m ((c : Thread nD τ).loc main_arg15) : Vec Ideal S1024x1024 .f32) (ix2 k j) := by
  unfold V
  simp only [hostOps0, List.flatten_cons, List.flatten_nil, List.append_nil, List.cons_append, List.nil_append]
  after_reads_at

theorem word_div : ∀ k : Fin 256, IntOp.divsi ArithUnit.host (BitVec.ofNat 32 k.val) 64#32 = BitVec.ofNat 32 (k.val / 64) := by decide +kernel

theorem v8_apply (c : Dev nD) (k j : Fin 256) : (V m c main_v8 : Vec Ideal S256x256 .f32) (ix2 k j) = ones k j := by
  unfold V
  simp only [hostOps0, List.flatten_cons, List.flatten_nil, List.append_nil, List.cons_append, List.nil_append]
  after_reads_at
  rw [word_div k, word_div j]
  have q : ∀ a b : Fin 4, (FloatOps.uitofp (F := Ideal) .f32 (IntOp.cmpi .eq (BitVec.ofNat 32 a.val) (BitVec.ofNat 32 b.val)) : EReal) = if a = b then 1 else 0 := by
    intro a b
    have w : IntOp.cmpi .eq (BitVec.ofNat 32 a.val) (BitVec.ofNat 32 b.val) = if a = b then 1#1 else 0#1 := by revert a b; decide
    rw [w]
    split
    · show (((1#1 : BitVec 1).toNat : ℝ) : EReal) = 1
      norm_num
    · show (((0#1 : BitVec 1).toNat : ℝ) : EReal) = 0
      norm_num
  rw [show (BitVec.ofNat 32 (k.val / 64)) = BitVec.ofNat 32 (⟨k.val / 64, by omega⟩ : Fin 4).val from rfl,
    show (BitVec.ofNat 32 (j.val / 64)) = BitVec.ofNat 32 (⟨j.val / 64, by omega⟩ : Fin 4).val from rfl, q]
  unfold ones
  simp only [Fin.mk.injEq]

end Cert.KernelOutIdeal.Dense

end
-- ==== Proof.OutArray.lean ====
/- The second dense call's result array: the blocks its grid points leave, put together, in terms of the arguments. -/
module

public import proofs.«01_k».proof.Proof.OutBlock
public import proofs.«01_k».proof.Proof.OutHost
public import proofs.«01_k».proof.Proof.Gen.KernelOutIdeal.Value

@[expose] public section

set_option maxRecDepth 16384

noncomputable section

namespace Cert.KernelOutIdeal.Dense

open Idealize.ShloMosaic Cert.KernelOutIdeal Cert.KernelOutIdeal.Gen Idealize.ShloMosaic.TcCoe Idealize.SL.Sem Cert.DenseSpec

variable (m : (ℓ : Loc nD τ sig) → Buf (Elt Ideal) ℓ)

/-- The block each window takes at a grid point. -/
theorem idx0 : ∀ t : Fin cfg0.N, win0_0.index t = ![(grid0.coords t 0).val, 0] := (by decide +kernel : ∀ t : Fin grid0.N, _)
theorem idx1 : ∀ t : Fin cfg0.N, win0_1.index t = ![(grid0.coords t 0).val, 0] := (by decide +kernel : ∀ t : Fin grid0.N, _)
theorem idx2 : ∀ t : Fin cfg0.N, win0_2.index t = ![(grid0.coords t 0).val % 4, (grid0.coords t 0).val / 4] := (by decide +kernel : ∀ t : Fin grid0.N, _)
theorem idx3 : ∀ t : Fin cfg0.N, win0_3.index t = ![(grid0.coords t 0).val, 0] := (by decide +kernel : ∀ t : Fin grid0.N, _)
theorem idx4 : ∀ t : Fin cfg0.N, win0_4.index t = ![(grid0.coords t 0).val, 0] := (by decide +kernel : ∀ t : Fin grid0.N, _)
theorem idx5 : ∀ t : Fin cfg0.N, win0_5.index t = ![3, (grid0.coords t 0).val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![(grid0.coords t 0).val, 0] := (by decide +kernel : ∀ t : Fin grid0.N, _)

/-- The grid point's number, and a row of its block in the array; the time and the columns of that row in the recurrence's output. -/
abbrev pt (t : Fin cfg0.N) : Fin 128 := grid0.coords t 0
abbrev rowOf (p : Fin 128) (r : Fin 512) : Fin 65536 := ⟨512 * p.val + r.val, by omega⟩
abbrev timeOf (p : Fin 128) (r : Fin 512) : Fin 2048 := ⟨512 * (p.val % 4) + r.val, by omega⟩
abbrev colOf (p : Fin 128) (k : Fin 256) : Fin 8192 := ⟨256 * (p.val / 4) + k.val, by omega⟩

/-- The arguments by their coordinates. -/
abbrev xA (c : Dev nD) (r : Fin 65536) (k : Fin 1024) : EReal := (m ((c : Thread nD τ).loc main_arg0) : Vec Ideal S65536x1024 .f32) (ix2 r k)
abbrev ofA (c : Dev nD) (r : Fin 65536) (k : Fin 512) : EReal := (m ((c : Thread nD τ).loc main_arg1) : Vec Ideal S65536x512 .bf16) (ix2 r k)
abbrev gbA (c : Dev nD) (r : Fin 65536) (k : Fin 512) : EReal := (m ((c : Thread nD τ).loc main_arg3) : Vec Ideal S65536x512 .f32) (ix2 r k)
abbrev retA (c : Dev nD) (r : Fin 65536) (k : Fin 256) : EReal := (m ((c : Thread nD τ).loc main_arg4) : Vec Ideal S65536x256 .bf16) (ix2 r k)
abbrev rwA (c : Dev nD) (t : Fin 2048) (k : Fin 8192) : EReal := (m ((c : Thread nD τ).loc main_arg2) : Vec Ideal S2048x8192 .f32) (ix2 t k)
abbrev peA (c : Dev nD) (l : Fin 4) (r : Fin 65536) (k : Fin 256) : EReal := (m ((c : Thread nD τ).loc main_arg5) : Vec Ideal S4x65536x256 .f32) (ix3 l r k)
abbrev lnwA (c : Dev nD) (k : Fin 256) : EReal := (m ((c : Thread nD τ).loc main_arg6) : Vec Ideal S256 .f32) (ix1 k)
abbrev lnbA (c : Dev nD) (k : Fin 256) : EReal := (m ((c : Thread nD τ).loc main_arg7) : Vec Ideal S256 .f32) (ix1 k)
abbrev n2A (c : Dev nD) (k : Fin 1024) : EReal := (m ((c : Thread nD τ).loc main_arg9) : Vec Ideal S1024 .f32) (ix1 k)
abbrev pnA (c : Dev nD) (k : Fin 1024) : EReal := (m ((c : Thread nD τ).loc main_arg14) : Vec Ideal S1024 .f32) (ix1 k)
abbrev nfA (c : Dev nD) (k : Fin 1024) : EReal := (m ((c : Thread nD τ).loc main_arg16) : Vec Ideal S1024 .f32) (ix1 k)
abbrev woA (c : Dev nD) (k : Fin 1024) (j : Fin 1024) : EReal := (m ((c : Thread nD τ).loc main_arg8) : Vec Ideal S1024x1024 .f32) (ix2 k j)
abbrev wgA (c : Dev nD) (k : Fin 1024) (j : Fin 2816) : EReal := (m ((c : Thread nD τ).loc main_arg10) : Vec Ideal S1024x2816 .f32) (ix2 k j)
abbrev wuA (c : Dev nD) (k : Fin 1024) (j : Fin 2816) : EReal := (m ((c : Thread nD τ).loc main_arg11) : Vec Ideal S1024x2816 .f32) (ix2 k j)
abbrev wdA (c : Dev nD) (k : Fin 2816) (j : Fin 1024) : EReal := (m ((c : Thread nD τ).loc main_arg12) : Vec Ideal S2816x1024 .f32) (ix2 k j)
abbrev wppA (c : Dev nD) (k : Fin 256) (j : Fin 1024) : EReal := (m ((c : Thread nD τ).loc main_arg13) : Vec Ideal S256x1024 .f32) (ix2 k j)
abbrev wpgA (c : Dev nD) (k : Fin 1024) (j : Fin 1024) : EReal := (m ((c : Thread nD τ).loc main_arg15) : Vec Ideal S1024x1024 .f32) (ix2 k j)

theorem in0 (c : Dev nD) (t : Fin cfg0.N) (r : Fin 512) (k : Fin 1024) : (iblk m c 0 t : Vec Ideal S512x1024 .f32) (ix2 r k) = xA m c (rowOf (pt t) r) k := by
  have h : (iblk m c 0 t : Vec Ideal S512x1024 .f32) (ix2 r k) = (V m c main_arg0 : Vec Ideal S65536x1024 .f32) (ix2 (rowOf (pt t) r) k) := by
    blk_ext [iblk, idx0 t, pt, rowOf, Nat.mul_comm]
  rw [h, V_main_arg0]
theorem in1 (c : Dev nD) (t : Fin cfg0.N) (r : Fin 512) (k : Fin 512) : (iblk m c 1 t : Vec Ideal S512x512 .bf16) (ix2 r k) = ofA m c (rowOf (pt t) r) k := by
  have h : (iblk m c 1 t : Vec Ideal S512x512 .bf16) (ix2 r k) = (V m c main_arg1 : Vec Ideal S65536x512 .bf16) (ix2 (rowOf (pt t) r) k) := by
    blk_ext [iblk, idx1 t, pt, rowOf, Nat.mul_comm]
  rw [h, V_main_arg1]
theorem in3 (c : Dev nD) (t : Fin cfg0.N) (r : Fin 512) (k : Fin 512) : (iblk m c 3 t : Vec Ideal S512x512 .f32) (ix2 r k) = gbA m c (rowOf (pt t) r) k := by
  have h : (iblk m c 3 t : Vec Ideal S512x512 .f32) (ix2 r k) = (V m c main_arg3 : Vec Ideal S65536x512 .f32) (ix2 (rowOf (pt t) r) k) := by
    blk_ext [iblk, idx3 t, pt, rowOf, Nat.mul_comm]
  rw [h, V_main_arg3]
theorem in4 (c : Dev nD) (t : Fin cfg0.N) (r : Fin 512) (k : Fin 256) : (iblk m c 4 t : Vec Ideal S512x256 .bf16) (ix2 r k) = retA m c (rowOf (pt t) r) k := by
  have h : (iblk m c 4 t : Vec Ideal S512x256 .bf16) (ix2 r k) = (V m c main_arg4 : Vec Ideal S65536x256 .bf16) (ix2 (rowOf (pt t) r) k) := by
    blk_ext [iblk, idx4 t, pt, rowOf, Nat.mul_comm]
  rw [h, V_main_arg4]
theorem in2 (c : Dev nD) (t : Fin cfg0.N) (r : Fin 512) (k : Fin 256) : (iblk m c 2 t : Vec Ideal S512x256 .f32) (ix2 r k) = rwA m c (timeOf (pt t) r) (colOf (pt t) k) := by
  have h : (iblk m c 2 t : Vec Ideal S512x256 .f32) (ix2 r k) = (V m c main_arg2 : Vec Ideal S2048x8192 .f32) (ix2 (timeOf (pt t) r) (colOf (pt t) k)) := by
    blk_ext [iblk, idx2 t, pt, timeOf, colOf, Nat.mul_comm]
  rw [h, V_main_arg2]
theorem in5 (c : Dev nD) (t : Fin cfg0.N) (r : Fin 512) (k : Fin 256) : (iblk m c 5 t : Vec Ideal S1x512x256 .f32) (ix3 0 r k) = peA m c 3 (rowOf (pt t) r) k := by
  have h : (iblk m c 5 t : Vec Ideal S1x512x256 .f32) (ix3 0 r k) = (V m c main_arg5 : Vec Ideal S4x65536x256 .f32) (ix3 3 (rowOf (pt t) r) k) := by
    blk_ext [iblk, idx5 t, pt, rowOf, Nat.mul_comm]
  rw [h, V_main_arg5]
theorem iblk6 (c : Dev nD) (t : Fin cfg0.N) (j : Fin 256) : (iblk m c 6 t : Vec Ideal S1x256 .f32) (ix2 0 j) = (V m c main_v10 : Vec Ideal S1x256 .f32) (ix2 0 j) := by
  blk_ext [iblk, idx6 t]
theorem in6 (c : Dev nD) (t : Fin cfg0.N) (j : Fin 256) : (iblk m c 6 t : Vec Ideal S1x256 .f32) (ix2 0 j) = lnwA m c j := by
  rw [iblk6, v10_apply]
theorem iblk7 (c : Dev nD) (t : Fin cfg0.N) (j : Fin 256) : (iblk m c 7 t : Vec Ideal S1x256 .f32) (ix2 0 j) = (V m c main_v11 : Vec Ideal S1x256 .f32) (ix2 0 j) := by
  blk_ext [iblk, idx7 t]
theorem in7 (c : Dev nD) (t : Fin cfg0.N) (j : Fin 256) : (iblk m c 7 t : Vec Ideal S1x256 .f32) (ix2 0 j) = lnbA m c j := by
  rw [iblk7, v11_apply]
theorem iblk12 (c : Dev nD) (t : Fin cfg0.N) (j : Fin 1024) : (iblk m c 12 t : Vec Ideal S1x1024 .f32) (ix2 0 j) = (V m c main_v15 : Vec Ideal S1x1024 .f32) (ix2 0 j) := by
  blk_ext [iblk, idx12 t]
theorem in12 (c : Dev nD) (t : Fin cfg0.N) (j : Fin 1024) : (iblk m c 12 t : Vec Ideal S1x1024 .f32) (ix2 0 j) = n2A m c j := by
  rw [iblk12, v15_apply]
theorem iblk17 (c : Dev nD) (t : Fin cfg0.N) (j : Fin 1024) : (iblk m c 17 t : Vec Ideal S1x1024 .f32) (ix2 0 j) = (V m c main_v20 : Vec Ideal S1x1024 .f32) (ix2 0 j) := by
  blk_ext [iblk, idx17 t]
theorem in17 (c : Dev nD) (t : Fin cfg0.N) (j : Fin 1024) : (iblk m c 17 t : Vec Ideal S1x1024 .f32) (ix2 0 j) = pnA m c j := by
  rw [iblk17, v20_apply]
theorem iblk19 (c : Dev nD) (t : Fin cfg0.N) (j : Fin 1024) : (iblk m c 19 t : Vec Ideal S1x1024 .f32) (ix2 0 j) = (V m c main_v22 : Vec Ideal S1x1024 .f32) (ix2 0 j) := by
  blk_ext [iblk, idx19 t]
theorem in19 (c : Dev nD) (t : Fin cfg0.N) (j : Fin 1024) : (iblk m c 19 t : Vec Ideal S1x1024 .f32) (ix2 0 j) = nfA m c j := by
  rw [iblk19, v22_apply]
theorem iblk8 (c : Dev nD) (t : Fin cfg0.N) (k : Fin 256) (j : Fin 256) : (iblk m c 8 t : Vec Ideal S256x256 .f32) (ix2 k j) = (V m c main_v8 : Vec Ideal S256x256 .f32) (ix2 k j) := by
  blk_ext [iblk, idx8 t]
theorem in8 (c : Dev nD) (t : Fin cfg0.N) (k : Fin 256) (j : Fin 256) : (iblk m c 8 t : Vec Ideal S256x256 .f32) (ix2 k j) = ones k j := by
  rw [iblk8, v8_apply]
theorem iblk9 (c : Dev nD) (t : Fin cfg0.N) (k : Fin 512) (j : Fin 1024) : (iblk m c 9 t : Vec Ideal S512x1024 .bf16) (ix2 k j) = (V m c main_v12 : Vec Ideal S512x1024 .bf16) (ix2 k j) := by
  blk_ext [iblk, idx9 t]
theorem in9 (c : Dev nD) (t : Fin cfg0.N) (k : Fin 512) (j : Fin 1024) : (iblk m c 9 t : Vec Ideal S512x1024 .bf16) (ix2 k j) = woA m c ⟨k.val, by omega⟩ j := by
  rw [iblk9, v12_apply]
theorem iblk10 (c : Dev nD) (t : Fin cfg0.N) (k : Fin 256) (j : Fin 1024) : (iblk m c 10 t : Vec Ideal S256x1024 .bf16) (ix2 k j) = (V m c main_v13 : Vec Ideal S256x1024 .bf16) (ix2 k j) := by
  blk_ext [iblk, idx10 t]
theorem in10 (c : Dev nD) (t : Fin cfg0.N) (k : Fin 256) (j : Fin 1024) : (iblk m c 10 t : Vec Ideal S256x1024 .bf16) (ix2 k j) = woA m c ⟨512 + k.val, by omega⟩ j := by
  rw [iblk10, v13_apply]
theorem iblk11 (c : Dev nD) (t : Fin cfg0.N) (k : Fin 256) (j : Fin 1024) : (iblk m c 11 t : Vec Ideal S256x1024 .bf16) (ix2 k j) = (V m c main_v14 : Vec Ideal S256x1024 .bf16) (ix2 k j) := by
  blk_ext [iblk, idx11 t]
theorem in11 (c : Dev nD) (t : Fin cfg0.N) (k : Fin 256) (j : Fin 1024) : (iblk m c 11 t : Vec Ideal S256x1024 .bf16) (ix2 k j) = woA m c ⟨768 + k.val, by omega⟩ j := by
  rw [iblk11, v14_apply]
theorem iblk13 (c : Dev nD) (t : Fin cfg0.N) (k : Fin 1024) (j : Fin 2816) : (iblk m c 13 t : Vec Ideal S1024x2816 .bf16) (ix2 k j) = (V m c main_v16 : Vec Ideal S1024x2816 .bf16) (ix2 k j) := by
  blk_ext [iblk, idx13 t]
theorem in13 (c : Dev nD) (t : Fin cfg0.N) (k : Fin 1024) (j : Fin 2816) : (iblk m c 13 t : Vec Ideal S1024x2816 .bf16) (ix2 k j) = wgA m c k j := by
  rw [iblk13, v16_apply]
theorem iblk14 (c : Dev nD) (t : Fin cfg0.N) (k : Fin 1024) (j : Fin 2816) : (iblk m c 14 t : Vec Ideal S1024x2816 .bf16) (ix2 k j) = (V m c main_v17 : Vec Ideal S1024x2816 .bf16) (ix2 k j) := by
  blk_ext [iblk, idx14 t]
theorem in14 (c : Dev nD) (t : Fin cfg0.N) (k : Fin 1024) (j : Fin 2816) : (iblk m c 14 t : Vec Ideal S1024x2816 .bf16) (ix2 k j) = wuA m c k j := by
  rw [iblk14, v17_apply]
theorem iblk15 (c : Dev nD) (t : Fin cfg0.N) (k : Fin 2816) (j : Fin 1024) : (iblk m c 15 t : Vec Ideal S2816x1024 .bf16) (ix2 k j) = (V m c main_v18 : Vec Ideal S2816x1024 .bf16) (ix2 k j) := by
  blk_ext [iblk, idx15 t]
theorem in15 (c : Dev nD) (t : Fin cfg0.N) (k : Fin 2816) (j : Fin 1024) : (iblk m c 15 t : Vec Ideal S2816x1024 .bf16) (ix2 k j) = wdA m c k j := by
  rw [iblk15, v18_apply]
theorem iblk16 (c : Dev nD) (t : Fin cfg0.N) (k : Fin 256) (j : Fin 1024) : (iblk m c 16 t : Vec Ideal S256x1024 .bf16) (ix2 k j) = (V m c main_v19 : Vec Ideal S256x1024 .bf16) (ix2 k j) := by
  blk_ext [iblk, idx16 t]
theorem in16 (c : Dev nD) (t : Fin cfg0.N) (k : Fin 256) (j : Fin 1024) : (iblk m c 16 t : Vec Ideal S256x1024 .bf16) (ix2 k j) = wppA m c k j := by
  rw [iblk16, v19_apply]
theorem iblk18 (c : Dev nD) (t : Fin cfg0.N) (k : Fin 1024) (j : Fin 1024) : (iblk m c 18 t : Vec Ideal S1024x1024 .bf16) (ix2 k j) = (V m c main_v21 : Vec Ideal S1024x1024 .bf16) (ix2 k j) := by
  blk_ext [iblk, idx18 t]
theorem in18 (c : Dev nD) (t : Fin cfg0.N) (k : Fin 1024) (j : Fin 1024) : (iblk m c 18 t : Vec Ideal S1024x1024 .bf16) (ix2 k j) = wpgA m c k j := by
  rw [iblk18, v21_apply]

/-- A row of the recurrence's output. -/
abbrev kRw (c : Dev nD) (r : Fin 65536) (k : Fin 256) : EReal := rwA m c ⟨r.val % 2048, by omega⟩ ⟨256 * (r.val / 2048) + k.val, by omega⟩
theorem rw_point (c : Dev nD) (p : Fin 128) (r : Fin 512) (k : Fin 256) : rwA m c (timeOf p r) (colOf p k) = kRw m c (rowOf p r) k := by
  have h1 : timeOf p r = (⟨(rowOf p r).val % 2048, by omega⟩ : Fin 2048) := Fin.ext (by dsimp only; omega)
  have h2 : colOf p k = (⟨256 * ((rowOf p r).val / 2048) + k.val, by omega⟩ : Fin 8192) := Fin.ext (by dsimp only; omega)
  unfold kRw
  rw [← h1, ← h2]

/-- The recurrence's row after its norm, bonus and gate; the row with the mixers' products added; after the feed-forward; with
    the embedding added. -/
def kGated (c : Dev nD) (r : Fin 65536) : Fin 256 → EReal := gated (headR (kRw m c r)) (lnwA m c) (lnbA m c) (gbA m c r)
def kMix (c : Dev nD) (r : Fin 65536) : Fin 1024 → EReal := mixed (xA m c r) (ofA m c r) (kGated m c r) (retA m c r) (woA m c)
def kMid (c : Dev nD) (r : Fin 65536) : Fin 1024 → EReal := mid (kMix m c r) (n2A m c) (wgA m c) (wuA m c) (wdA m c)
def kEmb (c : Dev nD) (r : Fin 65536) : Fin 1024 → EReal := emb (kMid m c r) (peA m c 3 r) (wppA m c) (pnA m c) (wpgA m c)

/-- The recurrence's output is made of real numbers. -/
abbrev Finite (c : Dev nD) : Prop := ∀ (t : Fin 2048) (k : Fin 8192), ∃ x : ℝ, rwA m c t k = x

theorem gated_point (c : Dev nD) (hx : Finite m c) (t : Fin cfg0.N) (r : Fin 512) :
    gated (headN (fun k => (iblk m c 2 t : Vec Ideal S512x256 .f32) (ix2 r k)) (fun k j => (iblk m c 8 t : Vec Ideal S256x256 .f32) (ix2 k j)))
      (fun k => (iblk m c 6 t : Vec Ideal S1x256 .f32) (ix2 0 k)) (fun k => (iblk m c 7 t : Vec Ideal S1x256 .f32) (ix2 0 k))
      (fun k => (iblk m c 3 t : Vec Ideal S512x512 .f32) (ix2 r k)) = kGated m c (rowOf (pt t) r) := by
  have h2 : (fun k => (iblk m c 2 t : Vec Ideal S512x256 .f32) (ix2 r k)) = kRw m c (rowOf (pt t) r) := by
    funext k
    rw [in2, rw_point]
  have h8 : (fun k j => (iblk m c 8 t : Vec Ideal S256x256 .f32) (ix2 k j)) = ones := by
    funext k j
    rw [in8]
  rw [h2, h8]
  have hn : headN (kRw m c (rowOf (pt t) r)) ones = headR (kRw m c (rowOf (pt t) r)) := funext fun j => headN_eq _ (fun k => hx _ _) j
  rw [hn]
  unfold kGated
  simp only [in3, in6, in7]

theorem mix_point (c : Dev nD) (hx : Finite m c) (t : Fin cfg0.N) (r : Fin 512) :
    bMix (iblk m c 0 t) (iblk m c 1 t) (iblk m c 2 t) (iblk m c 3 t) (iblk m c 4 t) (iblk m c 6 t) (iblk m c 7 t) (iblk m c 8 t) (iblk m c 9 t) (iblk m c 10 t)
      (iblk m c 11 t) r = kMix m c (rowOf (pt t) r) := by
  funext j
  unfold bMix
  rw [gated_point m c hx]
  unfold kMix mixed
  simp only [in0, in1, in4, in9, in10, in11]

theorem mid_point (c : Dev nD) (hx : Finite m c) (t : Fin cfg0.N) (r : Fin 512) :
    bMid (iblk m c 0 t) (iblk m c 1 t) (iblk m c 2 t) (iblk m c 3 t) (iblk m c 4 t) (iblk m c 6 t) (iblk m c 7 t) (iblk m c 8 t) (iblk m c 9 t) (iblk m c 10 t)
      (iblk m c 11 t) (iblk m c 12 t) (iblk m c 13 t) (iblk m c 14 t) (iblk m c 15 t) r = kMid m c (rowOf (pt t) r) := by
  unfold bMid
  rw [mix_point m c hx]
  unfold kMid
  simp only [in12, in13, in14, in15]

/-- The result as an array. -/
def res20 (c : Dev nD) : FVec Ideal S65536x1024 .f32 := fun i => rms (kEmb m c (i 0)) (nfA m c) (i 1)

theorem arr20 (c : Dev nD) (hx : Finite m c) : (dats m 0 c).arrAt 20 cfg0.N = res20 m c := by
  refine (dats m 0 c).arrAt_eq_of_covers 20 _ (by decide +kernel) fun t hf y => ?_
  blk_simp
  rw [after0_20]
  obtain ⟨r, j, rfl⟩ : ∃ (r : Fin 512) (j : Fin 1024), y = ix2 r j := ⟨y 0, y 1, by funext a; fin_cases a <;> rfl⟩
  have e : ((cfg0.win 20).blk t).view.emb (ix2 r j) = ix2 (rowOf (pt t) r) j := by
    blk_ext [idx20 t, pt, rowOf, Nat.mul_comm]
  refine Eq.trans ?_ (congrArg (res20 m c) e.symm)
  rw [block20, mid_point m c hx]
  show _ = rms (kEmb m c (rowOf (pt t) r)) (nfA m c) j
  unfold kEmb
  simp only [in5, in16, in17, in18, in19]

end Cert.KernelOutIdeal.Dense

end
-- ==== Proof.OutRef.lean ====
/- The second dense reference's result at an index, in terms of its arguments. -/
module

public import proofs.«01_k».proof.Proof.OutSpec
public import proofs.«01_k».proof.Proof.Gen.ReferenceOutIdeal.Read

@[expose] public section

set_option maxRecDepth 16384

noncomputable section

namespace Cert.ReferenceOutIdeal.Dense

open Idealize.ShloMosaic Cert.ReferenceOutIdeal Cert.ReferenceOutIdeal.Gen Cert.ReferenceOutIdeal.Read Cert.DenseSpec

variable (x0 : FVec Ideal S65536x1024 .f32) (x1 : FVec Ideal S65536x512 .bf16) (x2 : FVec Ideal S2048x8192 .f32) (x3 : FVec Ideal S65536x512 .f32)
  (x4 : FVec Ideal S65536x256 .bf16) (x5 : FVec Ideal S4x65536x256 .f32) (x6 x7 : FVec Ideal S256 .f32) (x8 : FVec Ideal S1024x1024 .f32)
  (x9 : FVec Ideal S1024 .f32) (x10 x11 : FVec Ideal S1024x2816 .f32) (x12 : FVec Ideal S2816x1024 .f32) (x13 : FVec Ideal S256x1024 .f32)
  (x14 : FVec Ideal S1024 .f32) (x15 : FVec Ideal S1024x1024 .f32) (x16 : FVec Ideal S1024 .f32)

/-- A row of the recurrence's output: by time in the rows and by sequence in the columns. -/
abbrev rRow (r : Fin 65536) (k : Fin 256) : EReal := x2 (ix2 (⟨r.val % 2048, by omega⟩ : Fin 2048) (⟨256 * (r.val / 2048) + k.val, by omega⟩ : Fin 8192))

theorem v1_apply (b : Fin 32) (t : Fin 2048) (h : Fin 4) (d : Fin 64) : val_main_v1 (F := Ideal) x2 (ix4 b t h d)
    = x2 (ix2 t (⟨b.val * 256 + h.val * 64 + d.val, by omega⟩ : Fin 8192)) := by
  pointwise [val_main_v1, val_main_v0]

/-- The mean over one head's place. -/
abbrev mean4 (y : FVec Ideal S32x2048x4x64 .f32) (b : Fin 32) (t : Fin 2048) (h : Fin 4) : EReal :=
  Ideal.div (∑ d : Fin 64, y (ix4 b t h d)) (Ideal.ofBits .f32 0x42800000#32)

theorem v5_apply (b : Fin 32) (t : Fin 2048) (h : Fin 4) : val_main_v5 (F := Ideal) x2 (ix4 b t h 0) = mean4 (val_main_v1 (F := Ideal) x2) b t h := by
  unfold val_main_v5 val_main_v3 val_main_v2
  generalize val_main_v1 (F := Ideal) x2 = y
  pointwise [val_main_v4, val_main_cst_0, val_main_cst]

theorem v19_apply (b : Fin 32) (t : Fin 2048) (h : Fin 4) (d : Fin 64) : val_main_v19 (F := Ideal) x2 (ix4 b t h d)
    = (val_main_v1 (F := Ideal) x2 (ix4 b t h d) - mean4 (val_main_v1 (F := Ideal) x2) b t h)
      * Ideal.rsqrt (Ideal.div (∑ e : Fin 64, (val_main_v1 (F := Ideal) x2 (ix4 b t h e) - mean4 (val_main_v1 (F := Ideal) x2) b t h)
          * (val_main_v1 (F := Ideal) x2 (ix4 b t h e) - mean4 (val_main_v1 (F := Ideal) x2) b t h)) (Ideal.ofBits .f32 0x42800000#32)
        + Ideal.ofBits .f32 0x3A27C5AC#32) := by
  have h5 := v5_apply x2
  unfold val_main_v19 val_main_v18 val_main_v17 val_main_v16 val_main_v14 val_main_v13 val_main_v12 val_main_v10 val_main_v9 val_main_v8 val_main_v7 val_main_v6
  rw [← h5 b t h]
  clear h5
  generalize val_main_v5 (F := Ideal) x2 = z
  generalize val_main_v1 (F := Ideal) x2 = y
  pointwise [val_main_v15, val_main_cst_3, val_main_v11, val_main_cst_2, val_main_cst_1]

theorem v20_apply (r : Fin 65536) (c : Fin 256) : val_main_v20 (F := Ideal) x2 (ix2 r c) = headR (rRow x2 r) c := by
  have h : val_main_v20 (F := Ideal) x2 (ix2 r c)
      = val_main_v19 (F := Ideal) x2 (ix4 (⟨r.val / 2048, by omega⟩ : Fin 32) (⟨r.val % 2048, by omega⟩ : Fin 2048) (⟨c.val / 64, by omega⟩ : Fin 4) (⟨c.val % 64, by omega⟩ : Fin 64)) := by
    unfold val_main_v20
    generalize val_main_v19 (F := Ideal) x2 = y
    pointwise
  have v1 : ∀ d : Fin 64, val_main_v1 (F := Ideal) x2 (ix4 (⟨r.val / 2048, by omega⟩ : Fin 32) (⟨r.val % 2048, by omega⟩ : Fin 2048) (⟨c.val / 64, by omega⟩ : Fin 4) d)
      = rRow x2 r (mate c d) := by
    intro d
    rw [v1_apply]
    exact congrArg (fun q => x2 (ix2 _ q)) (Fin.ext (by simp only [mate]; omega))
  have e : mate c (⟨c.val % 64, by omega⟩ : Fin 64) = c := Fin.ext (by simp only [mate]; omega)
  rw [h, v19_apply]
  unfold mean4
  simp only [v1, e]
  rfl

theorem v30_apply (r : Fin 65536) (c : Fin 256) : val_main_v30 (F := Ideal) x2 x3 x6 x7 (ix2 r c)
    = gated (headR (rRow x2 r)) (fun k => x6 (ix1 k)) (fun k => x7 (ix1 k)) (fun k => x3 (ix2 r k)) c := by
  have h := v20_apply x2
  unfold val_main_v30 val_main_v28 val_main_v26 val_main_v23
  generalize val_main_v20 (F := Ideal) x2 = y at h
  unfold gated
  simp only [← h]
  pointwise [val_main_v29, val_main_v27, val_main_v25, val_main_v24, val_main_v22, val_main_v21]

/-- The three mixers' rows side by side. -/
def cat3 (o : FVec Ideal S65536x512 .bf16) (g : FVec Ideal S65536x256 .f32) (t : FVec Ideal S65536x256 .bf16) : FVec Ideal S65536x1024 .f32 :=
  concatenate S65536x1024 1 [⟨S65536x512, extf .f32 o bitsLt_bf16_f32⟩, ⟨S65536x256, g⟩, ⟨S65536x256, extf .f32 t bitsLt_bf16_f32⟩]
    concatenates_S65536x512_S65536x256_S65536x256_S65536x1024_d1

theorem cat3_apply (o : FVec Ideal S65536x512 .bf16) (g : FVec Ideal S65536x256 .f32) (t : FVec Ideal S65536x256 .bf16) (r : Fin 65536) (k : Fin 1024) :
    cat3 o g t (ix2 r k) = beside (fun k => o (ix2 r k)) (fun k => g (ix2 r k)) (fun k => t (ix2 r k)) k := by
  pointwise [cat3]
  unfold beside
  repeat' split
  all_goals first
    | (exfalso; omega)
    | rfl

/-- The row with the three mixers' products added, from the arguments. -/
abbrev rMix (r : Fin 65536) : Fin 1024 → EReal :=
  mixed (fun k => x0 (ix2 r k)) (fun k => x1 (ix2 r k)) (gated (headR (rRow x2 r)) (fun k => x6 (ix1 k)) (fun k => x7 (ix1 k)) (fun k => x3 (ix2 r k)))
    (fun k => x4 (ix2 r k)) (fun k c => x8 (ix2 k c))

theorem v35_apply (r : Fin 65536) (j : Fin 1024) : val_main_v35 (F := Ideal) x0 x1 x2 x3 x4 x6 x7 x8 (ix2 r j) = rMix x0 x1 x2 x3 x4 x6 x7 x8 r j := by
  have e : val_main_v33 (F := Ideal) x1 x2 x3 x4 x6 x7 = cat3 x1 (val_main_v30 (F := Ideal) x2 x3 x6 x7) x4 := rfl
  have h : ∀ k, val_main_v33 (F := Ideal) x1 x2 x3 x4 x6 x7 (ix2 r k)
      = beside (fun k => x1 (ix2 r k)) (gated (headR (rRow x2 r)) (fun k => x6 (ix1 k)) (fun k => x7 (ix1 k)) (fun k => x3 (ix2 r k))) (fun k => x4 (ix2 r k)) k := by
    intro k
    rw [e, cat3_apply]
    simp only [v30_apply]
  unfold rMix
  rw [← beside_dot]
  unfold val_main_v35 val_main_v34 dot
  clear e
  generalize val_main_v33 (F := Ideal) x1 x2 x3 x4 x6 x7 = y at h
  simp only [← h]
  pointwise

theorem v48_apply (r : Fin 65536) (j : Fin 1024) : val_main_v48 (F := Ideal) x0 x1 x2 x3 x4 x6 x7 x8 x9 (ix2 r j)
    = rms (rMix x0 x1 x2 x3 x4 x6 x7 x8 r) (fun k => x9 (ix1 k)) j := by
  have h := v35_apply x0 x1 x2 x3 x4 x6 x7 x8
  unfold val_main_v48 val_main_v45 val_main_v44 val_main_v43 val_main_v42 val_main_v40 val_main_v38 val_main_v37 val_main_v36
  generalize val_main_v35 (F := Ideal) x0 x1 x2 x3 x4 x6 x7 x8 = y at h
  unfold rms
  simp only [← h]
  pointwise [val_main_v47, val_main_v46, val_main_v41, val_main_cst_6, val_main_v39, val_main_cst_5, val_main_cst_4]

theorem v52_apply (r : Fin 65536) (c : Fin 2816) : val_main_v52 (F := Ideal) x0 x1 x2 x3 x4 x6 x7 x8 x9 x10 x11 (ix2 r c)
    = act (dot (rms (rMix x0 x1 x2 x3 x4 x6 x7 x8 r) (fun k => x9 (ix1 k))) (fun k c => x10 (ix2 k c)) c)
        (dot (rms (rMix x0 x1 x2 x3 x4 x6 x7 x8 r) (fun k => x9 (ix1 k))) (fun k c => x11 (ix2 k c)) c) := by
  have h := v48_apply x0 x1 x2 x3 x4 x6 x7 x8 x9
  unfold val_main_v52 val_main_v51 val_main_v50 val_main_call0_v5 val_main_call0_v3 val_main_call0_v1 val_main_call0_v0 val_main_v49
  generalize val_main_v48 (F := Ideal) x0 x1 x2 x3 x4 x6 x7 x8 x9 = y at h
  unfold act dot
  simp only [← h]
  pointwise [val_main_call0_v4, val_main_call0_cst_0, val_main_call0_v2, val_main_call0_cst]
  simp only [zero_sub]

/-- The row after the second feed-forward, from the arguments. -/
abbrev rMid (r : Fin 65536) : Fin 1024 → EReal :=
  mid (rMix x0 x1 x2 x3 x4 x6 x7 x8 r) (fun k => x9 (ix1 k)) (fun k c => x10 (ix2 k c)) (fun k c => x11 (ix2 k c)) (fun c k => x12 (ix2 c k))

theorem v56_apply (r : Fin 65536) (j : Fin 1024) : val_main_v56 (F := Ideal) x0 x1 x2 x3 x4 x6 x7 x8 x9 x10 x11 x12 (ix2 r j)
    = rMid x0 x1 x2 x3 x4 x6 x7 x8 x9 x10 x11 x12 r j := by
  have h := v52_apply x0 x1 x2 x3 x4 x6 x7 x8 x9 x10 x11
  have h' := v35_apply x0 x1 x2 x3 x4 x6 x7 x8
  unfold val_main_v56 val_main_v55 val_main_v53
  generalize val_main_v52 (F := Ideal) x0 x1 x2 x3 x4 x6 x7 x8 x9 x10 x11 = y at h
  generalize val_main_v35 (F := Ideal) x0 x1 x2 x3 x4 x6 x7 x8 = z at h'
  unfold rMid mid ffn
  simp only [← h, ← h']
  pointwise [val_main_v54, val_main_cst_7]

theorem v59_apply (r : Fin 65536) (j : Fin 1024) : val_main_v59 (F := Ideal) x5 x13 (ix2 r j) = dot (fun k => x5 (ix3 (3 : Fin 4) r k)) (fun k c => x13 (ix2 k c)) j := by
  unfold dot
  pointwise [val_main_v59, val_main_v58, val_main_v57]

theorem v72_apply (r : Fin 65536) (j : Fin 1024) : val_main_v72 (F := Ideal) x5 x13 x14 (ix2 r j)
    = rms (dot (fun k => x5 (ix3 (3 : Fin 4) r k)) (fun k c => x13 (ix2 k c))) (fun k => x14 (ix1 k)) j := by
  have h := v59_apply x5 x13
  unfold val_main_v72 val_main_v69 val_main_v68 val_main_v67 val_main_v66 val_main_v64 val_main_v62 val_main_v61 val_main_v60
  generalize val_main_v59 (F := Ideal) x5 x13 = y at h
  unfold rms
  simp only [← h]
  pointwise [val_main_v71, val_main_v70, val_main_v65, val_main_cst_10, val_main_v63, val_main_cst_9, val_main_cst_8]

/-- The row with the gated embedding added, from the arguments. -/
abbrev rEmb (r : Fin 65536) : Fin 1024 → EReal :=
  emb (rMid x0 x1 x2 x3 x4 x6 x7 x8 x9 x10 x11 x12 r) (fun k => x5 (ix3 (3 : Fin 4) r k)) (fun k c => x13 (ix2 k c)) (fun k => x14 (ix1 k)) (fun k c => x15 (ix2 k c))

theorem v81_apply (r : Fin 65536) (j : Fin 1024) : val_main_v81 (F := Ideal) x0 x1 x2 x3 x4 x5 x6 x7 x8 x9 x10 x11 x12 x13 x14 x15 (ix2 r j)
    = rEmb x0 x1 x2 x3 x4 x5 x6 x7 x8 x9 x10 x11 x12 x13 x14 x15 r j := by
  have h := v56_apply x0 x1 x2 x3 x4 x6 x7 x8 x9 x10 x11 x12
  have h' := v72_apply x5 x13 x14
  unfold val_main_v81 val_main_v80 val_main_v79 val_main_v77 val_main_v75 val_main_v74 val_main_v73
  generalize val_main_v56 (F := Ideal) x0 x1 x2 x3 x4 x6 x7 x8 x9 x10 x11 x12 = y at h
  generalize val_main_v72 (F := Ideal) x5 x13 x14 = z at h'
  unfold rEmb emb dot
  unfold dot at h'
  simp only [← h, ← h']
  pointwise [val_main_v78, val_main_cst_12, val_main_v76, val_main_cst_11]
  simp only [zero_sub]

theorem v94_apply (r : Fin 65536) (j : Fin 1024) : val_main_v94 (F := Ideal) x0 x1 x2 x3 x4 x5 x6 x7 x8 x9 x10 x11 x12 x13 x14 x15 x16 (ix2 r j)
    = rms (rEmb x0 x1 x2 x3 x4 x5 x6 x7 x8 x9 x10 x11 x12 x13 x14 x15 r) (fun k => x16 (ix1 k)) j := by
  have h := v81_apply x0 x1 x2 x3 x4 x5 x6 x7 x8 x9 x10 x11 x12 x13 x14 x15
  unfold val_main_v94 val_main_v91 val_main_v90 val_main_v89 val_main_v88 val_main_v86 val_main_v84 val_main_v83 val_main_v82
  generalize val_main_v81 (F := Ideal) x0 x1 x2 x3 x4 x5 x6 x7 x8 x9 x10 x11 x12 x13 x14 x15 = y at h
  unfold rms
  simp only [← h]
  pointwise [val_main_v93, val_main_v92, val_main_v87, val_main_cst_15, val_main_v85, val_main_cst_14, val_main_cst_13]

end Cert.ReferenceOutIdeal.Dense

end
-- ==== Proof.OutClaim.lean ====
/- The second dense call computes what its reference computes. -/
module

public import proofs.«01_k».proof.Defs
public import proofs.«01_k».proof.Proof.OutArray
public import proofs.«01_k».proof.Proof.OutRef
public import proofs.«01_k».proof.Proof.Gen.ReferenceOutIdeal
public import proofs.«01_k».proof.Proof.Gen.ReferenceOutIdeal.Run

@[expose] public section

set_option maxRecDepth 16384

noncomputable section

namespace Cert.OutClaim

open Idealize.ShloMosaic Idealize.SL.Sem Cert.DenseSpec Cert.KernelOutIdeal.Dense Cert.ReferenceOutIdeal.Dense Cert.ReferenceOutIdeal.Read

/-- The precondition's shape facts. -/
theorem preFacts : Cert.Pre_rwkv_finite.Facts := ⟨by decide⟩

variable (m : (ℓ : Loc Cert.KernelOutIdeal.nD Cert.KernelOutIdeal.τ Cert.KernelOutIdeal.sig) → Buf (Elt Ideal) ℓ) (c : Dev Cert.KernelOutIdeal.nD)

theorem pos_inf : Ideal.ofBits FTy.f32 0x7F800000#32 = ⊤ := by simp [Ideal.ofBits, Ideal.ieee]

/-- A value whose absolute value is below plus infinity is a real number. -/
theorem real_of_abs_lt (x : EReal) (h : Ideal.cmp .olt (max x (-x)) ⊤ = 1#1) : ∃ r : ℝ, x = r := by
  induction x with
  | bot => simp [Ideal.cmp] at h
  | top => simp [Ideal.cmp] at h
  | coe r => exact ⟨r, rfl⟩

/-- Under the precondition the recurrence's output is made of real numbers. -/
theorem finite (hpre : Cert.Pre_KernelOutIdeal_rwkv_finite (hPre_rwkv_finite := preFacts) m) : Finite m c := by
  intro t k
  have h := congrFun (hpre c) (ix2 t k)
  refine real_of_abs_lt _ ?_
  rw [← pos_inf]
  exact h

/-- The argument arrays. -/
abbrev a0 : Vec Ideal Cert.KernelOutIdeal.S65536x1024 .f32 := m ((c.tc : Thread Cert.KernelOutIdeal.nD Cert.KernelOutIdeal.τ).loc Cert.KernelOutIdeal.main_arg0)
abbrev a1 : Vec Ideal Cert.KernelOutIdeal.S65536x512 .bf16 := m ((c.tc : Thread Cert.KernelOutIdeal.nD Cert.KernelOutIdeal.τ).loc Cert.KernelOutIdeal.main_arg1)
abbrev a2 : Vec Ideal Cert.KernelOutIdeal.S2048x8192 .f32 := m ((c.tc : Thread Cert.KernelOutIdeal.nD Cert.KernelOutIdeal.τ).loc Cert.KernelOutIdeal.main_arg2)
abbrev a3 : Vec Ideal Cert.KernelOutIdeal.S65536x512 .f32 := m ((c.tc : Thread Cert.KernelOutIdeal.nD Cert.KernelOutIdeal.τ).loc Cert.KernelOutIdeal.main_arg3)
abbrev a4 : Vec Ideal Cert.KernelOutIdeal.S65536x256 .bf16 := m ((c.tc : Thread Cert.KernelOutIdeal.nD Cert.KernelOutIdeal.τ).loc Cert.KernelOutIdeal.main_arg4)
abbrev a5 : Vec Ideal Cert.KernelOutIdeal.S4x65536x256 .f32 := m ((c.tc : Thread Cert.KernelOutIdeal.nD Cert.KernelOutIdeal.τ).loc Cert.KernelOutIdeal.main_arg5)
abbrev a6 : Vec Ideal Cert.KernelOutIdeal.S256 .f32 := m ((c.tc : Thread Cert.KernelOutIdeal.nD Cert.KernelOutIdeal.τ).loc Cert.KernelOutIdeal.main_arg6)
abbrev a7 : Vec Ideal Cert.KernelOutIdeal.S256 .f32 := m ((c.tc : Thread Cert.KernelOutIdeal.nD Cert.KernelOutIdeal.τ).loc Cert.KernelOutIdeal.main_arg7)
abbrev a8 : Vec Ideal Cert.KernelOutIdeal.S1024x1024 .f32 := m ((c.tc : Thread Cert.KernelOutIdeal.nD Cert.KernelOutIdeal.τ).loc Cert.KernelOutIdeal.main_arg8)
abbrev a9 : Vec Ideal Cert.KernelOutIdeal.S1024 .f32 := m ((c.tc : Thread Cert.KernelOutIdeal.nD Cert.KernelOutIdeal.τ).loc Cert.KernelOutIdeal.main_arg9)
abbrev a10 : Vec Ideal Cert.KernelOutIdeal.S1024x2816 .f32 := m ((c.tc : Thread Cert.KernelOutIdeal.nD Cert.KernelOutIdeal.τ).loc Cert.KernelOutIdeal.main_arg10)
abbrev a11 : Vec Ideal Cert.KernelOutIdeal.S1024x2816 .f32 := m ((c.tc : Thread Cert.KernelOutIdeal.nD Cert.KernelOutIdeal.τ).loc Cert.KernelOutIdeal.main_arg11)
abbrev a12 : Vec Ideal Cert.KernelOutIdeal.S2816x1024 .f32 := m ((c.tc : Thread Cert.KernelOutIdeal.nD Cert.KernelOutIdeal.τ).loc Cert.KernelOutIdeal.main_arg12)
abbrev a13 : Vec Ideal Cert.KernelOutIdeal.S256x1024 .f32 := m ((c.tc : Thread Cert.KernelOutIdeal.nD Cert.KernelOutIdeal.τ).loc Cert.KernelOutIdeal.main_arg13)
abbrev a14 : Vec Ideal Cert.KernelOutIdeal.S1024 .f32 := m ((c.tc : Thread Cert.KernelOutIdeal.nD Cert.KernelOutIdeal.τ).loc Cert.KernelOutIdeal.main_arg14)
abbrev a15 : Vec Ideal Cert.KernelOutIdeal.S1024x1024 .f32 := m ((c.tc : Thread Cert.KernelOutIdeal.nD Cert.KernelOutIdeal.τ).loc Cert.KernelOutIdeal.main_arg15)
abbrev a16 : Vec Ideal Cert.KernelOutIdeal.S1024 .f32 := m ((c.tc : Thread Cert.KernelOutIdeal.nD Cert.KernelOutIdeal.τ).loc Cert.KernelOutIdeal.main_arg16)

/-- The reference's result, of the same arguments, is the array the call leaves. -/
theorem eq20 : val_main_v94 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) = res20 m c := by
  funext i
  obtain ⟨r, j, rfl⟩ : ∃ (r : Fin 65536) (j : Fin 1024), i = ix2 r j := ⟨i 0, i 1, by funext a; fin_cases a <;> rfl⟩
  exact v94_apply (a0 m c) (a1 m c) (a2 m c) (a3 m c) (a4 m c) (a5 m c) (a6 m c) (a7 m c) (a8 m c) (a9 m c) (a10 m c) (a11 m c) (a12 m c) (a13 m c) (a14 m c) (a15 m c) (a16 m c) r j

set_option maxHeartbeats 4000000 in
/-- At exact arithmetic the second dense call's result is its reference's, where the recurrence's output is finite. -/
theorem algebraic : Cert.algebraic_KernelOutIdeal_ReferenceOutIdeal_pre_rwkv_finite (hKernelOutIdeal := Cert.KernelOutIdeal.Gen.facts)
    (hReferenceOutIdeal := Cert.ReferenceOutIdeal.Gen.facts) (hPre_rwkv_finite := preFacts) := by
  intro m ρ m' ρ' hpre hag
  refine ⟨fun c => res20 m c, ?_, ?_⟩
  · refine (θ_run _ _ _).mono ?_ (Cert.KernelOutIdeal.Value.run_blocks m ρ)
    intro r h c
    obtain ⟨h20, hk⟩ := h c
    exact ⟨h20.trans (arr20 m c (finite m c hpre)), hk⟩
  · refine (θ_run _ _ _).mono ?_ (Cert.ReferenceOutIdeal.Value.run m' ρ')
    intro r h c
    obtain ⟨e0, e1, e2, e3, e4, e5, e6, e7, e8, e9, e10, e11, e12, e13, e14, e15, e16⟩ := hag c
    obtain ⟨h94, hk⟩ := h c
    have g := h94.trans (val_main_v94_eq (F := Ideal) _)
    refine ⟨g.trans ?_, hk⟩
    refine Eq.trans ?_ (eq20 m c)
    show val_main_v94 (F := Ideal) (m' ((c.tc : Thread Cert.ReferenceOutIdeal.nD Cert.ReferenceOutIdeal.τ).loc Cert.ReferenceOutIdeal.main_arg0)) (m' ((c.tc : Thread Cert.ReferenceOutIdeal.nD Cert.ReferenceOutIdeal.τ).loc Cert.ReferenceOutIdeal.main_arg1)) (m' ((c.tc : Thread Cert.ReferenceOutIdeal.nD Cert.ReferenceOutIdeal.τ).loc Cert.ReferenceOutIdeal.main_arg2)) (m' ((c.tc : Thread Cert.ReferenceOutIdeal.nD Cert.ReferenceOutIdeal.τ).loc Cert.ReferenceOutIdeal.main_arg3)) (m' ((c.tc : Thread Cert.ReferenceOutIdeal.nD Cert.ReferenceOutIdeal.τ).loc Cert.ReferenceOutIdeal.main_arg4)) (m' ((c.tc : Thread Cert.ReferenceOutIdeal.nD Cert.ReferenceOutIdeal.τ).loc Cert.ReferenceOutIdeal.main_arg5)) (m' ((c.tc : Thread Cert.ReferenceOutIdeal.nD Cert.ReferenceOutIdeal.τ).loc Cert.ReferenceOutIdeal.main_arg6)) (m' ((c.tc : Thread Cert.ReferenceOutIdeal.nD Cert.ReferenceOutIdeal.τ).loc Cert.ReferenceOutIdeal.main_arg7)) (m' ((c.tc : Thread Cert.ReferenceOutIdeal.nD Cert.ReferenceOutIdeal.τ).loc Cert.ReferenceOutIdeal.main_arg8)) (m' ((c.tc : Thread Cert.ReferenceOutIdeal.nD Cert.ReferenceOutIdeal.τ).loc Cert.ReferenceOutIdeal.main_arg9)) (m' ((c.tc : Thread Cert.ReferenceOutIdeal.nD Cert.ReferenceOutIdeal.τ).loc Cert.ReferenceOutIdeal.main_arg10)) (m' ((c.tc : Thread Cert.ReferenceOutIdeal.nD Cert.ReferenceOutIdeal.τ).loc Cert.ReferenceOutIdeal.main_arg11)) (m' ((c.tc : Thread Cert.ReferenceOutIdeal.nD Cert.ReferenceOutIdeal.τ).loc Cert.ReferenceOutIdeal.main_arg12)) (m' ((c.tc : Thread Cert.ReferenceOutIdeal.nD Cert.ReferenceOutIdeal.τ).loc Cert.ReferenceOutIdeal.main_arg13)) (m' ((c.tc : Thread Cert.ReferenceOutIdeal.nD Cert.ReferenceOutIdeal.τ).loc Cert.ReferenceOutIdeal.main_arg14)) (m' ((c.tc : Thread Cert.ReferenceOutIdeal.nD Cert.ReferenceOutIdeal.τ).loc Cert.ReferenceOutIdeal.main_arg15)) (m' ((c.tc : Thread Cert.ReferenceOutIdeal.nD Cert.ReferenceOutIdeal.τ).loc Cert.ReferenceOutIdeal.main_arg16)) = _
    rw [e0, e1, e2, e3, e4, e5, e6, e7, e8, e9, e10, e11, e12, e13, e14, e15, e16]

end Cert.OutClaim

end
-- ==== Proof.PreSpec.lean ====
/- What the call before the recurrence computes for one row: the mix with the row before, the receptances, decays, keys
   and values, the gate, and the bonus. -/
module

public import proofs.«01_k».proof.Proof.OutSpec

@[expose] public section

set_option maxRecDepth 16384

noncomputable section

namespace Cert.DenseSpec

open Idealize.ShloMosaic

/-- A row mixed with the row before it. -/
def lerp (z p mu : Fin 896 → EReal) (j : Fin 896) : EReal := z j + mu j * (p j - z j)

/-- Of a mixed row, the receptances, the keys and the values. -/
abbrev recept (z : Fin 896 → EReal) (c : Fin 256) : EReal := z ⟨c.val, by omega⟩
abbrev key (z : Fin 896 → EReal) (c : Fin 256) : EReal := z ⟨256 + c.val, by omega⟩
abbrev value (z : Fin 896 → EReal) (c : Fin 256) : EReal := z ⟨512 + c.val, by omega⟩

/-- The sigmoid. -/
def sigm (x : EReal) : EReal := Ideal.div 1 (1 + Ideal.exp (0 - x))

theorem sigm_real (x : EReal) : ∃ r : ℝ, sigm x = r := by
  unfold sigm
  rw [zero_sub]
  induction x with
  | bot =>
    refine ⟨0, ?_⟩
    rw [EReal.neg_bot, Ideal.exp_top, ← EReal.coe_one, EReal.coe_add_top]
    simp [Ideal.div]
  | top =>
    refine ⟨1, ?_⟩
    rw [EReal.neg_top, Ideal.exp_bot, add_zero, ← EReal.coe_one, Ideal.div_coe (by norm_num), ← EReal.coe_mul]
    norm_num
  | coe r =>
    refine ⟨1 * (1 / (1 + Real.exp (-r))), ?_⟩
    rw [← EReal.coe_neg, Ideal.exp_coe, ← EReal.coe_one, ← EReal.coe_add, Ideal.div_coe (by have := Real.exp_pos (-r); linarith), ← EReal.coe_mul]

/-- The decay, of the argument of its softplus. -/
def decayOf (y : EReal) : EReal := Ideal.exp (0 - Ideal.exp (ls y - Ideal.ofBits .f32 0x3F000000#32))

/-- The softplus as the call writes it. -/
theorem ls_call (y : EReal) : 0 - (max (0 - y) 0 + Ideal.log (1 + Ideal.exp (0 - max y (-y)))) = ls y := by
  rw [← ls_softplus]
  simp only [zero_sub, neg_neg, Ideal.log1p, max_comm (-y) y]

/-- A low-rank matrix in its rows of the 128 that the call multiplies by. -/
def padRows (o : ℕ) (w : Fin 32 → Fin 256 → EReal) (k : Fin 128) (c : Fin 256) : EReal :=
  if h : o ≤ k.val ∧ k.val < o + 32 then w ⟨k.val - o, by omega⟩ c else 0

/-- The other rows add nothing. -/
theorem dot_padRows (o : ℕ) (ho : o + 32 ≤ 128) (f : Fin 128 → EReal) (w : Fin 32 → Fin 256 → EReal) (c : Fin 256) :
    dot f (padRows o w) c = dot (fun k : Fin 32 => f ⟨o + k.val, by omega⟩) w c := by
  unfold dot
  have h : (∑ k : Fin 128, f k * padRows o w k c) = ∑ k ∈ Finset.univ.filter (fun k : Fin 128 => o ≤ k.val ∧ k.val < o + 32), f k * padRows o w k c := by
    rw [Finset.sum_filter]
    refine Finset.sum_congr rfl fun k _ => ?_
    split_ifs with q
    · rfl
    · unfold padRows
      rw [dif_neg q, mul_zero]
  rw [h]
  refine (Finset.sum_bij (fun (d : Fin 32) _ => (⟨o + d.val, by omega⟩ : Fin 128)) ?_ ?_ ?_ ?_).symm
  · intro d _
    simp only [Finset.mem_filter, Finset.mem_univ, true_and]
    omega
  · intro a _ b _ e
    have := congrArg Fin.val e
    simp only at this
    exact Fin.ext (by omega)
  · intro k hk
    simp only [Finset.mem_filter, Finset.mem_univ, true_and] at hk
    exact ⟨⟨k.val - o, by omega⟩, Finset.mem_univ _, Fin.ext (by simp only; omega)⟩
  · intro d _
    unfold padRows
    rw [dif_pos ⟨by simp only; omega, by simp only; omega⟩]
    congr 2
    exact Fin.ext (by simp only; omega)

/-- The decays, the in-context rates, and the gate of a mixed row. -/
def decayRow (z : Fin 896 → EReal) (w0 : Fin 256 → EReal) (wu : Fin 32 → Fin 256 → EReal) (c : Fin 256) : EReal :=
  decayOf (w0 c + dot (fun k : Fin 32 => Ideal.tanh (z ⟨768 + k.val, by omega⟩)) wu c)
def rateRow (z : Fin 896 → EReal) (a0 : Fin 256 → EReal) (au : Fin 32 → Fin 256 → EReal) (c : Fin 256) : EReal :=
  sigm (a0 c + dot (fun k : Fin 32 => z ⟨800 + k.val, by omega⟩) au c)
def gateRow (z : Fin 896 → EReal) (gu : Fin 32 → Fin 256 → EReal) (c : Fin 256) : EReal :=
  dot (fun k : Fin 32 => sigm (z ⟨832 + k.val, by omega⟩)) gu c

/-- The normed keys: keys times their weights, over the root of the head's sum of squares (or of a small number). -/
def keyN (z : Fin 896 → EReal) (kk : Fin 256 → EReal) (c : Fin 256) : EReal :=
  key z c * kk c * Ideal.rsqrt (max (∑ d : Fin 64, key z (mate c d) * kk (mate c d) * (key z (mate c d) * kk (mate c d))) (Ideal.ofBits .f32 0x179ABE15#32))
/-- The same with the head's sum by a matrix, as the call takes it. -/
def keyNB (z : Fin 896 → EReal) (kk : Fin 256 → EReal) (bd : Fin 256 → Fin 256 → EReal) (c : Fin 256) : EReal :=
  key z c * kk c * Ideal.rsqrt (max (blockSum (fun k => key z k * kk k * (key z k * kk k)) bd c) (Ideal.ofBits .f32 0x179ABE15#32))
/-- The keys scaled by their rates. -/
def keyA (z : Fin 896 → EReal) (a ka : Fin 256 → EReal) (c : Fin 256) : EReal := key z c * (1 + (a c - 1) * ka c)
/-- The bonus: the head's sum of receptance times key times weight, times the value. -/
def bonus (z : Fin 896 → EReal) (a ka rk : Fin 256 → EReal) (c : Fin 256) : EReal :=
  (∑ d : Fin 64, recept z (mate c d) * keyA z a ka (mate c d) * rk (mate c d)) * value z c
/-- The same with the head's sum by a matrix, as the call takes it. -/
def bonusB (z : Fin 896 → EReal) (a ka rk : Fin 256 → EReal) (bd : Fin 256 → Fin 256 → EReal) (c : Fin 256) : EReal :=
  blockSum (fun k => recept z k * keyA z a ka k * rk k) bd c * value z c

theorem keyN_eq (z : Fin 896 → EReal) (kk : Fin 256 → EReal) (hz : ∀ j, ∃ r : ℝ, z j = r) (hk : ∀ c, ∃ r : ℝ, kk c = r) (c : Fin 256) :
    keyNB z kk ones c = keyN z kk c := by
  unfold keyNB keyN
  rw [blockSum_real]
  intro k
  obtain ⟨a, ea⟩ := hz ⟨256 + k.val, by omega⟩
  obtain ⟨b, eb⟩ := hk k
  exact ⟨a * b * (a * b), by simp only [key, ea, eb, EReal.coe_mul]⟩

theorem bonus_eq (z : Fin 896 → EReal) (a ka rk : Fin 256 → EReal) (hz : ∀ j, ∃ r : ℝ, z j = r) (ha : ∀ c, ∃ r : ℝ, a c = r)
    (hk : ∀ c, ∃ r : ℝ, ka c = r) (hr : ∀ c, ∃ r : ℝ, rk c = r) (c : Fin 256) : bonusB z a ka rk ones c = bonus z a ka rk c := by
  unfold bonusB bonus
  rw [blockSum_real]
  intro k
  obtain ⟨x, ex⟩ := hz ⟨k.val, by omega⟩
  obtain ⟨y, ey⟩ := hz ⟨256 + k.val, by omega⟩
  obtain ⟨b, eb⟩ := ha k
  obtain ⟨d, ed⟩ := hk k
  obtain ⟨e, ee⟩ := hr k
  refine ⟨x * (y * (1 + (b - 1) * d)) * e, ?_⟩
  simp only [recept, keyA, key, ex, ey, eb, ed, ee, EReal.coe_mul, EReal.coe_add, EReal.coe_sub, EReal.coe_one]

theorem lerp_real (z p mu : Fin 896 → EReal) (hz : ∀ j, ∃ r : ℝ, z j = r) (hp : ∀ j, ∃ r : ℝ, p j = r) (hm : ∀ j, ∃ r : ℝ, mu j = r) (j : Fin 896) :
    ∃ r : ℝ, lerp z p mu j = r := by
  obtain ⟨a, ea⟩ := hz j
  obtain ⟨b, eb⟩ := hp j
  obtain ⟨d, ed⟩ := hm j
  exact ⟨a + d * (b - a), by simp only [lerp, ea, eb, ed, EReal.coe_mul, EReal.coe_add, EReal.coe_sub]⟩

/-- The six rows the recurrence takes: receptances, decays, scaled keys, values, normed keys, normed keys times rates. -/
def six (r w k v n na : Fin 256 → EReal) (f : Fin 6) : Fin 256 → EReal := ![r, w, k, v, n, na] f

/-- Their columns, by head and then by which of the six. -/
def sixCol (s : Fin 6 → Fin 256 → EReal) (j : Fin 1536) : EReal := s ⟨j.val % 384 / 64, by omega⟩ ⟨64 * (j.val / 384) + j.val % 64, by omega⟩

/-- The gate's columns, then the bonus's. -/
def gateBonus (g b : Fin 256 → EReal) (j : Fin 512) : EReal := if h : j.val < 256 then g ⟨j.val, h⟩ else b ⟨j.val - 256, by omega⟩

end Cert.DenseSpec

end
-- ==== Proof.PreBlock.lean ====
/- The two blocks of 256 rows that one grid point of the call before the recurrence leaves, in terms of the blocks it reads. -/
module

public import proofs.«01_k».proof.Proof.PreSpec
public import proofs.«01_k».proof.Proof.Gen.KernelPreIdeal.Frame
public import Idealize.ShloMosaic.Lib.Pipeline.ValueKit

@[expose] public section

set_option maxRecDepth 16384

noncomputable section

namespace Cert.KernelPreIdeal.Dense

open Idealize.ShloMosaic Cert.KernelPreIdeal Cert.KernelPreIdeal.Gen Cert.DenseSpec

/-- The row before the block's first, of the two that may be. -/
def firstPrev (i : grid0.Coords) (v3 v5 : Vec Ideal S1x1x896 .f32) : FVec Ideal S1x896 .f32 :=
  Scalar.select (Scalar.cmpi .eq (BitVec.ofNat 32 (i 1).val) 0#32) (shapeCast S1x896 v3 shapeCasts_S1x1x896_S1x896) (shapeCast S1x896 v5 shapeCasts_S1x1x896_S1x896)

theorem firstPrev_apply (i : grid0.Coords) (v3 v5 : Vec Ideal S1x1x896 .f32) (j : Fin 896) :
    firstPrev i v3 v5 (ix2 0 j) = if (i 1).val = 0 then v3 (ix3 0 0 j) else v5 (ix3 0 0 j) := by
  have h : (i 1).val < 8 := (i 1).isLt
  have w : ∀ a : Fin 8, Scalar.cmpi .eq (BitVec.ofNat 32 a.val) 0#32 = if a.val = 0 then 1#1 else 0#1 := by decide
  have w' := w ⟨(i 1).val, h⟩
  unfold firstPrev
  dsimp only at w'
  rw [w']
  split
  · have e : ∀ a b : FVec Ideal S1x896 .f32, Scalar.select (1#1) a b = a := fun a b => if_pos rfl
    rw [e]
    pointwise
  · have e : ∀ a b : FVec Ideal S1x896 .f32, Scalar.select (0#1) a b = b := fun a b => if_neg (by decide)
    rw [e]
    pointwise

/-- The rows before the block's. -/
def prevRows (v1 : FVec Ideal S256x896 .f32) (v7 : FVec Ideal S1x896 .f32) : FVec Ideal S256x896 .f32 :=
  have v8 : IVec S256x1 32 := iota .tc S256x1 32 [0] iota_S256x1_d0_w32
  have v9 : IVec S256x1 32 := broadcast S256x1 0#32
  have v10 : IVec S256x1 1 := cmpi .eq v8 v9
  have v11 : FVec Ideal S256x896 .f32 := dynamicRotate 0 1#32 none v1 rotates_S256x896_d0
  have v12 : IVec S256x1 1 := shapeCast S256x1 v10 shapeCasts_S256x1_S256x1
  have v13 : IVec S256x896 1 := broadcastTo S256x896 v12 broadcasts_S256x1_S256x896
  have v14 : FVec Ideal S1x896 .f32 := shapeCast S1x896 v7 shapeCasts_S1x896_S1x896
  have v15 : FVec Ideal S256x896 .f32 := broadcastTo S256x896 v14 broadcasts_S1x896_S256x896
  select v13 v15 v11

theorem prevRows_apply (v1 : FVec Ideal S256x896 .f32) (v7 : FVec Ideal S1x896 .f32) (r : Fin 256) (j : Fin 896) :
    prevRows v1 v7 (ix2 r j) = if r.val = 0 then v7 (ix2 0 j) else v1 (ix2 ⟨r.val - 1, by omega⟩ j) := by
  have w : ∀ a : Fin 256, IntOp.cmpi .eq (BitVec.ofNat 32 a.val) 0#32 = if a.val = 0 then 1#1 else 0#1 := by decide
  pointwise [prevRows]
  rw [w]
  unfold Scalar.select
  split
  · rfl
  · have q : (⟨(r.val + 256 - 1) % 256, by omega⟩ : Fin 256) = ⟨r.val - 1, by omega⟩ := Fin.ext (by dsimp only; omega)
    rw [q]
    rfl

theorem pay3_apply (i : grid0.Coords) (v0 : Vec Ideal S1x256x896 .f32) (v3 v5 : Vec Ideal S1x1x896 .f32) (v17 : Vec Ideal S1x896 .f32) (r : Fin 256) (j : Fin 896) :
    k0_pay3 i v0 v3 v5 v17 (ix2 r j)
      = lerp (fun j => v0 (ix3 0 r j))
          (fun j => if r.val = 0 then (if (i 1).val = 0 then v3 (ix3 0 0 j) else v5 (ix3 0 0 j)) else v0 (ix3 0 ⟨r.val - 1, by omega⟩ j)) (fun j => v17 (ix2 0 j)) j := by
  have e : k0_pay3 i v0 v3 v5 v17
      = addf (shapeCast S256x896 v0 shapeCasts_S1x256x896_S256x896)
          (mulf (broadcastTo S256x896 (shapeCast S1x896 v17 shapeCasts_S1x896_S1x896) broadcasts_S1x896_S256x896)
            (subf (prevRows (shapeCast S256x896 v0 shapeCasts_S1x256x896_S256x896) (firstPrev i v3 v5)) (shapeCast S256x896 v0 shapeCasts_S1x256x896_S256x896))) := rfl
  have h : ∀ r : Fin 256, (shapeCast S256x896 v0 shapeCasts_S1x256x896_S256x896 : FVec Ideal S256x896 .f32) (ix2 r j) = v0 (ix3 0 r j) := by
    intro r
    pointwise
  have hp : prevRows (shapeCast S256x896 v0 shapeCasts_S1x256x896_S256x896) (firstPrev i v3 v5) (ix2 r j)
      = if r.val = 0 then (if (i 1).val = 0 then v3 (ix3 0 0 j) else v5 (ix3 0 0 j)) else v0 (ix3 0 ⟨r.val - 1, by omega⟩ j) := by
    rw [prevRows_apply, firstPrev_apply, h]
  rw [e]
  unfold lerp
  dsimp only
  rw [← hp]
  generalize prevRows (shapeCast S256x896 v0 shapeCasts_S1x256x896_S256x896) (firstPrev i v3 v5) = p
  pointwise

variable (z : FVec Ideal S256x896 .f32)

theorem cols0_apply (r c : Fin 256) : (extractStridedSlice S256x256 ![0, 0] z slices_S256x896_o0_0_S256x256 : FVec Ideal S256x256 .f32) (ix2 r c) = recept (fun j => z (ix2 r j)) c := by
  pointwise
theorem cols256_apply (r c : Fin 256) : (extractStridedSlice S256x256 ![0, 256] z slices_S256x896_o0_256_S256x256 : FVec Ideal S256x256 .f32) (ix2 r c) = key (fun j => z (ix2 r j)) c := by
  pointwise
theorem cols512_apply (r c : Fin 256) : (extractStridedSlice S256x256 ![0, 512] z slices_S256x896_o0_512_S256x256 : FVec Ideal S256x256 .f32) (ix2 r c) = value (fun j => z (ix2 r j)) c := by
  pointwise
theorem cols768_apply (r : Fin 256) (c : Fin 128) : (extractStridedSlice S256x128 ![0, 768] z slices_S256x896_o0_768_S256x128 : FVec Ideal S256x128 .f32) (ix2 r c)
    = z (ix2 r ⟨768 + c.val, by omega⟩) := by
  pointwise

theorem pay9_apply (i : grid0.Coords) (v0 : Vec Ideal S1x256x896 .f32) (v3 v5 : Vec Ideal S1x1x896 .f32) (v17 : Vec Ideal S1x896 .f32) (w : Vec Ideal S128x256 .bf16) (r c : Fin 256) :
    k0_pay9 i v0 v3 v5 v17 w (ix2 r c) = dot (fun k : Fin 128 => Ideal.tanh (k0_pay7 i v0 v3 v5 v17 (ix2 r k))) (fun k c => w (ix2 k c)) c := by
  unfold k0_pay9
  generalize k0_pay7 i v0 v3 v5 v17 = l
  unfold dot
  pointwise

theorem pay11_apply (y : FVec Ideal S256x256 .f32) (w0 : Vec Ideal S1x256 .f32) (r c : Fin 256) :
    k0_pay11 y (k0_pay10 w0) (ix2 r c) = decayOf (w0 (ix2 0 c) + y (ix2 r c)) := by
  unfold decayOf
  rw [← ls_call]
  pointwise [k0_pay11, k0_pay10]
  rfl

theorem pay12_apply (l : FVec Ideal S256x128 .f32) (a0 : Vec Ideal S1x256 .f32) (w : Vec Ideal S128x256 .bf16) (r c : Fin 256) :
    k0_pay12 l a0 w (ix2 r c) = sigm (a0 (ix2 0 c) + dot (fun k => l (ix2 r k)) (fun k c => w (ix2 k c)) c) := by
  unfold sigm dot
  pointwise [k0_pay12]

theorem pay15_apply (l : FVec Ideal S256x128 .f32) (w : Vec Ideal S128x256 .bf16) (r c : Fin 256) :
    k0_pay15 (k0_pay13 l) (k0_pay14 (F := Ideal)) w (ix2 r c) = dot (fun k => sigm (l (ix2 r k))) (fun k c => w (ix2 k c)) c := by
  unfold sigm dot
  pointwise [k0_pay15, k0_pay13, k0_pay14]

/-- The sum over a head by the matrix of ones, of the high and the low part. -/
def bsum (x bd : FVec Ideal S256x256 .f32) : FVec Ideal S256x256 .f32 :=
  have v3 : FVec Ideal S256x256 .bf16 := truncf .bf16 x bitsLt_bf16_f32
  have v4 : FVec Ideal S256x256 .f32 := extf .f32 v3 bitsLt_bf16_f32
  have v5 : FVec Ideal S256x256 .f32 := subf x v4
  have v6 : FVec Ideal S256x256 .bf16 := truncf .bf16 v5 bitsLt_bf16_f32
  have v7 : FVec Ideal S256x256 .f32 := extf .f32 v6 bitsLt_bf16_f32
  have v8 : FVec Ideal S256x256 .f32 := matmul dot_S256x256_S256x256_S256x256_1_0_0_1_n_n none v4 bd (constant S256x256 .f32 0x00000000#32)
  have v9 : FVec Ideal S256x256 .f32 := matmul dot_S256x256_S256x256_S256x256_1_0_0_1_n_n none v7 bd (constant S256x256 .f32 0x00000000#32)
  addf v8 v9

theorem bsum_apply (x bd : FVec Ideal S256x256 .f32) (r c : Fin 256) :
    bsum x bd (ix2 r c) = blockSum (fun k => x (ix2 r k)) (fun k c => bd (ix2 k c)) c := by
  unfold blockSum; pointwise [bsum]

/-- The keys times their weights. -/
def wkeys (k : FVec Ideal S256x256 .f32) (w : Vec Ideal S1x256 .f32) : FVec Ideal S256x256 .f32 :=
  mulf k (broadcastTo S256x256 (shapeCast S1x256 w shapeCasts_S1x256_S1x256) broadcasts_S1x256_S256x256)
theorem wkeys_apply (k : FVec Ideal S256x256 .f32) (w : Vec Ideal S1x256 .f32) (r c : Fin 256) : wkeys k w (ix2 r c) = k (ix2 r c) * w (ix2 0 c) := by
  pointwise [wkeys]

theorem pay16_apply (k bd : FVec Ideal S256x256 .f32) (w : Vec Ideal S1x256 .f32) (r c : Fin 256) :
    k0_pay16 k bd w (ix2 r c) = k (ix2 r c) * w (ix2 0 c)
      * Ideal.rsqrt (max (blockSum (fun j => k (ix2 r j) * w (ix2 0 j) * (k (ix2 r j) * w (ix2 0 j))) (fun k c => bd (ix2 k c)) c) (Ideal.ofBits .f32 0x179ABE15#32)) := by
  have e : k0_pay16 k bd w = mulf (wkeys k w) (rsqrt (maximumf (bsum (mulf (wkeys k w) (wkeys k w)) bd) (broadcast S256x256 (Scalar.ofBits .f32 0x179ABE15#32)))) := rfl
  have hs : bsum (mulf (wkeys k w) (wkeys k w)) bd (ix2 r c)
      = blockSum (fun j => k (ix2 r j) * w (ix2 0 j) * (k (ix2 r j) * w (ix2 0 j))) (fun k c => bd (ix2 k c)) c := by
    rw [bsum_apply]
    congr 1
    funext j
    rw [← wkeys_apply]
    rfl
  rw [e, ← hs, ← wkeys_apply]
  generalize bsum (mulf (wkeys k w) (wkeys k w)) bd = s
  generalize wkeys k w = x
  pointwise

theorem pay17_apply (k a : FVec Ideal S256x256 .f32) (w : Vec Ideal S1x256 .f32) (r c : Fin 256) :
    k0_pay17 k a w (ix2 r c) = k (ix2 r c) * (1 + (a (ix2 r c) - 1) * w (ix2 0 c)) := by
  pointwise [k0_pay17]

theorem pay18_apply (q k bd a : FVec Ideal S256x256 .f32) (w u : Vec Ideal S1x256 .f32) (r c : Fin 256) :
    k0_pay18 q k bd a w u (ix2 r c)
      = blockSum (fun j => q (ix2 r j) * k0_pay17 k a w (ix2 r j) * u (ix2 0 j)) (fun k c => bd (ix2 k c)) c := by
  have e : k0_pay18 q k bd a w u = bsum (wkeys (mulf q (k0_pay17 k a w)) u) bd := rfl
  rw [e, bsum_apply]
  congr 1
  funext j
  rw [wkeys_apply]
  rfl

section point
variable (i : grid0.Coords) (x0 : Vec Ideal S1x256x896 .f32) (x1 : Vec Ideal S1x8x896 .f32) (x2 : Vec Ideal S1x1x896 .f32) (x3 : Vec Ideal S1x896 .f32)
  (x4 x5 x6 x7 x8 : Vec Ideal S1x256 .f32) (x9 x10 x11 : Vec Ideal S128x256 .bf16) (x12 : Vec Ideal S256x256 .f32)

/-- The last of the eight rows read before the block. -/
def part2 : Vec Ideal S1x1x896 .f32 := View.ld x1 r0_2
theorem part2_apply (j : Fin 896) : part2 x1 (ix3 0 0 j) = x1 (ix3 0 7 j) := by
  unfold part2; pointwise

/-- The row before, and the mixed row, from the blocks read. -/
def bPrev (r : Fin 256) (j : Fin 896) : EReal :=
  if r.val = 0 then (if (i 1).val = 0 then x2 (ix3 0 0 j) else x1 (ix3 0 7 j)) else x0 (ix3 0 ⟨r.val - 1, by omega⟩ j)
def bZ (r : Fin 256) : Fin 896 → EReal := lerp (fun j => x0 (ix3 0 r j)) (bPrev i x0 x1 x2 r) (fun j => x3 (ix2 0 j))

/-- The mixed rows as a block. -/
def zBlk : FVec Ideal S256x896 .f32 := k0_pay3 i (View.ld x0 r0_0) (View.ld x2 r0_1) (View.ld x1 r0_2) (View.ld x3 r0_3)
theorem zBlk_apply (r : Fin 256) (j : Fin 896) : zBlk i x0 x1 x2 x3 (ix2 r j) = bZ i x0 x1 x2 x3 r j := by
  unfold zBlk
  change k0_pay3 i _ _ (part2 x1) _ _ = _
  rw [pay3_apply, View.ld_unit_lit _ x0 (by decide), View.ld_unit_lit _ x2 (by decide), View.ld_unit_lit _ x3 (by decide)]
  simp only [part2_apply]
  rfl

theorem p45_apply (r c : Fin 256) : k0_pay45 i x0 x1 x2 x3 x4 x5 x6 x7 x8 x9 x10 x11 x12 (ix2 r c) = recept (bZ i x0 x1 x2 x3 r) c := by
  refine (cols0_apply (zBlk i x0 x1 x2 x3) r c).trans ?_
  simp only [zBlk_apply]
theorem p46_apply (r c : Fin 256) : k0_pay46 i x0 x1 x2 x3 x4 x5 x6 x7 x8 x9 x10 x11 x12 (ix2 r c) = key (bZ i x0 x1 x2 x3 r) c := by
  refine (cols256_apply (zBlk i x0 x1 x2 x3) r c).trans ?_
  simp only [zBlk_apply]
theorem p47_apply (r c : Fin 256) : k0_pay47 i x0 x1 x2 x3 x4 x5 x6 x7 x8 x9 x10 x11 x12 (ix2 r c) = value (bZ i x0 x1 x2 x3 r) c := by
  refine (cols512_apply (zBlk i x0 x1 x2 x3) r c).trans ?_
  simp only [zBlk_apply]
theorem p48_apply (r : Fin 256) (k : Fin 128) : k0_pay48 i x0 x1 x2 x3 x4 x5 x6 x7 x8 x9 x10 x11 x12 (ix2 r k) = bZ i x0 x1 x2 x3 r ⟨768 + k.val, by omega⟩ := by
  refine (cols768_apply (zBlk i x0 x1 x2 x3) r k).trans ?_
  simp only [zBlk_apply]
theorem p49_apply (k c : Fin 256) : k0_pay49 i x0 x1 x2 x3 x4 x5 x6 x7 x8 x9 x10 x11 x12 (ix2 k c) = x12 (ix2 k c) := by
  unfold k0_pay49
  rw [View.ld_unit_lit _ x12 (by decide)]
  pointwise [k0_pay8]

/-- The decays, the rates and the gate, with the low-rank matrices as read. -/
def bDecay (r c : Fin 256) : EReal :=
  decayOf (x4 (ix2 0 c) + dot (fun k : Fin 128 => Ideal.tanh (bZ i x0 x1 x2 x3 r ⟨768 + k.val, by omega⟩)) (fun k c => x9 (ix2 k c)) c)
def bRate (r c : Fin 256) : EReal :=
  sigm (x5 (ix2 0 c) + dot (fun k : Fin 128 => bZ i x0 x1 x2 x3 r ⟨768 + k.val, by omega⟩) (fun k c => x10 (ix2 k c)) c)
def bGate (r c : Fin 256) : EReal :=
  dot (fun k : Fin 128 => sigm (bZ i x0 x1 x2 x3 r ⟨768 + k.val, by omega⟩)) (fun k c => x11 (ix2 k c)) c

theorem p50_apply (r c : Fin 256) : k0_pay50 i x0 x1 x2 x3 x4 x5 x6 x7 x8 x9 x10 x11 x12 (ix2 r c) = bDecay i x0 x1 x2 x3 x4 x9 r c := by
  unfold k0_pay50 bDecay
  rw [pay11_apply, pay9_apply, View.ld_unit_lit _ x4 (by decide), View.ld_unit_lit _ x9 (by decide)]
  have h := p48_apply i x0 x1 x2 x3 x4 x5 x6 x7 x8 x9 x10 x11 x12 r
  unfold k0_pay48 at h
  simp only [h]
theorem p51_apply (r c : Fin 256) : k0_pay51 i x0 x1 x2 x3 x4 x5 x6 x7 x8 x9 x10 x11 x12 (ix2 r c) = bRate i x0 x1 x2 x3 x5 x10 r c := by
  unfold k0_pay51 bRate
  rw [pay12_apply, View.ld_unit_lit _ x5 (by decide), View.ld_unit_lit _ x10 (by decide)]
  simp only [p48_apply]
theorem gate_apply (r c : Fin 256) :
    k0_pay15 (k0_pay13 (k0_pay48 i x0 x1 x2 x3 x4 x5 x6 x7 x8 x9 x10 x11 x12)) (k0_pay14 (F := Ideal)) (View.ld x11 r0_6) (ix2 r c) = bGate i x0 x1 x2 x3 x11 r c := by
  unfold bGate
  rw [pay15_apply, View.ld_unit_lit _ x11 (by decide)]
  simp only [p48_apply]
theorem p52_apply (r c : Fin 256) : k0_pay52 i x0 x1 x2 x3 x4 x5 x6 x7 x8 x9 x10 x11 x12 (ix2 r c)
    = keyNB (bZ i x0 x1 x2 x3 r) (fun c => x6 (ix2 0 c)) (fun k c => x12 (ix2 k c)) c := by
  unfold k0_pay52 keyNB
  rw [pay16_apply, View.ld_unit_lit _ x6 (by decide)]
  simp only [p46_apply, p49_apply]
theorem p53_apply (r c : Fin 256) : k0_pay53 i x0 x1 x2 x3 x4 x5 x6 x7 x8 x9 x10 x11 x12 (ix2 r c)
    = keyA (bZ i x0 x1 x2 x3 r) (bRate i x0 x1 x2 x3 x5 x10 r) (fun c => x7 (ix2 0 c)) c := by
  unfold k0_pay53 keyA
  rw [pay17_apply, View.ld_unit_lit _ x7 (by decide)]
  simp only [p46_apply, p51_apply]
theorem p54_apply (r c : Fin 256) : k0_pay54 i x0 x1 x2 x3 x4 x5 x6 x7 x8 x9 x10 x11 x12 (ix2 r c)
    = keyNB (bZ i x0 x1 x2 x3 r) (fun c => x6 (ix2 0 c)) (fun k c => x12 (ix2 k c)) c * bRate i x0 x1 x2 x3 x5 x10 r c :=
  congrArg₂ (· * ·) (p52_apply i x0 x1 x2 x3 x4 x5 x6 x7 x8 x9 x10 x11 x12 r c) (p51_apply i x0 x1 x2 x3 x4 x5 x6 x7 x8 x9 x10 x11 x12 r c)
theorem bonus_apply (r c : Fin 256) :
    k0_pay19 (k0_pay47 i x0 x1 x2 x3 x4 x5 x6 x7 x8 x9 x10 x11 x12)
      (k0_pay18 (k0_pay45 i x0 x1 x2 x3 x4 x5 x6 x7 x8 x9 x10 x11 x12) (k0_pay46 i x0 x1 x2 x3 x4 x5 x6 x7 x8 x9 x10 x11 x12)
        (k0_pay49 i x0 x1 x2 x3 x4 x5 x6 x7 x8 x9 x10 x11 x12) (k0_pay51 i x0 x1 x2 x3 x4 x5 x6 x7 x8 x9 x10 x11 x12) (View.ld x7 r0_5) (View.ld x8 r0_5)) (ix2 r c)
      = bonusB (bZ i x0 x1 x2 x3 r) (bRate i x0 x1 x2 x3 x5 x10 r) (fun c => x7 (ix2 0 c)) (fun c => x8 (ix2 0 c)) (fun k c => x12 (ix2 k c)) c := by
  refine (congrArg₂ (· * ·) (pay18_apply _ _ _ _ _ _ r c) (p47_apply i x0 x1 x2 x3 x4 x5 x6 x7 x8 x9 x10 x11 x12 r c)).trans ?_
  unfold bonusB keyA
  rw [View.ld_unit_lit _ x7 (by decide), View.ld_unit_lit _ x8 (by decide)]
  simp only [pay17_apply, p45_apply, p46_apply, p49_apply, p51_apply]

/-- The six rows, and the gate and bonus, that the grid point leaves. -/
def bSix (r : Fin 256) : Fin 6 → Fin 256 → EReal :=
  six (recept (bZ i x0 x1 x2 x3 r)) (bDecay i x0 x1 x2 x3 x4 x9 r) (keyA (bZ i x0 x1 x2 x3 r) (bRate i x0 x1 x2 x3 x5 x10 r) (fun c => x7 (ix2 0 c)))
    (value (bZ i x0 x1 x2 x3 r)) (keyNB (bZ i x0 x1 x2 x3 r) (fun c => x6 (ix2 0 c)) (fun k c => x12 (ix2 k c)))
    (fun c => keyNB (bZ i x0 x1 x2 x3 r) (fun c => x6 (ix2 0 c)) (fun k c => x12 (ix2 k c)) c * bRate i x0 x1 x2 x3 x5 x10 r c)

end point

/-- Sixty-four columns of a block. -/
theorem slice_apply (o : ℕ) (ho : o + 64 ≤ 256) (y : FVec Ideal S256x256 .f32) (h : S256x256.Slices ![0, o] S256x64) (r : Fin 256) (d : Fin 64) :
    (extractStridedSlice S256x64 ![0, o] y h : FVec Ideal S256x64 .f32) (ix2 r d) = y (ix2 r ⟨o + d.val, by omega⟩) := by
  pointwise

/-- The six blocks' columns, head by head. -/
def cols6 (y : Fin 6 → FVec Ideal S256x256 .f32) : Vec Ideal S256x1536 .f32 := fun q => sixCol (fun f c => y f (ix2 (q 0) c)) (q 1)

theorem cols6_emb (y : Fin 6 → FVec Ideal S256x256 .f32) (n : ℕ) (hn : n < 24) (h) (r : Fin 256) (d : Fin 64) :
    cols6 y ((Rect.unit (s := S256x1536) ![0, 64 * n] S256x64.size h).emb (ix2 r d)) = y ⟨n % 6, by omega⟩ (ix2 r ⟨64 * (n / 6) + d.val, by omega⟩) := by
  have e : (Rect.unit (s := S256x1536) ![0, 64 * n] S256x64.size h).emb (ix2 r d) = ix2 r (⟨64 * n + d.val, by omega⟩ : Fin 1536) := by
    funext a
    fin_cases a
    · exact Fin.ext (by simp [ix2])
    · exact Fin.ext (by simp [ix2])
  rw [e]
  unfold cols6 sixCol
  have e1 : (⟨(64 * n + d.val) % 384 / 64, by omega⟩ : Fin 6) = ⟨n % 6, by omega⟩ := Fin.ext (by dsimp only; omega)
  have e2 : (⟨64 * ((64 * n + d.val) / 384) + (64 * n + d.val) % 64, by omega⟩ : Fin 256) = ⟨64 * (n / 6) + d.val, by omega⟩ := Fin.ext (by dsimp only; omega)
  exact congrArg₂ (fun f c => y f (ix2 r c)) e1 e2

/-- An index of a block is a row and a column of it. -/
theorem idx_rows (x : S256x64.Idx) : ∃ (r : Fin 256) (d : Fin 64), x = ix2 r d := by
  refine ⟨x 0, x 1, ?_⟩
  funext a
  fin_cases a <;> rfl

/-- One stored piece holds the block's value at its place. -/
theorem piece6 (y : Fin 6 → FVec Ideal S256x256 .f32) (n : ℕ) (hn : n < 24) (h) (p : FVec Ideal S256x64 .f32) (o : ℕ) (ho : o + 64 ≤ 256)
    (hs : S256x256.Slices ![0, o] S256x64) (hp : p = extractStridedSlice S256x64 ![0, o] (y ⟨n % 6, by omega⟩) hs) (hno : 64 * (n / 6) = o) (x : S256x64.Idx) :
    p x = cols6 y ((Rect.unit (s := S256x1536) ![0, 64 * n] S256x64.size h).emb x) := by
  obtain ⟨r, d, rfl⟩ := idx_rows x
  subst hno
  rw [cols6_emb y n hn h r d, hp, slice_apply _ ho]

/-- Gate, then bonus, of one block. -/
def pair2 (g b : FVec Ideal S256x256 .f32) : Vec Ideal S1x256x512 .f32 := fun q => gateBonus (fun c => g (ix2 (q 1) c)) (fun c => b (ix2 (q 1) c)) (q 2)

theorem idx_rows3 (x : S1x256x256.Idx) : ∃ (r c : Fin 256), x = ix3 0 r c := by
  refine ⟨x 1, x 2, ?_⟩
  funext a
  fin_cases a
  · exact Subsingleton.elim (α := Fin 1) _ _
  · rfl
  · rfl

theorem cast3_apply (y : FVec Ideal S256x256 .f32) (r c : Fin 256) : (shapeCast S1x256x256 y shapeCasts_S256x256_S1x256x256 : FVec Ideal S1x256x256 .f32) (ix3 0 r c) = y (ix2 r c) := by
  pointwise

theorem pieceG (g b : FVec Ideal S256x256 .f32) (h) (x : S1x256x256.Idx) :
    (shapeCast S1x256x256 g shapeCasts_S256x256_S1x256x256 : FVec Ideal S1x256x256 .f32) x = pair2 g b ((Rect.unit (s := S1x256x512) ![0, 0, 0] S1x256x256.size h).emb x) := by
  obtain ⟨r, c, rfl⟩ := idx_rows3 x
  have e : (Rect.unit (s := S1x256x512) ![0, 0, 0] S1x256x256.size h).emb (ix3 0 r c) = ix3 0 r (⟨c.val, by omega⟩ : Fin 512) := by
    funext a
    fin_cases a
    · exact Fin.ext (by simp [ix3])
    · exact Fin.ext (by simp [ix3])
    · exact Fin.ext (by simp [ix3])
  rw [e, cast3_apply]
  unfold pair2 gateBonus
  show _ = if h : c.val < 256 then _ else _
  rw [dif_pos c.isLt]
  rfl

theorem pieceB (g b : FVec Ideal S256x256 .f32) (h) (x : S1x256x256.Idx) :
    (shapeCast S1x256x256 b shapeCasts_S256x256_S1x256x256 : FVec Ideal S1x256x256 .f32) x = pair2 g b ((Rect.unit (s := S1x256x512) ![0, 0, 256] S1x256x256.size h).emb x) := by
  obtain ⟨r, c, rfl⟩ := idx_rows3 x
  have e : (Rect.unit (s := S1x256x512) ![0, 0, 256] S1x256x256.size h).emb (ix3 0 r c) = ix3 0 r (⟨256 + c.val, by omega⟩ : Fin 512) := by
    funext a
    fin_cases a
    · exact Fin.ext (by simp [ix3])
    · exact Fin.ext (by simp [ix3])
    · exact Fin.ext (by simp [ix3])
  rw [e, cast3_apply]
  unfold pair2 gateBonus
  show _ = if h : 256 + c.val < 256 then _ else _
  rw [dif_neg (by omega)]
  congr 2
  exact Fin.ext (by simp [ix3])

section outs
variable (i : grid0.Coords) (x0 : Vec Ideal S1x256x896 .f32) (x1 : Vec Ideal S1x8x896 .f32) (x2 : Vec Ideal S1x1x896 .f32) (x3 : Vec Ideal S1x896 .f32)
  (x4 x5 x6 x7 x8 : Vec Ideal S1x256 .f32) (x9 x10 x11 : Vec Ideal S128x256 .bf16) (x12 : Vec Ideal S256x256 .f32)

/-- The six blocks of rows. -/
def ys : Fin 6 → FVec Ideal S256x256 .f32 :=
  ![k0_pay45 i x0 x1 x2 x3 x4 x5 x6 x7 x8 x9 x10 x11 x12, k0_pay50 i x0 x1 x2 x3 x4 x5 x6 x7 x8 x9 x10 x11 x12,
    k0_pay53 i x0 x1 x2 x3 x4 x5 x6 x7 x8 x9 x10 x11 x12, k0_pay47 i x0 x1 x2 x3 x4 x5 x6 x7 x8 x9 x10 x11 x12,
    k0_pay52 i x0 x1 x2 x3 x4 x5 x6 x7 x8 x9 x10 x11 x12, k0_pay54 i x0 x1 x2 x3 x4 x5 x6 x7 x8 x9 x10 x11 x12]

theorem ys_apply (r : Fin 256) (f : Fin 6) (c : Fin 256) : ys i x0 x1 x2 x3 x4 x5 x6 x7 x8 x9 x10 x11 x12 f (ix2 r c) = bSix i x0 x1 x2 x3 x4 x5 x6 x7 x9 x10 x12 r f c := by
  fin_cases f
  · exact p45_apply i x0 x1 x2 x3 x4 x5 x6 x7 x8 x9 x10 x11 x12 r c
  · exact p50_apply i x0 x1 x2 x3 x4 x5 x6 x7 x8 x9 x10 x11 x12 r c
  · exact p53_apply i x0 x1 x2 x3 x4 x5 x6 x7 x8 x9 x10 x11 x12 r c
  · exact p47_apply i x0 x1 x2 x3 x4 x5 x6 x7 x8 x9 x10 x11 x12 r c
  · exact p52_apply i x0 x1 x2 x3 x4 x5 x6 x7 x8 x9 x10 x11 x12 r c
  · exact p54_apply i x0 x1 x2 x3 x4 x5 x6 x7 x8 x9 x10 x11 x12 r c

set_option maxHeartbeats 1000000 in
theorem out13_eq : out0_13 i x0 x1 x2 x3 x4 x5 x6 x7 x8 x9 x10 x11 x12 = cols6 (ys i x0 x1 x2 x3 x4 x5 x6 x7 x8 x9 x10 x11 x12) := by
  unfold out0_13
  funext y
  refine View.canon_apply_of_pieces (Val := Elt Ideal) (cols6 (ys i x0 x1 x2 x3 x4 x5 x6 x7 x8 x9 x10 x11 x12)) _ ?_ y (cover0_13 _ _ _ _ _ _ _ _ _ _ _ _ _ _ _ _ _ _ _ _ _ _ _ _ y)
  simp only [List.forall_mem_cons]
  refine ⟨?_, ?_, ?_, ?_, ?_, ?_, ?_, ?_, ?_, ?_, ?_, ?_, ?_, ?_, ?_, ?_, ?_, ?_, ?_, ?_, ?_, ?_, ?_, ?_, List.forall_mem_nil _⟩
  · exact piece6 _ 23 (by decide) _ _ 192 (by decide) slices_S256x256_o0_192_S256x64 rfl rfl
  · exact piece6 _ 22 (by decide) _ _ 192 (by decide) slices_S256x256_o0_192_S256x64 rfl rfl
  · exact piece6 _ 21 (by decide) _ _ 192 (by decide) slices_S256x256_o0_192_S256x64 rfl rfl
  · exact piece6 _ 20 (by decide) _ _ 192 (by decide) slices_S256x256_o0_192_S256x64 rfl rfl
  · exact piece6 _ 19 (by decide) _ _ 192 (by decide) slices_S256x256_o0_192_S256x64 rfl rfl
  · exact piece6 _ 18 (by decide) _ _ 192 (by decide) slices_S256x256_o0_192_S256x64 rfl rfl
  · exact piece6 _ 17 (by decide) _ _ 128 (by decide) slices_S256x256_o0_128_S256x64 rfl rfl
  · exact piece6 _ 16 (by decide) _ _ 128 (by decide) slices_S256x256_o0_128_S256x64 rfl rfl
  · exact piece6 _ 15 (by decide) _ _ 128 (by decide) slices_S256x256_o0_128_S256x64 rfl rfl
  · exact piece6 _ 14 (by decide) _ _ 128 (by decide) slices_S256x256_o0_128_S256x64 rfl rfl
  · exact piece6 _ 13 (by decide) _ _ 128 (by decide) slices_S256x256_o0_128_S256x64 rfl rfl
  · exact piece6 _ 12 (by decide) _ _ 128 (by decide) slices_S256x256_o0_128_S256x64 rfl rfl
  · exact piece6 _ 11 (by decide) _ _ 64 (by decide) slices_S256x256_o0_64_S256x64 rfl rfl
  · exact piece6 _ 10 (by decide) _ _ 64 (by decide) slices_S256x256_o0_64_S256x64 rfl rfl
  · exact piece6 _ 9 (by decide) _ _ 64 (by decide) slices_S256x256_o0_64_S256x64 rfl rfl
  · exact piece6 _ 8 (by decide) _ _ 64 (by decide) slices_S256x256_o0_64_S256x64 rfl rfl
  · exact piece6 _ 7 (by decide) _ _ 64 (by decide) slices_S256x256_o0_64_S256x64 rfl rfl
  · exact piece6 _ 6 (by decide) _ _ 64 (by decide) slices_S256x256_o0_64_S256x64 rfl rfl
  · exact piece6 _ 5 (by decide) _ _ 0 (by decide) slices_S256x256_o0_0_S256x64 rfl rfl
  · exact piece6 _ 4 (by decide) _ _ 0 (by decide) slices_S256x256_o0_0_S256x64 rfl rfl
  · exact piece6 _ 3 (by decide) _ _ 0 (by decide) slices_S256x256_o0_0_S256x64 rfl rfl
  · exact piece6 _ 2 (by decide) _ _ 0 (by decide) slices_S256x256_o0_0_S256x64 rfl rfl
  · exact piece6 _ 1 (by decide) _ _ 0 (by decide) slices_S256x256_o0_0_S256x64 rfl rfl
  · exact piece6 _ 0 (by decide) _ _ 0 (by decide) slices_S256x256_o0_0_S256x64 rfl rfl

theorem out13_apply (r : Fin 256) (j : Fin 1536) :
    out0_13 i x0 x1 x2 x3 x4 x5 x6 x7 x8 x9 x10 x11 x12 (ix2 r j) = sixCol (bSix i x0 x1 x2 x3 x4 x5 x6 x7 x9 x10 x12 r) j := by
  rw [out13_eq]
  show sixCol (fun f c => ys i x0 x1 x2 x3 x4 x5 x6 x7 x8 x9 x10 x11 x12 f (ix2 r c)) j = _
  congr 1
  funext f c
  exact ys_apply i x0 x1 x2 x3 x4 x5 x6 x7 x8 x9 x10 x11 x12 r f c

/-- The gate's block and the bonus's. -/
def gBlk : FVec Ideal S256x256 .f32 := k0_pay15 (k0_pay13 (k0_pay48 i x0 x1 x2 x3 x4 x5 x6 x7 x8 x9 x10 x11 x12)) (k0_pay14 (F := Ideal)) (View.ld x11 r0_6)
def nBlk : FVec Ideal S256x256 .f32 :=
  k0_pay19 (k0_pay47 i x0 x1 x2 x3 x4 x5 x6 x7 x8 x9 x10 x11 x12)
      (k0_pay18 (k0_pay45 i x0 x1 x2 x3 x4 x5 x6 x7 x8 x9 x10 x11 x12) (k0_pay46 i x0 x1 x2 x3 x4 x5 x6 x7 x8 x9 x10 x11 x12)
        (k0_pay49 i x0 x1 x2 x3 x4 x5 x6 x7 x8 x9 x10 x11 x12) (k0_pay51 i x0 x1 x2 x3 x4 x5 x6 x7 x8 x9 x10 x11 x12) (View.ld x7 r0_5) (View.ld x8 r0_5))

theorem out14_eq : out0_14 i x0 x1 x2 x3 x4 x5 x6 x7 x8 x9 x10 x11 x12
    = pair2 (gBlk i x0 x1 x2 x3 x4 x5 x6 x7 x8 x9 x10 x11 x12) (nBlk i x0 x1 x2 x3 x4 x5 x6 x7 x8 x9 x10 x11 x12) := by
  unfold out0_14
  funext y
  refine View.canon_apply_of_pieces (Val := Elt Ideal) (pair2 (gBlk i x0 x1 x2 x3 x4 x5 x6 x7 x8 x9 x10 x11 x12) (nBlk i x0 x1 x2 x3 x4 x5 x6 x7 x8 x9 x10 x11 x12)) _ ?_ y (cover0_14 _ _ y)
  simp only [List.forall_mem_cons]
  refine ⟨?_, ?_, List.forall_mem_nil _⟩
  · exact pieceB _ (nBlk i x0 x1 x2 x3 x4 x5 x6 x7 x8 x9 x10 x11 x12) _
  · exact pieceG (gBlk i x0 x1 x2 x3 x4 x5 x6 x7 x8 x9 x10 x11 x12) _ _

theorem out14_apply (r : Fin 256) (j : Fin 512) :
    out0_14 i x0 x1 x2 x3 x4 x5 x6 x7 x8 x9 x10 x11 x12 (ix3 0 r j)
      = gateBonus (bGate i x0 x1 x2 x3 x11 r)
          (bonusB (bZ i x0 x1 x2 x3 r) (bRate i x0 x1 x2 x3 x5 x10 r) (fun c => x7 (ix2 0 c)) (fun c => x8 (ix2 0 c)) (fun k c => x12 (ix2 k c))) j := by
  rw [out14_eq]
  show gateBonus (fun c => gBlk i x0 x1 x2 x3 x4 x5 x6 x7 x8 x9 x10 x11 x12 (ix2 r c)) (fun c => nBlk i x0 x1 x2 x3 x4 x5 x6 x7 x8 x9 x10 x11 x12 (ix2 r c)) j = _
  congr 1
  · funext c
    exact gate_apply i x0 x1 x2 x3 x4 x5 x6 x7 x8 x9 x10 x11 x12 r c
  · funext c
    exact bonus_apply i x0 x1 x2 x3 x4 x5 x6 x7 x8 x9 x10 x11 x12 r c

end outs

end Cert.KernelPreIdeal.Dense

end
-- ==== Proof.PreHost.lean ====
/- The operands the call before the recurrence reads that are made of the arguments beforehand: the vectors as rows, the
   low-rank matrices in their rows of 128, and the matrix of ones in the heads' blocks. -/
module

public import proofs.«01_k».proof.Proof.PreSpec
public import proofs.«01_k».proof.Proof.Gen.KernelPreIdeal.Frame
public import Idealize.ShloMosaic.Lib.StableHlo.ReadAt
public import Idealize.ShloMosaic.Lib.Pipeline.ValueKit

@[expose] public section

set_option maxRecDepth 16384

noncomputable section

namespace Cert.KernelPreIdeal.Dense

open Idealize.ShloMosaic Cert.KernelPreIdeal Cert.KernelPreIdeal.Gen Idealize.ShloMosaic.TcCoe Idealize.SL.Sem Cert.DenseSpec

variable (m : (ℓ : Loc nD τ sig) → Buf (Elt Ideal) ℓ)

theorem v0_apply (c : Dev nD) (k : Fin 896) : (V m c main_v0 : Vec Ideal S1x896 .f32) (ix2 0 k) = (m ((c : Thread nD τ).loc main_arg2) : Vec Ideal S896 .f32) (ix1 k) := by
  unfold V
  simp only [hostOps0, List.flatten_cons, List.flatten_nil, List.append_nil, List.cons_append, List.nil_append]
  after_reads_at
theorem v1_apply (c : Dev nD) (k : Fin 256) : (V m c main_v1 : Vec Ideal S1x256 .f32) (ix2 0 k) = (m ((c : Thread nD τ).loc main_arg3) : Vec Ideal S256 .f32) (ix1 k) := by
  unfold V
  simp only [hostOps0, List.flatten_cons, List.flatten_nil, List.append_nil, List.cons_append, List.nil_append]
  after_reads_at
theorem v2_apply (c : Dev nD) (k : Fin 256) : (V m c main_v2 : Vec Ideal S1x256 .f32) (ix2 0 k) = (m ((c : Thread nD τ).loc main_arg5) : Vec Ideal S256 .f32) (ix1 k) := by
  unfold V
  simp only [hostOps0, List.flatten_cons, List.flatten_nil, List.append_nil, List.cons_append, List.nil_append]
  after_reads_at
theorem v3_apply (c : Dev nD) (k : Fin 256) : (V m c main_v3 : Vec Ideal S1x256 .f32) (ix2 0 k) = (m ((c : Thread nD τ).loc main_arg8) : Vec Ideal S256 .f32) (ix1 k) := by
  unfold V
  simp only [hostOps0, List.flatten_cons, List.flatten_nil, List.append_nil, List.cons_append, List.nil_append]
  after_reads_at
theorem v4_apply (c : Dev nD) (k : Fin 256) : (V m c main_v4 : Vec Ideal S1x256 .f32) (ix2 0 k) = (m ((c : Thread nD τ).loc main_arg9) : Vec Ideal S256 .f32) (ix1 k) := by
  unfold V
  simp only [hostOps0, List.flatten_cons, List.flatten_nil, List.append_nil, List.cons_append, List.nil_append]
  after_reads_at
theorem v5_apply (c : Dev nD) (k : Fin 256) : (V m c main_v5 : Vec Ideal S1x256 .f32) (ix2 0 k) = (m ((c : Thread nD τ).loc main_arg10) : Vec Ideal S4x64 .f32) (ix2 ⟨k.val / 64, by omega⟩ ⟨k.val % 64, by omega⟩) := by
  unfold V
  simp only [hostOps0, List.flatten_cons, List.flatten_nil, List.append_nil, List.cons_append, List.nil_append]
  after_reads_at
theorem zero_pad : (FloatOps.sitofp (F := Ideal) .f32 (0#32 : BitVec 32) : EReal) = 0 := by
  show (((0#32 : BitVec 32).toInt : ℝ) : EReal) = 0
  simp

theorem v7_apply (c : Dev nD) (k : Fin 128) (j : Fin 256) : (V m c main_v7 : Vec Ideal S128x256 .bf16) (ix2 k j)
    = padRows 0 (fun k j => (m ((c : Thread nD τ).loc main_arg4) : Vec Ideal S32x256 .f32) (ix2 k j)) k j := by
  unfold padRows V
  simp only [hostOps0, List.flatten_cons, List.flatten_nil, List.append_nil, List.cons_append, List.nil_append]
  after_reads_at
  rw [zero_pad]
theorem v9_apply (c : Dev nD) (k : Fin 128) (j : Fin 256) : (V m c main_v9 : Vec Ideal S128x256 .bf16) (ix2 k j)
    = padRows 32 (fun k j => (m ((c : Thread nD τ).loc main_arg6) : Vec Ideal S32x256 .f32) (ix2 k j)) k j := by
  unfold padRows V
  simp only [hostOps0, List.flatten_cons, List.flatten_nil, List.append_nil, List.cons_append, List.nil_append]
  after_reads_at
  rw [zero_pad]
  split <;> split <;> first
    | (exfalso; omega)
    | rfl
theorem v11_apply (c : Dev nD) (k : Fin 128) (j : Fin 256) : (V m c main_v11 : Vec Ideal S128x256 .bf16) (ix2 k j)
    = padRows 64 (fun k j => (m ((c : Thread nD τ).loc main_arg7) : Vec Ideal S32x256 .f32) (ix2 k j)) k j := by
  unfold padRows V
  simp only [hostOps0, List.flatten_cons, List.flatten_nil, List.append_nil, List.cons_append, List.nil_append]
  after_reads_at
  rw [zero_pad]
  split <;> split <;> first
    | (exfalso; omega)
    | rfl

theorem word_div : ∀ k : Fin 256, IntOp.divsi ArithUnit.host (BitVec.ofNat 32 k.val) 64#32 = BitVec.ofNat 32 (k.val / 64) := by decide +kernel

theorem v20_apply (c : Dev nD) (k j : Fin 256) : (V m c main_v20 : Vec Ideal S256x256 .f32) (ix2 k j) = ones k j := by
  unfold V
  simp only [hostOps0, List.flatten_cons, List.flatten_nil, List.append_nil, List.cons_append, List.nil_append]
  after_reads_at
  rw [word_div k, word_div j]
  have q : ∀ a b : Fin 4, (FloatOps.uitofp (F := Ideal) .f32 (IntOp.cmpi .eq (BitVec.ofNat 32 a.val) (BitVec.ofNat 32 b.val)) : EReal) = if a = b then 1 else 0 := by
    intro a b
    have w : IntOp.cmpi .eq (BitVec.ofNat 32 a.val) (BitVec.ofNat 32 b.val) = if a = b then 1#1 else 0#1 := by revert a b; decide
    rw [w]
    split
    · show (((1#1 : BitVec 1).toNat : ℝ) : EReal) = 1
      norm_num
    · show (((0#1 : BitVec 1).toNat : ℝ) : EReal) = 0
      norm_num
  rw [show (BitVec.ofNat 32 (k.val / 64)) = BitVec.ofNat 32 (⟨k.val / 64, by omega⟩ : Fin 4).val from rfl,
    show (BitVec.ofNat 32 (j.val / 64)) = BitVec.ofNat 32 (⟨j.val / 64, by omega⟩ : Fin 4).val from rfl, q]
  unfold ones
  simp only [Fin.mk.injEq]

end Cert.KernelPreIdeal.Dense

end
-- ==== Proof.PreArray.lean ====
/- The two result arrays of the call before the recurrence: the blocks its grid points leave, put together, in terms of the arguments. -/
module

public import proofs.«01_k».proof.Proof.PreBlock
public import proofs.«01_k».proof.Proof.PreHost
public import proofs.«01_k».proof.Proof.Gen.KernelPreIdeal.Value

@[expose] public section

set_option maxRecDepth 16384

noncomputable section

namespace Cert.KernelPreIdeal.Dense

open Idealize.ShloMosaic Cert.KernelPreIdeal Cert.KernelPreIdeal.Gen Idealize.ShloMosaic.TcCoe Idealize.SL.Sem Cert.DenseSpec

variable (m : (ℓ : Loc nD τ sig) → Buf (Elt Ideal) ℓ)

/-- The block each window takes at a grid point. -/
theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, 32 * (grid0.coords t 1).val - 1, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![(grid0.coords t 1).val, (grid0.coords t 0).val] := (by decide +kernel : ∀ t : Fin grid0.N, _)
theorem idx14 : ∀ t : Fin cfg0.N, win0_14.index t = ![(grid0.coords t 0).val, (grid0.coords t 1).val, 0] := (by decide +kernel : ∀ t : Fin grid0.N, _)

/-- The grid point's row of the batch and its stretch of time; a time of its block, and the columns of its block in the first result. -/
abbrev pb (t : Fin cfg0.N) : Fin 32 := grid0.coords t 0
abbrev pt (t : Fin cfg0.N) : Fin 8 := grid0.coords t 1
abbrev timeOf (p : Fin 8) (r : Fin 256) : Fin 2048 := ⟨256 * p.val + r.val, by omega⟩
abbrev colOf (b : Fin 32) (j : Fin 1536) : Fin 49152 := ⟨1536 * b.val + j.val, by omega⟩

/-- The arguments by their coordinates. -/
abbrev zrA (c : Dev nD) (b : Fin 32) (t : Fin 2048) (j : Fin 896) : EReal := (m ((c : Thread nD τ).loc main_arg0) : Vec Ideal S32x2048x896 .f32) (ix3 b t j)
abbrev prA (c : Dev nD) (b : Fin 32) (j : Fin 896) : EReal := (m ((c : Thread nD τ).loc main_arg1) : Vec Ideal S32x1x896 .f32) (ix3 b 0 j)
abbrev muA (c : Dev nD) (j : Fin 896) : EReal := (m ((c : Thread nD τ).loc main_arg2) : Vec Ideal S896 .f32) (ix1 j)
abbrev w0A (c : Dev nD) (j : Fin 256) : EReal := (m ((c : Thread nD τ).loc main_arg3) : Vec Ideal S256 .f32) (ix1 j)
abbrev wuA (c : Dev nD) (k : Fin 32) (j : Fin 256) : EReal := (m ((c : Thread nD τ).loc main_arg4) : Vec Ideal S32x256 .f32) (ix2 k j)
abbrev a0A (c : Dev nD) (j : Fin 256) : EReal := (m ((c : Thread nD τ).loc main_arg5) : Vec Ideal S256 .f32) (ix1 j)
abbrev auA (c : Dev nD) (k : Fin 32) (j : Fin 256) : EReal := (m ((c : Thread nD τ).loc main_arg6) : Vec Ideal S32x256 .f32) (ix2 k j)
abbrev guA (c : Dev nD) (k : Fin 32) (j : Fin 256) : EReal := (m ((c : Thread nD τ).loc main_arg7) : Vec Ideal S32x256 .f32) (ix2 k j)
abbrev kkA (c : Dev nD) (j : Fin 256) : EReal := (m ((c : Thread nD τ).loc main_arg8) : Vec Ideal S256 .f32) (ix1 j)
abbrev kaA (c : Dev nD) (j : Fin 256) : EReal := (m ((c : Thread nD τ).loc main_arg9) : Vec Ideal S256 .f32) (ix1 j)
abbrev rkA (c : Dev nD) (j : Fin 256) : EReal := (m ((c : Thread nD τ).loc main_arg10) : Vec Ideal S4x64 .f32) (ix2 ⟨j.val / 64, by omega⟩ ⟨j.val % 64, by omega⟩)

theorem in0 (c : Dev nD) (t : Fin cfg0.N) (r : Fin 256) (j : Fin 896) : (iblk m c 0 t : Vec Ideal S1x256x896 .f32) (ix3 0 r j) = zrA m c (pb t) (timeOf (pt t) r) j := by
  have h : (iblk m c 0 t : Vec Ideal S1x256x896 .f32) (ix3 0 r j) = (V m c main_arg0 : Vec Ideal S32x2048x896 .f32) (ix3 (pb t) (timeOf (pt t) r) j) := by
    blk_ext [iblk, idx0 t, pb, pt, timeOf, Nat.mul_comm]
  rw [h, V_main_arg0]
theorem in1 (c : Dev nD) (t : Fin cfg0.N) (ht : (pt t).val ≠ 0) (j : Fin 896) :
    (iblk m c 1 t : Vec Ideal S1x8x896 .f32) (ix3 0 7 j) = zrA m c (pb t) ⟨256 * (pt t).val - 1, by have := (pt t).isLt; omega⟩ j := by
  have h : (iblk m c 1 t : Vec Ideal S1x8x896 .f32) (ix3 0 7 j)
      = (V m c main_arg0 : Vec Ideal S32x2048x896 .f32) (ix3 (pb t) (⟨256 * (pt t).val - 1, by have := (pt t).isLt; omega⟩ : Fin 2048) j) := by
    unfold pt at ht
    blk_ext [iblk, idx1 t, pb, pt, Nat.mul_comm]
  rw [h, V_main_arg0]
theorem in2 (c : Dev nD) (t : Fin cfg0.N) (j : Fin 896) : (iblk m c 2 t : Vec Ideal S1x1x896 .f32) (ix3 0 0 j) = prA m c (pb t) j := by
  have h : (iblk m c 2 t : Vec Ideal S1x1x896 .f32) (ix3 0 0 j) = (V m c main_arg1 : Vec Ideal S32x1x896 .f32) (ix3 (pb t) 0 j) := by
    blk_ext [iblk, idx2 t, pb, Nat.mul_comm]
  rw [h, V_main_arg1]
theorem iblk3 (c : Dev nD) (t : Fin cfg0.N) (j : Fin 896) : (iblk m c 3 t : Vec Ideal S1x896 .f32) (ix2 0 j) = (V m c main_v0 : Vec Ideal S1x896 .f32) (ix2 0 j) := by
  blk_ext [iblk, idx3 t]
theorem in3 (c : Dev nD) (t : Fin cfg0.N) (j : Fin 896) : (iblk m c 3 t : Vec Ideal S1x896 .f32) (ix2 0 j) = muA m c j := by
  rw [iblk3, v0_apply]
theorem iblk4 (c : Dev nD) (t : Fin cfg0.N) (j : Fin 256) : (iblk m c 4 t : Vec Ideal S1x256 .f32) (ix2 0 j) = (V m c main_v1 : Vec Ideal S1x256 .f32) (ix2 0 j) := by
  blk_ext [iblk, idx4 t]
theorem in4 (c : Dev nD) (t : Fin cfg0.N) (j : Fin 256) : (iblk m c 4 t : Vec Ideal S1x256 .f32) (ix2 0 j) = w0A m c j := by
  rw [iblk4, v1_apply]
theorem iblk5 (c : Dev nD) (t : Fin cfg0.N) (j : Fin 256) : (iblk m c 5 t : Vec Ideal S1x256 .f32) (ix2 0 j) = (V m c main_v2 : Vec Ideal S1x256 .f32) (ix2 0 j) := by
  blk_ext [iblk, idx5 t]
theorem in5 (c : Dev nD) (t : Fin cfg0.N) (j : Fin 256) : (iblk m c 5 t : Vec Ideal S1x256 .f32) (ix2 0 j) = a0A m c j := by
  rw [iblk5, v2_apply]
theorem iblk6 (c : Dev nD) (t : Fin cfg0.N) (j : Fin 256) : (iblk m c 6 t : Vec Ideal S1x256 .f32) (ix2 0 j) = (V m c main_v3 : Vec Ideal S1x256 .f32) (ix2 0 j) := by
  blk_ext [iblk, idx6 t]
theorem in6 (c : Dev nD) (t : Fin cfg0.N) (j : Fin 256) : (iblk m c 6 t : Vec Ideal S1x256 .f32) (ix2 0 j) = kkA m c j := by
  rw [iblk6, v3_apply]
theorem iblk7 (c : Dev nD) (t : Fin cfg0.N) (j : Fin 256) : (iblk m c 7 t : Vec Ideal S1x256 .f32) (ix2 0 j) = (V m c main_v4 : Vec Ideal S1x256 .f32) (ix2 0 j) := by
  blk_ext [iblk, idx7 t]
theorem in7 (c : Dev nD) (t : Fin cfg0.N) (j : Fin 256) : (iblk m c 7 t : Vec Ideal S1x256 .f32) (ix2 0 j) = kaA m c j := by
  rw [iblk7, v4_apply]
theorem iblk8 (c : Dev nD) (t : Fin cfg0.N) (j : Fin 256) : (iblk m c 8 t : Vec Ideal S1x256 .f32) (ix2 0 j) = (V m c main_v5 : Vec Ideal S1x256 .f32) (ix2 0 j) := by
  blk_ext [iblk, idx8 t]
theorem in8 (c : Dev nD) (t : Fin cfg0.N) (j : Fin 256) : (iblk m c 8 t : Vec Ideal S1x256 .f32) (ix2 0 j) = rkA m c j := by
  rw [iblk8, v5_apply]
theorem iblk9 (c : Dev nD) (t : Fin cfg0.N) (k : Fin 128) (j : Fin 256) : (iblk m c 9 t : Vec Ideal S128x256 .bf16) (ix2 k j) = (V m c main_v7 : Vec Ideal S128x256 .bf16) (ix2 k j) := by
  blk_ext [iblk, idx9 t]
theorem in9 (c : Dev nD) (t : Fin cfg0.N) : (fun k j => (iblk m c 9 t : Vec Ideal S128x256 .bf16) (ix2 k j)) = padRows 0 (wuA m c) := by
  funext k j
  rw [iblk9, v7_apply]
theorem iblk10 (c : Dev nD) (t : Fin cfg0.N) (k : Fin 128) (j : Fin 256) : (iblk m c 10 t : Vec Ideal S128x256 .bf16) (ix2 k j) = (V m c main_v9 : Vec Ideal S128x256 .bf16) (ix2 k j) := by
  blk_ext [iblk, idx10 t]
theorem in10 (c : Dev nD) (t : Fin cfg0.N) : (fun k j => (iblk m c 10 t : Vec Ideal S128x256 .bf16) (ix2 k j)) = padRows 32 (auA m c) := by
  funext k j
  rw [iblk10, v9_apply]
theorem iblk11 (c : Dev nD) (t : Fin cfg0.N) (k : Fin 128) (j : Fin 256) : (iblk m c 11 t : Vec Ideal S128x256 .bf16) (ix2 k j) = (V m c main_v11 : Vec Ideal S128x256 .bf16) (ix2 k j) := by
  blk_ext [iblk, idx11 t]
theorem in11 (c : Dev nD) (t : Fin cfg0.N) : (fun k j => (iblk m c 11 t : Vec Ideal S128x256 .bf16) (ix2 k j)) = padRows 64 (guA m c) := by
  funext k j
  rw [iblk11, v11_apply]
theorem iblk12 (c : Dev nD) (t : Fin cfg0.N) (k j : Fin 256) : (iblk m c 12 t : Vec Ideal S256x256 .f32) (ix2 k j) = (V m c main_v20 : Vec Ideal S256x256 .f32) (ix2 k j) := by
  blk_ext [iblk, idx12 t]
theorem in12 (c : Dev nD) (t : Fin cfg0.N) : (fun k j => (iblk m c 12 t : Vec Ideal S256x256 .f32) (ix2 k j)) = ones := by
  funext k j
  rw [iblk12, v20_apply]

/-- The row before; the mixed row; the rates; the six rows. -/
def kPrev (c : Dev nD) (b : Fin 32) (t : Fin 2048) (j : Fin 896) : EReal := if t.val = 0 then prA m c b j else zrA m c b ⟨t.val - 1, by omega⟩ j
def kZ (c : Dev nD) (b : Fin 32) (t : Fin 2048) : Fin 896 → EReal := lerp (zrA m c b t) (kPrev m c b t) (muA m c)
def kRate (c : Dev nD) (b : Fin 32) (t : Fin 2048) : Fin 256 → EReal := rateRow (kZ m c b t) (a0A m c) (auA m c)
def kSix (c : Dev nD) (b : Fin 32) (t : Fin 2048) : Fin 6 → Fin 256 → EReal :=
  six (recept (kZ m c b t)) (decayRow (kZ m c b t) (w0A m c) (wuA m c)) (keyA (kZ m c b t) (kRate m c b t) (kaA m c))
    (value (kZ m c b t)) (keyN (kZ m c b t) (kkA m c)) (fun j => keyN (kZ m c b t) (kkA m c) j * kRate m c b t j)

/-- The arguments of the row sums are made of real numbers. -/
structure Finite (c : Dev nD) : Prop where
  zr : ∀ b t j, ∃ x : ℝ, zrA m c b t j = x
  pr : ∀ b j, ∃ x : ℝ, prA m c b j = x
  mu : ∀ j, ∃ x : ℝ, muA m c j = x
  kk : ∀ j, ∃ x : ℝ, kkA m c j = x
  ka : ∀ j, ∃ x : ℝ, kaA m c j = x
  rk : ∀ j, ∃ x : ℝ, rkA m c j = x

theorem kZ_real (c : Dev nD) (hx : Finite m c) (b : Fin 32) (t : Fin 2048) (j : Fin 896) : ∃ x : ℝ, kZ m c b t j = x := by
  refine lerp_real _ _ _ (hx.zr b t) (fun j => ?_) hx.mu j
  unfold kPrev
  split
  · exact hx.pr b j
  · exact hx.zr b _ j
theorem kRate_real (c : Dev nD) (b : Fin 32) (t : Fin 2048) (j : Fin 256) : ∃ x : ℝ, kRate m c b t j = x := sigm_real _

theorem prev_point (c : Dev nD) (t : Fin cfg0.N) (r : Fin 256) (j : Fin 896) :
    bPrev (grid0.coords t) (iblk m c 0 t) (iblk m c 1 t) (iblk m c 2 t) r j = kPrev m c (pb t) (timeOf (pt t) r) j := by
  have hp : (grid0.coords t 1).val < 8 := (grid0.coords t 1).isLt
  unfold bPrev kPrev
  by_cases hr : r.val = 0
  · rw [if_pos hr]
    by_cases ht : (pt t).val = 0
    · rw [if_pos ht, if_pos (show 256 * (pt t).val + r.val = 0 by omega), in2]
    · rw [if_neg ht, if_neg (show ¬ 256 * (pt t).val + r.val = 0 by omega), in1 m c t ht]
      congr 2
      dsimp only; omega
  · rw [if_neg hr, if_neg (show ¬ 256 * (pt t).val + r.val = 0 by omega), in0]
    congr 2
    exact Fin.ext (by dsimp only; omega)

theorem z_point (c : Dev nD) (t : Fin cfg0.N) (r : Fin 256) :
    bZ (grid0.coords t) (iblk m c 0 t) (iblk m c 1 t) (iblk m c 2 t) (iblk m c 3 t) r = kZ m c (pb t) (timeOf (pt t) r) := by
  have h := funext (prev_point m c t r)
  unfold bZ kZ
  rw [h]
  simp only [in0, in3]

theorem decay_point (c : Dev nD) (t : Fin cfg0.N) (r : Fin 256) :
    bDecay (grid0.coords t) (iblk m c 0 t) (iblk m c 1 t) (iblk m c 2 t) (iblk m c 3 t) (iblk m c 4 t) (iblk m c 9 t) r
      = decayRow (kZ m c (pb t) (timeOf (pt t) r)) (w0A m c) (wuA m c) := by
  funext j
  unfold bDecay decayRow
  rw [z_point, in4, in9, dot_padRows 0 (by decide)]
  simp only [Nat.zero_add]
theorem rate_point (c : Dev nD) (t : Fin cfg0.N) (r : Fin 256) :
    bRate (grid0.coords t) (iblk m c 0 t) (iblk m c 1 t) (iblk m c 2 t) (iblk m c 3 t) (iblk m c 5 t) (iblk m c 10 t) r
      = kRate m c (pb t) (timeOf (pt t) r) := by
  funext j
  unfold bRate kRate rateRow
  rw [z_point, in5, in10, dot_padRows 32 (by decide)]
  simp only [← Nat.add_assoc, Nat.reduceAdd]
theorem gate_point (c : Dev nD) (t : Fin cfg0.N) (r : Fin 256) :
    bGate (grid0.coords t) (iblk m c 0 t) (iblk m c 1 t) (iblk m c 2 t) (iblk m c 3 t) (iblk m c 11 t) r
      = gateRow (kZ m c (pb t) (timeOf (pt t) r)) (guA m c) := by
  funext j
  unfold bGate gateRow
  rw [z_point, in11, dot_padRows 64 (by decide)]
  simp only [← Nat.add_assoc, Nat.reduceAdd]

theorem six_point (c : Dev nD) (hx : Finite m c) (t : Fin cfg0.N) (r : Fin 256) :
    bSix (grid0.coords t) (iblk m c 0 t) (iblk m c 1 t) (iblk m c 2 t) (iblk m c 3 t) (iblk m c 4 t) (iblk m c 5 t) (iblk m c 6 t) (iblk m c 7 t)
      (iblk m c 9 t) (iblk m c 10 t) (iblk m c 12 t) r = kSix m c (pb t) (timeOf (pt t) r) := by
  have hn : keyNB (kZ m c (pb t) (timeOf (pt t) r)) (kkA m c) ones = keyN (kZ m c (pb t) (timeOf (pt t) r)) (kkA m c) :=
    funext fun j => keyN_eq _ _ (kZ_real m c hx _ _) hx.kk j
  have h6 : (fun j => (iblk m c 6 t : Vec Ideal S1x256 .f32) (ix2 0 j)) = kkA m c := funext fun j => in6 m c t j
  have h7 : (fun j => (iblk m c 7 t : Vec Ideal S1x256 .f32) (ix2 0 j)) = kaA m c := funext fun j => in7 m c t j
  unfold bSix kSix
  rw [z_point, decay_point, rate_point, in12, h6, h7, hn]

theorem bonus_point (c : Dev nD) (hx : Finite m c) (t : Fin cfg0.N) (r : Fin 256) :
    bonusB (bZ (grid0.coords t) (iblk m c 0 t) (iblk m c 1 t) (iblk m c 2 t) (iblk m c 3 t) r)
      (bRate (grid0.coords t) (iblk m c 0 t) (iblk m c 1 t) (iblk m c 2 t) (iblk m c 3 t) (iblk m c 5 t) (iblk m c 10 t) r)
      (fun j => (iblk m c 7 t : Vec Ideal S1x256 .f32) (ix2 0 j)) (fun j => (iblk m c 8 t : Vec Ideal S1x256 .f32) (ix2 0 j))
      (fun k j => (iblk m c 12 t : Vec Ideal S256x256 .f32) (ix2 k j))
      = bonus (kZ m c (pb t) (timeOf (pt t) r)) (kRate m c (pb t) (timeOf (pt t) r)) (kaA m c) (rkA m c) := by
  have h7 : (fun j => (iblk m c 7 t : Vec Ideal S1x256 .f32) (ix2 0 j)) = kaA m c := funext fun j => in7 m c t j
  have h8 : (fun j => (iblk m c 8 t : Vec Ideal S1x256 .f32) (ix2 0 j)) = rkA m c := funext fun j => in8 m c t j
  rw [z_point, rate_point, in12, h7, h8]
  exact funext fun j => bonus_eq _ _ _ _ (kZ_real m c hx _ _) (kRate_real m c _ _) hx.ka hx.rk j

/-- The results as arrays. -/
def res13 (c : Dev nD) : FVec Ideal S2048x49152 .f32 := fun i => sixCol (kSix m c ⟨(i 1).val / 1536, by have : (i 1).val < 49152 := (i 1).isLt; omega⟩ (i 0)) ⟨(i 1).val % 1536, by omega⟩
def res14 (c : Dev nD) : FVec Ideal S32x2048x512 .f32 := fun i =>
  gateBonus (gateRow (kZ m c (i 0) (i 1)) (guA m c)) (bonus (kZ m c (i 0) (i 1)) (kRate m c (i 0) (i 1)) (kaA m c) (rkA m c)) (i 2)

theorem arr13 (c : Dev nD) (hx : Finite m c) : (dats m 0 c).arrAt 13 cfg0.N = res13 m c := by
  refine (dats m 0 c).arrAt_eq_of_covers 13 _ (by decide +kernel) fun t hf y => ?_
  blk_simp
  rw [after0_13]
  obtain ⟨r, j, rfl⟩ : ∃ (r : Fin 256) (j : Fin 1536), y = ix2 r j := ⟨y 0, y 1, by funext a; fin_cases a <;> rfl⟩
  have e : ((cfg0.win 13).blk t).view.emb (ix2 r j) = ix2 (timeOf (pt t) r) (colOf (pb t) j) := by
    blk_ext [idx13 t, pb, pt, timeOf, colOf, Nat.mul_comm]
  refine Eq.trans ?_ (congrArg (res13 m c) e.symm)
  rw [out13_apply, six_point m c hx]
  have hb : pb t = (⟨(colOf (pb t) j).val / 1536, by omega⟩ : Fin 32) := Fin.ext (by dsimp only; omega)
  have hj : j = (⟨(colOf (pb t) j).val % 1536, by omega⟩ : Fin 1536) := Fin.ext (by dsimp only; omega)
  show _ = sixCol (kSix m c ⟨(colOf (pb t) j).val / 1536, _⟩ (timeOf (pt t) r)) ⟨(colOf (pb t) j).val % 1536, _⟩
  rw [← hb, ← hj]

theorem arr14 (c : Dev nD) (hx : Finite m c) : (dats m 0 c).arrAt 14 cfg0.N = res14 m c := by
  refine (dats m 0 c).arrAt_eq_of_covers 14 _ (by decide +kernel) fun t hf y => ?_
  blk_simp
  rw [after0_14]
  obtain ⟨r, j, rfl⟩ : ∃ (r : Fin 256) (j : Fin 512), y = ix3 0 r j := ⟨y 1, y 2, by
    funext a
    fin_cases a
    · exact Subsingleton.elim (α := Fin 1) _ _
    · rfl
    · rfl⟩
  have e : ((cfg0.win 14).blk t).view.emb (ix3 0 r j) = ix3 (pb t) (timeOf (pt t) r) j := by
    blk_ext [idx14 t, pb, pt, timeOf, Nat.mul_comm]
  refine Eq.trans ?_ (congrArg (res14 m c) e.symm)
  rw [out14_apply, bonus_point m c hx, gate_point]
  rfl

end Cert.KernelPreIdeal.Dense

end
-- ==== Proof.PreRef.lean ====
/- The reference's results of the call before the recurrence at an index, in terms of its arguments. -/
module

public import proofs.«01_k».proof.Proof.PreSpec
public import proofs.«01_k».proof.Proof.Gen.ReferencePreIdeal.Read

@[expose] public section

set_option maxRecDepth 16384

noncomputable section

namespace Cert.ReferencePreIdeal.Dense

open Idealize.ShloMosaic Cert.ReferencePreIdeal Cert.ReferencePreIdeal.Gen Cert.ReferencePreIdeal.Read Cert.DenseSpec

variable (x0 : FVec Ideal S32x2048x896 .f32) (x1 : FVec Ideal S32x1x896 .f32) (x2 : FVec Ideal S896 .f32) (x3 : FVec Ideal S256 .f32) (x4 : FVec Ideal S32x256 .f32)
  (x5 : FVec Ideal S256 .f32) (x6 x7 : FVec Ideal S32x256 .f32) (x8 x9 : FVec Ideal S256 .f32) (x10 : FVec Ideal S4x64 .f32)

/-- The row before, and the mixed row. -/
def rPrev (b : Fin 32) (t : Fin 2048) (j : Fin 896) : EReal := if t.val = 0 then x1 (ix3 b 0 j) else x0 (ix3 b ⟨t.val - 1, by omega⟩ j)
def rZ (b : Fin 32) (t : Fin 2048) : Fin 896 → EReal := lerp (fun j => x0 (ix3 b t j)) (rPrev x0 x1 b t) (fun j => x2 (ix1 j))

theorem v1_apply (b : Fin 32) (t : Fin 2048) (j : Fin 896) : val_main_v1 (F := Ideal) x0 x1 (ix3 b t j) = rPrev x0 x1 b t j := by
  unfold rPrev
  pointwise [val_main_v1, val_main_v0]
  have q : ∀ h : t.val < 1, (⟨t.val, h⟩ : Fin 1) = 0 := fun h => Subsingleton.elim _ _
  repeat' split
  all_goals first
    | (exfalso; omega)
    | rfl
    | rw [q]

theorem v6_apply (b : Fin 32) (t : Fin 2048) (j : Fin 896) : val_main_v6 (F := Ideal) x0 x1 x2 (ix3 b t j) = rZ x0 x1 x2 b t j := by
  have h := v1_apply x0 x1
  unfold val_main_v6 val_main_v5 val_main_v2
  generalize val_main_v1 (F := Ideal) x0 x1 = y at h
  unfold rZ lerp
  simp only [← h]
  pointwise [val_main_v4, val_main_v3]

theorem v7_apply (b : Fin 32) (t : Fin 2048) (c : Fin 256) : val_main_v7 (F := Ideal) x0 x1 x2 (ix3 b t c) = recept (rZ x0 x1 x2 b t) c := by
  have h := v6_apply x0 x1 x2
  unfold val_main_v7
  generalize val_main_v6 (F := Ideal) x0 x1 x2 = y at h
  simp only [← h]
  pointwise
theorem v8_apply (b : Fin 32) (t : Fin 2048) (c : Fin 256) : val_main_v8 (F := Ideal) x0 x1 x2 (ix3 b t c) = key (rZ x0 x1 x2 b t) c := by
  have h := v6_apply x0 x1 x2
  unfold val_main_v8
  generalize val_main_v6 (F := Ideal) x0 x1 x2 = y at h
  simp only [← h]
  pointwise
theorem v9_apply (b : Fin 32) (t : Fin 2048) (c : Fin 256) : val_main_v9 (F := Ideal) x0 x1 x2 (ix3 b t c) = value (rZ x0 x1 x2 b t) c := by
  have h := v6_apply x0 x1 x2
  unfold val_main_v9
  generalize val_main_v6 (F := Ideal) x0 x1 x2 = y at h
  simp only [← h]
  pointwise

theorem v18_apply (b : Fin 32) (t : Fin 2048) (c : Fin 256) : val_main_v18 (F := Ideal) x0 x1 x2 x3 x4 (ix3 b t c)
    = x3 (ix1 c) + dot (fun k : Fin 32 => Ideal.tanh (rZ x0 x1 x2 b t ⟨768 + k.val, by omega⟩)) (fun k c => x4 (ix2 k c)) c := by
  have h := v6_apply x0 x1 x2
  unfold val_main_v18 val_main_v15 val_main_v14 val_main_v10
  generalize val_main_v6 (F := Ideal) x0 x1 x2 = y at h
  unfold dot
  simp only [← h]
  pointwise [val_main_v17, val_main_v16]

/-- The logarithm of the sigmoid, as the reference writes it. -/
def lsOut (y : FVec Ideal S32x2048x256 .f32) : FVec Ideal S32x2048x256 .f32 :=
  have z : FVec Ideal S32x2048x256 .f32 := broadcastInDim S32x2048x256 ![] bcast_S_S32x2048x256 (constant S_ .f32 0x00000000#32)
  have n : FVec Ideal S32x2048x256 .f32 := negf y
  have d : FVec Ideal S32x2048x256 .f32 := subf n z
  negf (select (cmpf .une d d) (addf n z) (addf (maximumf n z) (log1p (exp (negf (absf d))))))

theorem lsOut_apply (y : FVec Ideal S32x2048x256 .f32) (i : S32x2048x256.Idx) : lsOut y i = ls (y i) := by
  rw [← ls_softplus]
  pointwise [lsOut]
  rw [if_neg (by simp)]
  rfl

theorem v26_apply (b : Fin 32) (t : Fin 2048) (c : Fin 256) : val_main_v26 (F := Ideal) x0 x1 x2 x3 x4 (ix3 b t c)
    = decayRow (rZ x0 x1 x2 b t) (fun c => x3 (ix1 c)) (fun k c => x4 (ix2 k c)) c := by
  have e : val_main_v21 (F := Ideal) x0 x1 x2 x3 x4 = lsOut (val_main_v18 (F := Ideal) x0 x1 x2 x3 x4) := rfl
  have h : val_main_v21 (F := Ideal) x0 x1 x2 x3 x4 (ix3 b t c)
      = ls (x3 (ix1 c) + dot (fun k : Fin 32 => Ideal.tanh (rZ x0 x1 x2 b t ⟨768 + k.val, by omega⟩)) (fun k c => x4 (ix2 k c)) c) := by
    rw [e, lsOut_apply, v18_apply]
  clear e
  unfold val_main_v26 val_main_v25 val_main_v24 val_main_v23
  generalize val_main_v21 (F := Ideal) x0 x1 x2 x3 x4 = y at h
  unfold decayRow decayOf
  rw [← h, zero_sub]
  pointwise [val_main_v22, val_main_cst]

theorem v36_apply (b : Fin 32) (t : Fin 2048) (c : Fin 256) : val_main_v36 (F := Ideal) x0 x1 x2 x5 x6 (ix3 b t c)
    = rateRow (rZ x0 x1 x2 b t) (fun c => x5 (ix1 c)) (fun k c => x6 (ix2 k c)) c := by
  have h := v6_apply x0 x1 x2
  unfold val_main_v36 val_main_v34 val_main_v32 val_main_v31 val_main_v30 val_main_v27 val_main_v11
  generalize val_main_v6 (F := Ideal) x0 x1 x2 = y at h
  unfold rateRow sigm dot
  simp only [← h, zero_sub]
  pointwise [val_main_v29, val_main_v28, val_main_v35, val_main_v33, val_main_cst_1, val_main_cst_0]

theorem v43_apply (b : Fin 32) (t : Fin 2048) (c : Fin 256) : val_main_v43 (F := Ideal) x0 x1 x2 x7 (ix3 b t c)
    = gateRow (rZ x0 x1 x2 b t) (fun k c => x7 (ix2 k c)) c := by
  have h := v6_apply x0 x1 x2
  unfold val_main_v43 val_main_v42 val_main_v40 val_main_v38 val_main_v37 val_main_v12
  generalize val_main_v6 (F := Ideal) x0 x1 x2 = y at h
  unfold gateRow sigm dot
  simp only [← h, zero_sub]
  pointwise [val_main_v39, val_main_v41, val_main_cst_2, val_main_cst_3]

/-- A head's column among all the columns. -/
abbrev hc (h : Fin 4) (d : Fin 64) : Fin 256 := ⟨h.val * 64 + d.val, by omega⟩

theorem mate_hc (h : Fin 4) (d e : Fin 64) : mate (hc h d) e = hc h e := Fin.ext (by simp only [mate, hc]; omega)

/-- Splitting the columns by heads. -/
theorem heads_apply (y : FVec Ideal S32x2048x256 .f32) (b : Fin 32) (t : Fin 2048) (h : Fin 4) (d : Fin 64) :
    (shapeCast S32x2048x4x64 y shapeCasts_S32x2048x256_S32x2048x4x64 : FVec Ideal S32x2048x4x64 .f32) (ix4 b t h d) = y (ix3 b t (hc h d)) := by
  unfold hc
  pointwise

theorem v44_apply (b : Fin 32) (t : Fin 2048) (h : Fin 4) (d : Fin 64) : val_main_v44 (F := Ideal) x0 x1 x2 (ix4 b t h d) = recept (rZ x0 x1 x2 b t) (hc h d) :=
  (heads_apply _ b t h d).trans (v7_apply x0 x1 x2 b t _)
theorem v45_apply (b : Fin 32) (t : Fin 2048) (h : Fin 4) (d : Fin 64) : val_main_v45 (F := Ideal) x0 x1 x2 (ix4 b t h d) = key (rZ x0 x1 x2 b t) (hc h d) :=
  (heads_apply _ b t h d).trans (v8_apply x0 x1 x2 b t _)
theorem v46_apply (b : Fin 32) (t : Fin 2048) (h : Fin 4) (d : Fin 64) : val_main_v46 (F := Ideal) x0 x1 x2 (ix4 b t h d) = value (rZ x0 x1 x2 b t) (hc h d) :=
  (heads_apply _ b t h d).trans (v9_apply x0 x1 x2 b t _)
theorem v47_apply (b : Fin 32) (t : Fin 2048) (h : Fin 4) (d : Fin 64) : val_main_v47 (F := Ideal) x0 x1 x2 x5 x6 (ix4 b t h d)
    = rateRow (rZ x0 x1 x2 b t) (fun c => x5 (ix1 c)) (fun k c => x6 (ix2 k c)) (hc h d) :=
  (heads_apply _ b t h d).trans (v36_apply x0 x1 x2 x5 x6 b t _)
theorem v48_apply (b : Fin 32) (t : Fin 2048) (h : Fin 4) (d : Fin 64) : val_main_v48 (F := Ideal) x0 x1 x2 x3 x4 (ix4 b t h d)
    = decayRow (rZ x0 x1 x2 b t) (fun c => x3 (ix1 c)) (fun k c => x4 (ix2 k c)) (hc h d) :=
  (heads_apply _ b t h d).trans (v26_apply x0 x1 x2 x3 x4 b t _)

theorem v52_apply (b : Fin 32) (t : Fin 2048) (h : Fin 4) (d : Fin 64) : val_main_v52 (F := Ideal) x0 x1 x2 x8 (ix4 b t h d)
    = key (rZ x0 x1 x2 b t) (hc h d) * x8 (ix1 (hc h d)) := by
  have h' := v45_apply x0 x1 x2
  unfold val_main_v52
  generalize val_main_v45 (F := Ideal) x0 x1 x2 = y at h'
  rw [← h']
  unfold hc
  pointwise [val_main_v51, val_main_v50, val_main_v49]

theorem v60_apply (b : Fin 32) (t : Fin 2048) (h : Fin 4) (d : Fin 64) : val_main_v60 (F := Ideal) x0 x1 x2 x8 (ix4 b t h d)
    = keyN (rZ x0 x1 x2 b t) (fun c => x8 (ix1 c)) (hc h d) := by
  have h' := v52_apply x0 x1 x2 x8
  unfold val_main_v60 val_main_v59 val_main_v58 val_main_v57 val_main_v55 val_main_v54 val_main_v53
  generalize val_main_v52 (F := Ideal) x0 x1 x2 x8 = y at h'
  unfold keyN
  simp only [mate_hc, ← h']
  pointwise [val_main_v56, val_main_cst_5, val_main_cst_4]

theorem v69_apply (b : Fin 32) (t : Fin 2048) (h : Fin 4) (d : Fin 64) : val_main_v69 (F := Ideal) x0 x1 x2 x5 x6 x9 (ix4 b t h d)
    = keyA (rZ x0 x1 x2 b t) (rateRow (rZ x0 x1 x2 b t) (fun c => x5 (ix1 c)) (fun k c => x6 (ix2 k c))) (fun c => x9 (ix1 c)) (hc h d) := by
  have h' := v45_apply x0 x1 x2
  have h'' := v47_apply x0 x1 x2 x5 x6
  unfold val_main_v69 val_main_v68 val_main_v66 val_main_v62
  generalize val_main_v45 (F := Ideal) x0 x1 x2 = y at h'
  generalize val_main_v47 (F := Ideal) x0 x1 x2 x5 x6 = a at h''
  unfold keyA
  rw [← h', ← h'']
  unfold hc
  pointwise [val_main_v67, val_main_v65, val_main_v64, val_main_v63, val_main_v61, val_main_cst_6, val_main_cst_7]

theorem v77_apply (b : Fin 32) (t : Fin 2048) (h : Fin 4) (d : Fin 64) : val_main_v77 (F := Ideal) x0 x1 x2 x5 x6 x9 x10 (ix4 b t h d)
    = bonus (rZ x0 x1 x2 b t) (rateRow (rZ x0 x1 x2 b t) (fun c => x5 (ix1 c)) (fun k c => x6 (ix2 k c))) (fun c => x9 (ix1 c))
        (fun c => x10 (ix2 ⟨c.val / 64, by omega⟩ ⟨c.val % 64, by omega⟩)) (hc h d) := by
  have h4 := v44_apply x0 x1 x2
  have h6 := v46_apply x0 x1 x2
  have h9 := v69_apply x0 x1 x2 x5 x6 x9
  unfold val_main_v77 val_main_v76 val_main_v75 val_main_v74 val_main_v73 val_main_v70
  generalize val_main_v44 (F := Ideal) x0 x1 x2 = y at h4
  generalize val_main_v46 (F := Ideal) x0 x1 x2 = v at h6
  generalize val_main_v69 (F := Ideal) x0 x1 x2 x5 x6 x9 = k at h9
  generalize hr : (fun c : Fin 256 => x10 (ix2 (⟨c.val / 64, by omega⟩ : Fin 4) (⟨c.val % 64, by omega⟩ : Fin 64))) = rk
  have q : ∀ e : Fin 64, rk (hc h e) = x10 (ix2 h e) := by
    intro e
    rw [← hr]
    have q1 : (⟨(hc h e).val / 64, by omega⟩ : Fin 4) = h := Fin.ext (by simp only [hc]; omega)
    have q2 : (⟨(hc h e).val % 64, by omega⟩ : Fin 64) = e := Fin.ext (by simp only [hc]; omega)
    dsimp only
    rw [q1, q2]
  unfold bonus
  simp only [mate_hc, ← h4, ← h6, ← h9, q]
  pointwise [val_main_v72, val_main_v71, val_main_cst_8]

theorem v78_apply (b : Fin 32) (t : Fin 2048) (h : Fin 4) (d : Fin 64) : val_main_v78 (F := Ideal) x0 x1 x2 x5 x6 x8 (ix4 b t h d)
    = keyN (rZ x0 x1 x2 b t) (fun c => x8 (ix1 c)) (hc h d) * rateRow (rZ x0 x1 x2 b t) (fun c => x5 (ix1 c)) (fun k c => x6 (ix2 k c)) (hc h d) :=
  congrArg₂ (· * ·) (v60_apply x0 x1 x2 x8 b t h d) (v47_apply x0 x1 x2 x5 x6 b t h d)

/-- The six rows of one place. -/
def rSix (b : Fin 32) (t : Fin 2048) : Fin 6 → Fin 256 → EReal :=
  six (recept (rZ x0 x1 x2 b t)) (decayRow (rZ x0 x1 x2 b t) (fun c => x3 (ix1 c)) (fun k c => x4 (ix2 k c)))
    (keyA (rZ x0 x1 x2 b t) (rateRow (rZ x0 x1 x2 b t) (fun c => x5 (ix1 c)) (fun k c => x6 (ix2 k c))) (fun c => x9 (ix1 c)))
    (value (rZ x0 x1 x2 b t)) (keyN (rZ x0 x1 x2 b t) (fun c => x8 (ix1 c)))
    (fun c => keyN (rZ x0 x1 x2 b t) (fun c => x8 (ix1 c)) c * rateRow (rZ x0 x1 x2 b t) (fun c => x5 (ix1 c)) (fun k c => x6 (ix2 k c)) c)

/-- The six rows put side by side, head by head. -/
def stack6 (y0 y1 y2 y3 y4 y5 : FVec Ideal S32x2048x4x64 .f32) : FVec Ideal S32x2048x4x6x64 .f32 :=
  concatenate S32x2048x4x6x64 3
    [⟨S32x2048x4x1x64, broadcastInDim S32x2048x4x1x64 ![0, 1, 2, 4] bcast_S32x2048x4x64_S32x2048x4x1x64_0_1_2_4 y0⟩,
     ⟨S32x2048x4x1x64, broadcastInDim S32x2048x4x1x64 ![0, 1, 2, 4] bcast_S32x2048x4x64_S32x2048x4x1x64_0_1_2_4 y1⟩,
     ⟨S32x2048x4x1x64, broadcastInDim S32x2048x4x1x64 ![0, 1, 2, 4] bcast_S32x2048x4x64_S32x2048x4x1x64_0_1_2_4 y2⟩,
     ⟨S32x2048x4x1x64, broadcastInDim S32x2048x4x1x64 ![0, 1, 2, 4] bcast_S32x2048x4x64_S32x2048x4x1x64_0_1_2_4 y3⟩,
     ⟨S32x2048x4x1x64, broadcastInDim S32x2048x4x1x64 ![0, 1, 2, 4] bcast_S32x2048x4x64_S32x2048x4x1x64_0_1_2_4 y4⟩,
     ⟨S32x2048x4x1x64, broadcastInDim S32x2048x4x1x64 ![0, 1, 2, 4] bcast_S32x2048x4x64_S32x2048x4x1x64_0_1_2_4 y5⟩]
    concatenates_S32x2048x4x1x64_S32x2048x4x1x64_S32x2048x4x1x64_S32x2048x4x1x64_S32x2048x4x1x64_S32x2048x4x1x64_S32x2048x4x6x64_d3

theorem stack6_apply (y0 y1 y2 y3 y4 y5 : FVec Ideal S32x2048x4x64 .f32) (b : Fin 32) (t : Fin 2048) (h : Fin 4) (f : Fin 6) (d : Fin 64) :
    stack6 y0 y1 y2 y3 y4 y5 (ix5 b t h f d) = (![y0, y1, y2, y3, y4, y5] f : FVec Ideal S32x2048x4x64 .f32) (ix4 b t h d) := by
  fin_cases f <;> pointwise [stack6]

theorem v87_apply (t : Fin 2048) (j : Fin 49152) : val_main_v87 (F := Ideal) x0 x1 x2 x3 x4 x5 x6 x8 x9 (ix2 t j)
    = sixCol (rSix x0 x1 x2 x3 x4 x5 x6 x8 x9 ⟨j.val / 1536, by omega⟩ t) ⟨j.val % 1536, by omega⟩ := by
  have e : val_main_v85 (F := Ideal) x0 x1 x2 x3 x4 x5 x6 x8 x9 = stack6 (val_main_v44 (F := Ideal) x0 x1 x2) (val_main_v48 (F := Ideal) x0 x1 x2 x3 x4)
      (val_main_v69 (F := Ideal) x0 x1 x2 x5 x6 x9) (val_main_v46 (F := Ideal) x0 x1 x2) (val_main_v60 (F := Ideal) x0 x1 x2 x8)
      (val_main_v78 (F := Ideal) x0 x1 x2 x5 x6 x8) := rfl
  have r : val_main_v87 (F := Ideal) x0 x1 x2 x3 x4 x5 x6 x8 x9 (ix2 t j)
      = val_main_v85 (F := Ideal) x0 x1 x2 x3 x4 x5 x6 x8 x9 (ix5 (⟨j.val / 1536, by omega⟩ : Fin 32) t (⟨j.val / 384 % 4, by omega⟩ : Fin 4)
          (⟨j.val / 64 % 6, by omega⟩ : Fin 6) (⟨j.val % 64, by omega⟩ : Fin 64)) := by
    unfold val_main_v87 val_main_v86
    generalize val_main_v85 (F := Ideal) x0 x1 x2 x3 x4 x5 x6 x8 x9 = y
    pointwise
  rw [r, e, stack6_apply]
  unfold sixCol
  have hcol : (⟨64 * (j.val % 1536 / 384) + j.val % 1536 % 64, by omega⟩ : Fin 256)
      = hc (⟨j.val / 384 % 4, by omega⟩ : Fin 4) (⟨j.val % 64, by omega⟩ : Fin 64) := Fin.ext (by simp only [hc]; omega)
  have hf : (⟨j.val % 1536 % 384 / 64, by omega⟩ : Fin 6) = ⟨j.val / 64 % 6, by omega⟩ := Fin.ext (by dsimp only; omega)
  dsimp only
  rw [hcol, hf]
  generalize (⟨j.val / 64 % 6, by omega⟩ : Fin 6) = f
  generalize (⟨j.val / 384 % 4, by omega⟩ : Fin 4) = h
  generalize (⟨j.val % 64, by omega⟩ : Fin 64) = d
  generalize (⟨j.val / 1536, by omega⟩ : Fin 32) = b
  unfold rSix six
  fin_cases f
  · exact v44_apply x0 x1 x2 b t h d
  · exact v48_apply x0 x1 x2 x3 x4 b t h d
  · exact v69_apply x0 x1 x2 x5 x6 x9 b t h d
  · exact v46_apply x0 x1 x2 b t h d
  · exact v60_apply x0 x1 x2 x8 b t h d
  · exact v78_apply x0 x1 x2 x5 x6 x8 b t h d

theorem v88_apply (b : Fin 32) (t : Fin 2048) (c : Fin 256) : val_main_v88 (F := Ideal) x0 x1 x2 x5 x6 x9 x10 (ix3 b t c)
    = bonus (rZ x0 x1 x2 b t) (rateRow (rZ x0 x1 x2 b t) (fun c => x5 (ix1 c)) (fun k c => x6 (ix2 k c))) (fun c => x9 (ix1 c))
        (fun c => x10 (ix2 ⟨c.val / 64, by omega⟩ ⟨c.val % 64, by omega⟩)) c := by
  have r : val_main_v88 (F := Ideal) x0 x1 x2 x5 x6 x9 x10 (ix3 b t c)
      = val_main_v77 (F := Ideal) x0 x1 x2 x5 x6 x9 x10 (ix4 b t (⟨c.val / 64, by omega⟩ : Fin 4) (⟨c.val % 64, by omega⟩ : Fin 64)) := by
    unfold val_main_v88
    generalize val_main_v77 (F := Ideal) x0 x1 x2 x5 x6 x9 x10 = y
    pointwise
  have hcol : hc (⟨c.val / 64, by omega⟩ : Fin 4) (⟨c.val % 64, by omega⟩ : Fin 64) = c := Fin.ext (by simp only [hc]; omega)
  rw [r, v77_apply, hcol]

/-- The gate's columns, then the bonus's. -/
def cat2 (g n : FVec Ideal S32x2048x256 .f32) : FVec Ideal S32x2048x512 .f32 :=
  concatenate S32x2048x512 2 [⟨S32x2048x256, g⟩, ⟨S32x2048x256, n⟩] concatenates_S32x2048x256_S32x2048x256_S32x2048x512_d2

theorem cat2_apply (g n : FVec Ideal S32x2048x256 .f32) (b : Fin 32) (t : Fin 2048) (j : Fin 512) :
    cat2 g n (ix3 b t j) = gateBonus (fun c => g (ix3 b t c)) (fun c => n (ix3 b t c)) j := by
  pointwise [cat2]
  unfold gateBonus
  repeat' split
  all_goals first
    | (exfalso; omega)
    | rfl

theorem v89_apply (b : Fin 32) (t : Fin 2048) (j : Fin 512) : val_main_v89 (F := Ideal) x0 x1 x2 x5 x6 x7 x9 x10 (ix3 b t j)
    = gateBonus (gateRow (rZ x0 x1 x2 b t) (fun k c => x7 (ix2 k c)))
        (bonus (rZ x0 x1 x2 b t) (rateRow (rZ x0 x1 x2 b t) (fun c => x5 (ix1 c)) (fun k c => x6 (ix2 k c))) (fun c => x9 (ix1 c))
          (fun c => x10 (ix2 ⟨c.val / 64, by omega⟩ ⟨c.val % 64, by omega⟩))) j := by
  have e : val_main_v89 (F := Ideal) x0 x1 x2 x5 x6 x7 x9 x10 = cat2 (val_main_v43 (F := Ideal) x0 x1 x2 x7) (val_main_v88 (F := Ideal) x0 x1 x2 x5 x6 x9 x10) := rfl
  rw [e, cat2_apply]
  simp only [v43_apply, v88_apply]

end Cert.ReferencePreIdeal.Dense

end
-- ==== Proof.PreClaim.lean ====
/- The call before the recurrence computes what its reference computes. -/
module

public import proofs.«01_k».proof.Defs
public import proofs.«01_k».proof.Proof.PreArray
public import proofs.«01_k».proof.Proof.PreRef
public import proofs.«01_k».proof.Proof.Gen.ReferencePreIdeal
public import proofs.«01_k».proof.Proof.Gen.ReferencePreIdeal.Run
public import Idealize.ShloMosaic.Lib.Pointwise
public import Idealize.ShloMosaic.Lib.ReduceAll

@[expose] public section

set_option maxRecDepth 16384

noncomputable section

namespace Cert.PreClaim

open Idealize.ShloMosaic Idealize.SL.Sem Cert.DenseSpec Cert.KernelPreIdeal.Dense Cert.ReferencePreIdeal.Dense Cert.ReferencePreIdeal.Read

/-- The precondition's shape facts. -/
theorem preFacts : Cert.Pre_pre_finite.Facts := ⟨by decide, by decide, by decide, by decide, by decide, by decide, by decide, by decide, by decide, by decide, by decide⟩

theorem pos_inf : Ideal.ofBits FTy.f32 0x7F800000#32 = ⊤ := by simp [Ideal.ofBits, Ideal.ieee]

/-- A value whose absolute value is below plus infinity is a real number. -/
theorem real_of_abs_lt (x : EReal) (h : Ideal.cmp .olt (max x (-x)) ⊤ = 1#1) : ∃ r : ℝ, x = r := by
  induction x with
  | bot => simp [Ideal.cmp] at h
  | top => simp [Ideal.cmp] at h
  | coe r => exact ⟨r, rfl⟩

section opened
open Cert.Pre_pre_finite Cert.Pre_pre_finite.Facts
variable [Cert.Pre_pre_finite.Facts]

/-- A rank-0 shape has one index. -/
instance : Subsingleton S_.Idx := ⟨fun a b => funext fun i => i.elim0⟩

/-- A conjunction of two bits is 1 only if both are. -/
theorem and_bits (a b : BitVec 1) (h : a &&& b = 1#1) : a = 1#1 ∧ b = 1#1 := by
  revert a b; decide

theorem unpack (x0 : FVec Ideal S32x2048x896 .f32) (x1 : FVec Ideal S32x1x896 .f32) (x2 : FVec Ideal S896 .f32) (x3 : FVec Ideal S256 .f32) (x4 : FVec Ideal S32x256 .f32)
    (x5 : FVec Ideal S256 .f32) (x6 x7 : FVec Ideal S32x256 .f32) (x8 x9 : FVec Ideal S256 .f32) (x10 : FVec Ideal S4x64 .f32)
    (h : fn (F := Ideal) x0 x1 x2 x3 x4 x5 x6 x7 x8 x9 x10 = fun _ => 1#1) :
    (∀ i, ∃ r : ℝ, x0 i = r) ∧ (∀ i, ∃ r : ℝ, x1 i = r) ∧ (∀ i, ∃ r : ℝ, x2 i = r) ∧ (∀ i, ∃ r : ℝ, x8 i = r) ∧ (∀ i, ∃ r : ℝ, x9 i = r) ∧ (∀ i, ∃ r : ℝ, x10 i = r) := by
  have e := congrFun h (Shape.Idx.first h_S_)
  simp only [fn, fn_part1] at e
  obtain ⟨e, h10⟩ := and_bits _ _ e
  obtain ⟨e, h9⟩ := and_bits _ _ e
  obtain ⟨e, h8⟩ := and_bits _ _ e
  obtain ⟨e, h2⟩ := and_bits _ _ e
  obtain ⟨h0, h1⟩ := and_bits _ _ e
  have g0 := fun i => Host.reduce_andi_all _ _ _ _ _ h0 i
  have g1 := fun i => Host.reduce_andi_all _ _ _ _ _ h1 i
  have g2 := fun i => Host.reduce_andi_all _ _ _ _ _ h2 i
  have g8 := fun i => Host.reduce_andi_all _ _ _ _ _ h8 i
  have g9 := fun i => Host.reduce_andi_all _ _ _ _ _ h9 i
  have g10 := fun i => Host.reduce_andi_all _ _ _ _ _ h10 i
  refine ⟨fun i => real_of_abs_lt _ ?_, fun i => real_of_abs_lt _ ?_, fun i => real_of_abs_lt _ ?_, fun i => real_of_abs_lt _ ?_, fun i => real_of_abs_lt _ ?_, fun i => real_of_abs_lt _ ?_⟩
  · rw [← pos_inf]; exact g0 i
  · rw [← pos_inf]; exact g1 i
  · rw [← pos_inf]; exact g2 i
  · rw [← pos_inf]; exact g8 i
  · rw [← pos_inf]; exact g9 i
  · rw [← pos_inf]; exact g10 i

end opened

variable (m : (ℓ : Loc Cert.KernelPreIdeal.nD Cert.KernelPreIdeal.τ Cert.KernelPreIdeal.sig) → Buf (Elt Ideal) ℓ) (c : Dev Cert.KernelPreIdeal.nD)

/-- The argument arrays. -/
abbrev a0 : Vec Ideal Cert.KernelPreIdeal.S32x2048x896 .f32 := m ((c.tc : Thread Cert.KernelPreIdeal.nD Cert.KernelPreIdeal.τ).loc Cert.KernelPreIdeal.main_arg0)
abbrev a1 : Vec Ideal Cert.KernelPreIdeal.S32x1x896 .f32 := m ((c.tc : Thread Cert.KernelPreIdeal.nD Cert.KernelPreIdeal.τ).loc Cert.KernelPreIdeal.main_arg1)
abbrev a2 : Vec Ideal Cert.KernelPreIdeal.S896 .f32 := m ((c.tc : Thread Cert.KernelPreIdeal.nD Cert.KernelPreIdeal.τ).loc Cert.KernelPreIdeal.main_arg2)
abbrev a3 : Vec Ideal Cert.KernelPreIdeal.S256 .f32 := m ((c.tc : Thread Cert.KernelPreIdeal.nD Cert.KernelPreIdeal.τ).loc Cert.KernelPreIdeal.main_arg3)
abbrev a4 : Vec Ideal Cert.KernelPreIdeal.S32x256 .f32 := m ((c.tc : Thread Cert.KernelPreIdeal.nD Cert.KernelPreIdeal.τ).loc Cert.KernelPreIdeal.main_arg4)
abbrev a5 : Vec Ideal Cert.KernelPreIdeal.S256 .f32 := m ((c.tc : Thread Cert.KernelPreIdeal.nD Cert.KernelPreIdeal.τ).loc Cert.KernelPreIdeal.main_arg5)
abbrev a6 : Vec Ideal Cert.KernelPreIdeal.S32x256 .f32 := m ((c.tc : Thread Cert.KernelPreIdeal.nD Cert.KernelPreIdeal.τ).loc Cert.KernelPreIdeal.main_arg6)
abbrev a7 : Vec Ideal Cert.KernelPreIdeal.S32x256 .f32 := m ((c.tc : Thread Cert.KernelPreIdeal.nD Cert.KernelPreIdeal.τ).loc Cert.KernelPreIdeal.main_arg7)
abbrev a8 : Vec Ideal Cert.KernelPreIdeal.S256 .f32 := m ((c.tc : Thread Cert.KernelPreIdeal.nD Cert.KernelPreIdeal.τ).loc Cert.KernelPreIdeal.main_arg8)
abbrev a9 : Vec Ideal Cert.KernelPreIdeal.S256 .f32 := m ((c.tc : Thread Cert.KernelPreIdeal.nD Cert.KernelPreIdeal.τ).loc Cert.KernelPreIdeal.main_arg9)
abbrev a10 : Vec Ideal Cert.KernelPreIdeal.S4x64 .f32 := m ((c.tc : Thread Cert.KernelPreIdeal.nD Cert.KernelPreIdeal.τ).loc Cert.KernelPreIdeal.main_arg10)

/-- Under the precondition the arguments of the row sums are made of real numbers. -/
theorem finite (hpre : Cert.Pre_KernelPreIdeal_pre_finite (hPre_pre_finite := preFacts) m) : Finite m c := by
  letI := preFacts
  obtain ⟨h0, h1, h2, h8, h9, h10⟩ := unpack (a0 m c) (a1 m c) (a2 m c) (a3 m c) (a4 m c) (a5 m c) (a6 m c) (a7 m c) (a8 m c) (a9 m c) (a10 m c) (hpre c)
  exact ⟨fun b t j => h0 _, fun b j => h1 _, fun j => h2 _, fun j => h8 _, fun j => h9 _, fun j => h10 _⟩

/-- The reference's results, of the same arguments, are the arrays the call leaves. -/
theorem eq13 : val_main_v87 (F := Ideal) (a0 m c) (a1 m c) (a2 m c) (a3 m c) (a4 m c) (a5 m c) (a6 m c) (a8 m c) (a9 m c) = res13 m c := by
  funext i
  obtain ⟨t, j, rfl⟩ : ∃ (t : Fin 2048) (j : Fin 49152), i = ix2 t j := ⟨i 0, i 1, by funext a; fin_cases a <;> rfl⟩
  exact v87_apply (a0 m c) (a1 m c) (a2 m c) (a3 m c) (a4 m c) (a5 m c) (a6 m c) (a8 m c) (a9 m c) t j

theorem eq14 : val_main_v89 (F := Ideal) (a0 m c) (a1 m c) (a2 m c) (a5 m c) (a6 m c) (a7 m c) (a9 m c) (a10 m c) = res14 m c := by
  funext i
  obtain ⟨b, t, j, rfl⟩ : ∃ (b : Fin 32) (t : Fin 2048) (j : Fin 512), i = ix3 b t j := ⟨i 0, i 1, i 2, by funext a; fin_cases a <;> rfl⟩
  exact v89_apply (a0 m c) (a1 m c) (a2 m c) (a5 m c) (a6 m c) (a7 m c) (a9 m c) (a10 m c) b t j

set_option maxHeartbeats 4000000 in
/-- At exact arithmetic the call's results are its reference's, where the arguments of the row sums are finite. -/
theorem algebraic : Cert.algebraic_KernelPreIdeal_ReferencePreIdeal_pre_pre_finite (hKernelPreIdeal := Cert.KernelPreIdeal.Gen.facts)
    (hReferencePreIdeal := Cert.ReferencePreIdeal.Gen.facts) (hPre_pre_finite := preFacts) := by
  intro m ρ m' ρ' hpre hag
  refine ⟨fun c => res13 m c, fun c => res14 m c, ?_, ?_⟩
  · refine (θ_run _ _ _).mono ?_ (Cert.KernelPreIdeal.Value.run_blocks m ρ)
    intro r h c
    obtain ⟨h13, h14, hk⟩ := h c
    exact ⟨h13.trans (arr13 m c (finite m c hpre)), h14.trans (arr14 m c (finite m c hpre)), hk⟩
  · refine (θ_run _ _ _).mono ?_ (Cert.ReferencePreIdeal.Value.run m' ρ')
    intro r h c
    obtain ⟨e0, e1, e2, e3, e4, e5, e6, e7, e8, e9, e10⟩ := hag c
    obtain ⟨h87, h89, hk⟩ := h c
    have g := h87.trans (val_main_v87_eq (F := Ideal) _ _)
    have g' := h89.trans (val_main_v89_eq (F := Ideal) _ _)
    refine ⟨g.trans ?_, g'.trans ?_, hk⟩
    · refine Eq.trans ?_ (eq13 m c)
      show val_main_v87 (F := Ideal) (m' ((c.tc : Thread Cert.ReferencePreIdeal.nD Cert.ReferencePreIdeal.τ).loc Cert.ReferencePreIdeal.main_arg0)) (m' ((c.tc : Thread Cert.ReferencePreIdeal.nD Cert.ReferencePreIdeal.τ).loc Cert.ReferencePreIdeal.main_arg1)) (m' ((c.tc : Thread Cert.ReferencePreIdeal.nD Cert.ReferencePreIdeal.τ).loc Cert.ReferencePreIdeal.main_arg2)) (m' ((c.tc : Thread Cert.ReferencePreIdeal.nD Cert.ReferencePreIdeal.τ).loc Cert.ReferencePreIdeal.main_arg3)) (m' ((c.tc : Thread Cert.ReferencePreIdeal.nD Cert.ReferencePreIdeal.τ).loc Cert.ReferencePreIdeal.main_arg4)) (m' ((c.tc : Thread Cert.ReferencePreIdeal.nD Cert.ReferencePreIdeal.τ).loc Cert.ReferencePreIdeal.main_arg5)) (m' ((c.tc : Thread Cert.ReferencePreIdeal.nD Cert.ReferencePreIdeal.τ).loc Cert.ReferencePreIdeal.main_arg6)) (m' ((c.tc : Thread Cert.ReferencePreIdeal.nD Cert.ReferencePreIdeal.τ).loc Cert.ReferencePreIdeal.main_arg8)) (m' ((c.tc : Thread Cert.ReferencePreIdeal.nD Cert.ReferencePreIdeal.τ).loc Cert.ReferencePreIdeal.main_arg9)) = _
      rw [e0, e1, e2, e3, e4, e5, e6, e8, e9]
    · refine Eq.trans ?_ (eq14 m c)
      show val_main_v89 (F := Ideal) (m' ((c.tc : Thread Cert.ReferencePreIdeal.nD Cert.ReferencePreIdeal.τ).loc Cert.ReferencePreIdeal.main_arg0)) (m' ((c.tc : Thread Cert.ReferencePreIdeal.nD Cert.ReferencePreIdeal.τ).loc Cert.ReferencePreIdeal.main_arg1)) (m' ((c.tc : Thread Cert.ReferencePreIdeal.nD Cert.ReferencePreIdeal.τ).loc Cert.ReferencePreIdeal.main_arg2)) (m' ((c.tc : Thread Cert.ReferencePreIdeal.nD Cert.ReferencePreIdeal.τ).loc Cert.ReferencePreIdeal.main_arg5)) (m' ((c.tc : Thread Cert.ReferencePreIdeal.nD Cert.ReferencePreIdeal.τ).loc Cert.ReferencePreIdeal.main_arg6)) (m' ((c.tc : Thread Cert.ReferencePreIdeal.nD Cert.ReferencePreIdeal.τ).loc Cert.ReferencePreIdeal.main_arg7)) (m' ((c.tc : Thread Cert.ReferencePreIdeal.nD Cert.ReferencePreIdeal.τ).loc Cert.ReferencePreIdeal.main_arg9)) (m' ((c.tc : Thread Cert.ReferencePreIdeal.nD Cert.ReferencePreIdeal.τ).loc Cert.ReferencePreIdeal.main_arg10)) = _
      rw [e0, e1, e2, e5, e6, e7, e9, e10]

end Cert.PreClaim

end
-- ==== Proof.lean ====
/- The claims of this certificate, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelIdeal.Value
public import proofs.«01_k».proof.Proof.Gen.KernelInIdeal.Value
public import proofs.«01_k».proof.Proof.Gen.KernelOutIdeal.Value
public import proofs.«01_k».proof.Proof.Gen.ReferenceIdeal.Read
public import proofs.«01_k».proof.Proof.Gen.ReferenceInIdeal.Read
public import proofs.«01_k».proof.Proof.Gen.ReferenceOutIdeal.Read
public import proofs.«01_k».proof.Proof.Gen.KernelPre
public import proofs.«01_k».proof.Proof.Gen.KernelPre.Skeleton
public import proofs.«01_k».proof.Proof.Gen.KernelPre.Launch
public import proofs.«01_k».proof.Proof.Gen.KernelPre.Points
public import proofs.«01_k».proof.Proof.Gen.KernelPre.Frame
public import proofs.«01_k».proof.Proof.Gen.KernelPreIdeal
public import proofs.«01_k».proof.Proof.Gen.KernelPreIdeal.Skeleton
public import proofs.«01_k».proof.Proof.Gen.KernelPreIdeal.Launch
public import proofs.«01_k».proof.Proof.Gen.KernelPreIdeal.Points
public import proofs.«01_k».proof.Proof.Gen.KernelPreIdeal.Frame
public import proofs.«01_k».proof.Proof.Gen.ReferencePreIdeal
public import proofs.«01_k».proof.Proof.Gen.KernelPreIdeal.Value
public import proofs.«01_k».proof.Proof.Gen.ReferencePreIdeal.Read
public import proofs.«01_k».proof.Proof.Frames
public import proofs.«01_k».proof.Proof.FoxClaim
public import proofs.«01_k».proof.Proof.InClaim
public import proofs.«01_k».proof.Proof.OutClaim
public import proofs.«01_k».proof.Proof.PreClaim
public import Idealize.ShloMosaic.Adequacy
public import Idealize.ShloMosaic.Init

@[expose] public section

noncomputable section

namespace Cert.Proof

open Idealize.ShloMosaic Idealize.SL.Sem Cert.Kernel

/-- Every program's frame, that the exact forms are the programs, and the values. -/
theorem claim : Cert.Claim :=
  ⟨Cert.Kernel.Gen.facts, Cert.KernelIdeal.Gen.facts, Cert.ReferenceIdeal.Gen.facts,
    Cert.KernelIn.Gen.facts, Cert.KernelInIdeal.Gen.facts, Cert.ReferenceInIdeal.Gen.facts,
    Cert.KernelOut.Gen.facts, Cert.KernelOutIdeal.Gen.facts, Cert.ReferenceOutIdeal.Gen.facts,
    Cert.KernelPre.Gen.facts, Cert.KernelPreIdeal.Gen.facts, Cert.ReferencePreIdeal.Gen.facts,
    Cert.FoxClaim.preFacts, Cert.OutClaim.preFacts, Cert.PreClaim.preFacts,
    Frames.fox_p, Frames.fox_pi, fun m ρ _ => Frames.fox_pi m ρ trivial, Frames.fox_ri, fun m ρ _ => Frames.fox_ri m ρ trivial,
    Frames.in_p, Frames.in_pi, Frames.in_ri, Frames.out_p, Frames.out_pi,
    fun m ρ _ => Frames.out_pi m ρ trivial, Frames.out_ri, fun m ρ _ => Frames.out_ri m ρ trivial,
    Frames.pre_p, Frames.pre_pi, fun m ρ _ => Frames.pre_pi m ρ trivial, Frames.pre_ri, fun m ρ _ => Frames.pre_ri m ρ trivial,
    trivial, Cert.FoxClaim.algebraic, trivial, Cert.InClaim.algebraic, trivial, Cert.OutClaim.algebraic,
    trivial, Cert.PreClaim.algebraic⟩

end Cert.Proof

end
